-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesRefIdeal (m : (ℓ : Loc Cert.CodesRefIdeal.nD Cert.CodesRefIdeal.τ Cert.CodesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ r.2.sem = fun _ => 0)

def quiescent_CodesRefIdeal [hCodesRefIdeal : Cert.CodesRefIdeal.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1))
      ∧ r.2.sem = fun _ => 0)

def preserves_Kernel_KernelIdeal : Prop :=
  IdealRules.bf16_pair.BufferStatement Cert.KernelIdeal.S448x2x128 Cert.KernelIdeal.S448x1x128
  ∧ IdealRules.bf16_pair.BufferStatement Cert.KernelIdeal.S112x2x128 Cert.KernelIdeal.S112x1x128
  ∧ IdealRules.bf16_pair.BufferStatement Cert.KernelIdeal.S16x2x128 Cert.KernelIdeal.S16x1x128
  ∧ IdealRules.bf16_pair.Statement Cert.KernelIdeal.S1x16x128 Cert.KernelIdeal.S1x8x128
  ∧ IdealRules.bf16_pair.Statement Cert.KernelIdeal.S16x128 Cert.KernelIdeal.S8x128
  ∧ IdealRules.bf16_pair.Statement Cert.KernelIdeal.S128x128 Cert.KernelIdeal.S64x128
  ∧ IdealRules.bf16_pair.Statement Cert.KernelIdeal.S64x2x128 Cert.KernelIdeal.S64x1x128
  ∧ IdealRules.bf16_pair.Statement Cert.KernelIdeal.S8x2x128 Cert.KernelIdeal.S8x1x128
  ∧ IdealRules.bf16_pair.PackStatement Cert.KernelIdeal.S8x128
  ∧ IdealRules.bf16_pair.Statement Cert.KernelIdeal.S6x2x128 Cert.KernelIdeal.S6x1x128
  ∧ IdealRules.bf16_pair.Statement Cert.KernelIdeal.S12x128 Cert.KernelIdeal.S6x128
  ∧ IdealRules.bf16_pair.PackStatement Cert.KernelIdeal.S6x128
  ∧ IdealRules.bf16_pair.Statement Cert.KernelIdeal.S1x2x128 Cert.KernelIdeal.S1x1x128
  ∧ IdealRules.bf16_pack.Statement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Codes_CodesIdeal : Prop :=
  IdealRules.named_const.Statement Cert.CodesIdeal.κ "inv_n" .f32 0x34C519CB#32 ((1 / 2723840 : ℝ) : EReal)

def algebraic_CodesIdeal_CodesRefIdeal [hCodesIdeal : Cert.CodesIdeal.Facts] [hCodesRefIdeal : Cert.CodesRefIdeal.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesRefIdeal.nD Cert.CodesRefIdeal.τ Cert.CodesRefIdeal.sig) → Buf (Elt Ideal) ℓ) (g' : Dev Cert.CodesRefIdeal.nD → PrngReg), Pre_CodesIdeal m →
    (∀ c : Dev Cert.CodesIdeal.nD,
      m' ((c.tc : Thread Cert.CodesRefIdeal.nD Cert.CodesRefIdeal.τ).loc Cert.CodesRefIdeal.main_arg0) = m ((c.tc : Thread Cert.CodesIdeal.nD Cert.CodesIdeal.τ).loc Cert.CodesIdeal.main_arg0)
      ∧ m' ((c.tc : Thread Cert.CodesRefIdeal.nD Cert.CodesRefIdeal.τ).loc Cert.CodesRefIdeal.main_arg1) = m ((c.tc : Thread Cert.CodesIdeal.nD Cert.CodesIdeal.τ).loc Cert.CodesIdeal.main_arg1)) →
    ∃ (v0 : (c : Dev Cert.CodesIdeal.nD) → Buf (Elt Ideal) ((c.tc : Thread Cert.CodesIdeal.nD Cert.CodesIdeal.τ).loc Cert.CodesIdeal.main_v0_0)) (v1 : (c : Dev Cert.CodesIdeal.nD) → Buf (Elt Ideal) ((c.tc : Thread Cert.CodesIdeal.nD Cert.CodesIdeal.τ).loc Cert.CodesIdeal.main_v0_1)) (v2 : (c : Dev Cert.CodesIdeal.nD) → Buf (Elt Ideal) ((c.tc : Thread Cert.CodesIdeal.nD Cert.CodesIdeal.τ).loc Cert.CodesIdeal.main_v0_2)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v0_0) = v0 c
          ∧ r.2.mem ((c.tc : Thread Cert.CodesIdeal.nD Cert.CodesIdeal.τ).loc Cert.CodesIdeal.main_v0_1) = v1 c
          ∧ r.2.mem ((c.tc : Thread Cert.CodesIdeal.nD Cert.CodesIdeal.τ).loc Cert.CodesIdeal.main_v0_2) = v2 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ θ_run (Cert.CodesRefIdeal.defs (F := Ideal)) (onTc (τ := Cert.CodesRefIdeal.τ) (Cert.CodesRefIdeal.main (F := Ideal))) ⟨m', fun _ => 0, g'⟩ (fun r => ∀ c : Dev Cert.CodesRefIdeal.nD,
          r.2.mem ((c.tc : Thread Cert.CodesRefIdeal.nD Cert.CodesRefIdeal.τ).loc Cert.CodesRefIdeal.main_v0_0) = v0 c
          ∧ r.2.mem ((c.tc : Thread Cert.CodesRefIdeal.nD Cert.CodesRefIdeal.τ).loc Cert.CodesRefIdeal.main_v0_1) = v1 c
          ∧ r.2.mem ((c.tc : Thread Cert.CodesRefIdeal.nD Cert.CodesRefIdeal.τ).loc Cert.CodesRefIdeal.main_v0_2) = v2 c
          ∧ r.2.mem ((c.tc : Thread Cert.CodesRefIdeal.nD Cert.CodesRefIdeal.τ).loc Cert.CodesRefIdeal.main_arg0) = m' ((c.tc : Thread Cert.CodesRefIdeal.nD Cert.CodesRefIdeal.τ).loc Cert.CodesRefIdeal.main_arg0)
          ∧ r.2.mem ((c.tc : Thread Cert.CodesRefIdeal.nD Cert.CodesRefIdeal.τ).loc Cert.CodesRefIdeal.main_arg1) = m' ((c.tc : Thread Cert.CodesRefIdeal.nD Cert.CodesRefIdeal.τ).loc Cert.CodesRefIdeal.main_arg1))

def Claim : Prop :=
  ∃ (hKernel : Cert.Kernel.Facts) (hKernelIdeal : Cert.KernelIdeal.Facts) (hReferenceIdeal : Cert.ReferenceIdeal.Facts) (hCodes : Cert.Codes.Facts) (hCodesIdeal : Cert.CodesIdeal.Facts) (hCodesRefIdeal : Cert.CodesRefIdeal.Facts),
    quiescent_Kernel (hKernel := hKernel)
    ∧ quiescent_KernelIdeal (hKernelIdeal := hKernelIdeal)
    ∧ quiescent_ReferenceIdeal (hReferenceIdeal := hReferenceIdeal)
    ∧ quiescent_Codes (hCodes := hCodes)
    ∧ quiescent_CodesIdeal (hCodesIdeal := hCodesIdeal)
    ∧ quiescent_CodesRefIdeal (hCodesRefIdeal := hCodesRefIdeal)
    ∧ preserves_Kernel_KernelIdeal
    ∧ algebraic_KernelIdeal_ReferenceIdeal (hKernelIdeal := hKernelIdeal) (hReferenceIdeal := hReferenceIdeal)
    ∧ preserves_Codes_CodesIdeal
    ∧ algebraic_CodesIdeal_CodesRefIdeal (hCodesIdeal := hCodesIdeal) (hCodesRefIdeal := hCodesRefIdeal)
-- ==== Kernel.lean ====
abbrev S40x4864x896 : Shape := ⟨3, ![40, 4864, 896]⟩
abbrev S16x128 : Shape := ⟨2, ![16, 128]⟩
abbrev S40x448x4864 : Shape := ⟨3, ![40, 448, 4864]⟩
abbrev S14x40x4864 : Shape := ⟨3, ![14, 40, 4864]⟩
abbrev S8x128 : Shape := ⟨2, ![8, 128]⟩
abbrev S8x256x128 : Shape := ⟨3, ![8, 256, 128]⟩
abbrev S8x448x256 : Shape := ⟨3, ![8, 448, 256]⟩
abbrev S14x8x256 : Shape := ⟨3, ![14, 8, 256]⟩
abbrev S448x128 : Shape := ⟨2, ![448, 128]⟩
abbrev S112x128 : Shape := ⟨2, ![112, 128]⟩
abbrev S256x128 : Shape := ⟨2, ![256, 128]⟩
abbrev S8x128x128 : Shape := ⟨3, ![8, 128, 128]⟩
abbrev S1x8x128 : Shape := ⟨3, ![1, 8, 128]⟩
abbrev S1x16x128 : Shape := ⟨3, ![1, 16, 128]⟩
abbrev S128x128 : Shape := ⟨2, ![128, 128]⟩
abbrev S64x128 : Shape := ⟨2, ![64, 128]⟩
abbrev S6x128 : Shape := ⟨2, ![6, 128]⟩
abbrev S12x128 : Shape := ⟨2, ![12, 128]⟩
abbrev S1x128 : Shape := ⟨2, ![1, 128]⟩
abbrev S16x128x1 : Shape := ⟨3, ![16, 128, 1]⟩
abbrev S32x128 : Shape := ⟨2, ![32, 128]⟩
abbrev S1x32x128 : Shape := ⟨3, ![1, 32, 128]⟩

abbrev nBuf : Space → Nat
  | .hbm => 5
  | .vmem => 29
  | .smem => 0
  | _ => 0

abbrev bufTy : (tb : Table) → Fin (tcTables nBuf tb) → BufTy
  | .hbm, ⟨0, _⟩ => ⟨S40x4864x896, .bf16⟩
  | .hbm, ⟨1, _⟩ => ⟨S16x128, .f32⟩
  | .hbm, ⟨2, _⟩ => ⟨S40x448x4864, .i8⟩
  | .hbm, ⟨3, _⟩ => ⟨S14x40x4864, .f32⟩
  | .hbm, ⟨4, _⟩ => ⟨S8x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S8x256x128, .bf16⟩
  | .local _ .vmem, ⟨11, _⟩ => ⟨S8x256x128, .bf16⟩
  | .local _ .vmem, ⟨12, _⟩ => ⟨S8x256x128, .bf16⟩
  | .local _ .vmem, ⟨13, _⟩ => ⟨S8x256x128, .bf16⟩
  | .local _ .vmem, ⟨14, _⟩ => ⟨S16x128, .f32⟩
  | .local _ .vmem, ⟨15, _⟩ => ⟨S8x448x256, .i8⟩
  | .local _ .vmem, ⟨16, _⟩ => ⟨S8x448x256, .i8⟩
  | .local _ .vmem, ⟨17, _⟩ => ⟨S14x8x256, .f32⟩
  | .local _ .vmem, ⟨18, _⟩ => ⟨S14x8x256, .f32⟩
  | .local _ .vmem, ⟨19, _⟩ => ⟨S8x128, .f32⟩
  | .local _ .vmem, ⟨20, _⟩ => ⟨S448x128, .i32⟩
  | .local _ .vmem, ⟨21, _⟩ => ⟨S448x128, .i32⟩
  | .local _ .vmem, ⟨22, _⟩ => ⟨S112x128, .i32⟩
  | .local _ .vmem, ⟨23, _⟩ => ⟨S112x128, .i32⟩
  | .local _ .vmem, ⟨24, _⟩ => ⟨S16x128, .i32⟩
  | .local _ .vmem, ⟨25, _⟩ => ⟨S16x128, .i32⟩
  | .local _ .vmem, ⟨26, _⟩ => ⟨S16x128, .f32⟩
  | .local _ .vmem, ⟨27, _⟩ => ⟨S16x128, .f32⟩
  | .local _ .vmem, ⟨28, _⟩ => ⟨S256x128, .f32⟩
  | _, _ => ⟨S40x4864x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [BitOps F]

abbrev grid0 : Pipeline.Grid := ⟨2, ![5, 19], ![false, false]⟩

@[reducible] def k0_t1_loop : Scf.Loop 32 :=
  let c0_i32 : BitVec 32 := 0#32
  let c8_i32 : BitVec 32 := 8#32
  let v572 : BitVec 32 := Scalar.addi c0_i32 c8_i32
  let c1_i32 : BitVec 32 := 1#32
  ⟨c0_i32, v572, c1_i32⟩
@[reducible] def k0_t2_loop : Scf.Loop 32 :=
  let c0_i32_359 : BitVec 32 := 0#32
  let c14_i32 : BitVec 32 := 14#32
  let v721 : BitVec 32 := Scalar.addi c0_i32_359 c14_i32
  let c1_i32_360 : BitVec 32 := 1#32
  ⟨c0_i32_359, v721, c1_i32_360⟩
def k0_off1 (k0_t2 : Fin k0_t2_loop.trips) : Fin 2 → Nat :=
  let c0_i32_359 : BitVec 32 := 0#32
  let c1_i32_360 : BitVec 32 := 1#32
  let arg23 : BitVec 32 := Scf.iv c0_i32_359 c1_i32_360 k0_t2
  let v2001 : Index := Scalar.indexCast arg23
  let c0_792 : Index := 0#32
  ![v2001.toNat, 0]
def k0_mult1 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32 : BitVec 32 := 32#32
  let v2039 : BitVec 32 := Scalar.muli arg23 c32_i32
  let c0_i32_804 : BitVec 32 := 0#32
  let v2040 : BitVec 32 := Scalar.addi v2039 c0_i32_804
  let c0_i32_805 : BitVec 32 := 0#32
  let v2041 : BitVec 32 := Scalar.addi v2040 c0_i32_805
  v2041
def k0_off2 (k0_t2 : Fin k0_t2_loop.trips) (c0_i32_804 : BitVec 32) (c0_i32_805 : BitVec 32) : Fin 2 → Nat :=
  let c0_i32_359 : BitVec 32 := 0#32
  let c1_i32_360 : BitVec 32 := 1#32
  let arg23 : BitVec 32 := Scf.iv c0_i32_359 c1_i32_360 k0_t2
  let c32_i32 : BitVec 32 := 32#32
  let v2039 : BitVec 32 := Scalar.muli arg23 c32_i32
  let v2040 : BitVec 32 := Scalar.addi v2039 c0_i32_804
  let v2041 : BitVec 32 := Scalar.addi v2040 c0_i32_805
  let v2042 : BitVec 32 := v2041
  let v2043 : Index := Scalar.indexCast v2042
  let c0_806 : Index := 0#32
  ![v2043.toNat, 0]
def k0_mult2 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32_809 : BitVec 32 := 32#32
  let v2060 : BitVec 32 := Scalar.muli arg23 c32_i32_809
  let c0_i32_810 : BitVec 32 := 0#32
  let v2061 : BitVec 32 := Scalar.addi v2060 c0_i32_810
  let c8_i32_811 : BitVec 32 := 8#32
  let v2062 : BitVec 32 := Scalar.addi v2061 c8_i32_811
  v2062
def k0_mult3 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32_817 : BitVec 32 := 32#32
  let v2098 : BitVec 32 := Scalar.muli arg23 c32_i32_817
  let c16_i32_818 : BitVec 32 := 16#32
  let v2099 : BitVec 32 := Scalar.addi v2098 c16_i32_818
  let c0_i32_819 : BitVec 32 := 0#32
  let v2100 : BitVec 32 := Scalar.addi v2099 c0_i32_819
  v2100
def k0_mult4 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32_824 : BitVec 32 := 32#32
  let v2119 : BitVec 32 := Scalar.muli arg23 c32_i32_824
  let c16_i32_825 : BitVec 32 := 16#32
  let v2120 : BitVec 32 := Scalar.addi v2119 c16_i32_825
  let c8_i32_826 : BitVec 32 := 8#32
  let v2121 : BitVec 32 := Scalar.addi v2120 c8_i32_826
  v2121
def k0_mult5 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32_835 : BitVec 32 := 32#32
  let v2159 : BitVec 32 := Scalar.muli arg23 c32_i32_835
  v2159
def k0_off3 (k0_t1 : Fin k0_t1_loop.trips) (k0_t2 : Fin k0_t2_loop.trips) : Fin 3 → Nat :=
  let c0_i32 : BitVec 32 := 0#32
  let c1_i32 : BitVec 32 := 1#32
  let arg22 : BitVec 32 := Scf.iv c0_i32 c1_i32 k0_t1
  let v2161 : Index := Scalar.indexCast arg22
  let c0_i32_359 : BitVec 32 := 0#32
  let c1_i32_360 : BitVec 32 := 1#32
  let arg23 : BitVec 32 := Scf.iv c0_i32_359 c1_i32_360 k0_t2
  let c32_i32_835 : BitVec 32 := 32#32
  let v2159 : BitVec 32 := Scalar.muli arg23 c32_i32_835
  let v2160 : BitVec 32 := v2159
  let v2162 : Index := Scalar.indexCast v2160
  let c0_836 : Index := 0#32
  ![v2161.toNat, v2162.toNat, 0]
def k0_off4 (k0_t1 : Fin k0_t1_loop.trips) : Fin 3 → Nat :=
  let c0_i32 : BitVec 32 := 0#32
  let c1_i32 : BitVec 32 := 1#32
  let arg22 : BitVec 32 := Scf.iv c0_i32 c1_i32 k0_t1
  let v723 : Index := Scalar.indexCast arg22
  let c0_363 : Index := 0#32
  ![v723.toNat, 128, 0]
def k0_off5 (k0_t1 : Fin k0_t1_loop.trips) : Fin 3 → Nat :=
  let c0_i32 : BitVec 32 := 0#32
  let c1_i32 : BitVec 32 := 1#32
  let arg22 : BitVec 32 := Scf.iv c0_i32 c1_i32 k0_t1
  let v728 : Index := Scalar.indexCast arg22
  let c0_365 : Index := 0#32
  ![v728.toNat, 144, 0]
def k0_off6 (k0_t1 : Fin k0_t1_loop.trips) : Fin 3 → Nat :=
  let c0_i32 : BitVec 32 := 0#32
  let c1_i32 : BitVec 32 := 1#32
  let arg22 : BitVec 32 := Scf.iv c0_i32 c1_i32 k0_t1
  let v733 : Index := Scalar.indexCast arg22
  let c0_367 : Index := 0#32
  ![v733.toNat, 160, 0]
def k0_off7 (k0_t1 : Fin k0_t1_loop.trips) : Fin 3 → Nat :=
  let c0_i32 : BitVec 32 := 0#32
  let c1_i32 : BitVec 32 := 1#32
  let arg22 : BitVec 32 := Scf.iv c0_i32 c1_i32 k0_t1
  let v738 : Index := Scalar.indexCast arg22
  let c0_369 : Index := 0#32
  ![v738.toNat, 176, 0]
def k0_off8 (k0_t1 : Fin k0_t1_loop.trips) : Fin 3 → Nat :=
  let c0_i32 : BitVec 32 := 0#32
  let c1_i32 : BitVec 32 := 1#32
  let arg22 : BitVec 32 := Scf.iv c0_i32 c1_i32 k0_t1
  let v743 : Index := Scalar.indexCast arg22
  let c0_371 : Index := 0#32
  ![v743.toNat, 192, 0]
def k0_off9 (k0_t1 : Fin k0_t1_loop.trips) : Fin 3 → Nat :=
  let c0_i32 : BitVec 32 := 0#32
  let c1_i32 : BitVec 32 := 1#32
  let arg22 : BitVec 32 := Scf.iv c0_i32 c1_i32 k0_t1
  let v748 : Index := Scalar.indexCast arg22
  let c0_373 : Index := 0#32
  ![v748.toNat, 208, 0]
def k0_off10 (k0_t1 : Fin k0_t1_loop.trips) : Fin 3 → Nat :=
  let c0_i32 : BitVec 32 := 0#32
  let c1_i32 : BitVec 32 := 1#32
  let arg22 : BitVec 32 := Scf.iv c0_i32 c1_i32 k0_t1
  let v753 : Index := Scalar.indexCast arg22
  let c0_374 : Index := 0#32
  ![v753.toNat, 224, 0]
def k0_off11 (k0_t1 : Fin k0_t1_loop.trips) : Fin 3 → Nat :=
  let c0_i32 : BitVec 32 := 0#32
  let c1_i32 : BitVec 32 := 1#32
  let arg22 : BitVec 32 := Scf.iv c0_i32 c1_i32 k0_t1
  let v758 : Index := Scalar.indexCast arg22
  let c0_375 : Index := 0#32
  ![v758.toNat, 240, 0]
def k0_off12 (k0_t1 : Fin k0_t1_loop.trips) : Fin 2 → Nat :=
  let c0_i32 : BitVec 32 := 0#32
  let c1_i32 : BitVec 32 := 1#32
  let arg22 : BitVec 32 := Scf.iv c0_i32 c1_i32 k0_t1
  let c2_i32 : BitVec 32 := 2#32
  let v1285 : BitVec 32 := Scalar.muli arg22 c2_i32
  let c1_i32_532 : BitVec 32 := 1#32
  let v1286 : BitVec 32 := Scalar.addi v1285 c1_i32_532
  let c16_i32_533 : BitVec 32 := 16#32
  let v1287 : BitVec 32 := Scalar.muli v1286 c16_i32_533
  let c0_i32_534 : BitVec 32 := 0#32
  let v1288 : BitVec 32 := Scalar.addi v1287 c0_i32_534
  let v1289 : Index := Scalar.indexCast v1288
  let c0_535 : Index := 0#32
  ![v1289.toNat, 0]
def k0_off13 (k0_t1 : Fin k0_t1_loop.trips) : Fin 2 → Nat :=
  let c0_i32 : BitVec 32 := 0#32
  let c1_i32 : BitVec 32 := 1#32
  let arg22 : BitVec 32 := Scf.iv c0_i32 c1_i32 k0_t1
  let c2_i32_561 : BitVec 32 := 2#32
  let v1338 : BitVec 32 := Scalar.muli arg22 c2_i32_561
  let c1_i32_562 : BitVec 32 := 1#32
  let v1339 : BitVec 32 := Scalar.addi v1338 c1_i32_562
  let c16_i32_563 : BitVec 32 := 16#32
  let v1340 : BitVec 32 := Scalar.muli v1339 c16_i32_563
  let c8_i32_564 : BitVec 32 := 8#32
  let v1341 : BitVec 32 := Scalar.addi v1340 c8_i32_564
  let v1342 : Index := Scalar.indexCast v1341
  let c0_565 : Index := 0#32
  ![v1342.toNat, 0]
@[reducible] def k0_t3_loop : Scf.Loop 32 :=
  let c0_i32_573 : BitVec 32 := 0#32
  let c14_i32_574 : BitVec 32 := 14#32
  let v1360 : BitVec 32 := Scalar.addi c0_i32_573 c14_i32_574
  let c1_i32_575 : BitVec 32 := 1#32
  ⟨c0_i32_573, v1360, c1_i32_575⟩
def k0_off14 (k0_t3 : Fin k0_t3_loop.trips) : Fin 2 → Nat :=
  let c0_i32_573 : BitVec 32 := 0#32
  let c1_i32_575 : BitVec 32 := 1#32
  let arg23 : BitVec 32 := Scf.iv c0_i32_573 c1_i32_575 k0_t3
  let v2001 : Index := Scalar.indexCast arg23
  let c0_792 : Index := 0#32
  ![v2001.toNat, 0]
def k0_mult6 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32 : BitVec 32 := 32#32
  let v2039 : BitVec 32 := Scalar.muli arg23 c32_i32
  let c0_i32_804 : BitVec 32 := 0#32
  let v2040 : BitVec 32 := Scalar.addi v2039 c0_i32_804
  let c0_i32_805 : BitVec 32 := 0#32
  let v2041 : BitVec 32 := Scalar.addi v2040 c0_i32_805
  v2041
def k0_off15 (k0_t3 : Fin k0_t3_loop.trips) (c0_i32_804 : BitVec 32) (c0_i32_805 : BitVec 32) : Fin 2 → Nat :=
  let c0_i32_573 : BitVec 32 := 0#32
  let c1_i32_575 : BitVec 32 := 1#32
  let arg23 : BitVec 32 := Scf.iv c0_i32_573 c1_i32_575 k0_t3
  let c32_i32 : BitVec 32 := 32#32
  let v2039 : BitVec 32 := Scalar.muli arg23 c32_i32
  let v2040 : BitVec 32 := Scalar.addi v2039 c0_i32_804
  let v2041 : BitVec 32 := Scalar.addi v2040 c0_i32_805
  let v2042 : BitVec 32 := v2041
  let v2043 : Index := Scalar.indexCast v2042
  let c0_806 : Index := 0#32
  ![v2043.toNat, 0]
def k0_mult7 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32_809 : BitVec 32 := 32#32
  let v2060 : BitVec 32 := Scalar.muli arg23 c32_i32_809
  let c0_i32_810 : BitVec 32 := 0#32
  let v2061 : BitVec 32 := Scalar.addi v2060 c0_i32_810
  let c8_i32_811 : BitVec 32 := 8#32
  let v2062 : BitVec 32 := Scalar.addi v2061 c8_i32_811
  v2062
def k0_mult8 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32_817 : BitVec 32 := 32#32
  let v2098 : BitVec 32 := Scalar.muli arg23 c32_i32_817
  let c16_i32_818 : BitVec 32 := 16#32
  let v2099 : BitVec 32 := Scalar.addi v2098 c16_i32_818
  let c0_i32_819 : BitVec 32 := 0#32
  let v2100 : BitVec 32 := Scalar.addi v2099 c0_i32_819
  v2100
def k0_mult9 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32_824 : BitVec 32 := 32#32
  let v2119 : BitVec 32 := Scalar.muli arg23 c32_i32_824
  let c16_i32_825 : BitVec 32 := 16#32
  let v2120 : BitVec 32 := Scalar.addi v2119 c16_i32_825
  let c8_i32_826 : BitVec 32 := 8#32
  let v2121 : BitVec 32 := Scalar.addi v2120 c8_i32_826
  v2121
def k0_mult10 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32_835 : BitVec 32 := 32#32
  let v2159 : BitVec 32 := Scalar.muli arg23 c32_i32_835
  v2159
def k0_off16 (k0_t1 : Fin k0_t1_loop.trips) (k0_t3 : Fin k0_t3_loop.trips) : Fin 3 → Nat :=
  let c0_i32 : BitVec 32 := 0#32
  let c1_i32 : BitVec 32 := 1#32
  let arg22 : BitVec 32 := Scf.iv c0_i32 c1_i32 k0_t1
  let v2161 : Index := Scalar.indexCast arg22
  let c0_i32_573 : BitVec 32 := 0#32
  let c1_i32_575 : BitVec 32 := 1#32
  let arg23 : BitVec 32 := Scf.iv c0_i32_573 c1_i32_575 k0_t3
  let c32_i32_835 : BitVec 32 := 32#32
  let v2159 : BitVec 32 := Scalar.muli arg23 c32_i32_835
  let v2160 : BitVec 32 := v2159
  let v2162 : Index := Scalar.indexCast v2160
  let c128_836 : Index := 128#32
  ![v2161.toNat, v2162.toNat, 128]
def k0_off17 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1364 : Index := Scalar.indexCast v1362
  let c0_579 : Index := 0#32
  ![v1364.toNat, 0, 0]
def k0_off18 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1369 : Index := Scalar.indexCast v1362
  let c0_581 : Index := 0#32
  ![v1369.toNat, 16, 0]
def k0_off19 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1374 : Index := Scalar.indexCast v1362
  let c0_583 : Index := 0#32
  ![v1374.toNat, 32, 0]
def k0_off20 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1379 : Index := Scalar.indexCast v1362
  let c0_585 : Index := 0#32
  ![v1379.toNat, 48, 0]
def k0_off21 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1384 : Index := Scalar.indexCast v1362
  let c0_587 : Index := 0#32
  ![v1384.toNat, 64, 0]
def k0_off22 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1389 : Index := Scalar.indexCast v1362
  let c0_589 : Index := 0#32
  ![v1389.toNat, 80, 0]
def k0_off23 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1394 : Index := Scalar.indexCast v1362
  let c0_591 : Index := 0#32
  ![v1394.toNat, 96, 0]
def k0_off24 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1399 : Index := Scalar.indexCast v1362
  let c0_593 : Index := 0#32
  ![v1399.toNat, 112, 0]
def k0_off25 (k0_t1 : Fin k0_t1_loop.trips) : Fin 2 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let c2_i32_750 : BitVec 32 := 2#32
  let v1926 : BitVec 32 := Scalar.muli v1362 c2_i32_750
  let c0_i32_751 : BitVec 32 := 0#32
  let v1927 : BitVec 32 := Scalar.addi v1926 c0_i32_751
  let c16_i32_752 : BitVec 32 := 16#32
  let v1928 : BitVec 32 := Scalar.muli v1927 c16_i32_752
  let c0_i32_753 : BitVec 32 := 0#32
  let v1929 : BitVec 32 := Scalar.addi v1928 c0_i32_753
  let v1930 : Index := Scalar.indexCast v1929
  let c0_754 : Index := 0#32
  ![v1930.toNat, 0]
def k0_off26 (k0_t1 : Fin k0_t1_loop.trips) : Fin 2 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let c2_i32_780 : BitVec 32 := 2#32
  let v1979 : BitVec 32 := Scalar.muli v1362 c2_i32_780
  let c0_i32_781 : BitVec 32 := 0#32
  let v1980 : BitVec 32 := Scalar.addi v1979 c0_i32_781
  let c16_i32_782 : BitVec 32 := 16#32
  let v1981 : BitVec 32 := Scalar.muli v1980 c16_i32_782
  let c8_i32_783 : BitVec 32 := 8#32
  let v1982 : BitVec 32 := Scalar.addi v1981 c8_i32_783
  let v1983 : Index := Scalar.indexCast v1982
  let c0_784 : Index := 0#32
  ![v1983.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x448x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S14x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
abbrev S40x4864x896 : Shape := ⟨3, ![40, 4864, 896]⟩
abbrev S16x128 : Shape := ⟨2, ![16, 128]⟩
abbrev S40x448x4864 : Shape := ⟨3, ![40, 448, 4864]⟩
abbrev S14x40x4864 : Shape := ⟨3, ![14, 40, 4864]⟩
abbrev S8x128 : Shape := ⟨2, ![8, 128]⟩
abbrev S8x256x128 : Shape := ⟨3, ![8, 256, 128]⟩
abbrev S8x448x256 : Shape := ⟨3, ![8, 448, 256]⟩
abbrev S14x8x256 : Shape := ⟨3, ![14, 8, 256]⟩
abbrev S448x128 : Shape := ⟨2, ![448, 128]⟩
abbrev S448x2x128 : Shape := ⟨3, ![448, 2, 128]⟩
abbrev S448x1x128 : Shape := ⟨3, ![448, 1, 128]⟩
abbrev S112x128 : Shape := ⟨2, ![112, 128]⟩
abbrev S112x2x128 : Shape := ⟨3, ![112, 2, 128]⟩
abbrev S112x1x128 : Shape := ⟨3, ![112, 1, 128]⟩
abbrev S16x2x128 : Shape := ⟨3, ![16, 2, 128]⟩
abbrev S16x1x128 : Shape := ⟨3, ![16, 1, 128]⟩
abbrev S256x128 : Shape := ⟨2, ![256, 128]⟩
abbrev S8x128x128 : Shape := ⟨3, ![8, 128, 128]⟩
abbrev S1x8x128 : Shape := ⟨3, ![1, 8, 128]⟩
abbrev S1x16x128 : Shape := ⟨3, ![1, 16, 128]⟩
abbrev S128x128 : Shape := ⟨2, ![128, 128]⟩
abbrev S64x128 : Shape := ⟨2, ![64, 128]⟩
abbrev S64x2x128 : Shape := ⟨3, ![64, 2, 128]⟩
abbrev S64x1x128 : Shape := ⟨3, ![64, 1, 128]⟩
abbrev S8x2x128 : Shape := ⟨3, ![8, 2, 128]⟩
abbrev S8x1x128 : Shape := ⟨3, ![8, 1, 128]⟩
abbrev S6x128 : Shape := ⟨2, ![6, 128]⟩
abbrev S6x2x128 : Shape := ⟨3, ![6, 2, 128]⟩
abbrev S6x1x128 : Shape := ⟨3, ![6, 1, 128]⟩
abbrev S12x128 : Shape := ⟨2, ![12, 128]⟩
abbrev S1x128 : Shape := ⟨2, ![1, 128]⟩
abbrev S1x2x128 : Shape := ⟨3, ![1, 2, 128]⟩
abbrev S1x1x128 : Shape := ⟨3, ![1, 1, 128]⟩
abbrev S16x128x1 : Shape := ⟨3, ![16, 128, 1]⟩
abbrev S32x128 : Shape := ⟨2, ![32, 128]⟩
abbrev S1x32x128 : Shape := ⟨3, ![1, 32, 128]⟩

abbrev nBuf : Space → Nat
  | .hbm => 5
  | .vmem => 29
  | .smem => 0
  | _ => 0

abbrev bufTy : (tb : Table) → Fin (tcTables nBuf tb) → BufTy
  | .hbm, ⟨0, _⟩ => ⟨S40x4864x896, .bf16⟩
  | .hbm, ⟨1, _⟩ => ⟨S16x128, .f32⟩
  | .hbm, ⟨2, _⟩ => ⟨S40x448x4864, .i8⟩
  | .hbm, ⟨3, _⟩ => ⟨S14x40x4864, .f32⟩
  | .hbm, ⟨4, _⟩ => ⟨S8x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S8x256x128, .bf16⟩
  | .local _ .vmem, ⟨11, _⟩ => ⟨S8x256x128, .bf16⟩
  | .local _ .vmem, ⟨12, _⟩ => ⟨S8x256x128, .bf16⟩
  | .local _ .vmem, ⟨13, _⟩ => ⟨S8x256x128, .bf16⟩
  | .local _ .vmem, ⟨14, _⟩ => ⟨S16x128, .f32⟩
  | .local _ .vmem, ⟨15, _⟩ => ⟨S8x448x256, .i8⟩
  | .local _ .vmem, ⟨16, _⟩ => ⟨S8x448x256, .i8⟩
  | .local _ .vmem, ⟨17, _⟩ => ⟨S14x8x256, .f32⟩
  | .local _ .vmem, ⟨18, _⟩ => ⟨S14x8x256, .f32⟩
  | .local _ .vmem, ⟨19, _⟩ => ⟨S8x128, .f32⟩
  | .local _ .vmem, ⟨20, _⟩ => ⟨S448x2x128, .bf16⟩
  | .local _ .vmem, ⟨21, _⟩ => ⟨S448x2x128, .bf16⟩
  | .local _ .vmem, ⟨22, _⟩ => ⟨S112x2x128, .bf16⟩
  | .local _ .vmem, ⟨23, _⟩ => ⟨S112x2x128, .bf16⟩
  | .local _ .vmem, ⟨24, _⟩ => ⟨S16x2x128, .bf16⟩
  | .local _ .vmem, ⟨25, _⟩ => ⟨S16x2x128, .bf16⟩
  | .local _ .vmem, ⟨26, _⟩ => ⟨S16x128, .f32⟩
  | .local _ .vmem, ⟨27, _⟩ => ⟨S16x128, .f32⟩
  | .local _ .vmem, ⟨28, _⟩ => ⟨S256x128, .f32⟩
  | _, _ => ⟨S40x4864x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![5, 19], ![false, false]⟩

@[reducible] def k0_t1_loop : Scf.Loop 32 :=
  let c0_i32 : BitVec 32 := 0#32
  let c8_i32 : BitVec 32 := 8#32
  let v572 : BitVec 32 := Scalar.addi c0_i32 c8_i32
  let c1_i32 : BitVec 32 := 1#32
  ⟨c0_i32, v572, c1_i32⟩
@[reducible] def k0_t2_loop : Scf.Loop 32 :=
  let c0_i32_359 : BitVec 32 := 0#32
  let c14_i32 : BitVec 32 := 14#32
  let v721 : BitVec 32 := Scalar.addi c0_i32_359 c14_i32
  let c1_i32_360 : BitVec 32 := 1#32
  ⟨c0_i32_359, v721, c1_i32_360⟩
def k0_off1 (k0_t2 : Fin k0_t2_loop.trips) : Fin 3 → Nat :=
  let c0_i32_359 : BitVec 32 := 0#32
  let c1_i32_360 : BitVec 32 := 1#32
  let arg23 : BitVec 32 := Scf.iv c0_i32_359 c1_i32_360 k0_t2
  let v2001 : Index := Scalar.indexCast arg23
  let c0_792 : Index := 0#32
  ![v2001.toNat, 0, 0]
def k0_off2 (k0_t2 : Fin k0_t2_loop.trips) : Fin 2 → Nat :=
  let c0_i32_359 : BitVec 32 := 0#32
  let c1_i32_360 : BitVec 32 := 1#32
  let arg23 : BitVec 32 := Scf.iv c0_i32_359 c1_i32_360 k0_t2
  let v2005 : Index := Scalar.indexCast arg23
  let c0_793 : Index := 0#32
  ![v2005.toNat, 0]
def k0_mult1 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32 : BitVec 32 := 32#32
  let v2039 : BitVec 32 := Scalar.muli arg23 c32_i32
  let c0_i32_804 : BitVec 32 := 0#32
  let v2040 : BitVec 32 := Scalar.addi v2039 c0_i32_804
  let c0_i32_805 : BitVec 32 := 0#32
  let v2041 : BitVec 32 := Scalar.addi v2040 c0_i32_805
  v2041
def k0_off3 (k0_t2 : Fin k0_t2_loop.trips) (c0_i32_804 : BitVec 32) (c0_i32_805 : BitVec 32) : Fin 3 → Nat :=
  let c0_i32_359 : BitVec 32 := 0#32
  let c1_i32_360 : BitVec 32 := 1#32
  let arg23 : BitVec 32 := Scf.iv c0_i32_359 c1_i32_360 k0_t2
  let c32_i32 : BitVec 32 := 32#32
  let v2039 : BitVec 32 := Scalar.muli arg23 c32_i32
  let v2040 : BitVec 32 := Scalar.addi v2039 c0_i32_804
  let v2041 : BitVec 32 := Scalar.addi v2040 c0_i32_805
  let v2042 : BitVec 32 := v2041
  let v2043 : Index := Scalar.indexCast v2042
  let c0_806 : Index := 0#32
  ![v2043.toNat, 0, 0]
def k0_mult2 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32_809 : BitVec 32 := 32#32
  let v2060 : BitVec 32 := Scalar.muli arg23 c32_i32_809
  let c0_i32_810 : BitVec 32 := 0#32
  let v2061 : BitVec 32 := Scalar.addi v2060 c0_i32_810
  let c8_i32_811 : BitVec 32 := 8#32
  let v2062 : BitVec 32 := Scalar.addi v2061 c8_i32_811
  v2062
def k0_mult3 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32_817 : BitVec 32 := 32#32
  let v2098 : BitVec 32 := Scalar.muli arg23 c32_i32_817
  let c16_i32_818 : BitVec 32 := 16#32
  let v2099 : BitVec 32 := Scalar.addi v2098 c16_i32_818
  let c0_i32_819 : BitVec 32 := 0#32
  let v2100 : BitVec 32 := Scalar.addi v2099 c0_i32_819
  v2100
def k0_mult4 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32_824 : BitVec 32 := 32#32
  let v2119 : BitVec 32 := Scalar.muli arg23 c32_i32_824
  let c16_i32_825 : BitVec 32 := 16#32
  let v2120 : BitVec 32 := Scalar.addi v2119 c16_i32_825
  let c8_i32_826 : BitVec 32 := 8#32
  let v2121 : BitVec 32 := Scalar.addi v2120 c8_i32_826
  v2121
def k0_mult5 (k0_t2 : Fin k0_t2_loop.trips) : BitVec 32 :=
  let c0_i32_359 : BitVec 32 := 0#32
  let c1_i32_360 : BitVec 32 := 1#32
  let arg23 : BitVec 32 := Scf.iv c0_i32_359 c1_i32_360 k0_t2
  let c32_i32_835 : BitVec 32 := 32#32
  let v2159 : BitVec 32 := Scalar.muli arg23 c32_i32_835
  v2159
def k0_off4 (k0_t1 : Fin k0_t1_loop.trips) (k0_t2 : Fin k0_t2_loop.trips) : Fin 3 → Nat :=
  let c0_i32 : BitVec 32 := 0#32
  let c1_i32 : BitVec 32 := 1#32
  let arg22 : BitVec 32 := Scf.iv c0_i32 c1_i32 k0_t1
  let v2161 : Index := Scalar.indexCast arg22
  let c0_i32_359 : BitVec 32 := 0#32
  let c1_i32_360 : BitVec 32 := 1#32
  let arg23 : BitVec 32 := Scf.iv c0_i32_359 c1_i32_360 k0_t2
  let c32_i32_835 : BitVec 32 := 32#32
  let v2159 : BitVec 32 := Scalar.muli arg23 c32_i32_835
  let v2160 : BitVec 32 := v2159
  let v2162 : Index := Scalar.indexCast v2160
  let c0_836 : Index := 0#32
  ![v2161.toNat, v2162.toNat, 0]
def k0_off5 (k0_t1 : Fin k0_t1_loop.trips) : Fin 3 → Nat :=
  let c0_i32 : BitVec 32 := 0#32
  let c1_i32 : BitVec 32 := 1#32
  let arg22 : BitVec 32 := Scf.iv c0_i32 c1_i32 k0_t1
  let v723 : Index := Scalar.indexCast arg22
  let c0_363 : Index := 0#32
  ![v723.toNat, 128, 0]
def k0_off6 (k0_t1 : Fin k0_t1_loop.trips) : Fin 3 → Nat :=
  let c0_i32 : BitVec 32 := 0#32
  let c1_i32 : BitVec 32 := 1#32
  let arg22 : BitVec 32 := Scf.iv c0_i32 c1_i32 k0_t1
  let v728 : Index := Scalar.indexCast arg22
  let c0_365 : Index := 0#32
  ![v728.toNat, 144, 0]
def k0_off7 (k0_t1 : Fin k0_t1_loop.trips) : Fin 3 → Nat :=
  let c0_i32 : BitVec 32 := 0#32
  let c1_i32 : BitVec 32 := 1#32
  let arg22 : BitVec 32 := Scf.iv c0_i32 c1_i32 k0_t1
  let v733 : Index := Scalar.indexCast arg22
  let c0_367 : Index := 0#32
  ![v733.toNat, 160, 0]
def k0_off8 (k0_t1 : Fin k0_t1_loop.trips) : Fin 3 → Nat :=
  let c0_i32 : BitVec 32 := 0#32
  let c1_i32 : BitVec 32 := 1#32
  let arg22 : BitVec 32 := Scf.iv c0_i32 c1_i32 k0_t1
  let v738 : Index := Scalar.indexCast arg22
  let c0_369 : Index := 0#32
  ![v738.toNat, 176, 0]
def k0_off9 (k0_t1 : Fin k0_t1_loop.trips) : Fin 3 → Nat :=
  let c0_i32 : BitVec 32 := 0#32
  let c1_i32 : BitVec 32 := 1#32
  let arg22 : BitVec 32 := Scf.iv c0_i32 c1_i32 k0_t1
  let v743 : Index := Scalar.indexCast arg22
  let c0_371 : Index := 0#32
  ![v743.toNat, 192, 0]
def k0_off10 (k0_t1 : Fin k0_t1_loop.trips) : Fin 3 → Nat :=
  let c0_i32 : BitVec 32 := 0#32
  let c1_i32 : BitVec 32 := 1#32
  let arg22 : BitVec 32 := Scf.iv c0_i32 c1_i32 k0_t1
  let v748 : Index := Scalar.indexCast arg22
  let c0_373 : Index := 0#32
  ![v748.toNat, 208, 0]
def k0_off11 (k0_t1 : Fin k0_t1_loop.trips) : Fin 3 → Nat :=
  let c0_i32 : BitVec 32 := 0#32
  let c1_i32 : BitVec 32 := 1#32
  let arg22 : BitVec 32 := Scf.iv c0_i32 c1_i32 k0_t1
  let v753 : Index := Scalar.indexCast arg22
  let c0_374 : Index := 0#32
  ![v753.toNat, 224, 0]
def k0_off12 (k0_t1 : Fin k0_t1_loop.trips) : Fin 3 → Nat :=
  let c0_i32 : BitVec 32 := 0#32
  let c1_i32 : BitVec 32 := 1#32
  let arg22 : BitVec 32 := Scf.iv c0_i32 c1_i32 k0_t1
  let v758 : Index := Scalar.indexCast arg22
  let c0_375 : Index := 0#32
  ![v758.toNat, 240, 0]
def k0_off13 (k0_t1 : Fin k0_t1_loop.trips) : Fin 2 → Nat :=
  let c0_i32 : BitVec 32 := 0#32
  let c1_i32 : BitVec 32 := 1#32
  let arg22 : BitVec 32 := Scf.iv c0_i32 c1_i32 k0_t1
  let c2_i32 : BitVec 32 := 2#32
  let v1285 : BitVec 32 := Scalar.muli arg22 c2_i32
  let c1_i32_532 : BitVec 32 := 1#32
  let v1286 : BitVec 32 := Scalar.addi v1285 c1_i32_532
  let c16_i32_533 : BitVec 32 := 16#32
  let v1287 : BitVec 32 := Scalar.muli v1286 c16_i32_533
  let c0_i32_534 : BitVec 32 := 0#32
  let v1288 : BitVec 32 := Scalar.addi v1287 c0_i32_534
  let v1289 : Index := Scalar.indexCast v1288
  let c0_535 : Index := 0#32
  ![v1289.toNat, 0]
def k0_off14 (k0_t1 : Fin k0_t1_loop.trips) : Fin 2 → Nat :=
  let c0_i32 : BitVec 32 := 0#32
  let c1_i32 : BitVec 32 := 1#32
  let arg22 : BitVec 32 := Scf.iv c0_i32 c1_i32 k0_t1
  let c2_i32_561 : BitVec 32 := 2#32
  let v1338 : BitVec 32 := Scalar.muli arg22 c2_i32_561
  let c1_i32_562 : BitVec 32 := 1#32
  let v1339 : BitVec 32 := Scalar.addi v1338 c1_i32_562
  let c16_i32_563 : BitVec 32 := 16#32
  let v1340 : BitVec 32 := Scalar.muli v1339 c16_i32_563
  let c8_i32_564 : BitVec 32 := 8#32
  let v1341 : BitVec 32 := Scalar.addi v1340 c8_i32_564
  let v1342 : Index := Scalar.indexCast v1341
  let c0_565 : Index := 0#32
  ![v1342.toNat, 0]
@[reducible] def k0_t3_loop : Scf.Loop 32 :=
  let c0_i32_573 : BitVec 32 := 0#32
  let c14_i32_574 : BitVec 32 := 14#32
  let v1360 : BitVec 32 := Scalar.addi c0_i32_573 c14_i32_574
  let c1_i32_575 : BitVec 32 := 1#32
  ⟨c0_i32_573, v1360, c1_i32_575⟩
def k0_off15 (k0_t3 : Fin k0_t3_loop.trips) : Fin 3 → Nat :=
  let c0_i32_573 : BitVec 32 := 0#32
  let c1_i32_575 : BitVec 32 := 1#32
  let arg23 : BitVec 32 := Scf.iv c0_i32_573 c1_i32_575 k0_t3
  let v2001 : Index := Scalar.indexCast arg23
  let c0_792 : Index := 0#32
  ![v2001.toNat, 0, 0]
def k0_off16 (k0_t3 : Fin k0_t3_loop.trips) : Fin 2 → Nat :=
  let c0_i32_573 : BitVec 32 := 0#32
  let c1_i32_575 : BitVec 32 := 1#32
  let arg23 : BitVec 32 := Scf.iv c0_i32_573 c1_i32_575 k0_t3
  let v2005 : Index := Scalar.indexCast arg23
  let c0_793 : Index := 0#32
  ![v2005.toNat, 0]
def k0_mult6 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32 : BitVec 32 := 32#32
  let v2039 : BitVec 32 := Scalar.muli arg23 c32_i32
  let c0_i32_804 : BitVec 32 := 0#32
  let v2040 : BitVec 32 := Scalar.addi v2039 c0_i32_804
  let c0_i32_805 : BitVec 32 := 0#32
  let v2041 : BitVec 32 := Scalar.addi v2040 c0_i32_805
  v2041
def k0_off17 (k0_t3 : Fin k0_t3_loop.trips) (c0_i32_804 : BitVec 32) (c0_i32_805 : BitVec 32) : Fin 3 → Nat :=
  let c0_i32_573 : BitVec 32 := 0#32
  let c1_i32_575 : BitVec 32 := 1#32
  let arg23 : BitVec 32 := Scf.iv c0_i32_573 c1_i32_575 k0_t3
  let c32_i32 : BitVec 32 := 32#32
  let v2039 : BitVec 32 := Scalar.muli arg23 c32_i32
  let v2040 : BitVec 32 := Scalar.addi v2039 c0_i32_804
  let v2041 : BitVec 32 := Scalar.addi v2040 c0_i32_805
  let v2042 : BitVec 32 := v2041
  let v2043 : Index := Scalar.indexCast v2042
  let c0_806 : Index := 0#32
  ![v2043.toNat, 0, 0]
def k0_mult7 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32_809 : BitVec 32 := 32#32
  let v2060 : BitVec 32 := Scalar.muli arg23 c32_i32_809
  let c0_i32_810 : BitVec 32 := 0#32
  let v2061 : BitVec 32 := Scalar.addi v2060 c0_i32_810
  let c8_i32_811 : BitVec 32 := 8#32
  let v2062 : BitVec 32 := Scalar.addi v2061 c8_i32_811
  v2062
def k0_mult8 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32_817 : BitVec 32 := 32#32
  let v2098 : BitVec 32 := Scalar.muli arg23 c32_i32_817
  let c16_i32_818 : BitVec 32 := 16#32
  let v2099 : BitVec 32 := Scalar.addi v2098 c16_i32_818
  let c0_i32_819 : BitVec 32 := 0#32
  let v2100 : BitVec 32 := Scalar.addi v2099 c0_i32_819
  v2100
def k0_mult9 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32_824 : BitVec 32 := 32#32
  let v2119 : BitVec 32 := Scalar.muli arg23 c32_i32_824
  let c16_i32_825 : BitVec 32 := 16#32
  let v2120 : BitVec 32 := Scalar.addi v2119 c16_i32_825
  let c8_i32_826 : BitVec 32 := 8#32
  let v2121 : BitVec 32 := Scalar.addi v2120 c8_i32_826
  v2121
def k0_mult10 (k0_t3 : Fin k0_t3_loop.trips) : BitVec 32 :=
  let c0_i32_573 : BitVec 32 := 0#32
  let c1_i32_575 : BitVec 32 := 1#32
  let arg23 : BitVec 32 := Scf.iv c0_i32_573 c1_i32_575 k0_t3
  let c32_i32_835 : BitVec 32 := 32#32
  let v2159 : BitVec 32 := Scalar.muli arg23 c32_i32_835
  v2159
def k0_off18 (k0_t1 : Fin k0_t1_loop.trips) (k0_t3 : Fin k0_t3_loop.trips) : Fin 3 → Nat :=
  let c0_i32 : BitVec 32 := 0#32
  let c1_i32 : BitVec 32 := 1#32
  let arg22 : BitVec 32 := Scf.iv c0_i32 c1_i32 k0_t1
  let v2161 : Index := Scalar.indexCast arg22
  let c0_i32_573 : BitVec 32 := 0#32
  let c1_i32_575 : BitVec 32 := 1#32
  let arg23 : BitVec 32 := Scf.iv c0_i32_573 c1_i32_575 k0_t3
  let c32_i32_835 : BitVec 32 := 32#32
  let v2159 : BitVec 32 := Scalar.muli arg23 c32_i32_835
  let v2160 : BitVec 32 := v2159
  let v2162 : Index := Scalar.indexCast v2160
  let c128_836 : Index := 128#32
  ![v2161.toNat, v2162.toNat, 128]
def k0_off19 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1364 : Index := Scalar.indexCast v1362
  let c0_579 : Index := 0#32
  ![v1364.toNat, 0, 0]
def k0_off20 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1369 : Index := Scalar.indexCast v1362
  let c0_581 : Index := 0#32
  ![v1369.toNat, 16, 0]
def k0_off21 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1374 : Index := Scalar.indexCast v1362
  let c0_583 : Index := 0#32
  ![v1374.toNat, 32, 0]
def k0_off22 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1379 : Index := Scalar.indexCast v1362
  let c0_585 : Index := 0#32
  ![v1379.toNat, 48, 0]
def k0_off23 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1384 : Index := Scalar.indexCast v1362
  let c0_587 : Index := 0#32
  ![v1384.toNat, 64, 0]
def k0_off24 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1389 : Index := Scalar.indexCast v1362
  let c0_589 : Index := 0#32
  ![v1389.toNat, 80, 0]
def k0_off25 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1394 : Index := Scalar.indexCast v1362
  let c0_591 : Index := 0#32
  ![v1394.toNat, 96, 0]
def k0_off26 (k0_t1 : Fin k0_t1_loop.trips) : Fin 3 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let v1399 : Index := Scalar.indexCast v1362
  let c0_593 : Index := 0#32
  ![v1399.toNat, 112, 0]
def k0_off27 (k0_t1 : Fin k0_t1_loop.trips) : Fin 2 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let c2_i32_750 : BitVec 32 := 2#32
  let v1926 : BitVec 32 := Scalar.muli v1362 c2_i32_750
  let c0_i32_751 : BitVec 32 := 0#32
  let v1927 : BitVec 32 := Scalar.addi v1926 c0_i32_751
  let c16_i32_752 : BitVec 32 := 16#32
  let v1928 : BitVec 32 := Scalar.muli v1927 c16_i32_752
  let c0_i32_753 : BitVec 32 := 0#32
  let v1929 : BitVec 32 := Scalar.addi v1928 c0_i32_753
  let v1930 : Index := Scalar.indexCast v1929
  let c0_754 : Index := 0#32
  ![v1930.toNat, 0]
def k0_off28 (k0_t1 : Fin k0_t1_loop.trips) : Fin 2 → Nat :=
  let c0_i32 : BitVec 32 := 0#32
  let c1_i32 : BitVec 32 := 1#32
  let arg22 : BitVec 32 := Scf.iv c0_i32 c1_i32 k0_t1
  let c1_i32_577 : BitVec 32 := 1#32
  let v1361 : BitVec 32 := Scalar.addi arg22 c1_i32_577
  let c7_i32 : BitVec 32 := 7#32
  let v1362 : BitVec 32 := Scalar.minsi v1361 c7_i32
  let c2_i32_780 : BitVec 32 := 2#32
  let v1979 : BitVec 32 := Scalar.muli v1362 c2_i32_780
  let c0_i32_781 : BitVec 32 := 0#32
  let v1980 : BitVec 32 := Scalar.addi v1979 c0_i32_781
  let c16_i32_782 : BitVec 32 := 16#32
  let v1981 : BitVec 32 := Scalar.muli v1980 c16_i32_782
  let c8_i32_783 : BitVec 32 := 8#32
  let v1982 : BitVec 32 := Scalar.addi v1981 c8_i32_783
  let v1983 : Index := Scalar.indexCast v1982
  let c0_784 : Index := 0#32
  ![v1983.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x448x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S14x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S40x4864x896 : Shape := ⟨3, ![40, 4864, 896]⟩
abbrev S40x4864x14x64 : Shape := ⟨4, ![40, 4864, 14, 64]⟩
abbrev S_ : Shape := ⟨0, ![]⟩
abbrev S40x4864x14 : Shape := ⟨3, ![40, 4864, 14]⟩
abbrev S40x4864x14x1 : Shape := ⟨4, ![40, 4864, 14, 1]⟩
abbrev S40x4864x448x2 : Shape := ⟨4, ![40, 4864, 448, 2]⟩
abbrev S40x4864x448x1 : Shape := ⟨4, ![40, 4864, 448, 1]⟩
abbrev S40x4864x448 : Shape := ⟨3, ![40, 4864, 448]⟩
abbrev S5x8x38x128x14 : Shape := ⟨5, ![5, 8, 38, 128, 14]⟩
abbrev S8x128 : Shape := ⟨2, ![8, 128]⟩
abbrev S40x448x4864 : Shape := ⟨3, ![40, 448, 4864]⟩
abbrev S14x40x4864 : Shape := ⟨3, ![14, 40, 4864]⟩

abbrev nBuf : Space → Nat
  | .hbm => 94
  | .vmem => 0
  | .smem => 0
  | _ => 0

abbrev bufTy : (tb : Table) → Fin (tcTables nBuf tb) → BufTy
  | .hbm, ⟨0, _⟩ => ⟨S40x4864x896, .bf16⟩
  | .hbm, ⟨1, _⟩ => ⟨S40x4864x896, .f32⟩
  | .hbm, ⟨2, _⟩ => ⟨S40x4864x14x64, .f32⟩
  | .hbm, ⟨3, _⟩ => ⟨S40x4864x14x64, .f32⟩
  | .hbm, ⟨4, _⟩ => ⟨S_, .f32⟩
  | .hbm, ⟨5, _⟩ => ⟨S40x4864x14, .f32⟩
  | .hbm, ⟨6, _⟩ => ⟨S_, .f32⟩
  | .hbm, ⟨7, _⟩ => ⟨S40x4864x14, .f32⟩
  | .hbm, ⟨8, _⟩ => ⟨S40x4864x14, .i1⟩
  | .hbm, ⟨9, _⟩ => ⟨S_, .f32⟩
  | .hbm, ⟨10, _⟩ => ⟨S40x4864x14, .f32⟩
  | .hbm, ⟨11, _⟩ => ⟨S40x4864x14, .f32⟩
  | .hbm, ⟨12, _⟩ => ⟨S_, .f32⟩
  | .hbm, ⟨13, _⟩ => ⟨S40x4864x14, .f32⟩
  | .hbm, ⟨14, _⟩ => ⟨S40x4864x14, .f32⟩
  | .hbm, ⟨15, _⟩ => ⟨S40x4864x14x1, .f32⟩
  | .hbm, ⟨16, _⟩ => ⟨S40x4864x14x64, .f32⟩
  | .hbm, ⟨17, _⟩ => ⟨S40x4864x14x64, .f32⟩
  | .hbm, ⟨18, _⟩ => ⟨S_, .f32⟩
  | .hbm, ⟨19, _⟩ => ⟨S40x4864x14x64, .f32⟩
  | .hbm, ⟨20, _⟩ => ⟨S40x4864x14x64, .i1⟩
  | .hbm, ⟨21, _⟩ => ⟨S_, .f32⟩
  | .hbm, ⟨22, _⟩ => ⟨S_, .f32⟩
  | .hbm, ⟨23, _⟩ => ⟨S40x4864x14x64, .f32⟩
  | .hbm, ⟨24, _⟩ => ⟨S40x4864x14x64, .f32⟩
  | .hbm, ⟨25, _⟩ => ⟨S40x4864x14x64, .f32⟩
  | .hbm, ⟨26, _⟩ => ⟨S40x4864x14x64, .i1⟩
  | .hbm, ⟨27, _⟩ => ⟨S_, .f32⟩
  | .hbm, ⟨28, _⟩ => ⟨S_, .f32⟩
  | .hbm, ⟨29, _⟩ => ⟨S40x4864x14x64, .f32⟩
  | .hbm, ⟨30, _⟩ => ⟨S40x4864x14x64, .f32⟩
  | .hbm, ⟨31, _⟩ => ⟨S40x4864x14x64, .f32⟩
  | .hbm, ⟨32, _⟩ => ⟨S_, .f32⟩
  | .hbm, ⟨33, _⟩ => ⟨S_, .f32⟩
  | .hbm, ⟨34, _⟩ => ⟨S40x4864x14x64, .f32⟩
  | .hbm, ⟨35, _⟩ => ⟨S40x4864x14x64, .f32⟩
  | .hbm, ⟨36, _⟩ => ⟨S40x4864x14x64, .f32⟩
  | .hbm, ⟨37, _⟩ => ⟨S40x4864x14x64, .f32⟩
  | .hbm, ⟨38, _⟩ => ⟨S40x4864x14x64, .i1⟩
  | .hbm, ⟨39, _⟩ => ⟨S_, .f32⟩
  | .hbm, ⟨40, _⟩ => ⟨S_, .f32⟩
  | .hbm, ⟨41, _⟩ => ⟨S40x4864x14x64, .f32⟩
  | .hbm, ⟨42, _⟩ => ⟨S40x4864x14x64, .f32⟩
  | .hbm, ⟨43, _⟩ => ⟨S40x4864x14x64, .f32⟩
  | .hbm, ⟨44, _⟩ => ⟨S_, .f32⟩
  | .hbm, ⟨45, _⟩ => ⟨S_, .f32⟩
  | .hbm, ⟨46, _⟩ => ⟨S40x4864x14x64, .f32⟩
  | .hbm, ⟨47, _⟩ => ⟨S40x4864x14x64, .f32⟩
  | .hbm, ⟨48, _⟩ => ⟨S40x4864x14x64, .f32⟩
  | .hbm, ⟨49, _⟩ => ⟨S40x4864x14x64, .f32⟩
  | .hbm, ⟨50, _⟩ => ⟨S_, .f32⟩
  | .hbm, ⟨51, _⟩ => ⟨S_, .f32⟩
  | .hbm, ⟨52, _⟩ => ⟨S40x4864x14x64, .f32⟩
  | .hbm, ⟨53, _⟩ => ⟨S40x4864x14x64, .f32⟩
  | .hbm, ⟨54, _⟩ => ⟨S40x4864x14x64, .f32⟩
  | .hbm, ⟨55, _⟩ => ⟨S_, .f32⟩
  | .hbm, ⟨56, _⟩ => ⟨S_, .f32⟩
  | .hbm, ⟨57, _⟩ => ⟨S40x4864x14x64, .f32⟩
  | .hbm, ⟨58, _⟩ => ⟨S40x4864x14x64, .f32⟩
  | .hbm, ⟨59, _⟩ => ⟨S40x4864x14x64, .f32⟩
  | .hbm, ⟨60, _⟩ => ⟨S40x4864x14x64, .f32⟩
  | .hbm, ⟨61, _⟩ => ⟨S40x4864x14x64, .f32⟩
  | .hbm, ⟨62, _⟩ => ⟨S40x4864x14x64, .i1⟩
  | .hbm, ⟨63, _⟩ => ⟨S40x4864x14x64, .i32⟩
  | .hbm, ⟨64, _⟩ => ⟨S_, .i32⟩
  | .hbm, ⟨65, _⟩ => ⟨S40x4864x14x64, .i32⟩
  | .hbm, ⟨66, _⟩ => ⟨S40x4864x14x64, .i32⟩
  | .hbm, ⟨67, _⟩ => ⟨S40x4864x14x64, .i32⟩
  | .hbm, ⟨68, _⟩ => ⟨S_, .i32⟩
  | .hbm, ⟨69, _⟩ => ⟨S40x4864x14x64, .i32⟩
  | .hbm, ⟨70, _⟩ => ⟨S40x4864x14x64, .i32⟩
  | .hbm, ⟨71, _⟩ => ⟨S40x4864x14x64, .i32⟩
  | .hbm, ⟨72, _⟩ => ⟨S40x4864x14x64, .i32⟩
  | .hbm, ⟨73, _⟩ => ⟨S_, .i32⟩
  | .hbm, ⟨74, _⟩ => ⟨S40x4864x14x64, .i32⟩
  | .hbm, ⟨75, _⟩ => ⟨S40x4864x14x64, .i32⟩
  | .hbm, ⟨76, _⟩ => ⟨S40x4864x14x64, .i32⟩
  | .hbm, ⟨77, _⟩ => ⟨S40x4864x14x64, .i32⟩
  | .hbm, ⟨78, _⟩ => ⟨S40x4864x14x64, .i32⟩
  | .hbm, ⟨79, _⟩ => ⟨S40x4864x448x2, .i32⟩
  | .hbm, ⟨80, _⟩ => ⟨S40x4864x448x1, .i32⟩
  | .hbm, ⟨81, _⟩ => ⟨S40x4864x448, .i32⟩
  | .hbm, ⟨82, _⟩ => ⟨S_, .i32⟩
  | .hbm, ⟨83, _⟩ => ⟨S40x4864x448, .i32⟩
  | .hbm, ⟨84, _⟩ => ⟨S40x4864x448, .i32⟩
  | .hbm, ⟨85, _⟩ => ⟨S40x4864x448x1, .i32⟩
  | .hbm, ⟨86, _⟩ => ⟨S40x4864x448, .i32⟩
  | .hbm, ⟨87, _⟩ => ⟨S40x4864x448, .i32⟩
  | .hbm, ⟨88, _⟩ => ⟨S40x4864x448, .i8⟩
  | .hbm, ⟨89, _⟩ => ⟨S5x8x38x128x14, .f32⟩
  | .hbm, ⟨90, _⟩ => ⟨S_, .f32⟩
  | .hbm, ⟨91, _⟩ => ⟨S8x128, .f32⟩
  | .hbm, ⟨92, _⟩ => ⟨S40x448x4864, .i8⟩
  | .hbm, ⟨93, _⟩ => ⟨S14x40x4864, .f32⟩
  | _, _ => ⟨S40x4864x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_call0_v0 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_cst_5 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_cst_7 : Ref sig .tc := ⟨.hbm, 28, rfl⟩
abbrev main_call2_v0 : Ref sig .tc := ⟨.hbm, 29, rfl⟩
abbrev main_call2_v1 : Ref sig .tc := ⟨.hbm, 30, rfl⟩
abbrev main_v16 : Ref sig .tc := ⟨.hbm, 31, rfl⟩
abbrev main_cst_8 : Ref sig .tc := ⟨.hbm, 32, rfl⟩
abbrev main_cst_9 : Ref sig .tc := ⟨.hbm, 33, rfl⟩
abbrev main_call3_v0 : Ref sig .tc := ⟨.hbm, 34, rfl⟩
abbrev main_call3_v1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_10 : Ref sig .tc := ⟨.hbm, 39, rfl⟩
abbrev main_cst_11 : Ref sig .tc := ⟨.hbm, 40, rfl⟩
abbrev main_call5_v0 : Ref sig .tc := ⟨.hbm, 41, rfl⟩
abbrev main_call5_v1 : Ref sig .tc := ⟨.hbm, 42, rfl⟩
abbrev main_v20 : Ref sig .tc := ⟨.hbm, 43, rfl⟩
abbrev main_cst_12 : Ref sig .tc := ⟨.hbm, 44, rfl⟩
abbrev main_cst_13 : Ref sig .tc := ⟨.hbm, 45, rfl⟩
abbrev main_call6_v0 : Ref sig .tc := ⟨.hbm, 46, rfl⟩
abbrev main_call6_v1 : Ref sig .tc := ⟨.hbm, 47, rfl⟩
abbrev main_v21 : Ref sig .tc := ⟨.hbm, 48, rfl⟩
abbrev main_v22 : Ref sig .tc := ⟨.hbm, 49, rfl⟩
abbrev main_cst_14 : Ref sig .tc := ⟨.hbm, 50, rfl⟩
abbrev main_cst_15 : Ref sig .tc := ⟨.hbm, 51, rfl⟩
abbrev main_call8_v0 : Ref sig .tc := ⟨.hbm, 52, rfl⟩
abbrev main_call8_v1 : Ref sig .tc := ⟨.hbm, 53, rfl⟩
abbrev main_v23 : Ref sig .tc := ⟨.hbm, 54, rfl⟩
abbrev main_cst_16 : Ref sig .tc := ⟨.hbm, 55, rfl⟩
abbrev main_cst_17 : Ref sig .tc := ⟨.hbm, 56, rfl⟩
abbrev main_call9_v0 : Ref sig .tc := ⟨.hbm, 57, rfl⟩
abbrev main_call9_v1 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_18 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_19 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_20 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_21 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩

abbrev nD : Nat := 1
abbrev τ : Topo := Topo.v7x

variable {F : FTy → Type} [FloatOps F]
-- ==== Codes.lean ====
abbrev S10640x256 : Shape := ⟨2, ![10640, 256]⟩
abbrev S8x128 : Shape := ⟨2, ![8, 128]⟩
abbrev S10640x1 : Shape := ⟨2, ![10640, 1]⟩
abbrev S1x1 : Shape := ⟨2, ![1, 1]⟩
abbrev S2128x256 : Shape := ⟨2, ![2128, 256]⟩
abbrev S2128x1 : Shape := ⟨2, ![2128, 1]⟩
abbrev S1x8x128 : Shape := ⟨3, ![1, 8, 128]⟩
abbrev S1 : Shape := ⟨1, ![1]⟩
abbrev S1x1x1 : Shape := ⟨3, ![1, 1, 1]⟩
abbrev S2128 : Shape := ⟨1, ![2128]⟩

abbrev nBuf : Space → Nat
  | .hbm => 5
  | .vmem => 8
  | .smem => 0
  | _ => 0

abbrev bufTy : (tb : Table) → Fin (tcTables nBuf tb) → BufTy
  | .hbm, ⟨0, _⟩ => ⟨S10640x256, .f32⟩
  | .hbm, ⟨1, _⟩ => ⟨S8x128, .f32⟩
  | .hbm, ⟨2, _⟩ => ⟨S10640x256, .i8⟩
  | .hbm, ⟨3, _⟩ => ⟨S10640x1, .f32⟩
  | .hbm, ⟨4, _⟩ => ⟨S1x1, .f32⟩
  | .local _ .vmem, ⟨0, _⟩ => ⟨S2128x256, .f32⟩
  | .local _ .vmem, ⟨1, _⟩ => ⟨S2128x256, .f32⟩
  | .local _ .vmem, ⟨2, _⟩ => ⟨S8x128, .f32⟩
  | .local _ .vmem, ⟨3, _⟩ => ⟨S2128x256, .i8⟩
  | .local _ .vmem, ⟨4, _⟩ => ⟨S2128x256, .i8⟩
  | .local _ .vmem, ⟨5, _⟩ => ⟨S2128x1, .f32⟩
  | .local _ .vmem, ⟨6, _⟩ => ⟨S2128x1, .f32⟩
  | .local _ .vmem, ⟨7, _⟩ => ⟨S1x1, .f32⟩
  | _, _ => ⟨S10640x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2128x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CodesIdeal.lean ====
variable {F : FTy → Type} [FloatOps F] [Named F]
def κ : String → Option EReal := fun
  | "inv_n" => some ((1 / 2723840 : ℝ) : EReal)
  | _ => none
-- ==== CodesRefIdeal.lean ====
abbrev S10640x256 : Shape := ⟨2, ![10640, 256]⟩
abbrev S8x128 : Shape := ⟨2, ![8, 128]⟩
abbrev S10640x1 : Shape := ⟨2, ![10640, 1]⟩
abbrev S1x1 : Shape := ⟨2, ![1, 1]⟩
abbrev S1x8x128 : Shape := ⟨3, ![1, 8, 128]⟩
abbrev S1 : Shape := ⟨1, ![1]⟩
abbrev S1x1x1 : Shape := ⟨3, ![1, 1, 1]⟩
abbrev S10640 : Shape := ⟨1, ![10640]⟩

abbrev nBuf : Space → Nat
  | .hbm => 5
  | .vmem => 5
  | .smem => 0
  | _ => 0

abbrev bufTy : (tb : Table) → Fin (tcTables nBuf tb) → BufTy
  | .hbm, ⟨0, _⟩ => ⟨S10640x256, .f32⟩
  | .hbm, ⟨1, _⟩ => ⟨S8x128, .f32⟩
  | .hbm, ⟨2, _⟩ => ⟨S10640x256, .i8⟩
  | .hbm, ⟨3, _⟩ => ⟨S10640x1, .f32⟩
  | .hbm, ⟨4, _⟩ => ⟨S1x1, .f32⟩
  | .local _ .vmem, ⟨0, _⟩ => ⟨S10640x256, .f32⟩
  | .local _ .vmem, ⟨1, _⟩ => ⟨S8x128, .f32⟩
  | .local _ .vmem, ⟨2, _⟩ => ⟨S10640x256, .i8⟩
  | .local _ .vmem, ⟨3, _⟩ => ⟨S10640x1, .f32⟩
  | .local _ .vmem, ⟨4, _⟩ => ⟨S1x1, .f32⟩
  | _, _ => ⟨S10640x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S10640x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10640x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10640x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.CodesValue.lean ====
/- The values of the second call: the codes of the absmax values, the groups' scales and the offset that the kernel
   computes in five blocks of 2128 groups are, as extended reals, those of the whole-array reference. -/
module

public import proofs.«01_k».proof.Defs
public import proofs.«01_k».proof.Proof.Gen.CodesIdeal.Value
public import proofs.«01_k».proof.Proof.Gen.CodesRefIdeal.Value
public import Idealize.ShloMosaic.Lib.Pipeline.Value
public import Idealize.ShloMosaic.PureOps.Ideal.Laws

@[expose] public section

noncomputable section

namespace Cert.CodesValue

open Idealize.ShloMosaic Idealize.ShloMosaic.TcCoe Idealize.SL.Sem
open Idealize.ShloMosaic.Pipeline (Dat)
open Cert.CodesIdeal Cert.CodesIdeal.Gen

/-- The kernel's folded factor is, as a real, one over the number of absmax values. -/
theorem named_inv_n : (Named.named (F := Ideal) Cert.CodesIdeal.κ "inv_n" 0x34C519CB#32 : Ideal .f32) = ((1 / 2723840 : ℝ) : EReal) :=
  IdealRules.named_const.ideal_named_scalar _ _ _ _ rfl

/-- The reference's divisor is the number of absmax values. -/
theorem ofBits_n : Ideal.ofBits .f32 0x4A264000#32 = ((2723840 : ℝ) : EReal) := by
  simp [Ideal.ofBits, Ideal.ieee, -EReal.coe_mul]; norm_num

/-- The offset: the total of the partial sums times one over their number is that total divided by it. -/
theorem pay1_eq (p : Vec Ideal S8x128 .f32) :
    k0_pay1 (F := Ideal) p = Cert.CodesRefIdeal.Gen.k0_pay1 (F := Ideal) p := by
  funext i
  unfold k0_pay1 Cert.CodesRefIdeal.Gen.k0_pay1
  show FloatOps.mulf (F := Ideal) (φ := .f32) _ (Named.named (F := Ideal) Cert.CodesIdeal.κ "inv_n" 0x34C519CB#32)
    = FloatOps.divf (F := Ideal) (φ := .f32) _ (FloatOps.ofBits (F := Ideal) .f32 0x4A264000#32)
  rw [named_inv_n, Ideal.divf_def]
  show _ = Ideal.div _ (Ideal.ofBits .f32 0x4A264000#32)
  rw [ofBits_n, Ideal.div_coe (by norm_num : (2723840 : ℝ) ≠ 0)]
  rfl

/-- The row maximum of a block of rows is the row maximum of the whole array at the row the block's row lies at. -/
theorem rowmax_eq (x0 : Vec Ideal S2128x256 .f32) (a0 : Vec Ideal Cert.CodesRefIdeal.S10640x256 .f32) (o : FVec Ideal S1x1 .f32)
    (r : S2128.Idx) (r' : Cert.CodesRefIdeal.S10640.Idx)
    (h : ∀ (y : S2128x256.Idx) (y' : Cert.CodesRefIdeal.S10640x256.Idx), (y 0).val = (r 0).val → (y' 0).val = (r' 0).val →
      (y 1).val = (y' 1).val → x0 y = a0 y') :
    (multiReduction (F := Ideal) .maximumf [1] S2128 (absf (subf x0 (broadcastTo S2128x256 o broadcasts_S1x1_S2128x256))) 0xFF800000#32 reduces_S2128x256_S2128 (.inl rfl) rfl) r
    = (multiReduction (F := Ideal) .maximumf [1] Cert.CodesRefIdeal.S10640 (absf (subf a0 (broadcastTo Cert.CodesRefIdeal.S10640x256 o Cert.CodesRefIdeal.Gen.broadcasts_S1x1_S10640x256))) 0xFF800000#32 Cert.CodesRefIdeal.Gen.reduces_S10640x256_S10640 (.inl rfl) rfl) r' := by
  refine (Ideal.multiReduction_maximumf_single (a := 1) _ _ _ _ _ r).trans (Eq.trans ?_ (Ideal.multiReduction_maximumf_single (a := 1) _ _ _ _ _ r').symm)
  show Finset.fold max _ _ (Finset.univ : Finset (Fin 256)) = Finset.fold max _ _ (Finset.univ : Finset (Fin 256))
  refine congrArg (fun f => Finset.fold max _ f (Finset.univ : Finset (Fin 256))) (funext fun k => ?_)
  simp only [Function.comp]
  show FloatOps.absf (F := Ideal) (φ := .f32) (FloatOps.subf (F := Ideal) (φ := .f32) (x0 _) ((broadcastTo S2128x256 o broadcasts_S1x1_S2128x256) _))
    = FloatOps.absf (F := Ideal) (φ := .f32) (FloatOps.subf (F := Ideal) (φ := .f32) (a0 _) ((broadcastTo Cert.CodesRefIdeal.S10640x256 o Cert.CodesRefIdeal.Gen.broadcasts_S1x1_S10640x256) _))
  have ho : (broadcastTo S2128x256 o broadcasts_S1x1_S2128x256) (Shape.Reduces.lift reduces_S2128x256_S2128 r k)
      = (broadcastTo Cert.CodesRefIdeal.S10640x256 o Cert.CodesRefIdeal.Gen.broadcasts_S1x1_S10640x256) (Shape.Reduces.lift Cert.CodesRefIdeal.Gen.reduces_S10640x256_S10640 r' k) := by
    show o _ = o _
    refine congrArg o (funext fun a => Fin.ext ?_)
    have h3 : ∀ (a : Fin 2) (u v : Fin (S1x1.size a)), u.val = v.val := by decide
    exact h3 a _ _
  rw [ho, h _ (Shape.Reduces.lift Cert.CodesRefIdeal.Gen.reduces_S10640x256_S10640 r' k) rfl rfl rfl]

variable (m : (ℓ : Loc nD τ sig) → Buf (Elt Ideal) ℓ)

/-- The absmax values as launched. -/
abbrev A0 (c : Dev nD) : Vec Ideal S10640x256 .f32 := m ((c : Thread nD τ).loc main_arg0)
/-- The partial sums as launched. -/
abbrev A1 (c : Dev nD) : Vec Ideal S8x128 .f32 := m ((c : Thread nD τ).loc main_arg1)

/-- Where the blocks of the launch lie: block `t` of the absmax values, of the codes and of the scales begins at row
    `2128 t`; the partial sums and the offset are whole at every point. -/
theorem idx_all : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem hz {n : Nat → Nat} : (![0, 0] : Fin 2 → Nat) = fun _ => 0 := funext fun a => by fin_cases a <;> rfl

/-- The block of partial sums is the whole array of them at every point. -/
theorem iblk1_eq (c : Dev nD) (t : Fin cfg0.N) : iblk m c 1 t = A1 m c := by
  obtain ⟨-, -, e0, e1, -⟩ := idx_all t
  funext j
  show m ((c : Thread nD τ).loc main_arg1) (((cfg0.win 1).blk t).view.emb j) = _
  refine congrArg _ (funext fun a => Fin.ext ?_)
  match a with
  | ⟨0, _⟩ => show win0_1.index t (0 : Fin 2) * 8 + 1 * (j 0).val = (j 0).val; omega
  | ⟨1, _⟩ => show win0_1.index t (1 : Fin 2) * 128 + 1 * (j 1).val = (j 1).val; omega

/-- The block of absmax values at a point, read at an index of the block. -/
theorem iblk0_apply (c : Dev nD) (t : Fin cfg0.N) (y : S2128x256.Idx) (y' : S10640x256.Idx)
    (h0 : (y' 0).val = t.val * 2128 + (y 0).val) (h1 : (y' 1).val = (y 1).val) : iblk m c 0 t y = A0 m c y' := by
  obtain ⟨e0, e1, -⟩ := idx_all t
  show m ((c : Thread nD τ).loc main_arg0) (((cfg0.win 0).blk t).view.emb y) = _
  refine congrArg _ (funext fun a => Fin.ext ?_)
  match a with
  | ⟨0, _⟩ => show win0_0.index t (0 : Fin 2) * 2128 + 1 * (y 0).val = (y' 0).val; omega
  | ⟨1, _⟩ => show win0_0.index t (1 : Fin 2) * 256 + 1 * (y 1).val = (y' 1).val; omega

/-- Point `t` writes back block `t` of the reference's codes. -/
theorem flushed2_eq (c : Dev nD) (t : Fin cfg0.N) : (dats m 0 c).flushed 2 t
    = ((cfg0.win 2).blk t).view.read (Elt Ideal) (Cert.CodesRefIdeal.Value.G2 (F := Ideal) (A0 m c) (A1 m c)) := by
  obtain ⟨-, -, -, -, e0, e1, -⟩ := idx_all t
  rw [Cert.CodesIdeal.Value.flushed2]
  funext j
  show out0_2 (iblk m c 0 t) (iblk m c 1 t) j = Cert.CodesRefIdeal.Value.G2 (F := Ideal) (A0 m c) (A1 m c) (((cfg0.win 2).blk t).view.emb j)
  have h0 : (((cfg0.win 2).blk t).view.emb j 0).val = t.val * 2128 + (j 0).val := by
    show win0_2.index t (0 : Fin 2) * 2128 + 1 * (j 0).val = _; omega
  have h1 : (((cfg0.win 2).blk t).view.emb j 1).val = (j 1).val := by
    show win0_2.index t (1 : Fin 2) * 256 + 1 * (j 1).val = _; omega
  generalize ((cfg0.win 2).blk t).view.emb j = j' at h0 h1 ⊢
  rw [← Cert.CodesRefIdeal.Value.out2_eq]
  unfold out0_2 Cert.CodesRefIdeal.Gen.out0_2
  rw [Cert.CodesIdeal.Value.canon2_eq, Cert.CodesRefIdeal.Value.canon2_eq,
    View.ld_unit_zero (S := S8x128) (hz (n := id)), View.ld_unit_zero (S := S2128x256) (hz (n := id)),
    View.ld_unit_zero (S := Cert.CodesRefIdeal.S8x128) (hz (n := id)), View.ld_unit_zero (S := Cert.CodesRefIdeal.S10640x256) (hz (n := id)), iblk1_eq]
  unfold Cert.CodesIdeal.Value.E2 Cert.CodesRefIdeal.Value.E2
  rw [pay1_eq, rowmax_eq (iblk m c 0 t) (A0 m c) _ _ (Cert.CodesRefIdeal.Value.ix2_2 j'), iblk0_apply m c t (Cert.CodesIdeal.Value.ix2_0 j) (Cert.CodesRefIdeal.Value.ix2_0 j') h0 h1]
  · rfl
  · intro y y' hy hy' hyy
    refine iblk0_apply m c t y y' ?_ hyy.symm
    change _ = (j 0).val at hy
    change _ = (j' 0).val at hy'
    omega

/-- Point `t` writes back block `t` of the reference's scales. -/
theorem flushed3_eq (c : Dev nD) (t : Fin cfg0.N) : (dats m 0 c).flushed 3 t
    = ((cfg0.win 3).blk t).view.read (Elt Ideal) (Cert.CodesRefIdeal.Value.G3 (F := Ideal) (A0 m c) (A1 m c)) := by
  obtain ⟨-, -, -, -, -, -, e0, e1, -⟩ := idx_all t
  rw [Cert.CodesIdeal.Value.flushed3]
  funext j
  show out0_3 (iblk m c 0 t) (iblk m c 1 t) j = Cert.CodesRefIdeal.Value.G3 (F := Ideal) (A0 m c) (A1 m c) (((cfg0.win 3).blk t).view.emb j)
  have h0 : (((cfg0.win 3).blk t).view.emb j 0).val = t.val * 2128 + (j 0).val := by
    show win0_3.index t (0 : Fin 2) * 2128 + 1 * (j 0).val = _; omega
  generalize ((cfg0.win 3).blk t).view.emb j = j' at h0 ⊢
  rw [← Cert.CodesRefIdeal.Value.out3_eq]
  unfold out0_3 Cert.CodesRefIdeal.Gen.out0_3
  rw [Cert.CodesIdeal.Value.canon3_eq, Cert.CodesRefIdeal.Value.canon3_eq,
    View.ld_unit_zero (S := S8x128) (hz (n := id)), View.ld_unit_zero (S := S2128x256) (hz (n := id)),
    View.ld_unit_zero (S := Cert.CodesRefIdeal.S8x128) (hz (n := id)), View.ld_unit_zero (S := Cert.CodesRefIdeal.S10640x256) (hz (n := id)), iblk1_eq]
  unfold Cert.CodesIdeal.Value.E3 Cert.CodesRefIdeal.Value.E3
  rw [pay1_eq, rowmax_eq (iblk m c 0 t) (A0 m c) _ _ (Cert.CodesRefIdeal.Value.ix3_0 j')]
  · intro y y' hy hy' hyy
    refine iblk0_apply m c t y y' ?_ hyy.symm
    change _ = (j 0).val at hy
    change _ = (j' 0).val at hy'
    omega

/-- Every point leaves the reference's offset. -/
theorem flushed4_eq (c : Dev nD) (t : Fin cfg0.N) : (dats m 0 c).flushed 4 t
    = ((cfg0.win 4).blk t).view.read (Elt Ideal) (Cert.CodesRefIdeal.Value.G4 (F := Ideal) (A0 m c) (A1 m c)) := by
  rw [Cert.CodesIdeal.Value.flushed4]
  funext j
  show out0_4 (iblk m c 0 t) (iblk m c 1 t) j = Cert.CodesRefIdeal.Value.G4 (F := Ideal) (A0 m c) (A1 m c) (((cfg0.win 4).blk t).view.emb j)
  have hj : ∀ i i' : S1x1.Idx, i = i' := fun i i' => funext fun a => Fin.ext (by
    have h3 : ∀ a : Fin 2, S1x1.size a = 1 := by decide
    have := (i a).isLt; have := (i' a).isLt; have := h3 a; omega)
  rw [hj (((cfg0.win 4).blk t).view.emb j) j]
  unfold out0_4
  rw [View.canon_unit_zero (hz (n := id)), View.ld_unit_zero (S := S8x128) (hz (n := id)), iblk1_eq, pay1_eq]

/-- Every row of the codes is written by the point its block belongs to. -/
theorem covered2 (i : S10640x256.Idx) : ∃ t : Fin cfg0.N, (cfg0.win 2).flush t = true ∧ i ∈ ((cfg0.win 2).blk t).view.set := by
  have h0 : (i 0).val < 10640 := (i 0).isLt
  have h1 : (i 1).val < 256 := (i 1).isLt
  let t : Fin cfg0.N := ⟨(i 0).val / 2128, by show _ < 5; omega⟩
  obtain ⟨-, -, -, -, e0, e1, -⟩ := idx_all t
  refine ⟨t, flush0_2 t, ?_⟩
  have h := ((cfg0.win 2).blk t).view.emb_mem_set (fun a => match a with
    | ⟨0, _⟩ => ⟨(i 0).val % 2128, by show _ < 2128; omega⟩ | ⟨1, _⟩ => ⟨(i 1).val, h1⟩ : S2128x256.Idx)
  refine Eq.subst (motive := fun z => z ∈ _) (funext fun a => Fin.ext ?_) h
  have ht : t.val = (i 0).val / 2128 := rfl
  match a with
  | ⟨0, _⟩ => show win0_2.index t (0 : Fin 2) * 2128 + 1 * ((i 0).val % 2128) = (i 0).val; omega
  | ⟨1, _⟩ => show win0_2.index t (1 : Fin 2) * 256 + 1 * (i 1).val = (i 1).val; omega

/-- Every scale is written by the point its block belongs to. -/
theorem covered3 (i : S10640x1.Idx) : ∃ t : Fin cfg0.N, (cfg0.win 3).flush t = true ∧ i ∈ ((cfg0.win 3).blk t).view.set := by
  have h0 : (i 0).val < 10640 := (i 0).isLt
  have h1 : (i 1).val < 1 := (i 1).isLt
  let t : Fin cfg0.N := ⟨(i 0).val / 2128, by show _ < 5; omega⟩
  obtain ⟨-, -, -, -, -, -, e0, e1, -⟩ := idx_all t
  refine ⟨t, flush0_3 t, ?_⟩
  have h := ((cfg0.win 3).blk t).view.emb_mem_set (fun a => match a with
    | ⟨0, _⟩ => ⟨(i 0).val % 2128, by show _ < 2128; omega⟩ | ⟨1, _⟩ => ⟨(i 1).val, h1⟩ : S2128x1.Idx)
  refine Eq.subst (motive := fun z => z ∈ _) (funext fun a => Fin.ext ?_) h
  have ht : t.val = (i 0).val / 2128 := rfl
  match a with
  | ⟨0, _⟩ => show win0_3.index t (0 : Fin 2) * 2128 + 1 * ((i 0).val % 2128) = (i 0).val; omega
  | ⟨1, _⟩ => show win0_3.index t (1 : Fin 2) * 1 + 1 * (i 1).val = (i 1).val; omega

/-- The offset is written back at the last point. -/
theorem covered4 (i : S1x1.Idx) : ∃ t : Fin cfg0.N, (cfg0.win 4).flush t = true ∧ i ∈ ((cfg0.win 4).blk t).view.set := by
  let t : Fin cfg0.N := ⟨4, by show 4 < 5; omega⟩
  obtain ⟨-, -, -, -, -, -, -, -, e0, e1⟩ := idx_all t
  refine ⟨t, (flush0_4 t).2 rfl, ?_⟩
  have h := ((cfg0.win 4).blk t).view.emb_mem_set i
  refine Eq.subst (motive := fun z => z ∈ _) (funext fun a => Fin.ext ?_) h
  match a with
  | ⟨0, _⟩ => show win0_4.index t (0 : Fin 2) * 1 + 1 * (i 0).val = (i 0).val; omega
  | ⟨1, _⟩ => show win0_4.index t (1 : Fin 2) * 1 + 1 * (i 1).val = (i 1).val; omega

/-- The codes after the run are the reference's. -/
theorem final2 (c : Dev nD) : (dats m 0 c).arrAt 2 cfg0.N = Cert.CodesRefIdeal.Value.G2 (F := Ideal) (A0 m c) (A1 m c) :=
  (dats m 0 c).arrAt_eq_of_cover 2 _ (fun t _ => flushed2_eq m c t) covered2

/-- The scales after the run are the reference's. -/
theorem final3 (c : Dev nD) : (dats m 0 c).arrAt 3 cfg0.N = Cert.CodesRefIdeal.Value.G3 (F := Ideal) (A0 m c) (A1 m c) :=
  (dats m 0 c).arrAt_eq_of_cover 3 _ (fun t _ => flushed3_eq m c t) covered3

/-- The offset after the run is the reference's. -/
theorem final4 (c : Dev nD) : (dats m 0 c).arrAt 4 cfg0.N = Cert.CodesRefIdeal.Value.G4 (F := Ideal) (A0 m c) (A1 m c) :=
  (dats m 0 c).arrAt_eq_of_cover 4 _ (fun t _ => flushed4_eq m c t) covered4

/-- The value claim of the second call: over the extended reals the kernel's codes, scales and offset are the
    reference's, for every input. -/
theorem algebraic : Cert.algebraic_CodesIdeal_CodesRefIdeal := by
  intro m g m' g' _ hagree
  refine ⟨fun c => Cert.CodesRefIdeal.Value.G2 (F := Ideal) (m ((c.tc : Thread nD τ).loc main_arg0)) (m ((c.tc : Thread nD τ).loc main_arg1)),
    fun c => Cert.CodesRefIdeal.Value.G3 (F := Ideal) (m ((c.tc : Thread nD τ).loc main_arg0)) (m ((c.tc : Thread nD τ).loc main_arg1)),
    fun c => Cert.CodesRefIdeal.Value.G4 (F := Ideal) (m ((c.tc : Thread nD τ).loc main_arg0)) (m ((c.tc : Thread nD τ).loc main_arg1)), ?_, ?_⟩
  · refine (θ_run defs _ _).mono (fun r h c => ?_) (Cert.CodesIdeal.Value.run_blocks m g)
    obtain ⟨h0, h1, h2, h3, h4⟩ := h c
    exact ⟨h0.trans (final2 m c), h1.trans (final3 m c), h2.trans (final4 m c), h3, h4⟩
  · refine (θ_run Cert.CodesRefIdeal.defs _ _).mono (fun r h c => ?_) (Cert.CodesRefIdeal.Value.run m' g')
    obtain ⟨h0, h1, h2, h3, h4⟩ := h c
    rw [(hagree c).1, (hagree c).2] at h0 h1 h2
    exact ⟨h0, h1, h2, h3, h4⟩

end Cert.CodesValue

end
-- ==== Proof.RowKernel.lean ====
module

public import proofs.«01_k».proof.Proof.Gen.Kernel.Frame
public import proofs.«01_k».proof.Proof.Gen.Kernel.Loops

@[expose] public section

set_option maxRecDepth 16384
set_option maxHeartbeats 4000000

noncomputable section

namespace Cert.Kernel.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

local notation "𝕄G" => MT nD τ sig Unit (Elt F) ℕ (UR sig nD τ) ℕ

/-- The buffers that one row of the outer loop touches, each at the contents given. -/
abbrev Row (c : Dev nD) (arg2 : Memref sig .tc .vmem S8x256x128 .bf16) (arg3 : Memref sig .tc .vmem S8x256x128 .bf16) (arg4 : Memref sig .tc .vmem S8x256x128 .bf16) (arg5 : Memref sig .tc .vmem S8x256x128 .bf16) (arg6 : Memref sig .tc .vmem S8x256x128 .bf16) (arg7 : Memref sig .tc .vmem S8x256x128 .bf16) (arg8 : Memref sig .tc .vmem S8x256x128 .bf16) (arg9 : Memref sig .tc .vmem S16x128 .f32) (arg13 : Memref sig .tc .vmem S448x128 .i32) (arg17 : Memref sig .tc .vmem S16x128 .i32) (arg19 : Memref sig .tc .vmem S16x128 .f32) (arg14 : Memref sig .tc .vmem S448x128 .i32) (arg15 : Memref sig .tc .vmem S112x128 .i32) (arg16 : Memref sig .tc .vmem S112x128 .i32) (arg18 : Memref sig .tc .vmem S16x128 .i32) (arg20 : Memref sig .tc .vmem S16x128 .f32) (arg10 : Memref sig .tc .vmem S8x448x256 .i8) (arg21 : Memref sig .tc .vmem S256x128 .f32) (g_arg2 : BufTy.Contents (Elt F) arg2.view.ty) (g_arg3 : BufTy.Contents (Elt F) arg3.view.ty) (g_arg4 : BufTy.Contents (Elt F) arg4.view.ty) (g_arg5 : BufTy.Contents (Elt F) arg5.view.ty) (g_arg6 : BufTy.Contents (Elt F) arg6.view.ty) (g_arg7 : BufTy.Contents (Elt F) arg7.view.ty) (g_arg8 : BufTy.Contents (Elt F) arg8.view.ty) (g_arg9 : BufTy.Contents (Elt F) arg9.view.ty) (g_arg13 : BufTy.Contents (Elt F) arg13.view.ty) (g_arg17 : BufTy.Contents (Elt F) arg17.view.ty) (g_arg19 : BufTy.Contents (Elt F) arg19.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty) (g_arg10 : BufTy.Contents (Elt F) arg10.view.ty) (g_arg21 : BufTy.Contents (Elt F) arg21.view.ty) : sProp 𝕄G :=
  iprop((arg2.view.loc (c : Thread nD τ) ↦[arg2.view.set]{fullShare} g_arg2) ∗ (arg3.view.loc (c : Thread nD τ) ↦[arg3.view.set]{fullShare} g_arg3) ∗ (arg4.view.loc (c : Thread nD τ) ↦[arg4.view.set]{fullShare} g_arg4) ∗ (arg5.view.loc (c : Thread nD τ) ↦[arg5.view.set]{fullShare} g_arg5) ∗ (arg6.view.loc (c : Thread nD τ) ↦[arg6.view.set]{fullShare} g_arg6) ∗ (arg7.view.loc (c : Thread nD τ) ↦[arg7.view.set]{fullShare} g_arg7) ∗ (arg8.view.loc (c : Thread nD τ) ↦[arg8.view.set]{fullShare} g_arg8) ∗ (arg9.view.loc (c : Thread nD τ) ↦[arg9.view.set]{fullShare} g_arg9) ∗ (arg13.view.loc (c : Thread nD τ) ↦[arg13.view.set]{fullShare} g_arg13) ∗ (arg17.view.loc (c : Thread nD τ) ↦[arg17.view.set]{fullShare} g_arg17) ∗ (arg19.view.loc (c : Thread nD τ) ↦[arg19.view.set]{fullShare} g_arg19) ∗ (arg14.view.loc (c : Thread nD τ) ↦[arg14.view.set]{fullShare} g_arg14) ∗ (arg15.view.loc (c : Thread nD τ) ↦[arg15.view.set]{fullShare} g_arg15) ∗ (arg16.view.loc (c : Thread nD τ) ↦[arg16.view.set]{fullShare} g_arg16) ∗ (arg18.view.loc (c : Thread nD τ) ↦[arg18.view.set]{fullShare} g_arg18) ∗ (arg20.view.loc (c : Thread nD τ) ↦[arg20.view.set]{fullShare} g_arg20) ∗ (arg10.view.loc (c : Thread nD τ) ↦[arg10.view.set]{fullShare} g_arg10) ∗ (arg21.view.loc (c : Thread nD τ) ↦[arg21.view.set]{fullShare} g_arg21))

/-- One trip of the outer loop at a symbolic row. The pieces it writes are found by the run. -/
@[irreducible] def trip (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x128 .i32) (harg13 : arg13.IsWhole) (arg14 : Memref sig .tc .vmem S448x128 .i32) (harg14 : arg14.IsWhole) (arg15 : Memref sig .tc .vmem S112x128 .i32) (harg15 : arg15.IsWhole) (arg16 : Memref sig .tc .vmem S112x128 .i32) (harg16 : arg16.IsWhole) (arg17 : Memref sig .tc .vmem S16x128 .i32) (harg17 : arg17.IsWhole) (arg18 : Memref sig .tc .vmem S16x128 .i32) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v554 : FVec F S6x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg17 : BufTy.Contents (Elt F) arg17.view.ty) (X_arg19 : BufTy.Contents (Elt F) arg19.view.ty) (X_arg14 : BufTy.Contents (Elt F) arg14.view.ty) (X_arg15 : BufTy.Contents (Elt F) arg15.view.ty) (X_arg16 : BufTy.Contents (Elt F) arg16.view.ty) (X_arg18 : BufTy.Contents (Elt F) arg18.view.ty) (X_arg20 : BufTy.Contents (Elt F) arg20.view.ty) (k : Fin k0_t1_loop.trips) :
    Σ' (L_arg13 : List (View.Piece (Elt F) S448x128 .i32)), Σ' (L_arg17 : List (View.Piece (Elt F) S16x128 .i32)), Σ' (L_arg19 : List (View.Piece (Elt F) S16x128 .f32)), Σ' (L_arg10 : List (View.Piece (Elt F) S8x448x256 .i8)), Σ' (L_arg21 : List (View.Piece (Elt F) S256x128 .f32)),
      ∀ (E : Set ℕ) (f_arg10 : BufTy.Contents (Elt F) arg10.view.ty) (f_arg21 : BufTy.Contents (Elt F) arg21.view.ty),
      Row (F := F) c arg2 arg3 arg4 arg5 arg6 arg7 arg8 arg9 arg13 arg17 arg19 arg14 arg15 arg16 arg18 arg20 arg10 arg21 X_arg2 X_arg3 X_arg4 X_arg5 X_arg6 X_arg7 X_arg8 X_arg9 X_arg13 X_arg17 X_arg19 X_arg14 X_arg15 X_arg16 X_arg18 X_arg20 f_arg10 f_arg21
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v554 k PUnit.unit)
          (fun _ => iprop(∃ (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty), Row (F := F) c arg2 arg3 arg4 arg5 arg6 arg7 arg8 arg9 arg13 arg17 arg19 arg14 arg15 arg16 arg18 arg20 arg10 arg21 X_arg2 X_arg3 X_arg4 X_arg5 X_arg6 X_arg7 X_arg8 X_arg9 (arg13.view.writes (Elt F) X_arg13 L_arg13) (arg17.view.writes (Elt F) X_arg17 L_arg17) (arg19.view.writes (Elt F) X_arg19 L_arg19) g_arg14 g_arg15 g_arg16 g_arg18 g_arg20 (arg10.view.writes (Elt F) f_arg10 L_arg10) (arg21.view.writes (Elt F) f_arg21 L_arg21))) := by
  refine ⟨?_, ?_, ?_, ?_, ?_, fun E f_arg10 f_arg21 => ?run⟩
  case run =>
    unfold k0_t1_body
    iintro ⟨Harg2, Harg3, Harg4, Harg5, Harg6, Harg7, Harg8, Harg9, Harg13, Harg17, Harg19, Harg14, Harg15, Harg16, Harg18, Harg20, Harg10, Harg21⟩
    sl_exec
    sl_step
    iexists _, _, _, _, _
    sl_close

end Cert.Kernel.Row

end
-- ==== Proof.BodyKernel.lean ====
module

public import proofs.«01_k».proof.Proof.RowKernel

@[expose] public section

set_option maxRecDepth 16384
set_option maxHeartbeats 4000000

noncomputable section

namespace Cert.Kernel.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

local notation "𝕄G" => MT nD τ sig Unit (Elt F) ℕ (UR sig nD τ) ℕ

/-- Contents held are held under a name equal to them. -/
theorem named {U : Type} [URA U] {s : Shape} {e : EltTy} (a : Memref sig .tc .vmem s e) (c : Dev nD) (f : BufTy.Contents (Elt F) a.view.ty) :
    ((a.view.loc (c : Thread nD τ) ↦[a.view.set]{fullShare} f) : sProp (MT nD τ sig Unit (Elt F) ℕ U ℕ)) ⊢ iprop(∃ g, ⌜g = f⌝ ∗ (a.view.loc (c : Thread nD τ) ↦[a.view.set]{fullShare} g)) := by
  iintro H
  iexists f
  isplitr
  · ipureintro; rfl
  iexact H

/-- The states that the outer loop reaches: the contents of the first transposed tile, the two rows of statistics, the
    packed block and the absmax rows after some number of trips, from given contents. -/
inductive Reach (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x128 .i32) (harg13 : arg13.IsWhole) (arg14 : Memref sig .tc .vmem S448x128 .i32) (harg14 : arg14.IsWhole) (arg15 : Memref sig .tc .vmem S112x128 .i32) (harg15 : arg15.IsWhole) (arg16 : Memref sig .tc .vmem S112x128 .i32) (harg16 : arg16.IsWhole) (arg17 : Memref sig .tc .vmem S16x128 .i32) (harg17 : arg17.IsWhole) (arg18 : Memref sig .tc .vmem S16x128 .i32) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg13 : BufTy.Contents (Elt F) arg13.view.ty) (G_arg17 : BufTy.Contents (Elt F) arg17.view.ty) (G_arg19 : BufTy.Contents (Elt F) arg19.view.ty) (G_arg10 : BufTy.Contents (Elt F) arg10.view.ty) (G_arg21 : BufTy.Contents (Elt F) arg21.view.ty) :
    ℕ → BufTy.Contents (Elt F) arg13.view.ty → BufTy.Contents (Elt F) arg17.view.ty → BufTy.Contents (Elt F) arg19.view.ty → BufTy.Contents (Elt F) arg10.view.ty → BufTy.Contents (Elt F) arg21.view.ty → Prop
  | zero : Reach 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 0 G_arg13 G_arg17 G_arg19 G_arg10 G_arg21
  | succ (arg0 : BitVec 32) (arg1 : BitVec 32) (v554 : FVec F S6x128 .f32) (k : Fin k0_t1_loop.trips) (g_arg13 : BufTy.Contents (Elt F) arg13.view.ty) (g_arg17 : BufTy.Contents (Elt F) arg17.view.ty) (g_arg19 : BufTy.Contents (Elt F) arg19.view.ty) (g_arg10 : BufTy.Contents (Elt F) arg10.view.ty) (g_arg21 : BufTy.Contents (Elt F) arg21.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty) (h : Reach 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 k.val g_arg13 g_arg17 g_arg19 g_arg10 g_arg21) :
      Reach 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 (k.val + 1) (arg13.view.writes (Elt F) g_arg13 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v554 X_arg2 X_arg3 X_arg4 X_arg5 X_arg6 X_arg7 X_arg8 X_arg9 g_arg13 g_arg17 g_arg19 g_arg14 g_arg15 g_arg16 g_arg18 g_arg20 k).1) (arg17.view.writes (Elt F) g_arg17 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v554 X_arg2 X_arg3 X_arg4 X_arg5 X_arg6 X_arg7 X_arg8 X_arg9 g_arg13 g_arg17 g_arg19 g_arg14 g_arg15 g_arg16 g_arg18 g_arg20 k).2.1) (arg19.view.writes (Elt F) g_arg19 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v554 X_arg2 X_arg3 X_arg4 X_arg5 X_arg6 X_arg7 X_arg8 X_arg9 g_arg13 g_arg17 g_arg19 g_arg14 g_arg15 g_arg16 g_arg18 g_arg20 k).2.2.1) (arg10.view.writes (Elt F) g_arg10 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v554 X_arg2 X_arg3 X_arg4 X_arg5 X_arg6 X_arg7 X_arg8 X_arg9 g_arg13 g_arg17 g_arg19 g_arg14 g_arg15 g_arg16 g_arg18 g_arg20 k).2.2.2.1) (arg21.view.writes (Elt F) g_arg21 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v554 X_arg2 X_arg3 X_arg4 X_arg5 X_arg6 X_arg7 X_arg8 X_arg9 g_arg13 g_arg17 g_arg19 g_arg14 g_arg15 g_arg16 g_arg18 g_arg20 k).2.2.2.2.1)

/-- The outer loop's invariant: the buffers it touches, at a state that the trips so far reach. -/
def Inv (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x128 .i32) (harg13 : arg13.IsWhole) (arg14 : Memref sig .tc .vmem S448x128 .i32) (harg14 : arg14.IsWhole) (arg15 : Memref sig .tc .vmem S112x128 .i32) (harg15 : arg15.IsWhole) (arg16 : Memref sig .tc .vmem S112x128 .i32) (harg16 : arg16.IsWhole) (arg17 : Memref sig .tc .vmem S16x128 .i32) (harg17 : arg17.IsWhole) (arg18 : Memref sig .tc .vmem S16x128 .i32) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg13 : BufTy.Contents (Elt F) arg13.view.ty) (G_arg17 : BufTy.Contents (Elt F) arg17.view.ty) (G_arg19 : BufTy.Contents (Elt F) arg19.view.ty) (G_arg10 : BufTy.Contents (Elt F) arg10.view.ty) (G_arg21 : BufTy.Contents (Elt F) arg21.view.ty) (k : ℕ) (_ : PUnit) : sProp 𝕄G :=
  iprop(∃ (g_arg13 : BufTy.Contents (Elt F) arg13.view.ty) (g_arg17 : BufTy.Contents (Elt F) arg17.view.ty) (g_arg19 : BufTy.Contents (Elt F) arg19.view.ty) (g_arg10 : BufTy.Contents (Elt F) arg10.view.ty) (g_arg21 : BufTy.Contents (Elt F) arg21.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty), ⌜Reach (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 k g_arg13 g_arg17 g_arg19 g_arg10 g_arg21⌝ ∗ Row (F := F) c arg2 arg3 arg4 arg5 arg6 arg7 arg8 arg9 arg13 arg17 arg19 arg14 arg15 arg16 arg18 arg20 arg10 arg21 X_arg2 X_arg3 X_arg4 X_arg5 X_arg6 X_arg7 X_arg8 X_arg9 g_arg13 g_arg17 g_arg19 g_arg14 g_arg15 g_arg16 g_arg18 g_arg20 g_arg10 g_arg21)

/-- One trip keeps the invariant. -/
theorem inv_step (𝒱 : Variants) (c : Dev nD) (bd : Option 𝒱.V) (E : Set ℕ) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x128 .i32) (harg13 : arg13.IsWhole) (arg14 : Memref sig .tc .vmem S448x128 .i32) (harg14 : arg14.IsWhole) (arg15 : Memref sig .tc .vmem S112x128 .i32) (harg15 : arg15.IsWhole) (arg16 : Memref sig .tc .vmem S112x128 .i32) (harg16 : arg16.IsWhole) (arg17 : Memref sig .tc .vmem S16x128 .i32) (harg17 : arg17.IsWhole) (arg18 : Memref sig .tc .vmem S16x128 .i32) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v554 : FVec F S6x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg13 : BufTy.Contents (Elt F) arg13.view.ty) (G_arg17 : BufTy.Contents (Elt F) arg17.view.ty) (G_arg19 : BufTy.Contents (Elt F) arg19.view.ty) (G_arg10 : BufTy.Contents (Elt F) arg10.view.ty) (G_arg21 : BufTy.Contents (Elt F) arg21.view.ty) (k : Fin k0_t1_loop.trips) :
    Inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 k.val PUnit.unit
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v554 k PUnit.unit)
          (Inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 (k.val + 1)) := by
  unfold Inv
  iintro ⟨%g_arg13, %g_arg17, %g_arg19, %g_arg10, %g_arg21, %g_arg14, %g_arg15, %g_arg16, %g_arg18, %g_arg20, %hR, H⟩
  iapply (wp_wand_r Idealize.ShloMosaic.frame (wpE (defs₀ (F := F)) 𝒱 (c : Thread nD τ) bd) E)
  isplitl [H]
  · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v554 X_arg2 X_arg3 X_arg4 X_arg5 X_arg6 X_arg7 X_arg8 X_arg9 g_arg13 g_arg17 g_arg19 g_arg14 g_arg15 g_arg16 g_arg18 g_arg20 k).2.2.2.2.2 E g_arg10 g_arg21)
    iexact H
  · iintro %_ ⟨%h_arg14, %h_arg15, %h_arg16, %h_arg18, %h_arg20, H⟩
    iexists _, _, _, _, _, _, _, _, _, _
    isplitr
    · ipureintro; exact Reach.succ arg0 arg1 v554 k _ _ _ _ _ g_arg14 g_arg15 g_arg16 g_arg18 g_arg20 hR
    iexact H

/-- The body at a point where the accumulator is cleared first: the pieces the prologue writes, the pieces the
    epilogue writes as functions of the absmax rows, and the run itself; what the loop leaves is a state that
    eight rows reach. -/
@[irreducible] def runFirst (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x128 .i32) (harg13 : arg13.IsWhole) (arg14 : Memref sig .tc .vmem S448x128 .i32) (harg14 : arg14.IsWhole) (arg15 : Memref sig .tc .vmem S112x128 .i32) (harg15 : arg15.IsWhole) (arg16 : Memref sig .tc .vmem S112x128 .i32) (harg16 : arg16.IsWhole) (arg17 : Memref sig .tc .vmem S16x128 .i32) (harg17 : arg17.IsWhole) (arg18 : Memref sig .tc .vmem S16x128 .i32) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    Σ' (L_arg13 : List (View.Piece (Elt F) S448x128 .i32)), Σ' (L_arg17 : List (View.Piece (Elt F) S16x128 .i32)), Σ' (L_arg19 : List (View.Piece (Elt F) S16x128 .f32)), Σ' (L_arg21 : List (View.Piece (Elt F) S256x128 .f32)), Σ' (L_arg11 : BufTy.Contents (Elt F) arg21.view.ty → List (View.Piece (Elt F) S14x8x256 .f32)), Σ' (L_arg12 : BufTy.Contents (Elt F) arg21.view.ty → List (View.Piece (Elt F) S8x128 .f32)),
      ∀ (E : Set ℕ) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} X_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21)) : sProp 𝕄G)
      ⊢ wp frame (wpE (defs₀ (F := F)) 𝒱 (c : Thread nD τ) bd) E (cc0_nf4_encode (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(∃ (g_arg13 : BufTy.Contents (Elt F) arg13.view.ty) (g_arg17 : BufTy.Contents (Elt F) arg17.view.ty) (g_arg19 : BufTy.Contents (Elt F) arg19.view.ty) (g_arg10 : BufTy.Contents (Elt F) arg10.view.ty) (g_arg21 : BufTy.Contents (Elt F) arg21.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty),
             ⌜Reach (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 (arg13.view.writes (Elt F) arg13.view.junk L_arg13) (arg17.view.writes (Elt F) f_arg17 L_arg17) (arg19.view.writes (Elt F) f_arg19 L_arg19) f_arg10 (arg21.view.writes (Elt F) f_arg21 L_arg21) k0_t1_loop.trips g_arg13 g_arg17 g_arg19 g_arg10 g_arg21⌝ ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} g_arg10) ∗ (arg11.view.loc (c : Thread nD τ) ↦[arg11.view.set]{fullShare} (arg11.view.writes (Elt F) f_arg11 (L_arg11 g_arg21))) ∗ (arg12.view.loc (c : Thread nD τ) ↦[arg12.view.set]{fullShare} (arg12.view.writes (Elt F) X_arg12 (L_arg12 g_arg21))) ∗ (arg13.view.loc (c : Thread nD τ) ↦[arg13.view.set]{fullShare} g_arg13) ∗ (arg14.view.loc (c : Thread nD τ) ↦[arg14.view.set]{fullShare} g_arg14) ∗ (arg15.view.loc (c : Thread nD τ) ↦[arg15.view.set]{fullShare} g_arg15) ∗ (arg16.view.loc (c : Thread nD τ) ↦[arg16.view.set]{fullShare} g_arg16) ∗ (arg17.view.loc (c : Thread nD τ) ↦[arg17.view.set]{fullShare} g_arg17) ∗ (arg18.view.loc (c : Thread nD τ) ↦[arg18.view.set]{fullShare} g_arg18) ∗ (arg19.view.loc (c : Thread nD τ) ↦[arg19.view.set]{fullShare} g_arg19) ∗ (arg20.view.loc (c : Thread nD τ) ↦[arg20.view.set]{fullShare} g_arg20) ∗ (arg21.view.loc (c : Thread nD τ) ↦[arg21.view.set]{fullShare} g_arg21))) := by
  refine ⟨?_, ?_, ?_, ?_, ?_, ?_, fun E f_arg10 f_arg11 f_arg13 f_arg14 f_arg15 f_arg16 f_arg17 f_arg18 f_arg19 f_arg20 f_arg21 => ?run⟩
  case run =>
    rw [cc0_nf4_encode_eq_skeleton]
    unfold cc0_nf4_encode_skel
    iintro ⟨Harg2, Harg3, Harg4, Harg5, Harg6, Harg7, Harg8, Harg9, Harg10, Harg11, Harg12, Harg13, Harg14, Harg15, Harg16, Harg17, Harg18, Harg19, Harg20, Harg21⟩
    sl_exec
    ihave HP := (named (F := F) (U := UR sig nD τ) arg13 c _) $$ [Harg13]; · iexact Harg13
    icases HP with ⟨%G_arg13, %e_arg13, Harg13⟩
    ihave HP := (named (F := F) (U := UR sig nD τ) arg17 c _) $$ [Harg17]; · iexact Harg17
    icases HP with ⟨%G_arg17, %e_arg17, Harg17⟩
    ihave HP := (named (F := F) (U := UR sig nD τ) arg19 c _) $$ [Harg19]; · iexact Harg19
    icases HP with ⟨%G_arg19, %e_arg19, Harg19⟩
    ihave HP := (named (F := F) (U := UR sig nD τ) arg10 c _) $$ [Harg10]; · iexact Harg10
    icases HP with ⟨%G_arg10, %e_arg10, Harg10⟩
    ihave HP := (named (F := F) (U := UR sig nD τ) arg21 c _) $$ [Harg21]; · iexact Harg21
    icases HP with ⟨%G_arg21, %e_arg21, Harg21⟩
    sl_for (Inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21) $$ [Harg2 Harg3 Harg4 Harg5 Harg6 Harg7 Harg8 Harg9 Harg13 Harg17 Harg19 Harg14 Harg15 Harg16 Harg18 Harg20 Harg10 Harg21]
    case region =>
      intro k acc
      exact inv_step (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ X_arg2 X_arg3 X_arg4 X_arg5 X_arg6 X_arg7 X_arg8 X_arg9 G_arg13 G_arg17 G_arg19 G_arg10 G_arg21 k
    · unfold Inv
      iexists G_arg13, G_arg17, G_arg19, G_arg10, G_arg21, _, _, _, _, _
      isplitr
      · ipureintro; exact Reach.zero
      unfold Row
      sl_close
    iintro %a HI
    subst e_arg13 e_arg17 e_arg19 e_arg10 e_arg21
    unfold Inv
    icases HI with ⟨%g_arg13, %g_arg17, %g_arg19, %g_arg10, %g_arg21, %g_arg14, %g_arg15, %g_arg16, %g_arg18, %g_arg20, %hR, Harg2, Harg3, Harg4, Harg5, Harg6, Harg7, Harg8, Harg9, Harg13, Harg17, Harg19, Harg14, Harg15, Harg16, Harg18, Harg20, Harg10, Harg21⟩
    sl_exec
    sl_step
    iexists _, _, _, _, _, _, _, _, _, _
    isplitr
    · ipureintro; exact hR
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    isplitl [Harg17]; · iexact Harg17
    isplitl [Harg18]; · iexact Harg18
    isplitl [Harg19]; · iexact Harg19
    isplitl [Harg20]; · iexact Harg20
    iexact Harg21

/-- The body at a point where the accumulator is kept: the pieces the prologue writes, the pieces the
    epilogue writes as functions of the absmax rows, and the run itself; what the loop leaves is a state that
    eight rows reach. -/
@[irreducible] def runRest (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x128 .i32) (harg13 : arg13.IsWhole) (arg14 : Memref sig .tc .vmem S448x128 .i32) (harg14 : arg14.IsWhole) (arg15 : Memref sig .tc .vmem S112x128 .i32) (harg15 : arg15.IsWhole) (arg16 : Memref sig .tc .vmem S112x128 .i32) (harg16 : arg16.IsWhole) (arg17 : Memref sig .tc .vmem S16x128 .i32) (harg17 : arg17.IsWhole) (arg18 : Memref sig .tc .vmem S16x128 .i32) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    Σ' (L_arg13 : List (View.Piece (Elt F) S448x128 .i32)), Σ' (L_arg17 : List (View.Piece (Elt F) S16x128 .i32)), Σ' (L_arg19 : List (View.Piece (Elt F) S16x128 .f32)), Σ' (L_arg21 : List (View.Piece (Elt F) S256x128 .f32)), Σ' (L_arg11 : BufTy.Contents (Elt F) arg21.view.ty → List (View.Piece (Elt F) S14x8x256 .f32)), Σ' (L_arg12 : BufTy.Contents (Elt F) arg21.view.ty → List (View.Piece (Elt F) S8x128 .f32)),
      ∀ (E : Set ℕ) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} X_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21)) : sProp 𝕄G)
      ⊢ wp frame (wpE (defs₀ (F := F)) 𝒱 (c : Thread nD τ) bd) E (cc0_nf4_encode (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(∃ (g_arg13 : BufTy.Contents (Elt F) arg13.view.ty) (g_arg17 : BufTy.Contents (Elt F) arg17.view.ty) (g_arg19 : BufTy.Contents (Elt F) arg19.view.ty) (g_arg10 : BufTy.Contents (Elt F) arg10.view.ty) (g_arg21 : BufTy.Contents (Elt F) arg21.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty),
             ⌜Reach (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 (arg13.view.writes (Elt F) arg13.view.junk L_arg13) (arg17.view.writes (Elt F) f_arg17 L_arg17) (arg19.view.writes (Elt F) f_arg19 L_arg19) f_arg10 (arg21.view.writes (Elt F) f_arg21 L_arg21) k0_t1_loop.trips g_arg13 g_arg17 g_arg19 g_arg10 g_arg21⌝ ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} g_arg10) ∗ (arg11.view.loc (c : Thread nD τ) ↦[arg11.view.set]{fullShare} (arg11.view.writes (Elt F) f_arg11 (L_arg11 g_arg21))) ∗ (arg12.view.loc (c : Thread nD τ) ↦[arg12.view.set]{fullShare} (arg12.view.writes (Elt F) X_arg12 (L_arg12 g_arg21))) ∗ (arg13.view.loc (c : Thread nD τ) ↦[arg13.view.set]{fullShare} g_arg13) ∗ (arg14.view.loc (c : Thread nD τ) ↦[arg14.view.set]{fullShare} g_arg14) ∗ (arg15.view.loc (c : Thread nD τ) ↦[arg15.view.set]{fullShare} g_arg15) ∗ (arg16.view.loc (c : Thread nD τ) ↦[arg16.view.set]{fullShare} g_arg16) ∗ (arg17.view.loc (c : Thread nD τ) ↦[arg17.view.set]{fullShare} g_arg17) ∗ (arg18.view.loc (c : Thread nD τ) ↦[arg18.view.set]{fullShare} g_arg18) ∗ (arg19.view.loc (c : Thread nD τ) ↦[arg19.view.set]{fullShare} g_arg19) ∗ (arg20.view.loc (c : Thread nD τ) ↦[arg20.view.set]{fullShare} g_arg20) ∗ (arg21.view.loc (c : Thread nD τ) ↦[arg21.view.set]{fullShare} g_arg21))) := by
  refine ⟨?_, ?_, ?_, ?_, ?_, ?_, fun E f_arg10 f_arg11 f_arg13 f_arg14 f_arg15 f_arg16 f_arg17 f_arg18 f_arg19 f_arg20 f_arg21 => ?run⟩
  case run =>
    rw [cc0_nf4_encode_eq_skeleton]
    unfold cc0_nf4_encode_skel
    iintro ⟨Harg2, Harg3, Harg4, Harg5, Harg6, Harg7, Harg8, Harg9, Harg10, Harg11, Harg12, Harg13, Harg14, Harg15, Harg16, Harg17, Harg18, Harg19, Harg20, Harg21⟩
    sl_exec
    ihave HP := (named (F := F) (U := UR sig nD τ) arg13 c _) $$ [Harg13]; · iexact Harg13
    icases HP with ⟨%G_arg13, %e_arg13, Harg13⟩
    ihave HP := (named (F := F) (U := UR sig nD τ) arg17 c _) $$ [Harg17]; · iexact Harg17
    icases HP with ⟨%G_arg17, %e_arg17, Harg17⟩
    ihave HP := (named (F := F) (U := UR sig nD τ) arg19 c _) $$ [Harg19]; · iexact Harg19
    icases HP with ⟨%G_arg19, %e_arg19, Harg19⟩
    ihave HP := (named (F := F) (U := UR sig nD τ) arg10 c _) $$ [Harg10]; · iexact Harg10
    icases HP with ⟨%G_arg10, %e_arg10, Harg10⟩
    ihave HP := (named (F := F) (U := UR sig nD τ) arg21 c _) $$ [Harg21]; · iexact Harg21
    icases HP with ⟨%G_arg21, %e_arg21, Harg21⟩
    sl_for (Inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21) $$ [Harg2 Harg3 Harg4 Harg5 Harg6 Harg7 Harg8 Harg9 Harg13 Harg17 Harg19 Harg14 Harg15 Harg16 Harg18 Harg20 Harg10 Harg21]
    case region =>
      intro k acc
      exact inv_step (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ X_arg2 X_arg3 X_arg4 X_arg5 X_arg6 X_arg7 X_arg8 X_arg9 G_arg13 G_arg17 G_arg19 G_arg10 G_arg21 k
    · unfold Inv
      iexists G_arg13, G_arg17, G_arg19, G_arg10, G_arg21, _, _, _, _, _
      isplitr
      · ipureintro; exact Reach.zero
      unfold Row
      sl_close
    iintro %a HI
    subst e_arg13 e_arg17 e_arg19 e_arg10 e_arg21
    unfold Inv
    icases HI with ⟨%g_arg13, %g_arg17, %g_arg19, %g_arg10, %g_arg21, %g_arg14, %g_arg15, %g_arg16, %g_arg18, %g_arg20, %hR, Harg2, Harg3, Harg4, Harg5, Harg6, Harg7, Harg8, Harg9, Harg13, Harg17, Harg19, Harg14, Harg15, Harg16, Harg18, Harg20, Harg10, Harg21⟩
    sl_exec
    sl_step
    iexists _, _, _, _, _, _, _, _, _, _
    isplitr
    · ipureintro; exact hR
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    isplitl [Harg17]; · iexact Harg17
    isplitl [Harg18]; · iexact Harg18
    isplitl [Harg19]; · iexact Harg19
    isplitl [Harg20]; · iexact Harg20
    iexact Harg21

end Cert.Kernel.Row

end
-- ==== Proof.FrameKernel.lean ====
module

public import proofs.«01_k».proof.Proof.BodyKernel
public import proofs.«01_k».proof.Proof.Gen.Kernel.Launch
public import proofs.«01_k».proof.Proof.Gen.Kernel.Points
public import Idealize.ShloMosaic.Lib.Pipeline.FrameBody

@[expose] public section

set_option maxRecDepth 16384
set_option maxHeartbeats 1600000

noncomputable section

namespace Cert.Kernel.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄G" => MT nD τ sig Unit (Elt F) ℕ (UR sig nD τ) ℕ

/-- A whole scratch buffer, as the memref on it holds it. -/
theorem scr (c : Dev nD) (b : Ref sig .tc) :
    (iprop(∃ f : Buf (Elt F) ((c : Thread nD τ).loc b), ((c : Thread nD τ).loc b) ↦{fullShare} f) : sProp 𝕄G)
      = iprop(∃ f : BufTy.Contents (Elt F) (Memref.whole b).view.ty, ((Memref.whole b).view.loc (c : Thread nD τ) ↦[(Memref.whole b).view.set]{fullShare} f)) := by
  rw [show (Memref.whole b).view.set = Finset.univ from View.set_whole b]

/-- The body at any grid point: from the input blocks held, and the outputs and the scratch at whatever they hold,
    it runs and hands them back, the inputs as they were. -/
theorem sound_kernel (𝒱 : Variants) (c : Dev nD) (bd : Option 𝒱.V) (E : Set ℕ) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x128 .i32) (harg13 : arg13.IsWhole) (arg14 : Memref sig .tc .vmem S448x128 .i32) (harg14 : arg14.IsWhole) (arg15 : Memref sig .tc .vmem S112x128 .i32) (harg15 : arg15.IsWhole) (arg16 : Memref sig .tc .vmem S112x128 .i32) (harg16 : arg16.IsWhole) (arg17 : Memref sig .tc .vmem S16x128 .i32) (harg17 : arg17.IsWhole) (arg18 : Memref sig .tc .vmem S16x128 .i32) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (x_arg2 : S8x256x128.Idx → Elt F .bf16) (x_arg3 : S8x256x128.Idx → Elt F .bf16) (x_arg4 : S8x256x128.Idx → Elt F .bf16) (x_arg5 : S8x256x128.Idx → Elt F .bf16) (x_arg6 : S8x256x128.Idx → Elt F .bf16) (x_arg7 : S8x256x128.Idx → Elt F .bf16) (x_arg8 : S8x256x128.Idx → Elt F .bf16) (x_arg9 : S16x128.Idx → Elt F .f32) (Q : sProp 𝕄G) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ (∃ X, owns (c : Thread nD τ) arg10 fullShare X) ∗ (∃ X, owns (c : Thread nD τ) arg11 fullShare X) ∗ (∃ X, owns (c : Thread nD τ) arg12 fullShare X) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)) ∗ ((owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ (∃ X, owns (c : Thread nD τ) arg10 fullShare X) ∗ (∃ X, owns (c : Thread nD τ) arg11 fullShare X) ∗ (∃ X, owns (c : Thread nD τ) arg12 fullShare X) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f))) -∗ Q))
      ⊢ wp frame (wpE (defs₀ (F := F)) 𝒱 (c : Thread nD τ) bd) E (cc0_nf4_encode (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => Q) := by
  unfold owns
  iintro ⟨⟨%f_arg2, %e_arg2, Harg2⟩, ⟨%f_arg3, %e_arg3, Harg3⟩, ⟨%f_arg4, %e_arg4, Harg4⟩, ⟨%f_arg5, %e_arg5, Harg5⟩, ⟨%f_arg6, %e_arg6, Harg6⟩, ⟨%f_arg7, %e_arg7, Harg7⟩, ⟨%f_arg8, %e_arg8, Harg8⟩, ⟨%f_arg9, %e_arg9, Harg9⟩, ⟨%X_arg10, %f_arg10, -, Harg10⟩, ⟨%X_arg11, %f_arg11, -, Harg11⟩, ⟨%X_arg12, %f_arg12, -, Harg12⟩, ⟨%f_arg13, Harg13⟩, ⟨%f_arg14, Harg14⟩, ⟨%f_arg15, Harg15⟩, ⟨%f_arg16, Harg16⟩, ⟨%f_arg17, Harg17⟩, ⟨%f_arg18, Harg18⟩, ⟨%f_arg19, Harg19⟩, ⟨%f_arg20, Harg20⟩, ⟨%f_arg21, Harg21⟩, HK⟩
  subst e_arg2 e_arg3 e_arg4 e_arg5 e_arg6 e_arg7 e_arg8 e_arg9
  rcases Classical.em (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) with hc | hc
  ·
    iapply (wp_wand_r Idealize.ShloMosaic.frame (wpE (defs₀ (F := F)) 𝒱 (c : Thread nD τ) bd) E)
    isplitl [Harg2 Harg3 Harg4 Harg5 Harg6 Harg7 Harg8 Harg9 Harg10 Harg11 Harg12 Harg13 Harg14 Harg15 Harg16 Harg17 Harg18 Harg19 Harg20 Harg21]
    · iapply ((runFirst (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f_arg2 f_arg3 f_arg4 f_arg5 f_arg6 f_arg7 f_arg8 f_arg9 f_arg12 hc).2.2.2.2.2.2 E f_arg10 f_arg11 f_arg13 f_arg14 f_arg15 f_arg16 f_arg17 f_arg18 f_arg19 f_arg20 f_arg21)
      isplitl [Harg2]; · iexact Harg2
      isplitl [Harg3]; · iexact Harg3
      isplitl [Harg4]; · iexact Harg4
      isplitl [Harg5]; · iexact Harg5
      isplitl [Harg6]; · iexact Harg6
      isplitl [Harg7]; · iexact Harg7
      isplitl [Harg8]; · iexact Harg8
      isplitl [Harg9]; · iexact Harg9
      isplitl [Harg10]; · iexact Harg10
      isplitl [Harg11]; · iexact Harg11
      isplitl [Harg12]; · iexact Harg12
      isplitl [Harg13]; · iexact Harg13
      isplitl [Harg14]; · iexact Harg14
      isplitl [Harg15]; · iexact Harg15
      isplitl [Harg16]; · iexact Harg16
      isplitl [Harg17]; · iexact Harg17
      isplitl [Harg18]; · iexact Harg18
      isplitl [Harg19]; · iexact Harg19
      isplitl [Harg20]; · iexact Harg20
      iexact Harg21
    · iintro %_ ⟨%h_arg13, %h_arg17, %h_arg19, %h_arg10, %h_arg21, %h_arg14, %h_arg15, %h_arg16, %h_arg18, %h_arg20, %hR, Harg2, Harg3, Harg4, Harg5, Harg6, Harg7, Harg8, Harg9, Harg10, Harg11, Harg12, Harg13, Harg14, Harg15, Harg16, Harg17, Harg18, Harg19, Harg20, Harg21⟩
      iapply HK
      isplitl [Harg2]
      · iexists f_arg2; isplitr
        · ipureintro; rfl
        · iexact Harg2
      isplitl [Harg3]
      · iexists f_arg3; isplitr
        · ipureintro; rfl
        · iexact Harg3
      isplitl [Harg4]
      · iexists f_arg4; isplitr
        · ipureintro; rfl
        · iexact Harg4
      isplitl [Harg5]
      · iexists f_arg5; isplitr
        · ipureintro; rfl
        · iexact Harg5
      isplitl [Harg6]
      · iexists f_arg6; isplitr
        · ipureintro; rfl
        · iexact Harg6
      isplitl [Harg7]
      · iexists f_arg7; isplitr
        · ipureintro; rfl
        · iexact Harg7
      isplitl [Harg8]
      · iexists f_arg8; isplitr
        · ipureintro; rfl
        · iexact Harg8
      isplitl [Harg9]
      · iexists f_arg9; isplitr
        · ipureintro; rfl
        · iexact Harg9
      isplitl [Harg10]
      · iexists _, _; isplitr; swap
        · iexact Harg10
        · ipureintro; rfl
      isplitl [Harg11]
      · iexists _, _; isplitr; swap
        · iexact Harg11
        · ipureintro; rfl
      isplitl [Harg12]
      · iexists _, _; isplitr; swap
        · iexact Harg12
        · ipureintro; rfl
      isplitl [Harg13]; · iexists _; iexact Harg13
      isplitl [Harg14]; · iexists _; iexact Harg14
      isplitl [Harg15]; · iexists _; iexact Harg15
      isplitl [Harg16]; · iexists _; iexact Harg16
      isplitl [Harg17]; · iexists _; iexact Harg17
      isplitl [Harg18]; · iexists _; iexact Harg18
      isplitl [Harg19]; · iexists _; iexact Harg19
      isplitl [Harg20]; · iexists _; iexact Harg20
      iexists _; iexact Harg21
  ·
    iapply (wp_wand_r Idealize.ShloMosaic.frame (wpE (defs₀ (F := F)) 𝒱 (c : Thread nD τ) bd) E)
    isplitl [Harg2 Harg3 Harg4 Harg5 Harg6 Harg7 Harg8 Harg9 Harg10 Harg11 Harg12 Harg13 Harg14 Harg15 Harg16 Harg17 Harg18 Harg19 Harg20 Harg21]
    · iapply ((runRest (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f_arg2 f_arg3 f_arg4 f_arg5 f_arg6 f_arg7 f_arg8 f_arg9 f_arg12 hc).2.2.2.2.2.2 E f_arg10 f_arg11 f_arg13 f_arg14 f_arg15 f_arg16 f_arg17 f_arg18 f_arg19 f_arg20 f_arg21)
      isplitl [Harg2]; · iexact Harg2
      isplitl [Harg3]; · iexact Harg3
      isplitl [Harg4]; · iexact Harg4
      isplitl [Harg5]; · iexact Harg5
      isplitl [Harg6]; · iexact Harg6
      isplitl [Harg7]; · iexact Harg7
      isplitl [Harg8]; · iexact Harg8
      isplitl [Harg9]; · iexact Harg9
      isplitl [Harg10]; · iexact Harg10
      isplitl [Harg11]; · iexact Harg11
      isplitl [Harg12]; · iexact Harg12
      isplitl [Harg13]; · iexact Harg13
      isplitl [Harg14]; · iexact Harg14
      isplitl [Harg15]; · iexact Harg15
      isplitl [Harg16]; · iexact Harg16
      isplitl [Harg17]; · iexact Harg17
      isplitl [Harg18]; · iexact Harg18
      isplitl [Harg19]; · iexact Harg19
      isplitl [Harg20]; · iexact Harg20
      iexact Harg21
    · iintro %_ ⟨%h_arg13, %h_arg17, %h_arg19, %h_arg10, %h_arg21, %h_arg14, %h_arg15, %h_arg16, %h_arg18, %h_arg20, %hR, Harg2, Harg3, Harg4, Harg5, Harg6, Harg7, Harg8, Harg9, Harg10, Harg11, Harg12, Harg13, Harg14, Harg15, Harg16, Harg17, Harg18, Harg19, Harg20, Harg21⟩
      iapply HK
      isplitl [Harg2]
      · iexists f_arg2; isplitr
        · ipureintro; rfl
        · iexact Harg2
      isplitl [Harg3]
      · iexists f_arg3; isplitr
        · ipureintro; rfl
        · iexact Harg3
      isplitl [Harg4]
      · iexists f_arg4; isplitr
        · ipureintro; rfl
        · iexact Harg4
      isplitl [Harg5]
      · iexists f_arg5; isplitr
        · ipureintro; rfl
        · iexact Harg5
      isplitl [Harg6]
      · iexists f_arg6; isplitr
        · ipureintro; rfl
        · iexact Harg6
      isplitl [Harg7]
      · iexists f_arg7; isplitr
        · ipureintro; rfl
        · iexact Harg7
      isplitl [Harg8]
      · iexists f_arg8; isplitr
        · ipureintro; rfl
        · iexact Harg8
      isplitl [Harg9]
      · iexists f_arg9; isplitr
        · ipureintro; rfl
        · iexact Harg9
      isplitl [Harg10]
      · iexists _, _; isplitr; swap
        · iexact Harg10
        · ipureintro; rfl
      isplitl [Harg11]
      · iexists _, _; isplitr; swap
        · iexact Harg11
        · ipureintro; rfl
      isplitl [Harg12]
      · iexists _, _; isplitr; swap
        · iexact Harg12
        · ipureintro; rfl
      isplitl [Harg13]; · iexists _; iexact Harg13
      isplitl [Harg14]; · iexists _; iexact Harg14
      isplitl [Harg15]; · iexists _; iexact Harg15
      isplitl [Harg16]; · iexists _; iexact Harg16
      isplitl [Harg17]; · iexists _; iexact Harg17
      isplitl [Harg18]; · iexists _; iexact Harg18
      isplitl [Harg19]; · iexists _; iexact Harg19
      isplitl [Harg20]; · iexists _; iexact Harg20
      iexists _; iexact Harg21

variable (m : (ℓ : Loc nD τ sig) → Buf (Elt F) ℓ) (ρ : Dev nD → PrngReg)

/-- Proof data of the region: each input window keeps its block of its array; the outputs are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨_ + 11, h⟩ => absurd h (Nat.not_lt.2 (Nat.le_add_left _ _))
  Φ _ := Pipeline.ΦA spec0 c
  q w := Pipeline.shareOf spec0 w
  owed _ := 0

/-- The windows whose results nothing is said of: the three outputs. -/
def fgt (w : Fin cfg0.W) : Bool := decide (8 ≤ w.val)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- What the body is handed at point `t`, window by window, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq, scr c cc0_scratch0, scr c cc0_scratch1, scr c cc0_scratch2, scr c cc0_scratch3, scr c cc0_scratch4, scr c cc0_scratch5, scr c cc0_scratch6, scr c cc0_scratch7, scr c cc0_scratch8]
  iintro ⟨⟨⟨S0, S1, S2, S3, S4, S5, S6, S7, S8⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (sound_kernel Variants.none c none Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [Hr S0 S1 S2 S3 S4 S5 S6 S7 S8]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀
  rw [Defs.onTc_tc]

/-- The body obligation, the outputs forgotten. -/
theorem body_obligation (c : Dev nD) : Pipeline.BodyObligationLoose (dats m 0 c) (defs₀ (F := F)) Variants.none () Set.univ fgt := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
/-- The launch: every final state has the inputs as they were and every semaphore counter at zero. -/
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl) (hQ' := fun _ h => h)

/-- The frame claim's post. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (((dats m 0 c).toRForget_arrAt_iff (by decide : fgt 6 = false) _ _).mp ((h.1 c).1 6)).trans
    (((dats m 0 c).arrAt_in 6 rfl _).trans ((A_eq m c 6).trans (V_main_arg0 m c))), h.2⟩) (run_main_quiescent m ρ)

end Cert.Kernel.Row

end
-- ==== Proof.RowKernelIdeal.lean ====
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The buffers that one row of the outer loop touches, each at the contents given. -/
abbrev Row (c : Dev nD) (arg2 : Memref sig .tc .vmem S8x256x128 .bf16) (arg3 : Memref sig .tc .vmem S8x256x128 .bf16) (arg4 : Memref sig .tc .vmem S8x256x128 .bf16) (arg5 : Memref sig .tc .vmem S8x256x128 .bf16) (arg6 : Memref sig .tc .vmem S8x256x128 .bf16) (arg7 : Memref sig .tc .vmem S8x256x128 .bf16) (arg8 : Memref sig .tc .vmem S8x256x128 .bf16) (arg9 : Memref sig .tc .vmem S16x128 .f32) (arg13 : Memref sig .tc .vmem S448x2x128 .bf16) (arg17 : Memref sig .tc .vmem S16x2x128 .bf16) (arg19 : Memref sig .tc .vmem S16x128 .f32) (arg14 : Memref sig .tc .vmem S448x2x128 .bf16) (arg15 : Memref sig .tc .vmem S112x2x128 .bf16) (arg16 : Memref sig .tc .vmem S112x2x128 .bf16) (arg18 : Memref sig .tc .vmem S16x2x128 .bf16) (arg20 : Memref sig .tc .vmem S16x128 .f32) (arg10 : Memref sig .tc .vmem S8x448x256 .i8) (arg21 : Memref sig .tc .vmem S256x128 .f32) (g_arg2 : BufTy.Contents (Elt F) arg2.view.ty) (g_arg3 : BufTy.Contents (Elt F) arg3.view.ty) (g_arg4 : BufTy.Contents (Elt F) arg4.view.ty) (g_arg5 : BufTy.Contents (Elt F) arg5.view.ty) (g_arg6 : BufTy.Contents (Elt F) arg6.view.ty) (g_arg7 : BufTy.Contents (Elt F) arg7.view.ty) (g_arg8 : BufTy.Contents (Elt F) arg8.view.ty) (g_arg9 : BufTy.Contents (Elt F) arg9.view.ty) (g_arg13 : BufTy.Contents (Elt F) arg13.view.ty) (g_arg17 : BufTy.Contents (Elt F) arg17.view.ty) (g_arg19 : BufTy.Contents (Elt F) arg19.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty) (g_arg10 : BufTy.Contents (Elt F) arg10.view.ty) (g_arg21 : BufTy.Contents (Elt F) arg21.view.ty) : sProp 𝕄G :=
  iprop((arg2.view.loc (c : Thread nD τ) ↦[arg2.view.set]{fullShare} g_arg2) ∗ (arg3.view.loc (c : Thread nD τ) ↦[arg3.view.set]{fullShare} g_arg3) ∗ (arg4.view.loc (c : Thread nD τ) ↦[arg4.view.set]{fullShare} g_arg4) ∗ (arg5.view.loc (c : Thread nD τ) ↦[arg5.view.set]{fullShare} g_arg5) ∗ (arg6.view.loc (c : Thread nD τ) ↦[arg6.view.set]{fullShare} g_arg6) ∗ (arg7.view.loc (c : Thread nD τ) ↦[arg7.view.set]{fullShare} g_arg7) ∗ (arg8.view.loc (c : Thread nD τ) ↦[arg8.view.set]{fullShare} g_arg8) ∗ (arg9.view.loc (c : Thread nD τ) ↦[arg9.view.set]{fullShare} g_arg9) ∗ (arg13.view.loc (c : Thread nD τ) ↦[arg13.view.set]{fullShare} g_arg13) ∗ (arg17.view.loc (c : Thread nD τ) ↦[arg17.view.set]{fullShare} g_arg17) ∗ (arg19.view.loc (c : Thread nD τ) ↦[arg19.view.set]{fullShare} g_arg19) ∗ (arg14.view.loc (c : Thread nD τ) ↦[arg14.view.set]{fullShare} g_arg14) ∗ (arg15.view.loc (c : Thread nD τ) ↦[arg15.view.set]{fullShare} g_arg15) ∗ (arg16.view.loc (c : Thread nD τ) ↦[arg16.view.set]{fullShare} g_arg16) ∗ (arg18.view.loc (c : Thread nD τ) ↦[arg18.view.set]{fullShare} g_arg18) ∗ (arg20.view.loc (c : Thread nD τ) ↦[arg20.view.set]{fullShare} g_arg20) ∗ (arg10.view.loc (c : Thread nD τ) ↦[arg10.view.set]{fullShare} g_arg10) ∗ (arg21.view.loc (c : Thread nD τ) ↦[arg21.view.set]{fullShare} g_arg21))

/-- One trip of the outer loop at a symbolic row. The pieces it writes are found by the run. -/
@[irreducible] def trip (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v568_lo : FVec F S6x128 .bf16) (v568_hi : FVec F S6x128 .bf16) (v569_hi : FVec F S6x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg17 : BufTy.Contents (Elt F) arg17.view.ty) (X_arg19 : BufTy.Contents (Elt F) arg19.view.ty) (X_arg14 : BufTy.Contents (Elt F) arg14.view.ty) (X_arg15 : BufTy.Contents (Elt F) arg15.view.ty) (X_arg16 : BufTy.Contents (Elt F) arg16.view.ty) (X_arg18 : BufTy.Contents (Elt F) arg18.view.ty) (X_arg20 : BufTy.Contents (Elt F) arg20.view.ty) (k : Fin k0_t1_loop.trips) :
    Σ' (L_arg13 : List (View.Piece (Elt F) S448x2x128 .bf16)), Σ' (L_arg17 : List (View.Piece (Elt F) S16x2x128 .bf16)), Σ' (L_arg19 : List (View.Piece (Elt F) S16x128 .f32)), Σ' (L_arg10 : List (View.Piece (Elt F) S8x448x256 .i8)), Σ' (L_arg21 : List (View.Piece (Elt F) S256x128 .f32)),
      ∀ (E : Set ℕ) (f_arg10 : BufTy.Contents (Elt F) arg10.view.ty) (f_arg21 : BufTy.Contents (Elt F) arg21.view.ty),
      Row (F := F) c arg2 arg3 arg4 arg5 arg6 arg7 arg8 arg9 arg13 arg17 arg19 arg14 arg15 arg16 arg18 arg20 arg10 arg21 X_arg2 X_arg3 X_arg4 X_arg5 X_arg6 X_arg7 X_arg8 X_arg9 X_arg13 X_arg17 X_arg19 X_arg14 X_arg15 X_arg16 X_arg18 X_arg20 f_arg10 f_arg21
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi k PUnit.unit)
          (fun _ => iprop(∃ (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty), Row (F := F) c arg2 arg3 arg4 arg5 arg6 arg7 arg8 arg9 arg13 arg17 arg19 arg14 arg15 arg16 arg18 arg20 arg10 arg21 X_arg2 X_arg3 X_arg4 X_arg5 X_arg6 X_arg7 X_arg8 X_arg9 (arg13.view.writes (Elt F) X_arg13 L_arg13) (arg17.view.writes (Elt F) X_arg17 L_arg17) (arg19.view.writes (Elt F) X_arg19 L_arg19) g_arg14 g_arg15 g_arg16 g_arg18 g_arg20 (arg10.view.writes (Elt F) f_arg10 L_arg10) (arg21.view.writes (Elt F) f_arg21 L_arg21))) := by
  refine ⟨?_, ?_, ?_, ?_, ?_, fun E f_arg10 f_arg21 => ?run⟩
  case run =>
    unfold k0_t1_body
    iintro ⟨Harg2, Harg3, Harg4, Harg5, Harg6, Harg7, Harg8, Harg9, Harg13, Harg17, Harg19, Harg14, Harg15, Harg16, Harg18, Harg20, Harg10, Harg21⟩
    sl_exec
    sl_step
    iexists _, _, _, _, _
    sl_close

end Cert.KernelIdeal.Row

end
-- ==== Proof.BodyKernelIdeal.lean ====
module

public import proofs.«01_k».proof.Proof.RowKernelIdeal

@[expose] public section

set_option maxRecDepth 16384
set_option maxHeartbeats 4000000

noncomputable section

namespace Cert.KernelIdeal.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- Contents held are held under a name equal to them. -/
theorem named {U : Type} [URA U] {s : Shape} {e : EltTy} (a : Memref sig .tc .vmem s e) (c : Dev nD) (f : BufTy.Contents (Elt F) a.view.ty) :
    ((a.view.loc (c : Thread nD τ) ↦[a.view.set]{fullShare} f) : sProp (MT nD τ sig Unit (Elt F) ℕ U ℕ)) ⊢ iprop(∃ g, ⌜g = f⌝ ∗ (a.view.loc (c : Thread nD τ) ↦[a.view.set]{fullShare} g)) := by
  iintro H
  iexists f
  isplitr
  · ipureintro; rfl
  iexact H

/-- The states that the outer loop reaches: the contents of the first transposed tile, the two rows of statistics, the
    packed block and the absmax rows after some number of trips, from given contents. -/
inductive Reach (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg13 : BufTy.Contents (Elt F) arg13.view.ty) (G_arg17 : BufTy.Contents (Elt F) arg17.view.ty) (G_arg19 : BufTy.Contents (Elt F) arg19.view.ty) (G_arg10 : BufTy.Contents (Elt F) arg10.view.ty) (G_arg21 : BufTy.Contents (Elt F) arg21.view.ty) :
    ℕ → BufTy.Contents (Elt F) arg13.view.ty → BufTy.Contents (Elt F) arg17.view.ty → BufTy.Contents (Elt F) arg19.view.ty → BufTy.Contents (Elt F) arg10.view.ty → BufTy.Contents (Elt F) arg21.view.ty → Prop
  | zero : Reach 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 0 G_arg13 G_arg17 G_arg19 G_arg10 G_arg21
  | succ (arg0 : BitVec 32) (arg1 : BitVec 32) (v568_lo : FVec F S6x128 .bf16) (v568_hi : FVec F S6x128 .bf16) (v569_hi : FVec F S6x128 .bf16) (k : Fin k0_t1_loop.trips) (g_arg13 : BufTy.Contents (Elt F) arg13.view.ty) (g_arg17 : BufTy.Contents (Elt F) arg17.view.ty) (g_arg19 : BufTy.Contents (Elt F) arg19.view.ty) (g_arg10 : BufTy.Contents (Elt F) arg10.view.ty) (g_arg21 : BufTy.Contents (Elt F) arg21.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty) (h : Reach 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 k.val g_arg13 g_arg17 g_arg19 g_arg10 g_arg21) :
      Reach 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 (k.val + 1) (arg13.view.writes (Elt F) g_arg13 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 g_arg13 g_arg17 g_arg19 g_arg14 g_arg15 g_arg16 g_arg18 g_arg20 k).1) (arg17.view.writes (Elt F) g_arg17 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 g_arg13 g_arg17 g_arg19 g_arg14 g_arg15 g_arg16 g_arg18 g_arg20 k).2.1) (arg19.view.writes (Elt F) g_arg19 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 g_arg13 g_arg17 g_arg19 g_arg14 g_arg15 g_arg16 g_arg18 g_arg20 k).2.2.1) (arg10.view.writes (Elt F) g_arg10 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 g_arg13 g_arg17 g_arg19 g_arg14 g_arg15 g_arg16 g_arg18 g_arg20 k).2.2.2.1) (arg21.view.writes (Elt F) g_arg21 (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 g_arg13 g_arg17 g_arg19 g_arg14 g_arg15 g_arg16 g_arg18 g_arg20 k).2.2.2.2.1)

/-- The outer loop's invariant: the buffers it touches, at a state that the trips so far reach. -/
def Inv (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg13 : BufTy.Contents (Elt F) arg13.view.ty) (G_arg17 : BufTy.Contents (Elt F) arg17.view.ty) (G_arg19 : BufTy.Contents (Elt F) arg19.view.ty) (G_arg10 : BufTy.Contents (Elt F) arg10.view.ty) (G_arg21 : BufTy.Contents (Elt F) arg21.view.ty) (k : ℕ) (_ : PUnit) : sProp 𝕄G :=
  iprop(∃ (g_arg13 : BufTy.Contents (Elt F) arg13.view.ty) (g_arg17 : BufTy.Contents (Elt F) arg17.view.ty) (g_arg19 : BufTy.Contents (Elt F) arg19.view.ty) (g_arg10 : BufTy.Contents (Elt F) arg10.view.ty) (g_arg21 : BufTy.Contents (Elt F) arg21.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty), ⌜Reach (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 k g_arg13 g_arg17 g_arg19 g_arg10 g_arg21⌝ ∗ Row (F := F) c arg2 arg3 arg4 arg5 arg6 arg7 arg8 arg9 arg13 arg17 arg19 arg14 arg15 arg16 arg18 arg20 arg10 arg21 X_arg2 X_arg3 X_arg4 X_arg5 X_arg6 X_arg7 X_arg8 X_arg9 g_arg13 g_arg17 g_arg19 g_arg14 g_arg15 g_arg16 g_arg18 g_arg20 g_arg10 g_arg21)

/-- One trip keeps the invariant. -/
theorem inv_step (𝒱 : Variants) (c : Dev nD) (bd : Option 𝒱.V) (E : Set ℕ) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v568_lo : FVec F S6x128 .bf16) (v568_hi : FVec F S6x128 .bf16) (v569_hi : FVec F S6x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg13 : BufTy.Contents (Elt F) arg13.view.ty) (G_arg17 : BufTy.Contents (Elt F) arg17.view.ty) (G_arg19 : BufTy.Contents (Elt F) arg19.view.ty) (G_arg10 : BufTy.Contents (Elt F) arg10.view.ty) (G_arg21 : BufTy.Contents (Elt F) arg21.view.ty) (k : Fin k0_t1_loop.trips) :
    Inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 k.val PUnit.unit
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi k PUnit.unit)
          (Inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 (k.val + 1)) := by
  unfold Inv
  iintro ⟨%g_arg13, %g_arg17, %g_arg19, %g_arg10, %g_arg21, %g_arg14, %g_arg15, %g_arg16, %g_arg18, %g_arg20, %hR, H⟩
  iapply (wp_wand_r Idealize.ShloMosaic.frame (wpE (defs₀ (F := F)) 𝒱 (c : Thread nD τ) bd) E)
  isplitl [H]
  · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 g_arg13 g_arg17 g_arg19 g_arg14 g_arg15 g_arg16 g_arg18 g_arg20 k).2.2.2.2.2 E g_arg10 g_arg21)
    iexact H
  · iintro %_ ⟨%h_arg14, %h_arg15, %h_arg16, %h_arg18, %h_arg20, H⟩
    iexists _, _, _, _, _, _, _, _, _, _
    isplitr
    · ipureintro; exact Reach.succ arg0 arg1 v568_lo v568_hi v569_hi k _ _ _ _ _ g_arg14 g_arg15 g_arg16 g_arg18 g_arg20 hR
    iexact H

/-- The body at a point where the accumulator is cleared first: the pieces the prologue writes, the pieces the
    epilogue writes as functions of the absmax rows, and the run itself; what the loop leaves is a state that
    eight rows reach. -/
@[irreducible] def runFirst (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    Σ' (L_arg13 : List (View.Piece (Elt F) S448x2x128 .bf16)), Σ' (L_arg17 : List (View.Piece (Elt F) S16x2x128 .bf16)), Σ' (L_arg19 : List (View.Piece (Elt F) S16x128 .f32)), Σ' (L_arg21 : List (View.Piece (Elt F) S256x128 .f32)), Σ' (L_arg11 : BufTy.Contents (Elt F) arg21.view.ty → List (View.Piece (Elt F) S14x8x256 .f32)), Σ' (L_arg12 : BufTy.Contents (Elt F) arg21.view.ty → List (View.Piece (Elt F) S8x128 .f32)),
      ∀ (E : Set ℕ) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} X_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21)) : sProp 𝕄G)
      ⊢ wp frame (wpE (defs₀ (F := F)) 𝒱 (c : Thread nD τ) bd) E (cc0_nf4_encode (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(∃ (g_arg13 : BufTy.Contents (Elt F) arg13.view.ty) (g_arg17 : BufTy.Contents (Elt F) arg17.view.ty) (g_arg19 : BufTy.Contents (Elt F) arg19.view.ty) (g_arg10 : BufTy.Contents (Elt F) arg10.view.ty) (g_arg21 : BufTy.Contents (Elt F) arg21.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty),
             ⌜Reach (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 (arg13.view.writes (Elt F) arg13.view.junk L_arg13) (arg17.view.writes (Elt F) f_arg17 L_arg17) (arg19.view.writes (Elt F) f_arg19 L_arg19) f_arg10 (arg21.view.writes (Elt F) f_arg21 L_arg21) k0_t1_loop.trips g_arg13 g_arg17 g_arg19 g_arg10 g_arg21⌝ ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} g_arg10) ∗ (arg11.view.loc (c : Thread nD τ) ↦[arg11.view.set]{fullShare} (arg11.view.writes (Elt F) f_arg11 (L_arg11 g_arg21))) ∗ (arg12.view.loc (c : Thread nD τ) ↦[arg12.view.set]{fullShare} (arg12.view.writes (Elt F) X_arg12 (L_arg12 g_arg21))) ∗ (arg13.view.loc (c : Thread nD τ) ↦[arg13.view.set]{fullShare} g_arg13) ∗ (arg14.view.loc (c : Thread nD τ) ↦[arg14.view.set]{fullShare} g_arg14) ∗ (arg15.view.loc (c : Thread nD τ) ↦[arg15.view.set]{fullShare} g_arg15) ∗ (arg16.view.loc (c : Thread nD τ) ↦[arg16.view.set]{fullShare} g_arg16) ∗ (arg17.view.loc (c : Thread nD τ) ↦[arg17.view.set]{fullShare} g_arg17) ∗ (arg18.view.loc (c : Thread nD τ) ↦[arg18.view.set]{fullShare} g_arg18) ∗ (arg19.view.loc (c : Thread nD τ) ↦[arg19.view.set]{fullShare} g_arg19) ∗ (arg20.view.loc (c : Thread nD τ) ↦[arg20.view.set]{fullShare} g_arg20) ∗ (arg21.view.loc (c : Thread nD τ) ↦[arg21.view.set]{fullShare} g_arg21))) := by
  refine ⟨?_, ?_, ?_, ?_, ?_, ?_, fun E f_arg10 f_arg11 f_arg13 f_arg14 f_arg15 f_arg16 f_arg17 f_arg18 f_arg19 f_arg20 f_arg21 => ?run⟩
  case run =>
    rw [cc0_nf4_encode_eq_skeleton]
    unfold cc0_nf4_encode_skel
    iintro ⟨Harg2, Harg3, Harg4, Harg5, Harg6, Harg7, Harg8, Harg9, Harg10, Harg11, Harg12, Harg13, Harg14, Harg15, Harg16, Harg17, Harg18, Harg19, Harg20, Harg21⟩
    sl_exec
    ihave HP := (named (F := F) (U := UR sig nD τ) arg13 c _) $$ [Harg13]; · iexact Harg13
    icases HP with ⟨%G_arg13, %e_arg13, Harg13⟩
    ihave HP := (named (F := F) (U := UR sig nD τ) arg17 c _) $$ [Harg17]; · iexact Harg17
    icases HP with ⟨%G_arg17, %e_arg17, Harg17⟩
    ihave HP := (named (F := F) (U := UR sig nD τ) arg19 c _) $$ [Harg19]; · iexact Harg19
    icases HP with ⟨%G_arg19, %e_arg19, Harg19⟩
    ihave HP := (named (F := F) (U := UR sig nD τ) arg10 c _) $$ [Harg10]; · iexact Harg10
    icases HP with ⟨%G_arg10, %e_arg10, Harg10⟩
    ihave HP := (named (F := F) (U := UR sig nD τ) arg21 c _) $$ [Harg21]; · iexact Harg21
    icases HP with ⟨%G_arg21, %e_arg21, Harg21⟩
    sl_for (Inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21) $$ [Harg2 Harg3 Harg4 Harg5 Harg6 Harg7 Harg8 Harg9 Harg13 Harg17 Harg19 Harg14 Harg15 Harg16 Harg18 Harg20 Harg10 Harg21]
    case region =>
      intro k acc
      exact inv_step (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ X_arg2 X_arg3 X_arg4 X_arg5 X_arg6 X_arg7 X_arg8 X_arg9 G_arg13 G_arg17 G_arg19 G_arg10 G_arg21 k
    · unfold Inv
      iexists G_arg13, G_arg17, G_arg19, G_arg10, G_arg21, _, _, _, _, _
      isplitr
      · ipureintro; exact Reach.zero
      unfold Row
      sl_close
    iintro %a HI
    subst e_arg13 e_arg17 e_arg19 e_arg10 e_arg21
    unfold Inv
    icases HI with ⟨%g_arg13, %g_arg17, %g_arg19, %g_arg10, %g_arg21, %g_arg14, %g_arg15, %g_arg16, %g_arg18, %g_arg20, %hR, Harg2, Harg3, Harg4, Harg5, Harg6, Harg7, Harg8, Harg9, Harg13, Harg17, Harg19, Harg14, Harg15, Harg16, Harg18, Harg20, Harg10, Harg21⟩
    sl_exec
    sl_step
    iexists _, _, _, _, _, _, _, _, _, _
    isplitr
    · ipureintro; exact hR
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    isplitl [Harg17]; · iexact Harg17
    isplitl [Harg18]; · iexact Harg18
    isplitl [Harg19]; · iexact Harg19
    isplitl [Harg20]; · iexact Harg20
    iexact Harg21

/-- The body at a point where the accumulator is kept: the pieces the prologue writes, the pieces the
    epilogue writes as functions of the absmax rows, and the run itself; what the loop leaves is a state that
    eight rows reach. -/
@[irreducible] def runRest (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    Σ' (L_arg13 : List (View.Piece (Elt F) S448x2x128 .bf16)), Σ' (L_arg17 : List (View.Piece (Elt F) S16x2x128 .bf16)), Σ' (L_arg19 : List (View.Piece (Elt F) S16x128 .f32)), Σ' (L_arg21 : List (View.Piece (Elt F) S256x128 .f32)), Σ' (L_arg11 : BufTy.Contents (Elt F) arg21.view.ty → List (View.Piece (Elt F) S14x8x256 .f32)), Σ' (L_arg12 : BufTy.Contents (Elt F) arg21.view.ty → List (View.Piece (Elt F) S8x128 .f32)),
      ∀ (E : Set ℕ) (f_arg10 : BufTy.Contents (Elt F) arg10.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty),
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} X_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21)) : sProp 𝕄G)
      ⊢ wp frame (wpE (defs₀ (F := F)) 𝒱 (c : Thread nD τ) bd) E (cc0_nf4_encode (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(∃ (g_arg13 : BufTy.Contents (Elt F) arg13.view.ty) (g_arg17 : BufTy.Contents (Elt F) arg17.view.ty) (g_arg19 : BufTy.Contents (Elt F) arg19.view.ty) (g_arg10 : BufTy.Contents (Elt F) arg10.view.ty) (g_arg21 : BufTy.Contents (Elt F) arg21.view.ty) (g_arg14 : BufTy.Contents (Elt F) arg14.view.ty) (g_arg15 : BufTy.Contents (Elt F) arg15.view.ty) (g_arg16 : BufTy.Contents (Elt F) arg16.view.ty) (g_arg18 : BufTy.Contents (Elt F) arg18.view.ty) (g_arg20 : BufTy.Contents (Elt F) arg20.view.ty),
             ⌜Reach (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 (arg13.view.writes (Elt F) arg13.view.junk L_arg13) (arg17.view.writes (Elt F) f_arg17 L_arg17) (arg19.view.writes (Elt F) f_arg19 L_arg19) f_arg10 (arg21.view.writes (Elt F) f_arg21 L_arg21) k0_t1_loop.trips g_arg13 g_arg17 g_arg19 g_arg10 g_arg21⌝ ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} g_arg10) ∗ (arg11.view.loc (c : Thread nD τ) ↦[arg11.view.set]{fullShare} (arg11.view.writes (Elt F) f_arg11 (L_arg11 g_arg21))) ∗ (arg12.view.loc (c : Thread nD τ) ↦[arg12.view.set]{fullShare} (arg12.view.writes (Elt F) X_arg12 (L_arg12 g_arg21))) ∗ (arg13.view.loc (c : Thread nD τ) ↦[arg13.view.set]{fullShare} g_arg13) ∗ (arg14.view.loc (c : Thread nD τ) ↦[arg14.view.set]{fullShare} g_arg14) ∗ (arg15.view.loc (c : Thread nD τ) ↦[arg15.view.set]{fullShare} g_arg15) ∗ (arg16.view.loc (c : Thread nD τ) ↦[arg16.view.set]{fullShare} g_arg16) ∗ (arg17.view.loc (c : Thread nD τ) ↦[arg17.view.set]{fullShare} g_arg17) ∗ (arg18.view.loc (c : Thread nD τ) ↦[arg18.view.set]{fullShare} g_arg18) ∗ (arg19.view.loc (c : Thread nD τ) ↦[arg19.view.set]{fullShare} g_arg19) ∗ (arg20.view.loc (c : Thread nD τ) ↦[arg20.view.set]{fullShare} g_arg20) ∗ (arg21.view.loc (c : Thread nD τ) ↦[arg21.view.set]{fullShare} g_arg21))) := by
  refine ⟨?_, ?_, ?_, ?_, ?_, ?_, fun E f_arg10 f_arg11 f_arg13 f_arg14 f_arg15 f_arg16 f_arg17 f_arg18 f_arg19 f_arg20 f_arg21 => ?run⟩
  case run =>
    rw [cc0_nf4_encode_eq_skeleton]
    unfold cc0_nf4_encode_skel
    iintro ⟨Harg2, Harg3, Harg4, Harg5, Harg6, Harg7, Harg8, Harg9, Harg10, Harg11, Harg12, Harg13, Harg14, Harg15, Harg16, Harg17, Harg18, Harg19, Harg20, Harg21⟩
    sl_exec
    ihave HP := (named (F := F) (U := UR sig nD τ) arg13 c _) $$ [Harg13]; · iexact Harg13
    icases HP with ⟨%G_arg13, %e_arg13, Harg13⟩
    ihave HP := (named (F := F) (U := UR sig nD τ) arg17 c _) $$ [Harg17]; · iexact Harg17
    icases HP with ⟨%G_arg17, %e_arg17, Harg17⟩
    ihave HP := (named (F := F) (U := UR sig nD τ) arg19 c _) $$ [Harg19]; · iexact Harg19
    icases HP with ⟨%G_arg19, %e_arg19, Harg19⟩
    ihave HP := (named (F := F) (U := UR sig nD τ) arg10 c _) $$ [Harg10]; · iexact Harg10
    icases HP with ⟨%G_arg10, %e_arg10, Harg10⟩
    ihave HP := (named (F := F) (U := UR sig nD τ) arg21 c _) $$ [Harg21]; · iexact Harg21
    icases HP with ⟨%G_arg21, %e_arg21, Harg21⟩
    sl_for (Inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21) $$ [Harg2 Harg3 Harg4 Harg5 Harg6 Harg7 Harg8 Harg9 Harg13 Harg17 Harg19 Harg14 Harg15 Harg16 Harg18 Harg20 Harg10 Harg21]
    case region =>
      intro k acc
      exact inv_step (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ X_arg2 X_arg3 X_arg4 X_arg5 X_arg6 X_arg7 X_arg8 X_arg9 G_arg13 G_arg17 G_arg19 G_arg10 G_arg21 k
    · unfold Inv
      iexists G_arg13, G_arg17, G_arg19, G_arg10, G_arg21, _, _, _, _, _
      isplitr
      · ipureintro; exact Reach.zero
      unfold Row
      sl_close
    iintro %a HI
    subst e_arg13 e_arg17 e_arg19 e_arg10 e_arg21
    unfold Inv
    icases HI with ⟨%g_arg13, %g_arg17, %g_arg19, %g_arg10, %g_arg21, %g_arg14, %g_arg15, %g_arg16, %g_arg18, %g_arg20, %hR, Harg2, Harg3, Harg4, Harg5, Harg6, Harg7, Harg8, Harg9, Harg13, Harg17, Harg19, Harg14, Harg15, Harg16, Harg18, Harg20, Harg10, Harg21⟩
    sl_exec
    sl_step
    iexists _, _, _, _, _, _, _, _, _, _
    isplitr
    · ipureintro; exact hR
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    isplitl [Harg17]; · iexact Harg17
    isplitl [Harg18]; · iexact Harg18
    isplitl [Harg19]; · iexact Harg19
    isplitl [Harg20]; · iexact Harg20
    iexact Harg21

end Cert.KernelIdeal.Row

end
-- ==== Proof.FrameKernelIdeal.lean ====
module

public import proofs.«01_k».proof.Proof.BodyKernelIdeal
public import proofs.«01_k».proof.Proof.Gen.KernelIdeal.Launch
public import proofs.«01_k».proof.Proof.Gen.KernelIdeal.Points
public import Idealize.ShloMosaic.Lib.Pipeline.FrameBody

@[expose] public section

set_option maxRecDepth 16384
set_option maxHeartbeats 1600000

noncomputable section

namespace Cert.KernelIdeal.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄G" => MT nD τ sig Unit (Elt F) ℕ (UR sig nD τ) ℕ

/-- A whole scratch buffer, as the memref on it holds it. -/
theorem scr (c : Dev nD) (b : Ref sig .tc) :
    (iprop(∃ f : Buf (Elt F) ((c : Thread nD τ).loc b), ((c : Thread nD τ).loc b) ↦{fullShare} f) : sProp 𝕄G)
      = iprop(∃ f : BufTy.Contents (Elt F) (Memref.whole b).view.ty, ((Memref.whole b).view.loc (c : Thread nD τ) ↦[(Memref.whole b).view.set]{fullShare} f)) := by
  rw [show (Memref.whole b).view.set = Finset.univ from View.set_whole b]

/-- The body at any grid point: from the input blocks held, and the outputs and the scratch at whatever they hold,
    it runs and hands them back, the inputs as they were. -/
theorem sound_kernel (𝒱 : Variants) (c : Dev nD) (bd : Option 𝒱.V) (E : Set ℕ) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (x_arg2 : S8x256x128.Idx → Elt F .bf16) (x_arg3 : S8x256x128.Idx → Elt F .bf16) (x_arg4 : S8x256x128.Idx → Elt F .bf16) (x_arg5 : S8x256x128.Idx → Elt F .bf16) (x_arg6 : S8x256x128.Idx → Elt F .bf16) (x_arg7 : S8x256x128.Idx → Elt F .bf16) (x_arg8 : S8x256x128.Idx → Elt F .bf16) (x_arg9 : S16x128.Idx → Elt F .f32) (Q : sProp 𝕄G) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ (∃ X, owns (c : Thread nD τ) arg10 fullShare X) ∗ (∃ X, owns (c : Thread nD τ) arg11 fullShare X) ∗ (∃ X, owns (c : Thread nD τ) arg12 fullShare X) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)) ∗ ((owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ (∃ X, owns (c : Thread nD τ) arg10 fullShare X) ∗ (∃ X, owns (c : Thread nD τ) arg11 fullShare X) ∗ (∃ X, owns (c : Thread nD τ) arg12 fullShare X) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f))) -∗ Q))
      ⊢ wp frame (wpE (defs₀ (F := F)) 𝒱 (c : Thread nD τ) bd) E (cc0_nf4_encode (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => Q) := by
  unfold owns
  iintro ⟨⟨%f_arg2, %e_arg2, Harg2⟩, ⟨%f_arg3, %e_arg3, Harg3⟩, ⟨%f_arg4, %e_arg4, Harg4⟩, ⟨%f_arg5, %e_arg5, Harg5⟩, ⟨%f_arg6, %e_arg6, Harg6⟩, ⟨%f_arg7, %e_arg7, Harg7⟩, ⟨%f_arg8, %e_arg8, Harg8⟩, ⟨%f_arg9, %e_arg9, Harg9⟩, ⟨%X_arg10, %f_arg10, -, Harg10⟩, ⟨%X_arg11, %f_arg11, -, Harg11⟩, ⟨%X_arg12, %f_arg12, -, Harg12⟩, ⟨%f_arg13, Harg13⟩, ⟨%f_arg14, Harg14⟩, ⟨%f_arg15, Harg15⟩, ⟨%f_arg16, Harg16⟩, ⟨%f_arg17, Harg17⟩, ⟨%f_arg18, Harg18⟩, ⟨%f_arg19, Harg19⟩, ⟨%f_arg20, Harg20⟩, ⟨%f_arg21, Harg21⟩, HK⟩
  subst e_arg2 e_arg3 e_arg4 e_arg5 e_arg6 e_arg7 e_arg8 e_arg9
  rcases Classical.em (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) with hc | hc
  ·
    iapply (wp_wand_r Idealize.ShloMosaic.frame (wpE (defs₀ (F := F)) 𝒱 (c : Thread nD τ) bd) E)
    isplitl [Harg2 Harg3 Harg4 Harg5 Harg6 Harg7 Harg8 Harg9 Harg10 Harg11 Harg12 Harg13 Harg14 Harg15 Harg16 Harg17 Harg18 Harg19 Harg20 Harg21]
    · iapply ((runFirst (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f_arg2 f_arg3 f_arg4 f_arg5 f_arg6 f_arg7 f_arg8 f_arg9 f_arg12 hc).2.2.2.2.2.2 E f_arg10 f_arg11 f_arg13 f_arg14 f_arg15 f_arg16 f_arg17 f_arg18 f_arg19 f_arg20 f_arg21)
      isplitl [Harg2]; · iexact Harg2
      isplitl [Harg3]; · iexact Harg3
      isplitl [Harg4]; · iexact Harg4
      isplitl [Harg5]; · iexact Harg5
      isplitl [Harg6]; · iexact Harg6
      isplitl [Harg7]; · iexact Harg7
      isplitl [Harg8]; · iexact Harg8
      isplitl [Harg9]; · iexact Harg9
      isplitl [Harg10]; · iexact Harg10
      isplitl [Harg11]; · iexact Harg11
      isplitl [Harg12]; · iexact Harg12
      isplitl [Harg13]; · iexact Harg13
      isplitl [Harg14]; · iexact Harg14
      isplitl [Harg15]; · iexact Harg15
      isplitl [Harg16]; · iexact Harg16
      isplitl [Harg17]; · iexact Harg17
      isplitl [Harg18]; · iexact Harg18
      isplitl [Harg19]; · iexact Harg19
      isplitl [Harg20]; · iexact Harg20
      iexact Harg21
    · iintro %_ ⟨%h_arg13, %h_arg17, %h_arg19, %h_arg10, %h_arg21, %h_arg14, %h_arg15, %h_arg16, %h_arg18, %h_arg20, %hR, Harg2, Harg3, Harg4, Harg5, Harg6, Harg7, Harg8, Harg9, Harg10, Harg11, Harg12, Harg13, Harg14, Harg15, Harg16, Harg17, Harg18, Harg19, Harg20, Harg21⟩
      iapply HK
      isplitl [Harg2]
      · iexists f_arg2; isplitr
        · ipureintro; rfl
        · iexact Harg2
      isplitl [Harg3]
      · iexists f_arg3; isplitr
        · ipureintro; rfl
        · iexact Harg3
      isplitl [Harg4]
      · iexists f_arg4; isplitr
        · ipureintro; rfl
        · iexact Harg4
      isplitl [Harg5]
      · iexists f_arg5; isplitr
        · ipureintro; rfl
        · iexact Harg5
      isplitl [Harg6]
      · iexists f_arg6; isplitr
        · ipureintro; rfl
        · iexact Harg6
      isplitl [Harg7]
      · iexists f_arg7; isplitr
        · ipureintro; rfl
        · iexact Harg7
      isplitl [Harg8]
      · iexists f_arg8; isplitr
        · ipureintro; rfl
        · iexact Harg8
      isplitl [Harg9]
      · iexists f_arg9; isplitr
        · ipureintro; rfl
        · iexact Harg9
      isplitl [Harg10]
      · iexists _, _; isplitr; swap
        · iexact Harg10
        · ipureintro; rfl
      isplitl [Harg11]
      · iexists _, _; isplitr; swap
        · iexact Harg11
        · ipureintro; rfl
      isplitl [Harg12]
      · iexists _, _; isplitr; swap
        · iexact Harg12
        · ipureintro; rfl
      isplitl [Harg13]; · iexists _; iexact Harg13
      isplitl [Harg14]; · iexists _; iexact Harg14
      isplitl [Harg15]; · iexists _; iexact Harg15
      isplitl [Harg16]; · iexists _; iexact Harg16
      isplitl [Harg17]; · iexists _; iexact Harg17
      isplitl [Harg18]; · iexists _; iexact Harg18
      isplitl [Harg19]; · iexists _; iexact Harg19
      isplitl [Harg20]; · iexists _; iexact Harg20
      iexists _; iexact Harg21
  ·
    iapply (wp_wand_r Idealize.ShloMosaic.frame (wpE (defs₀ (F := F)) 𝒱 (c : Thread nD τ) bd) E)
    isplitl [Harg2 Harg3 Harg4 Harg5 Harg6 Harg7 Harg8 Harg9 Harg10 Harg11 Harg12 Harg13 Harg14 Harg15 Harg16 Harg17 Harg18 Harg19 Harg20 Harg21]
    · iapply ((runRest (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f_arg2 f_arg3 f_arg4 f_arg5 f_arg6 f_arg7 f_arg8 f_arg9 f_arg12 hc).2.2.2.2.2.2 E f_arg10 f_arg11 f_arg13 f_arg14 f_arg15 f_arg16 f_arg17 f_arg18 f_arg19 f_arg20 f_arg21)
      isplitl [Harg2]; · iexact Harg2
      isplitl [Harg3]; · iexact Harg3
      isplitl [Harg4]; · iexact Harg4
      isplitl [Harg5]; · iexact Harg5
      isplitl [Harg6]; · iexact Harg6
      isplitl [Harg7]; · iexact Harg7
      isplitl [Harg8]; · iexact Harg8
      isplitl [Harg9]; · iexact Harg9
      isplitl [Harg10]; · iexact Harg10
      isplitl [Harg11]; · iexact Harg11
      isplitl [Harg12]; · iexact Harg12
      isplitl [Harg13]; · iexact Harg13
      isplitl [Harg14]; · iexact Harg14
      isplitl [Harg15]; · iexact Harg15
      isplitl [Harg16]; · iexact Harg16
      isplitl [Harg17]; · iexact Harg17
      isplitl [Harg18]; · iexact Harg18
      isplitl [Harg19]; · iexact Harg19
      isplitl [Harg20]; · iexact Harg20
      iexact Harg21
    · iintro %_ ⟨%h_arg13, %h_arg17, %h_arg19, %h_arg10, %h_arg21, %h_arg14, %h_arg15, %h_arg16, %h_arg18, %h_arg20, %hR, Harg2, Harg3, Harg4, Harg5, Harg6, Harg7, Harg8, Harg9, Harg10, Harg11, Harg12, Harg13, Harg14, Harg15, Harg16, Harg17, Harg18, Harg19, Harg20, Harg21⟩
      iapply HK
      isplitl [Harg2]
      · iexists f_arg2; isplitr
        · ipureintro; rfl
        · iexact Harg2
      isplitl [Harg3]
      · iexists f_arg3; isplitr
        · ipureintro; rfl
        · iexact Harg3
      isplitl [Harg4]
      · iexists f_arg4; isplitr
        · ipureintro; rfl
        · iexact Harg4
      isplitl [Harg5]
      · iexists f_arg5; isplitr
        · ipureintro; rfl
        · iexact Harg5
      isplitl [Harg6]
      · iexists f_arg6; isplitr
        · ipureintro; rfl
        · iexact Harg6
      isplitl [Harg7]
      · iexists f_arg7; isplitr
        · ipureintro; rfl
        · iexact Harg7
      isplitl [Harg8]
      · iexists f_arg8; isplitr
        · ipureintro; rfl
        · iexact Harg8
      isplitl [Harg9]
      · iexists f_arg9; isplitr
        · ipureintro; rfl
        · iexact Harg9
      isplitl [Harg10]
      · iexists _, _; isplitr; swap
        · iexact Harg10
        · ipureintro; rfl
      isplitl [Harg11]
      · iexists _, _; isplitr; swap
        · iexact Harg11
        · ipureintro; rfl
      isplitl [Harg12]
      · iexists _, _; isplitr; swap
        · iexact Harg12
        · ipureintro; rfl
      isplitl [Harg13]; · iexists _; iexact Harg13
      isplitl [Harg14]; · iexists _; iexact Harg14
      isplitl [Harg15]; · iexists _; iexact Harg15
      isplitl [Harg16]; · iexists _; iexact Harg16
      isplitl [Harg17]; · iexists _; iexact Harg17
      isplitl [Harg18]; · iexists _; iexact Harg18
      isplitl [Harg19]; · iexists _; iexact Harg19
      isplitl [Harg20]; · iexists _; iexact Harg20
      iexists _; iexact Harg21

variable (m : (ℓ : Loc nD τ sig) → Buf (Elt F) ℓ) (ρ : Dev nD → PrngReg)

/-- Proof data of the region: each input window keeps its block of its array; the outputs are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨_ + 11, h⟩ => absurd h (Nat.not_lt.2 (Nat.le_add_left _ _))
  Φ _ := Pipeline.ΦA spec0 c
  q w := Pipeline.shareOf spec0 w
  owed _ := 0

/-- The windows whose results nothing is said of: the three outputs. -/
def fgt (w : Fin cfg0.W) : Bool := decide (8 ≤ w.val)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- What the body is handed at point `t`, window by window, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq, scr c cc0_scratch0, scr c cc0_scratch1, scr c cc0_scratch2, scr c cc0_scratch3, scr c cc0_scratch4, scr c cc0_scratch5, scr c cc0_scratch6, scr c cc0_scratch7, scr c cc0_scratch8]
  iintro ⟨⟨⟨S0, S1, S2, S3, S4, S5, S6, S7, S8⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (sound_kernel Variants.none c none Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [Hr S0 S1 S2 S3 S4 S5 S6 S7 S8]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀
  rw [Defs.onTc_tc]

/-- The body obligation, the outputs forgotten. -/
theorem body_obligation (c : Dev nD) : Pipeline.BodyObligationLoose (dats m 0 c) (defs₀ (F := F)) Variants.none () Set.univ fgt := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
/-- The launch: every final state has the inputs as they were and every semaphore counter at zero. -/
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl) (hQ' := fun _ h => h)

/-- The frame claim's post. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (((dats m 0 c).toRForget_arrAt_iff (by decide : fgt 6 = false) _ _).mp ((h.1 c).1 6)).trans
    (((dats m 0 c).arrAt_in 6 rfl _).trans ((A_eq m c 6).trans (V_main_arg0 m c))), h.2⟩) (run_main_quiescent m ρ)

end Cert.KernelIdeal.Row

end
-- ==== Proof.EncodeSpec.lean ====
/- What one row of the first call stores, as functions of the blocks it reads: the transposed 128 by 128 tile, the
   tile in row pairs, the absolute maxima of its groups of four rows, and the blocks' absolute maxima. -/
module

public import proofs.«01_k».proof.Proof.Gen.KernelIdeal.Skeleton

@[expose] public section

noncomputable section

namespace Cert.EncodeSpec

open Idealize.ShloMosaic Idealize.ShloMosaic.TcCoe Idealize.SL.Sem
open Cert.KernelIdeal Cert.KernelIdeal.Gen

variable {F : FTy → Type} [FloatOps F]

/-- Sixteen rows read as pairs, back as sixteen rows. -/
def grp (x : Vec F S1x16x128 .bf16) : FVec F S16x128 .bf16 :=
  interleaveRows S16x128 (shapeCast S8x128 (rowsOfParity 0 S1x8x128 x bitcasts_S1x16x128_w16_S1x8x128_w32) shapeCasts_S1x8x128_S8x128)
    (shapeCast S8x128 (rowsOfParity 1 S1x8x128 x bitcasts_S1x16x128_w16_S1x8x128_w32) shapeCasts_S1x8x128_S8x128)
    bitcasts_S16x128_w16_S8x128_w32

/-- Eight groups of sixteen rows on top of each other, transposed. -/
def tsq (x0 x1 x2 x3 x4 x5 x6 x7 : Vec F S1x16x128 .bf16) : FVec F S128x128 .bf16 :=
  transpose S128x128 [1, 0] (concatenate S128x128 0 [⟨S16x128, grp x0⟩, ⟨S16x128, grp x1⟩, ⟨S16x128, grp x2⟩, ⟨S16x128, grp x3⟩, ⟨S16x128, grp x4⟩, ⟨S16x128, grp x5⟩, ⟨S16x128, grp x6⟩, ⟨S16x128, grp x7⟩] concatenates_S16x128_S16x128_S16x128_S16x128_S16x128_S16x128_S16x128_S16x128_S128x128_d0)
    transposes_S128x128_p1_0_S128x128

/-- The transposed tile in row pairs. -/
def xtOf (m : FVec F S128x128 .bf16) : Vec F S64x2x128 .bf16 :=
  interleaveRows S64x2x128 (shapeCast S64x1x128 (rowsOfParity 0 S64x128 m bitcasts_S128x128_w16_S64x128_w32) shapeCasts_S64x128_S64x1x128)
    (shapeCast S64x1x128 (rowsOfParity 1 S64x128 m bitcasts_S128x128_w16_S64x128_w32) shapeCasts_S64x128_S64x1x128)
    bitcasts_S64x2x128_w16_S64x1x128_w32

/-- Sixteen rows in row pairs. -/
def pairs16 (m : FVec F S16x128 .bf16) : Vec F S8x2x128 .bf16 :=
  interleaveRows S8x2x128 (shapeCast S8x1x128 (rowsOfParity 0 S8x128 m bitcasts_S16x128_w16_S8x128_w32) shapeCasts_S8x128_S8x1x128)
    (shapeCast S8x1x128 (rowsOfParity 1 S8x128 m bitcasts_S16x128_w16_S8x128_w32) shapeCasts_S8x128_S8x1x128)
    bitcasts_S8x2x128_w16_S8x1x128_w32

/-- The absolute maxima over four rows sixteen apart, of the upper half of the tile. -/
def partLo (m : FVec F S128x128 .bf16) : Vec F S8x2x128 .bf16 :=
  pairs16 (maximumf (maximumf (absf (extractStridedSlice S16x128 ![0, 0] m slices_S128x128_o0_0_S16x128))
      (absf (extractStridedSlice S16x128 ![16, 0] m slices_S128x128_o16_0_S16x128)))
    (maximumf (absf (extractStridedSlice S16x128 ![32, 0] m slices_S128x128_o32_0_S16x128))
      (absf (extractStridedSlice S16x128 ![48, 0] m slices_S128x128_o48_0_S16x128))))

/-- The absolute maxima over four rows sixteen apart, of the lower half of the tile. -/
def partHi (m : FVec F S128x128 .bf16) : Vec F S8x2x128 .bf16 :=
  pairs16 (maximumf (maximumf (absf (extractStridedSlice S16x128 ![64, 0] m slices_S128x128_o64_0_S16x128))
      (absf (extractStridedSlice S16x128 ![80, 0] m slices_S128x128_o80_0_S16x128)))
    (maximumf (absf (extractStridedSlice S16x128 ![96, 0] m slices_S128x128_o96_0_S16x128))
      (absf (extractStridedSlice S16x128 ![112, 0] m slices_S128x128_o112_0_S16x128))))

/-- The partial maxima of seven tiles, as they are stored, the newest first. -/
def partL (m0 m1 m2 m3 m4 m5 m6 : FVec F S128x128 .bf16) : List (View.Piece (Elt F) S112x2x128 .bf16) :=
  [⟨Rect.unit ![104, 0, 0] S8x2x128.size inb_S112x2x128_S8x2x128_104_0_0, partHi m6⟩,
   ⟨Rect.unit ![96, 0, 0] S8x2x128.size inb_S112x2x128_S8x2x128_96_0_0, partLo m6⟩,
   ⟨Rect.unit ![88, 0, 0] S8x2x128.size inb_S112x2x128_S8x2x128_88_0_0, partHi m5⟩,
   ⟨Rect.unit ![80, 0, 0] S8x2x128.size inb_S112x2x128_S8x2x128_80_0_0, partLo m5⟩,
   ⟨Rect.unit ![72, 0, 0] S8x2x128.size inb_S112x2x128_S8x2x128_72_0_0, partHi m4⟩,
   ⟨Rect.unit ![64, 0, 0] S8x2x128.size inb_S112x2x128_S8x2x128_64_0_0, partLo m4⟩,
   ⟨Rect.unit ![56, 0, 0] S8x2x128.size inb_S112x2x128_S8x2x128_56_0_0, partHi m3⟩,
   ⟨Rect.unit ![48, 0, 0] S8x2x128.size inb_S112x2x128_S8x2x128_48_0_0, partLo m3⟩,
   ⟨Rect.unit ![40, 0, 0] S8x2x128.size inb_S112x2x128_S8x2x128_40_0_0, partHi m2⟩,
   ⟨Rect.unit ![32, 0, 0] S8x2x128.size inb_S112x2x128_S8x2x128_32_0_0, partLo m2⟩,
   ⟨Rect.unit ![24, 0, 0] S8x2x128.size inb_S112x2x128_S8x2x128_24_0_0, partHi m1⟩,
   ⟨Rect.unit ![16, 0, 0] S8x2x128.size inb_S112x2x128_S8x2x128_16_0_0, partLo m1⟩,
   ⟨Rect.unit ![8, 0, 0] S8x2x128.size inb_S112x2x128_S8x2x128_8_0_0, partHi m0⟩,
   ⟨Rect.unit ![0, 0, 0] S8x2x128.size inb_S112x2x128_S8x2x128_0_0_0, partLo m0⟩]

/-- The seven tiles in row pairs, as they are stored, the newest first. -/
def xtL (m0 m1 m2 m3 m4 m5 m6 : FVec F S128x128 .bf16) : List (View.Piece (Elt F) S448x2x128 .bf16) :=
  [⟨Rect.unit ![384, 0, 0] S64x2x128.size inb_S448x2x128_S64x2x128_384_0_0, xtOf m6⟩,
   ⟨Rect.unit ![320, 0, 0] S64x2x128.size inb_S448x2x128_S64x2x128_320_0_0, xtOf m5⟩,
   ⟨Rect.unit ![256, 0, 0] S64x2x128.size inb_S448x2x128_S64x2x128_256_0_0, xtOf m4⟩,
   ⟨Rect.unit ![192, 0, 0] S64x2x128.size inb_S448x2x128_S64x2x128_192_0_0, xtOf m3⟩,
   ⟨Rect.unit ![128, 0, 0] S64x2x128.size inb_S448x2x128_S64x2x128_128_0_0, xtOf m2⟩,
   ⟨Rect.unit ![64, 0, 0] S64x2x128.size inb_S448x2x128_S64x2x128_64_0_0, xtOf m1⟩,
   ⟨Rect.unit ![0, 0, 0] S64x2x128.size inb_S448x2x128_S64x2x128_0_0_0, xtOf m0⟩]

/-- Eight row pairs, as sixteen rows. -/
def rows8 (x : Vec F S8x2x128 .bf16) : FVec F S16x128 .bf16 :=
  interleaveRows S16x128 (shapeCast S8x128 (rowsOfParity 0 S8x1x128 x bitcasts_S8x2x128_w16_S8x1x128_w32) shapeCasts_S8x1x128_S8x128)
    (shapeCast S8x128 (rowsOfParity 1 S8x1x128 x bitcasts_S8x2x128_w16_S8x1x128_w32) shapeCasts_S8x1x128_S8x128)
    bitcasts_S16x128_w16_S8x128_w32

/-- The absolute maxima of eight blocks, from the partial maxima of the eight places in a block. -/
def amax8 (p0 p1 p2 p3 p4 p5 p6 p7 : Vec F S8x2x128 .bf16) : FVec F S8x128 .f32 :=
  let m := maximumf (maximumf (maximumf (rows8 p0) (rows8 p1)) (maximumf (rows8 p2) (rows8 p3)))
    (maximumf (maximumf (rows8 p4) (rows8 p5)) (maximumf (rows8 p6) (rows8 p7)))
  maximumf (extf .f32 (rowsOfParity 1 S8x128 m bitcasts_S16x128_w16_S8x128_w32))
    (extf .f32 (rowsOfParity 0 S8x128 m bitcasts_S16x128_w16_S8x128_w32))

/-- Six row pairs, as twelve rows. -/
def rows6 (x : Vec F S6x2x128 .bf16) : FVec F S12x128 .bf16 :=
  interleaveRows S12x128 (shapeCast S6x128 (rowsOfParity 0 S6x1x128 x bitcasts_S6x2x128_w16_S6x1x128_w32) shapeCasts_S6x1x128_S6x128)
    (shapeCast S6x128 (rowsOfParity 1 S6x1x128 x bitcasts_S6x2x128_w16_S6x1x128_w32) shapeCasts_S6x1x128_S6x128)
    bitcasts_S12x128_w16_S6x128_w32

/-- The absolute maxima of six blocks, from the partial maxima of the eight places in a block. -/
def amax6 (p0 p1 p2 p3 p4 p5 p6 p7 : Vec F S6x2x128 .bf16) : FVec F S6x128 .f32 :=
  let m := maximumf (maximumf (maximumf (rows6 p0) (rows6 p1)) (maximumf (rows6 p2) (rows6 p3)))
    (maximumf (maximumf (rows6 p4) (rows6 p5)) (maximumf (rows6 p6) (rows6 p7)))
  maximumf (extf .f32 (rowsOfParity 1 S6x128 m bitcasts_S12x128_w16_S6x128_w32))
    (extf .f32 (rowsOfParity 0 S6x128 m bitcasts_S12x128_w16_S6x128_w32))

/-- The absolute maxima of the first eight blocks, read back from the partial maxima `L`. -/
def stat8 {κ : Kind} {sp : Space} (v : View sig κ sp S112x2x128 .bf16) (L : List (View.Piece (Elt F) S112x2x128 .bf16)) : FVec F S8x128 .f32 :=
  amax8
    (v.readCov L { off := ![0, 0, 0], size := S8x2x128.size, stride := ![8, 1, 1], inb := inb_S112x2x128_S8x2x128_0_0_0_s_8_1_1 })
    (v.readCov L { off := ![1, 0, 0], size := S8x2x128.size, stride := ![8, 1, 1], inb := inb_S112x2x128_S8x2x128_1_0_0_s_8_1_1 })
    (v.readCov L { off := ![2, 0, 0], size := S8x2x128.size, stride := ![8, 1, 1], inb := inb_S112x2x128_S8x2x128_2_0_0_s_8_1_1 })
    (v.readCov L { off := ![3, 0, 0], size := S8x2x128.size, stride := ![8, 1, 1], inb := inb_S112x2x128_S8x2x128_3_0_0_s_8_1_1 })
    (v.readCov L { off := ![4, 0, 0], size := S8x2x128.size, stride := ![8, 1, 1], inb := inb_S112x2x128_S8x2x128_4_0_0_s_8_1_1 })
    (v.readCov L { off := ![5, 0, 0], size := S8x2x128.size, stride := ![8, 1, 1], inb := inb_S112x2x128_S8x2x128_5_0_0_s_8_1_1 })
    (v.readCov L { off := ![6, 0, 0], size := S8x2x128.size, stride := ![8, 1, 1], inb := inb_S112x2x128_S8x2x128_6_0_0_s_8_1_1 })
    (v.readCov L { off := ![7, 0, 0], size := S8x2x128.size, stride := ![8, 1, 1], inb := inb_S112x2x128_S8x2x128_7_0_0_s_8_1_1 })

/-- The absolute maxima of the last six blocks, read back from the partial maxima `L`. -/
def stat6 {κ : Kind} {sp : Space} (v : View sig κ sp S112x2x128 .bf16) (L : List (View.Piece (Elt F) S112x2x128 .bf16)) : FVec F S6x128 .f32 :=
  amax6
    (v.readCov L { off := ![64, 0, 0], size := S6x2x128.size, stride := ![8, 1, 1], inb := inb_S112x2x128_S6x2x128_64_0_0_s_8_1_1 })
    (v.readCov L { off := ![65, 0, 0], size := S6x2x128.size, stride := ![8, 1, 1], inb := inb_S112x2x128_S6x2x128_65_0_0_s_8_1_1 })
    (v.readCov L { off := ![66, 0, 0], size := S6x2x128.size, stride := ![8, 1, 1], inb := inb_S112x2x128_S6x2x128_66_0_0_s_8_1_1 })
    (v.readCov L { off := ![67, 0, 0], size := S6x2x128.size, stride := ![8, 1, 1], inb := inb_S112x2x128_S6x2x128_67_0_0_s_8_1_1 })
    (v.readCov L { off := ![68, 0, 0], size := S6x2x128.size, stride := ![8, 1, 1], inb := inb_S112x2x128_S6x2x128_68_0_0_s_8_1_1 })
    (v.readCov L { off := ![69, 0, 0], size := S6x2x128.size, stride := ![8, 1, 1], inb := inb_S112x2x128_S6x2x128_69_0_0_s_8_1_1 })
    (v.readCov L { off := ![70, 0, 0], size := S6x2x128.size, stride := ![8, 1, 1], inb := inb_S112x2x128_S6x2x128_70_0_0_s_8_1_1 })
    (v.readCov L { off := ![71, 0, 0], size := S6x2x128.size, stride := ![8, 1, 1], inb := inb_S112x2x128_S6x2x128_71_0_0_s_8_1_1 })

/-- The divisor of a block: its absolute maximum, or one where that is zero. -/
def safe8 (a : FVec F S8x128 .f32) : FVec F S8x128 .f32 :=
  select (cmpf .oeq a (broadcast S8x128 (Scalar.ofBits .f32 0x00000000#32))) (broadcast S8x128 (Scalar.ofBits .f32 0x3F800000#32)) a

/-- The divisor of a block: its absolute maximum, or one where that is zero. -/
def safe6 (a : FVec F S6x128 .f32) : FVec F S6x128 .f32 :=
  select (cmpf .oeq a (broadcast S6x128 (Scalar.ofBits .f32 0x00000000#32))) (broadcast S6x128 (Scalar.ofBits .f32 0x3F800000#32)) a

/-- The warped reciprocal of the divisor, twice in each row pair. -/
def inv8 (a : FVec F S8x128 .f32) : Vec F S8x2x128 .bf16 :=
  let r : FVec F S8x128 .bf16 := truncf .bf16 (mulf (reciprocal true (safe8 a)) (broadcast S8x128 (Scalar.ofBits .f32 0x3FBCAC08#32)))
  interleaveRows S8x2x128 (shapeCast S8x1x128 r shapeCasts_S8x128_S8x1x128) (shapeCast S8x1x128 r shapeCasts_S8x128_S8x1x128)
    bitcasts_S8x2x128_w16_S8x1x128_w32

/-- The warped reciprocal of the divisor, twice in each row pair. -/
def inv6 (a : FVec F S6x128 .f32) : Vec F S6x2x128 .bf16 :=
  let r : FVec F S6x128 .bf16 := truncf .bf16 (mulf (reciprocal true (safe6 a)) (broadcast S6x128 (Scalar.ofBits .f32 0x3FBCAC08#32)))
  interleaveRows S6x2x128 (shapeCast S6x1x128 r shapeCasts_S6x128_S6x1x128) (shapeCast S6x1x128 r shapeCasts_S6x128_S6x1x128)
    bitcasts_S6x2x128_w16_S6x1x128_w32

end Cert.EncodeSpec

end
-- ==== Proof.EncodeRow.lean ====
/- What the first call's row loop and its start store, in the named functions of `EncodeSpec`. -/
module

public import proofs.«01_k».proof.Proof.EncodeSpec
public import proofs.«01_k».proof.Proof.BodyKernelIdeal

@[expose] public section

set_option maxRecDepth 16384
set_option maxHeartbeats 4000000

noncomputable section

namespace Cert.EncodeRow

open Idealize.ShloMosaic Idealize.ShloMosaic.TcCoe Idealize.SL.Sem
open Cert.KernelIdeal Cert.KernelIdeal.Gen Cert.KernelIdeal.Row Cert.EncodeSpec

variable {F : FTy → Type} [FloatOps F]

/-- The tile of a window at the row of a trip, right half. -/
def tileR (arg : Memref sig .tc .vmem S8x256x128 .bf16) (X : BufTy.Contents (Elt F) arg.view.ty) (k : Fin k0_t1_loop.trips) : FVec F S128x128 .bf16 :=
  tsq (View.readAt (Elt F) arg.view (Rect.unit (s := S8x256x128) (k0_off5 k) S1x16x128.size (k0_off5_inb k)).toLoadRect X)
    (View.readAt (Elt F) arg.view (Rect.unit (s := S8x256x128) (k0_off6 k) S1x16x128.size (k0_off6_inb k)).toLoadRect X)
    (View.readAt (Elt F) arg.view (Rect.unit (s := S8x256x128) (k0_off7 k) S1x16x128.size (k0_off7_inb k)).toLoadRect X)
    (View.readAt (Elt F) arg.view (Rect.unit (s := S8x256x128) (k0_off8 k) S1x16x128.size (k0_off8_inb k)).toLoadRect X)
    (View.readAt (Elt F) arg.view (Rect.unit (s := S8x256x128) (k0_off9 k) S1x16x128.size (k0_off9_inb k)).toLoadRect X)
    (View.readAt (Elt F) arg.view (Rect.unit (s := S8x256x128) (k0_off10 k) S1x16x128.size (k0_off10_inb k)).toLoadRect X)
    (View.readAt (Elt F) arg.view (Rect.unit (s := S8x256x128) (k0_off11 k) S1x16x128.size (k0_off11_inb k)).toLoadRect X)
    (View.readAt (Elt F) arg.view (Rect.unit (s := S8x256x128) (k0_off12 k) S1x16x128.size (k0_off12_inb k)).toLoadRect X)

/-- The tile of a window at the row after a trip, left half. -/
def tileN (arg : Memref sig .tc .vmem S8x256x128 .bf16) (X : BufTy.Contents (Elt F) arg.view.ty) (k : Fin k0_t1_loop.trips) : FVec F S128x128 .bf16 :=
  tsq (View.readAt (Elt F) arg.view (Rect.unit (s := S8x256x128) (k0_off19 k) S1x16x128.size (k0_off19_inb k)).toLoadRect X)
    (View.readAt (Elt F) arg.view (Rect.unit (s := S8x256x128) (k0_off20 k) S1x16x128.size (k0_off20_inb k)).toLoadRect X)
    (View.readAt (Elt F) arg.view (Rect.unit (s := S8x256x128) (k0_off21 k) S1x16x128.size (k0_off21_inb k)).toLoadRect X)
    (View.readAt (Elt F) arg.view (Rect.unit (s := S8x256x128) (k0_off22 k) S1x16x128.size (k0_off22_inb k)).toLoadRect X)
    (View.readAt (Elt F) arg.view (Rect.unit (s := S8x256x128) (k0_off23 k) S1x16x128.size (k0_off23_inb k)).toLoadRect X)
    (View.readAt (Elt F) arg.view (Rect.unit (s := S8x256x128) (k0_off24 k) S1x16x128.size (k0_off24_inb k)).toLoadRect X)
    (View.readAt (Elt F) arg.view (Rect.unit (s := S8x256x128) (k0_off25 k) S1x16x128.size (k0_off25_inb k)).toLoadRect X)
    (View.readAt (Elt F) arg.view (Rect.unit (s := S8x256x128) (k0_off26 k) S1x16x128.size (k0_off26_inb k)).toLoadRect X)

/-- The tile of a window at the first row, left half. -/
def tile0 (arg : Memref sig .tc .vmem S8x256x128 .bf16) (X : BufTy.Contents (Elt F) arg.view.ty) : FVec F S128x128 .bf16 :=
  tsq (View.readAt (Elt F) arg.view (Rect.unit (s := S8x256x128) ![0, 0, 0] S1x16x128.size inb_S8x256x128_S1x16x128_0_0_0).toLoadRect X)
    (View.readAt (Elt F) arg.view (Rect.unit (s := S8x256x128) ![0, 16, 0] S1x16x128.size inb_S8x256x128_S1x16x128_0_16_0).toLoadRect X)
    (View.readAt (Elt F) arg.view (Rect.unit (s := S8x256x128) ![0, 32, 0] S1x16x128.size inb_S8x256x128_S1x16x128_0_32_0).toLoadRect X)
    (View.readAt (Elt F) arg.view (Rect.unit (s := S8x256x128) ![0, 48, 0] S1x16x128.size inb_S8x256x128_S1x16x128_0_48_0).toLoadRect X)
    (View.readAt (Elt F) arg.view (Rect.unit (s := S8x256x128) ![0, 64, 0] S1x16x128.size inb_S8x256x128_S1x16x128_0_64_0).toLoadRect X)
    (View.readAt (Elt F) arg.view (Rect.unit (s := S8x256x128) ![0, 80, 0] S1x16x128.size inb_S8x256x128_S1x16x128_0_80_0).toLoadRect X)
    (View.readAt (Elt F) arg.view (Rect.unit (s := S8x256x128) ![0, 96, 0] S1x16x128.size inb_S8x256x128_S1x16x128_0_96_0).toLoadRect X)
    (View.readAt (Elt F) arg.view (Rect.unit (s := S8x256x128) ![0, 112, 0] S1x16x128.size inb_S8x256x128_S1x16x128_0_112_0).toLoadRect X)

theorem trip_xt (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v568_lo : FVec F S6x128 .bf16) (v568_hi : FVec F S6x128 .bf16) (v569_hi : FVec F S6x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg17 : BufTy.Contents (Elt F) arg17.view.ty) (X_arg19 : BufTy.Contents (Elt F) arg19.view.ty) (X_arg14 : BufTy.Contents (Elt F) arg14.view.ty) (X_arg15 : BufTy.Contents (Elt F) arg15.view.ty) (X_arg16 : BufTy.Contents (Elt F) arg16.view.ty) (X_arg18 : BufTy.Contents (Elt F) arg18.view.ty) (X_arg20 : BufTy.Contents (Elt F) arg20.view.ty) (k : Fin k0_t1_loop.trips) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 X_arg13 X_arg17 X_arg19 X_arg14 X_arg15 X_arg16 X_arg18 X_arg20 k).1 = xtL (tileN arg2 X_arg2 k) (tileN arg3 X_arg3 k) (tileN arg4 X_arg4 k) (tileN arg5 X_arg5 k) (tileN arg6 X_arg6 k) (tileN arg7 X_arg7 k) (tileN arg8 X_arg8 k) := by
  unfold trip
  rfl

theorem trip_amt (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v568_lo : FVec F S6x128 .bf16) (v568_hi : FVec F S6x128 .bf16) (v569_hi : FVec F S6x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg17 : BufTy.Contents (Elt F) arg17.view.ty) (X_arg19 : BufTy.Contents (Elt F) arg19.view.ty) (X_arg14 : BufTy.Contents (Elt F) arg14.view.ty) (X_arg15 : BufTy.Contents (Elt F) arg15.view.ty) (X_arg16 : BufTy.Contents (Elt F) arg16.view.ty) (X_arg18 : BufTy.Contents (Elt F) arg18.view.ty) (X_arg20 : BufTy.Contents (Elt F) arg20.view.ty) (k : Fin k0_t1_loop.trips) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 X_arg13 X_arg17 X_arg19 X_arg14 X_arg15 X_arg16 X_arg18 X_arg20 k).2.2.2.2.1 =
      [⟨Rect.unit (s := S256x128) (k0_off28 k) S6x128.size (k0_off28_inb k), shapeCast S6x128 (stat6 arg15.view (partL (tileN arg2 X_arg2 k) (tileN arg3 X_arg3 k) (tileN arg4 X_arg4 k) (tileN arg5 X_arg5 k) (tileN arg6 X_arg6 k) (tileN arg7 X_arg7 k) (tileN arg8 X_arg8 k))) shapeCasts_S6x128_S6x128⟩,
       ⟨Rect.unit (s := S256x128) (k0_off27 k) S8x128.size (k0_off27_inb k), shapeCast S8x128 (stat8 arg15.view (partL (tileN arg2 X_arg2 k) (tileN arg3 X_arg3 k) (tileN arg4 X_arg4 k) (tileN arg5 X_arg5 k) (tileN arg6 X_arg6 k) (tileN arg7 X_arg7 k) (tileN arg8 X_arg8 k))) shapeCasts_S8x128_S8x128⟩,
       ⟨Rect.unit (s := S256x128) (k0_off14 k) S6x128.size (k0_off14_inb k), shapeCast S6x128 (stat6 arg16.view (partL (tileR arg2 X_arg2 k) (tileR arg3 X_arg3 k) (tileR arg4 X_arg4 k) (tileR arg5 X_arg5 k) (tileR arg6 X_arg6 k) (tileR arg7 X_arg7 k) (tileR arg8 X_arg8 k))) shapeCasts_S6x128_S6x128⟩,
       ⟨Rect.unit (s := S256x128) (k0_off13 k) S8x128.size (k0_off13_inb k), shapeCast S8x128 (stat8 arg16.view (partL (tileR arg2 X_arg2 k) (tileR arg3 X_arg3 k) (tileR arg4 X_arg4 k) (tileR arg5 X_arg5 k) (tileR arg6 X_arg6 k) (tileR arg7 X_arg7 k) (tileR arg8 X_arg8 k))) shapeCasts_S8x128_S8x128⟩] := by
  unfold trip
  rfl

theorem trip_inv (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v568_lo : FVec F S6x128 .bf16) (v568_hi : FVec F S6x128 .bf16) (v569_hi : FVec F S6x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg17 : BufTy.Contents (Elt F) arg17.view.ty) (X_arg19 : BufTy.Contents (Elt F) arg19.view.ty) (X_arg14 : BufTy.Contents (Elt F) arg14.view.ty) (X_arg15 : BufTy.Contents (Elt F) arg15.view.ty) (X_arg16 : BufTy.Contents (Elt F) arg16.view.ty) (X_arg18 : BufTy.Contents (Elt F) arg18.view.ty) (X_arg20 : BufTy.Contents (Elt F) arg20.view.ty) (k : Fin k0_t1_loop.trips) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 X_arg13 X_arg17 X_arg19 X_arg14 X_arg15 X_arg16 X_arg18 X_arg20 k).2.1 =
      [⟨Rect.unit ![8, 0, 0] S6x2x128.size inb_S16x2x128_S6x2x128_8_0_0, inv6 (stat6 arg15.view (partL (tileN arg2 X_arg2 k) (tileN arg3 X_arg3 k) (tileN arg4 X_arg4 k) (tileN arg5 X_arg5 k) (tileN arg6 X_arg6 k) (tileN arg7 X_arg7 k) (tileN arg8 X_arg8 k)))⟩,
       ⟨Rect.unit ![0, 0, 0] S8x2x128.size inb_S16x2x128_S8x2x128_0_0_0, inv8 (stat8 arg15.view (partL (tileN arg2 X_arg2 k) (tileN arg3 X_arg3 k) (tileN arg4 X_arg4 k) (tileN arg5 X_arg5 k) (tileN arg6 X_arg6 k) (tileN arg7 X_arg7 k) (tileN arg8 X_arg8 k)))⟩] := by
  unfold trip
  rfl

theorem trip_safe (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v568_lo : FVec F S6x128 .bf16) (v568_hi : FVec F S6x128 .bf16) (v569_hi : FVec F S6x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg17 : BufTy.Contents (Elt F) arg17.view.ty) (X_arg19 : BufTy.Contents (Elt F) arg19.view.ty) (X_arg14 : BufTy.Contents (Elt F) arg14.view.ty) (X_arg15 : BufTy.Contents (Elt F) arg15.view.ty) (X_arg16 : BufTy.Contents (Elt F) arg16.view.ty) (X_arg18 : BufTy.Contents (Elt F) arg18.view.ty) (X_arg20 : BufTy.Contents (Elt F) arg20.view.ty) (k : Fin k0_t1_loop.trips) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 X_arg13 X_arg17 X_arg19 X_arg14 X_arg15 X_arg16 X_arg18 X_arg20 k).2.2.1 =
      [⟨Rect.unit ![8, 0] S6x128.size inb_S16x128_S6x128_8_0, shapeCast S6x128 (safe6 (stat6 arg15.view (partL (tileN arg2 X_arg2 k) (tileN arg3 X_arg3 k) (tileN arg4 X_arg4 k) (tileN arg5 X_arg5 k) (tileN arg6 X_arg6 k) (tileN arg7 X_arg7 k) (tileN arg8 X_arg8 k)))) shapeCasts_S6x128_S6x128⟩,
       ⟨Rect.unit ![0, 0] S8x128.size inb_S16x128_S8x128_0_0, shapeCast S8x128 (safe8 (stat8 arg15.view (partL (tileN arg2 X_arg2 k) (tileN arg3 X_arg3 k) (tileN arg4 X_arg4 k) (tileN arg5 X_arg5 k) (tileN arg6 X_arg6 k) (tileN arg7 X_arg7 k) (tileN arg8 X_arg8 k)))) shapeCasts_S8x128_S8x128⟩] := by
  unfold trip
  rfl

theorem runFirst_xt (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    (runFirst (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).1 = xtL (tile0 arg2 X_arg2) (tile0 arg3 X_arg3) (tile0 arg4 X_arg4) (tile0 arg5 X_arg5) (tile0 arg6 X_arg6) (tile0 arg7 X_arg7) (tile0 arg8 X_arg8) := by
  unfold runFirst
  rfl

theorem runFirst_amt (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    (runFirst (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.2.2.1 =
      [⟨Rect.unit ![8, 0] S6x128.size inb_S256x128_S6x128_8_0, shapeCast S6x128 (stat6 arg15.view (partL (tile0 arg2 X_arg2) (tile0 arg3 X_arg3) (tile0 arg4 X_arg4) (tile0 arg5 X_arg5) (tile0 arg6 X_arg6) (tile0 arg7 X_arg7) (tile0 arg8 X_arg8))) shapeCasts_S6x128_S6x128⟩,
       ⟨Rect.unit ![0, 0] S8x128.size inb_S256x128_S8x128_0_0, shapeCast S8x128 (stat8 arg15.view (partL (tile0 arg2 X_arg2) (tile0 arg3 X_arg3) (tile0 arg4 X_arg4) (tile0 arg5 X_arg5) (tile0 arg6 X_arg6) (tile0 arg7 X_arg7) (tile0 arg8 X_arg8))) shapeCasts_S8x128_S8x128⟩] := by
  unfold runFirst
  rfl

theorem runFirst_inv (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    (runFirst (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.1 =
      [⟨Rect.unit ![8, 0, 0] S6x2x128.size inb_S16x2x128_S6x2x128_8_0_0, inv6 (stat6 arg15.view (partL (tile0 arg2 X_arg2) (tile0 arg3 X_arg3) (tile0 arg4 X_arg4) (tile0 arg5 X_arg5) (tile0 arg6 X_arg6) (tile0 arg7 X_arg7) (tile0 arg8 X_arg8)))⟩,
       ⟨Rect.unit ![0, 0, 0] S8x2x128.size inb_S16x2x128_S8x2x128_0_0_0, inv8 (stat8 arg15.view (partL (tile0 arg2 X_arg2) (tile0 arg3 X_arg3) (tile0 arg4 X_arg4) (tile0 arg5 X_arg5) (tile0 arg6 X_arg6) (tile0 arg7 X_arg7) (tile0 arg8 X_arg8)))⟩] := by
  unfold runFirst
  rfl

theorem runFirst_safe (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    (runFirst (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.2.1 =
      [⟨Rect.unit ![8, 0] S6x128.size inb_S16x128_S6x128_8_0, shapeCast S6x128 (safe6 (stat6 arg15.view (partL (tile0 arg2 X_arg2) (tile0 arg3 X_arg3) (tile0 arg4 X_arg4) (tile0 arg5 X_arg5) (tile0 arg6 X_arg6) (tile0 arg7 X_arg7) (tile0 arg8 X_arg8)))) shapeCasts_S6x128_S6x128⟩,
       ⟨Rect.unit ![0, 0] S8x128.size inb_S16x128_S8x128_0_0, shapeCast S8x128 (safe8 (stat8 arg15.view (partL (tile0 arg2 X_arg2) (tile0 arg3 X_arg3) (tile0 arg4 X_arg4) (tile0 arg5 X_arg5) (tile0 arg6 X_arg6) (tile0 arg7 X_arg7) (tile0 arg8 X_arg8)))) shapeCasts_S8x128_S8x128⟩] := by
  unfold runFirst
  rfl

theorem runRest_xt (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    (runRest (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).1 = xtL (tile0 arg2 X_arg2) (tile0 arg3 X_arg3) (tile0 arg4 X_arg4) (tile0 arg5 X_arg5) (tile0 arg6 X_arg6) (tile0 arg7 X_arg7) (tile0 arg8 X_arg8) := by
  unfold runRest
  rfl

theorem runRest_amt (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    (runRest (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.2.2.1 =
      [⟨Rect.unit ![8, 0] S6x128.size inb_S256x128_S6x128_8_0, shapeCast S6x128 (stat6 arg15.view (partL (tile0 arg2 X_arg2) (tile0 arg3 X_arg3) (tile0 arg4 X_arg4) (tile0 arg5 X_arg5) (tile0 arg6 X_arg6) (tile0 arg7 X_arg7) (tile0 arg8 X_arg8))) shapeCasts_S6x128_S6x128⟩,
       ⟨Rect.unit ![0, 0] S8x128.size inb_S256x128_S8x128_0_0, shapeCast S8x128 (stat8 arg15.view (partL (tile0 arg2 X_arg2) (tile0 arg3 X_arg3) (tile0 arg4 X_arg4) (tile0 arg5 X_arg5) (tile0 arg6 X_arg6) (tile0 arg7 X_arg7) (tile0 arg8 X_arg8))) shapeCasts_S8x128_S8x128⟩] := by
  unfold runRest
  rfl

theorem runRest_inv (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    (runRest (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.1 =
      [⟨Rect.unit ![8, 0, 0] S6x2x128.size inb_S16x2x128_S6x2x128_8_0_0, inv6 (stat6 arg15.view (partL (tile0 arg2 X_arg2) (tile0 arg3 X_arg3) (tile0 arg4 X_arg4) (tile0 arg5 X_arg5) (tile0 arg6 X_arg6) (tile0 arg7 X_arg7) (tile0 arg8 X_arg8)))⟩,
       ⟨Rect.unit ![0, 0, 0] S8x2x128.size inb_S16x2x128_S8x2x128_0_0_0, inv8 (stat8 arg15.view (partL (tile0 arg2 X_arg2) (tile0 arg3 X_arg3) (tile0 arg4 X_arg4) (tile0 arg5 X_arg5) (tile0 arg6 X_arg6) (tile0 arg7 X_arg7) (tile0 arg8 X_arg8)))⟩] := by
  unfold runRest
  rfl

theorem runRest_safe (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) :
    (runRest (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.2.1 =
      [⟨Rect.unit ![8, 0] S6x128.size inb_S16x128_S6x128_8_0, shapeCast S6x128 (safe6 (stat6 arg15.view (partL (tile0 arg2 X_arg2) (tile0 arg3 X_arg3) (tile0 arg4 X_arg4) (tile0 arg5 X_arg5) (tile0 arg6 X_arg6) (tile0 arg7 X_arg7) (tile0 arg8 X_arg8)))) shapeCasts_S6x128_S6x128⟩,
       ⟨Rect.unit ![0, 0] S8x128.size inb_S16x128_S8x128_0_0, shapeCast S8x128 (safe8 (stat8 arg15.view (partL (tile0 arg2 X_arg2) (tile0 arg3 X_arg3) (tile0 arg4 X_arg4) (tile0 arg5 X_arg5) (tile0 arg6 X_arg6) (tile0 arg7 X_arg7) (tile0 arg8 X_arg8)))) shapeCasts_S8x128_S8x128⟩] := by
  unfold runRest
  rfl

end Cert.EncodeRow

end
-- ==== Proof.EncodeOut.lean ====
/- What the first call's epilogue stores, as functions of the absmax rows. -/
module

public import proofs.«01_k».proof.Proof.EncodeSpec
public import proofs.«01_k».proof.Proof.BodyKernelIdeal

@[expose] public section

set_option maxRecDepth 16384
set_option maxHeartbeats 4000000

noncomputable section

namespace Cert.EncodeRow

open Idealize.ShloMosaic Idealize.ShloMosaic.TcCoe Idealize.SL.Sem
open Cert.KernelIdeal Cert.KernelIdeal.Gen Cert.KernelIdeal.Row Cert.EncodeSpec

variable {F : FTy → Type} [FloatOps F]

/-- The absmax rows of block 0 in half 0 of the eight rows. -/
def rd0 (arg21 : Memref sig .tc .vmem S256x128 .f32) (g : BufTy.Contents (Elt F) arg21.view.ty) : Vec F S8x128 .f32 :=
  View.readAt (Elt F) arg21.view (⟨![0, 0], S8x128.size, ![32, 1], inb_S256x128_S8x128_0_0_s_32_1⟩ : LoadRect S256x128) g

/-- The absmax rows of block 1 in half 0 of the eight rows. -/
def rd1 (arg21 : Memref sig .tc .vmem S256x128 .f32) (g : BufTy.Contents (Elt F) arg21.view.ty) : Vec F S8x128 .f32 :=
  View.readAt (Elt F) arg21.view (⟨![1, 0], S8x128.size, ![32, 1], inb_S256x128_S8x128_1_0_s_32_1⟩ : LoadRect S256x128) g

/-- The absmax rows of block 2 in half 0 of the eight rows. -/
def rd2 (arg21 : Memref sig .tc .vmem S256x128 .f32) (g : BufTy.Contents (Elt F) arg21.view.ty) : Vec F S8x128 .f32 :=
  View.readAt (Elt F) arg21.view (⟨![2, 0], S8x128.size, ![32, 1], inb_S256x128_S8x128_2_0_s_32_1⟩ : LoadRect S256x128) g

/-- The absmax rows of block 3 in half 0 of the eight rows. -/
def rd3 (arg21 : Memref sig .tc .vmem S256x128 .f32) (g : BufTy.Contents (Elt F) arg21.view.ty) : Vec F S8x128 .f32 :=
  View.readAt (Elt F) arg21.view (⟨![3, 0], S8x128.size, ![32, 1], inb_S256x128_S8x128_3_0_s_32_1⟩ : LoadRect S256x128) g

/-- The absmax rows of block 4 in half 0 of the eight rows. -/
def rd4 (arg21 : Memref sig .tc .vmem S256x128 .f32) (g : BufTy.Contents (Elt F) arg21.view.ty) : Vec F S8x128 .f32 :=
  View.readAt (Elt F) arg21.view (⟨![4, 0], S8x128.size, ![32, 1], inb_S256x128_S8x128_4_0_s_32_1⟩ : LoadRect S256x128) g

/-- The absmax rows of block 5 in half 0 of the eight rows. -/
def rd5 (arg21 : Memref sig .tc .vmem S256x128 .f32) (g : BufTy.Contents (Elt F) arg21.view.ty) : Vec F S8x128 .f32 :=
  View.readAt (Elt F) arg21.view (⟨![5, 0], S8x128.size, ![32, 1], inb_S256x128_S8x128_5_0_s_32_1⟩ : LoadRect S256x128) g

/-- The absmax rows of block 6 in half 0 of the eight rows. -/
def rd6 (arg21 : Memref sig .tc .vmem S256x128 .f32) (g : BufTy.Contents (Elt F) arg21.view.ty) : Vec F S8x128 .f32 :=
  View.readAt (Elt F) arg21.view (⟨![6, 0], S8x128.size, ![32, 1], inb_S256x128_S8x128_6_0_s_32_1⟩ : LoadRect S256x128) g

/-- The absmax rows of block 7 in half 0 of the eight rows. -/
def rd7 (arg21 : Memref sig .tc .vmem S256x128 .f32) (g : BufTy.Contents (Elt F) arg21.view.ty) : Vec F S8x128 .f32 :=
  View.readAt (Elt F) arg21.view (⟨![7, 0], S8x128.size, ![32, 1], inb_S256x128_S8x128_7_0_s_32_1⟩ : LoadRect S256x128) g

/-- The absmax rows of block 8 in half 0 of the eight rows. -/
def rd8 (arg21 : Memref sig .tc .vmem S256x128 .f32) (g : BufTy.Contents (Elt F) arg21.view.ty) : Vec F S8x128 .f32 :=
  View.readAt (Elt F) arg21.view (⟨![8, 0], S8x128.size, ![32, 1], inb_S256x128_S8x128_8_0_s_32_1⟩ : LoadRect S256x128) g

/-- The absmax rows of block 9 in half 0 of the eight rows. -/
def rd9 (arg21 : Memref sig .tc .vmem S256x128 .f32) (g : BufTy.Contents (Elt F) arg21.view.ty) : Vec F S8x128 .f32 :=
  View.readAt (Elt F) arg21.view (⟨![9, 0], S8x128.size, ![32, 1], inb_S256x128_S8x128_9_0_s_32_1⟩ : LoadRect S256x128) g

/-- The absmax rows of block 10 in half 0 of the eight rows. -/
def rd10 (arg21 : Memref sig .tc .vmem S256x128 .f32) (g : BufTy.Contents (Elt F) arg21.view.ty) : Vec F S8x128 .f32 :=
  View.readAt (Elt F) arg21.view (⟨![10, 0], S8x128.size, ![32, 1], inb_S256x128_S8x128_10_0_s_32_1⟩ : LoadRect S256x128) g

/-- The absmax rows of block 11 in half 0 of the eight rows. -/
def rd11 (arg21 : Memref sig .tc .vmem S256x128 .f32) (g : BufTy.Contents (Elt F) arg21.view.ty) : Vec F S8x128 .f32 :=
  View.readAt (Elt F) arg21.view (⟨![11, 0], S8x128.size, ![32, 1], inb_S256x128_S8x128_11_0_s_32_1⟩ : LoadRect S256x128) g

/-- The absmax rows of block 12 in half 0 of the eight rows. -/
def rd12 (arg21 : Memref sig .tc .vmem S256x128 .f32) (g : BufTy.Contents (Elt F) arg21.view.ty) : Vec F S8x128 .f32 :=
  View.readAt (Elt F) arg21.view (⟨![12, 0], S8x128.size, ![32, 1], inb_S256x128_S8x128_12_0_s_32_1⟩ : LoadRect S256x128) g

/-- The absmax rows of block 13 in half 0 of the eight rows. -/
def rd13 (arg21 : Memref sig .tc .vmem S256x128 .f32) (g : BufTy.Contents (Elt F) arg21.view.ty) : Vec F S8x128 .f32 :=
  View.readAt (Elt F) arg21.view (⟨![13, 0], S8x128.size, ![32, 1], inb_S256x128_S8x128_13_0_s_32_1⟩ : LoadRect S256x128) g

/-- The absmax rows of block 0 in half 1 of the eight rows. -/
def rd16 (arg21 : Memref sig .tc .vmem S256x128 .f32) (g : BufTy.Contents (Elt F) arg21.view.ty) : Vec F S8x128 .f32 :=
  View.readAt (Elt F) arg21.view (⟨![16, 0], S8x128.size, ![32, 1], inb_S256x128_S8x128_16_0_s_32_1⟩ : LoadRect S256x128) g

/-- The absmax rows of block 1 in half 1 of the eight rows. -/
def rd17 (arg21 : Memref sig .tc .vmem S256x128 .f32) (g : BufTy.Contents (Elt F) arg21.view.ty) : Vec F S8x128 .f32 :=
  View.readAt (Elt F) arg21.view (⟨![17, 0], S8x128.size, ![32, 1], inb_S256x128_S8x128_17_0_s_32_1⟩ : LoadRect S256x128) g

/-- The absmax rows of block 2 in half 1 of the eight rows. -/
def rd18 (arg21 : Memref sig .tc .vmem S256x128 .f32) (g : BufTy.Contents (Elt F) arg21.view.ty) : Vec F S8x128 .f32 :=
  View.readAt (Elt F) arg21.view (⟨![18, 0], S8x128.size, ![32, 1], inb_S256x128_S8x128_18_0_s_32_1⟩ : LoadRect S256x128) g

/-- The absmax rows of block 3 in half 1 of the eight rows. -/
def rd19 (arg21 : Memref sig .tc .vmem S256x128 .f32) (g : BufTy.Contents (Elt F) arg21.view.ty) : Vec F S8x128 .f32 :=
  View.readAt (Elt F) arg21.view (⟨![19, 0], S8x128.size, ![32, 1], inb_S256x128_S8x128_19_0_s_32_1⟩ : LoadRect S256x128) g

/-- The absmax rows of block 4 in half 1 of the eight rows. -/
def rd20 (arg21 : Memref sig .tc .vmem S256x128 .f32) (g : BufTy.Contents (Elt F) arg21.view.ty) : Vec F S8x128 .f32 :=
  View.readAt (Elt F) arg21.view (⟨![20, 0], S8x128.size, ![32, 1], inb_S256x128_S8x128_20_0_s_32_1⟩ : LoadRect S256x128) g

/-- The absmax rows of block 5 in half 1 of the eight rows. -/
def rd21 (arg21 : Memref sig .tc .vmem S256x128 .f32) (g : BufTy.Contents (Elt F) arg21.view.ty) : Vec F S8x128 .f32 :=
  View.readAt (Elt F) arg21.view (⟨![21, 0], S8x128.size, ![32, 1], inb_S256x128_S8x128_21_0_s_32_1⟩ : LoadRect S256x128) g

/-- The absmax rows of block 6 in half 1 of the eight rows. -/
def rd22 (arg21 : Memref sig .tc .vmem S256x128 .f32) (g : BufTy.Contents (Elt F) arg21.view.ty) : Vec F S8x128 .f32 :=
  View.readAt (Elt F) arg21.view (⟨![22, 0], S8x128.size, ![32, 1], inb_S256x128_S8x128_22_0_s_32_1⟩ : LoadRect S256x128) g

/-- The absmax rows of block 7 in half 1 of the eight rows. -/
def rd23 (arg21 : Memref sig .tc .vmem S256x128 .f32) (g : BufTy.Contents (Elt F) arg21.view.ty) : Vec F S8x128 .f32 :=
  View.readAt (Elt F) arg21.view (⟨![23, 0], S8x128.size, ![32, 1], inb_S256x128_S8x128_23_0_s_32_1⟩ : LoadRect S256x128) g

/-- The absmax rows of block 8 in half 1 of the eight rows. -/
def rd24 (arg21 : Memref sig .tc .vmem S256x128 .f32) (g : BufTy.Contents (Elt F) arg21.view.ty) : Vec F S8x128 .f32 :=
  View.readAt (Elt F) arg21.view (⟨![24, 0], S8x128.size, ![32, 1], inb_S256x128_S8x128_24_0_s_32_1⟩ : LoadRect S256x128) g

/-- The absmax rows of block 9 in half 1 of the eight rows. -/
def rd25 (arg21 : Memref sig .tc .vmem S256x128 .f32) (g : BufTy.Contents (Elt F) arg21.view.ty) : Vec F S8x128 .f32 :=
  View.readAt (Elt F) arg21.view (⟨![25, 0], S8x128.size, ![32, 1], inb_S256x128_S8x128_25_0_s_32_1⟩ : LoadRect S256x128) g

/-- The absmax rows of block 10 in half 1 of the eight rows. -/
def rd26 (arg21 : Memref sig .tc .vmem S256x128 .f32) (g : BufTy.Contents (Elt F) arg21.view.ty) : Vec F S8x128 .f32 :=
  View.readAt (Elt F) arg21.view (⟨![26, 0], S8x128.size, ![32, 1], inb_S256x128_S8x128_26_0_s_32_1⟩ : LoadRect S256x128) g

/-- The absmax rows of block 11 in half 1 of the eight rows. -/
def rd27 (arg21 : Memref sig .tc .vmem S256x128 .f32) (g : BufTy.Contents (Elt F) arg21.view.ty) : Vec F S8x128 .f32 :=
  View.readAt (Elt F) arg21.view (⟨![27, 0], S8x128.size, ![32, 1], inb_S256x128_S8x128_27_0_s_32_1⟩ : LoadRect S256x128) g

/-- The absmax rows of block 12 in half 1 of the eight rows. -/
def rd28 (arg21 : Memref sig .tc .vmem S256x128 .f32) (g : BufTy.Contents (Elt F) arg21.view.ty) : Vec F S8x128 .f32 :=
  View.readAt (Elt F) arg21.view (⟨![28, 0], S8x128.size, ![32, 1], inb_S256x128_S8x128_28_0_s_32_1⟩ : LoadRect S256x128) g

/-- The absmax rows of block 13 in half 1 of the eight rows. -/
def rd29 (arg21 : Memref sig .tc .vmem S256x128 .f32) (g : BufTy.Contents (Elt F) arg21.view.ty) : Vec F S8x128 .f32 :=
  View.readAt (Elt F) arg21.view (⟨![29, 0], S8x128.size, ![32, 1], inb_S256x128_S8x128_29_0_s_32_1⟩ : LoadRect S256x128) g

/-- The pieces stored of the absmax block. -/
def absL (arg21 : Memref sig .tc .vmem S256x128 .f32) (g : BufTy.Contents (Elt F) arg21.view.ty) : List (View.Piece (Elt F) S14x8x256 .f32) :=
  [⟨Rect.unit (s := S14x8x256) ![13, 0, 128] S1x8x128.size inb_S14x8x256_S1x8x128_13_0_128, shapeCast S1x8x128 (rd29 arg21 g) shapeCasts_S8x128_S1x8x128⟩,
   ⟨Rect.unit (s := S14x8x256) ![12, 0, 128] S1x8x128.size inb_S14x8x256_S1x8x128_12_0_128, shapeCast S1x8x128 (rd28 arg21 g) shapeCasts_S8x128_S1x8x128⟩,
   ⟨Rect.unit (s := S14x8x256) ![11, 0, 128] S1x8x128.size inb_S14x8x256_S1x8x128_11_0_128, shapeCast S1x8x128 (rd27 arg21 g) shapeCasts_S8x128_S1x8x128⟩,
   ⟨Rect.unit (s := S14x8x256) ![10, 0, 128] S1x8x128.size inb_S14x8x256_S1x8x128_10_0_128, shapeCast S1x8x128 (rd26 arg21 g) shapeCasts_S8x128_S1x8x128⟩,
   ⟨Rect.unit (s := S14x8x256) ![9, 0, 128] S1x8x128.size inb_S14x8x256_S1x8x128_9_0_128, shapeCast S1x8x128 (rd25 arg21 g) shapeCasts_S8x128_S1x8x128⟩,
   ⟨Rect.unit (s := S14x8x256) ![8, 0, 128] S1x8x128.size inb_S14x8x256_S1x8x128_8_0_128, shapeCast S1x8x128 (rd24 arg21 g) shapeCasts_S8x128_S1x8x128⟩,
   ⟨Rect.unit (s := S14x8x256) ![7, 0, 128] S1x8x128.size inb_S14x8x256_S1x8x128_7_0_128, shapeCast S1x8x128 (rd23 arg21 g) shapeCasts_S8x128_S1x8x128⟩,
   ⟨Rect.unit (s := S14x8x256) ![6, 0, 128] S1x8x128.size inb_S14x8x256_S1x8x128_6_0_128, shapeCast S1x8x128 (rd22 arg21 g) shapeCasts_S8x128_S1x8x128⟩,
   ⟨Rect.unit (s := S14x8x256) ![5, 0, 128] S1x8x128.size inb_S14x8x256_S1x8x128_5_0_128, shapeCast S1x8x128 (rd21 arg21 g) shapeCasts_S8x128_S1x8x128⟩,
   ⟨Rect.unit (s := S14x8x256) ![4, 0, 128] S1x8x128.size inb_S14x8x256_S1x8x128_4_0_128, shapeCast S1x8x128 (rd20 arg21 g) shapeCasts_S8x128_S1x8x128⟩,
   ⟨Rect.unit (s := S14x8x256) ![3, 0, 128] S1x8x128.size inb_S14x8x256_S1x8x128_3_0_128, shapeCast S1x8x128 (rd19 arg21 g) shapeCasts_S8x128_S1x8x128⟩,
   ⟨Rect.unit (s := S14x8x256) ![2, 0, 128] S1x8x128.size inb_S14x8x256_S1x8x128_2_0_128, shapeCast S1x8x128 (rd18 arg21 g) shapeCasts_S8x128_S1x8x128⟩,
   ⟨Rect.unit (s := S14x8x256) ![1, 0, 128] S1x8x128.size inb_S14x8x256_S1x8x128_1_0_128, shapeCast S1x8x128 (rd17 arg21 g) shapeCasts_S8x128_S1x8x128⟩,
   ⟨Rect.unit (s := S14x8x256) ![0, 0, 128] S1x8x128.size inb_S14x8x256_S1x8x128_0_0_128, shapeCast S1x8x128 (rd16 arg21 g) shapeCasts_S8x128_S1x8x128⟩,
   ⟨Rect.unit (s := S14x8x256) ![13, 0, 0] S1x8x128.size inb_S14x8x256_S1x8x128_13_0_0, shapeCast S1x8x128 (rd13 arg21 g) shapeCasts_S8x128_S1x8x128⟩,
   ⟨Rect.unit (s := S14x8x256) ![12, 0, 0] S1x8x128.size inb_S14x8x256_S1x8x128_12_0_0, shapeCast S1x8x128 (rd12 arg21 g) shapeCasts_S8x128_S1x8x128⟩,
   ⟨Rect.unit (s := S14x8x256) ![11, 0, 0] S1x8x128.size inb_S14x8x256_S1x8x128_11_0_0, shapeCast S1x8x128 (rd11 arg21 g) shapeCasts_S8x128_S1x8x128⟩,
   ⟨Rect.unit (s := S14x8x256) ![10, 0, 0] S1x8x128.size inb_S14x8x256_S1x8x128_10_0_0, shapeCast S1x8x128 (rd10 arg21 g) shapeCasts_S8x128_S1x8x128⟩,
   ⟨Rect.unit (s := S14x8x256) ![9, 0, 0] S1x8x128.size inb_S14x8x256_S1x8x128_9_0_0, shapeCast S1x8x128 (rd9 arg21 g) shapeCasts_S8x128_S1x8x128⟩,
   ⟨Rect.unit (s := S14x8x256) ![8, 0, 0] S1x8x128.size inb_S14x8x256_S1x8x128_8_0_0, shapeCast S1x8x128 (rd8 arg21 g) shapeCasts_S8x128_S1x8x128⟩,
   ⟨Rect.unit (s := S14x8x256) ![7, 0, 0] S1x8x128.size inb_S14x8x256_S1x8x128_7_0_0, shapeCast S1x8x128 (rd7 arg21 g) shapeCasts_S8x128_S1x8x128⟩,
   ⟨Rect.unit (s := S14x8x256) ![6, 0, 0] S1x8x128.size inb_S14x8x256_S1x8x128_6_0_0, shapeCast S1x8x128 (rd6 arg21 g) shapeCasts_S8x128_S1x8x128⟩,
   ⟨Rect.unit (s := S14x8x256) ![5, 0, 0] S1x8x128.size inb_S14x8x256_S1x8x128_5_0_0, shapeCast S1x8x128 (rd5 arg21 g) shapeCasts_S8x128_S1x8x128⟩,
   ⟨Rect.unit (s := S14x8x256) ![4, 0, 0] S1x8x128.size inb_S14x8x256_S1x8x128_4_0_0, shapeCast S1x8x128 (rd4 arg21 g) shapeCasts_S8x128_S1x8x128⟩,
   ⟨Rect.unit (s := S14x8x256) ![3, 0, 0] S1x8x128.size inb_S14x8x256_S1x8x128_3_0_0, shapeCast S1x8x128 (rd3 arg21 g) shapeCasts_S8x128_S1x8x128⟩,
   ⟨Rect.unit (s := S14x8x256) ![2, 0, 0] S1x8x128.size inb_S14x8x256_S1x8x128_2_0_0, shapeCast S1x8x128 (rd2 arg21 g) shapeCasts_S8x128_S1x8x128⟩,
   ⟨Rect.unit (s := S14x8x256) ![1, 0, 0] S1x8x128.size inb_S14x8x256_S1x8x128_1_0_0, shapeCast S1x8x128 (rd1 arg21 g) shapeCasts_S8x128_S1x8x128⟩,
   ⟨Rect.unit (s := S14x8x256) ![0, 0, 0] S1x8x128.size inb_S14x8x256_S1x8x128_0_0_0, shapeCast S1x8x128 (rd0 arg21 g) shapeCasts_S8x128_S1x8x128⟩]

/-- The accumulator with the absmax rows added. -/
def sumsOf (x : Vec F S8x128 .f32) (arg21 : Memref sig .tc .vmem S256x128 .f32) (g : BufTy.Contents (Elt F) arg21.view.ty) : FVec F S8x128 .f32 :=
  addf (addf (addf (addf (addf (addf (addf (addf (addf (addf (addf (addf (addf (addf (addf (addf (addf (addf (addf (addf (addf (addf (addf (addf (addf (addf (addf (addf (shapeCast S8x128 x shapeCasts_S8x128_S8x128) (rd0 arg21 g)) (rd1 arg21 g)) (rd2 arg21 g)) (rd3 arg21 g)) (rd4 arg21 g)) (rd5 arg21 g)) (rd6 arg21 g)) (rd7 arg21 g)) (rd8 arg21 g)) (rd9 arg21 g)) (rd10 arg21 g)) (rd11 arg21 g)) (rd12 arg21 g)) (rd13 arg21 g)) (rd16 arg21 g)) (rd17 arg21 g)) (rd18 arg21 g)) (rd19 arg21 g)) (rd20 arg21 g)) (rd21 arg21 g)) (rd22 arg21 g)) (rd23 arg21 g)) (rd24 arg21 g)) (rd25 arg21 g)) (rd26 arg21 g)) (rd27 arg21 g)) (rd28 arg21 g)) (rd29 arg21 g)

theorem runFirst_absmax (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) (g : BufTy.Contents (Elt F) arg21.view.ty) :
    (runFirst (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.2.2.2.1 g = absL arg21 g := by
  unfold runFirst
  rfl

theorem runFirst_sums (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) (g : BufTy.Contents (Elt F) arg21.view.ty) :
    (runFirst (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.2.2.2.2.1 g = [⟨Rect.unit (s := S8x128) ![0, 0] S8x128.size inb_S8x128_S8x128_0_0, sumsOf (arg12.view.readCov (Val := Elt F) [⟨Rect.unit (s := S8x128) ![0, 0] S8x128.size inb_S8x128_S8x128_0_0, k0_pay331 (F := F)⟩] (Rect.unit (s := S8x128) ![0, 0] S8x128.size inb_S8x128_S8x128_0_0).toLoadRect) arg21 g⟩, ⟨Rect.unit (s := S8x128) ![0, 0] S8x128.size inb_S8x128_S8x128_0_0, k0_pay331 (F := F)⟩] := by
  unfold runFirst
  rfl

theorem runRest_absmax (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) (g : BufTy.Contents (Elt F) arg21.view.ty) :
    (runRest (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.2.2.2.1 g = absL arg21 g := by
  unfold runRest
  rfl

theorem runRest_sums (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty)
    (hcnd : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) (g : BufTy.Contents (Elt F) arg21.view.ty) :
    (runRest (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 X_arg12 hcnd).2.2.2.2.2.1 g = [⟨Rect.unit (s := S8x128) ![0, 0] S8x128.size inb_S8x128_S8x128_0_0, sumsOf (View.readAt (Elt F) arg12.view (Rect.unit (s := S8x128) ![0, 0] S8x128.size inb_S8x128_S8x128_0_0).toLoadRect X_arg12) arg21 g⟩] := by
  unfold runRest
  rfl

end Cert.EncodeRow

end
-- ==== Proof.EncodeVal.lean ====
/- The blocks' absolute maxima, index by index over the extended reals. -/
module

public import proofs.«01_k».proof.Proof.EncodeSpec
public import Idealize.ShloMosaic.Lib.Pipeline.Value
public import Idealize.ShloMosaic.PureOps.Ideal.Laws
public import Idealize.ShloMosaic.Lib.ValueIdxCore
public import Idealize.ShloMosaic.Lib.Pipeline.FrameBody
public import Idealize.ShloMosaic.Lib.Pipeline.ValueKit.Tiles

@[expose] public section

set_option maxRecDepth 8192
set_option maxHeartbeats 4000000

noncomputable section

namespace Cert.EncodeVal

open Idealize.ShloMosaic Idealize.ShloMosaic.TcCoe Idealize.SL.Sem Idealize.ShloMosaic.ValueIdx
open Cert.KernelIdeal Cert.KernelIdeal.Gen Cert.EncodeSpec

section Rows
variable {s t : Shape} {α : Type}

/-- The rows of one parity, at an index given by its coordinates. -/
theorem rowsOfParity_at (p : Fin 2) (x : s.Idx → α) (h : s.Bitcasts 16 t 32) (j : t.Idx) (k : s.Idx)
    (hk : ∀ a : Fin s.rank, (k a).val = if a.val + 2 = s.rank then 2 * (j (a.cast h.1.symm)).val + p.val else (j (a.cast h.1.symm)).val) :
    rowsOfParity p t x h j = x k := by
  unfold rowsOfParity
  refine congrArg x (funext fun a => Fin.ext ?_)
  rw [hk a]
  split <;> rfl

/-- Two vectors interleaved by rows, at an index given by its coordinates. -/
theorem interleaveRows_at (lo hi : t.Idx → α) (h : s.Bitcasts 16 t 32) (i : s.Idx) (j : t.Idx)
    (hj : ∀ b : Fin t.rank, (j b).val = if (b.cast h.1).val + 2 = s.rank then (i (b.cast h.1)).val / 2 else (i (b.cast h.1)).val) :
    interleaveRows s lo hi h i = if s.row i % 2 = 0 then lo j else hi j := by
  unfold interleaveRows
  dsimp only
  refine ite_congr rfl (fun _ => congrArg lo ?_) (fun _ => congrArg hi ?_) <;>
  · refine funext fun b => Fin.ext ?_
    rw [hj b]
    split <;> rfl

end Rows

/-- Sixteen rows read as pairs and put back are the sixteen rows. -/
theorem grp_apply (x : Vec Ideal S1x16x128 .bf16) (r : Fin 16) (d : Fin 128) : grp x (ix2 r d : S16x128.Idx) = x (ix3 (0 : Fin 1) r d : S1x16x128.Idx) := by
  unfold grp
  have hr : (r.val / 2) < 8 := by omega
  rw [interleaveRows_at _ _ _ _ (ix2 (⟨r.val / 2, hr⟩ : Fin 8) d : S8x128.Idx) (by intro b; match b with | ⟨0, _⟩ => rfl | ⟨1, _⟩ => rfl)]
  have e : ∀ p : Fin 2, shapeCast S8x128 (rowsOfParity p S1x8x128 x bitcasts_S1x16x128_w16_S1x8x128_w32) shapeCasts_S1x8x128_S8x128 (ix2 (⟨r.val / 2, hr⟩ : Fin 8) d : S8x128.Idx)
      = x (ix3 (0 : Fin 1) (⟨2 * (r.val / 2) + p.val, by omega⟩ : Fin 16) d : S1x16x128.Idx) := by
    intro p
    rw [shapeCast_apply _ _ _ (ix3 (0 : Fin 1) (⟨r.val / 2, hr⟩ : Fin 8) d : S1x8x128.Idx) (by
      rw [Shape.rowMajor_val_three, Shape.rowMajor_val_two]
      show (0 * 8 + r.val / 2) * 128 + d.val = r.val / 2 * 128 + d.val
      omega)]
    exact rowsOfParity_at p x _ _ _ (by intro a; match a with | ⟨0, _⟩ => rfl | ⟨1, _⟩ => rfl | ⟨2, _⟩ => rfl)
  rw [e, e]
  show (if r.val % 2 = 0 then _ else _) = _
  split
  · refine congrArg x (congrArg (fun q => (ix3 (0 : Fin 1) q d : S1x16x128.Idx)) (Fin.ext ?_)); show 2 * (r.val / 2) + 0 = r.val; omega
  · refine congrArg x (congrArg (fun q => (ix3 (0 : Fin 1) q d : S1x16x128.Idx)) (Fin.ext ?_)); show 2 * (r.val / 2) + 1 = r.val; omega

/-- The transposed tile, index by index. -/
theorem tsq_apply (x0 x1 x2 x3 x4 x5 x6 x7 : Vec Ideal S1x16x128 .bf16) (W : ℕ → Fin 128 → EReal)
    (h0 : ∀ (r : Fin 16) (d : Fin 128), x0 (ix3 (0 : Fin 1) r d : S1x16x128.Idx) = W (0 + r.val) d)
    (h1 : ∀ (r : Fin 16) (d : Fin 128), x1 (ix3 (0 : Fin 1) r d : S1x16x128.Idx) = W (16 + r.val) d)
    (h2 : ∀ (r : Fin 16) (d : Fin 128), x2 (ix3 (0 : Fin 1) r d : S1x16x128.Idx) = W (32 + r.val) d)
    (h3 : ∀ (r : Fin 16) (d : Fin 128), x3 (ix3 (0 : Fin 1) r d : S1x16x128.Idx) = W (48 + r.val) d)
    (h4 : ∀ (r : Fin 16) (d : Fin 128), x4 (ix3 (0 : Fin 1) r d : S1x16x128.Idx) = W (64 + r.val) d)
    (h5 : ∀ (r : Fin 16) (d : Fin 128), x5 (ix3 (0 : Fin 1) r d : S1x16x128.Idx) = W (80 + r.val) d)
    (h6 : ∀ (r : Fin 16) (d : Fin 128), x6 (ix3 (0 : Fin 1) r d : S1x16x128.Idx) = W (96 + r.val) d)
    (h7 : ∀ (r : Fin 16) (d : Fin 128), x7 (ix3 (0 : Fin 1) r d : S1x16x128.Idx) = W (112 + r.val) d)
    (d p : Fin 128) : tsq x0 x1 x2 x3 x4 x5 x6 x7 (ix2 d p : S128x128.Idx) = W p.val d := by
  unfold tsq
  rw [transpose_apply _ _ _ _ (ix2 p d : S128x128.Idx) (by intro b; match b with | ⟨0, _⟩ => rfl | ⟨1, _⟩ => rfl)]
  have key : ∀ (q : ℕ) (hq : q < 8) (X : Vec Ideal S1x16x128 .bf16)
      (hX : [(⟨S16x128, grp x0⟩ : (s : Shape) × (s.Idx → EReal)), ⟨S16x128, grp x1⟩, ⟨S16x128, grp x2⟩, ⟨S16x128, grp x3⟩, ⟨S16x128, grp x4⟩, ⟨S16x128, grp x5⟩, ⟨S16x128, grp x6⟩, ⟨S16x128, grp x7⟩][q]'(by simpa using hq) = ⟨S16x128, grp X⟩)
      (hW : ∀ (r : Fin 16) (d : Fin 128), X (ix3 (0 : Fin 1) r d : S1x16x128.Idx) = W (16 * q + r.val) d)
      (hp : p.val / 16 = q)
      (hpre : ((([(⟨S16x128, grp x0⟩ : (s : Shape) × (s.Idx → EReal)), ⟨S16x128, grp x1⟩, ⟨S16x128, grp x2⟩, ⟨S16x128, grp x3⟩, ⟨S16x128, grp x4⟩, ⟨S16x128, grp x5⟩, ⟨S16x128, grp x6⟩, ⟨S16x128, grp x7⟩].take q).map (·.1)).map fun s => if h : s.rank = S128x128.rank then s.size ((0 : Fin 2).cast h.symm) else 0).sum = 16 * q),
      concatenate S128x128 0 [⟨S16x128, grp x0⟩, ⟨S16x128, grp x1⟩, ⟨S16x128, grp x2⟩, ⟨S16x128, grp x3⟩, ⟨S16x128, grp x4⟩, ⟨S16x128, grp x5⟩, ⟨S16x128, grp x6⟩, ⟨S16x128, grp x7⟩] concatenates_S16x128_S16x128_S16x128_S16x128_S16x128_S16x128_S16x128_S16x128_S128x128_d0 (ix2 p d : S128x128.Idx) = W p.val d := by
    intro q hq X hX hW hp hpre
    have hr : p.val % 16 < 16 := Nat.mod_lt _ (by norm_num)
    rw [concatenate_apply_piece (t := S128x128) (0 : Fin 2) _ _ _ q (by simpa using hq) S16x128 (grp X) hX rfl (16 * q) hpre (ix2 (⟨p.val % 16, hr⟩ : Fin 16) d : S16x128.Idx)
      (by intro b hb; match b with | ⟨0, _⟩ => exact absurd rfl hb | ⟨1, _⟩ => rfl) (by show 16 * q + p.val % 16 = p.val; omega), grp_apply, hW]
    exact congrArg (fun n => W n d) (by show 16 * q + p.val % 16 = p.val; omega)
  have h8 : p.val / 16 = 0 ∨ p.val / 16 = 1 ∨ p.val / 16 = 2 ∨ p.val / 16 = 3 ∨ p.val / 16 = 4 ∨ p.val / 16 = 5 ∨ p.val / 16 = 6 ∨ p.val / 16 = 7 := by omega
  rcases h8 with e | e | e | e | e | e | e | e
  · exact key 0 (by norm_num) x0 rfl h0 e rfl
  · exact key 1 (by norm_num) x1 rfl h1 e rfl
  · exact key 2 (by norm_num) x2 rfl h2 e rfl
  · exact key 3 (by norm_num) x3 rfl h3 e rfl
  · exact key 4 (by norm_num) x4 rfl h4 e rfl
  · exact key 5 (by norm_num) x5 rfl h5 e rfl
  · exact key 6 (by norm_num) x6 rfl h6 e rfl
  · exact key 7 (by norm_num) x7 rfl h7 e rfl

/-- The tile in row pairs, index by index. -/
theorem xtOf_apply (m : FVec Ideal S128x128 .bf16) (R : Fin 64) (q : Fin 2) (l : Fin 128) :
    xtOf m (ix3 R q l : S64x2x128.Idx) = m (ix2 (⟨2 * R.val + q.val, by omega⟩ : Fin 128) l : S128x128.Idx) := by
  unfold xtOf
  rw [interleaveRows_at _ _ _ _ (ix3 R (0 : Fin 1) l : S64x1x128.Idx) (by intro b; match b with | ⟨0, _⟩ => rfl | ⟨1, _⟩ => (show 0 = q.val / 2; omega) | ⟨2, _⟩ => rfl)]
  have e : ∀ p : Fin 2, shapeCast S64x1x128 (rowsOfParity p S64x128 m bitcasts_S128x128_w16_S64x128_w32) shapeCasts_S64x128_S64x1x128 (ix3 R (0 : Fin 1) l : S64x1x128.Idx)
      = m (ix2 (⟨2 * R.val + p.val, by omega⟩ : Fin 128) l : S128x128.Idx) := by
    intro p
    rw [shapeCast_apply _ _ _ (ix2 R l : S64x128.Idx) (by
      rw [Shape.rowMajor_val_three, Shape.rowMajor_val_two]
      show R.val * 128 + l.val = (R.val * 1 + 0) * 128 + l.val
      omega)]
    exact rowsOfParity_at p m _ _ _ (by intro a; match a with | ⟨0, _⟩ => rfl | ⟨1, _⟩ => rfl)
  rw [e, e]
  show (if q.val % 2 = 0 then _ else _) = _
  match q with
  | ⟨0, _⟩ => rfl
  | ⟨1, _⟩ => rfl

/-- Sixteen rows in row pairs, index by index. -/
theorem pairs16_apply (m : FVec Ideal S16x128 .bf16) (R : Fin 8) (q : Fin 2) (l : Fin 128) :
    pairs16 m (ix3 R q l : S8x2x128.Idx) = m (ix2 (⟨2 * R.val + q.val, by omega⟩ : Fin 16) l : S16x128.Idx) := by
  unfold pairs16
  rw [interleaveRows_at _ _ _ _ (ix3 R (0 : Fin 1) l : S8x1x128.Idx) (by intro b; match b with | ⟨0, _⟩ => rfl | ⟨1, _⟩ => (show 0 = q.val / 2; omega) | ⟨2, _⟩ => rfl)]
  have e : ∀ p : Fin 2, shapeCast S8x1x128 (rowsOfParity p S8x128 m bitcasts_S16x128_w16_S8x128_w32) shapeCasts_S8x128_S8x1x128 (ix3 R (0 : Fin 1) l : S8x1x128.Idx)
      = m (ix2 (⟨2 * R.val + p.val, by omega⟩ : Fin 16) l : S16x128.Idx) := by
    intro p
    rw [shapeCast_apply _ _ _ (ix2 R l : S8x128.Idx) (by
      rw [Shape.rowMajor_val_three, Shape.rowMajor_val_two]
      show R.val * 128 + l.val = (R.val * 1 + 0) * 128 + l.val
      omega)]
    exact rowsOfParity_at p m _ _ _ (by intro a; match a with | ⟨0, _⟩ => rfl | ⟨1, _⟩ => rfl)
  rw [e, e]
  show (if q.val % 2 = 0 then _ else _) = _
  match q with
  | ⟨0, _⟩ => rfl
  | ⟨1, _⟩ => rfl

/-- The absolute value. -/
abbrev ab (x : EReal) : EReal := max x (-x)

/-- The absolute maximum of four entries sixteen apart. -/
def quad (f : ℕ → EReal) (n : ℕ) : EReal := max (max (ab (f n)) (ab (f (16 + n)))) (max (ab (f (32 + n))) (ab (f (48 + n))))

theorem partLo_apply (m : FVec Ideal S128x128 .bf16) (W : ℕ → Fin 128 → EReal) (hm : ∀ d l : Fin 128, m (ix2 d l : S128x128.Idx) = W d.val l)
    (R : Fin 8) (q : Fin 2) (l : Fin 128) : partLo m (ix3 R q l : S8x2x128.Idx) = quad (fun n => W n l) (2 * R.val + q.val) := by
  unfold partLo quad
  rw [pairs16_apply]
  have e : ∀ (o : ℕ) (h : S128x128.Slices ![o, 0] S16x128) (ho : o ≤ 112), extractStridedSlice S16x128 ![o, 0] m h (ix2 (⟨2 * R.val + q.val, by omega⟩ : Fin 16) l : S16x128.Idx)
      = W (o + (2 * R.val + q.val)) l := by
    intro o h ho
    rw [extractStridedSlice_apply _ _ _ _ (ix2 (⟨o + (2 * R.val + q.val), by omega⟩ : Fin 128) l : S128x128.Idx) (by intro a; match a with | ⟨0, _⟩ => rfl | ⟨1, _⟩ => (show l.val = 0 + l.val; omega))]
    exact hm _ _
  show max (max (ab _) (ab _)) (max (ab _) (ab _)) = _
  rw [e _ _ (by norm_num), e _ _ (by norm_num), e _ _ (by norm_num), e _ _ (by norm_num)]
  simp only [← Nat.add_assoc, Nat.reduceAdd, Nat.zero_add]

theorem partHi_apply (m : FVec Ideal S128x128 .bf16) (W : ℕ → Fin 128 → EReal) (hm : ∀ d l : Fin 128, m (ix2 d l : S128x128.Idx) = W d.val l)
    (R : Fin 8) (q : Fin 2) (l : Fin 128) : partHi m (ix3 R q l : S8x2x128.Idx) = quad (fun n => W (64 + n) l) (2 * R.val + q.val) := by
  unfold partHi quad
  rw [pairs16_apply]
  have e : ∀ (o : ℕ) (h : S128x128.Slices ![o, 0] S16x128) (ho : o ≤ 112), extractStridedSlice S16x128 ![o, 0] m h (ix2 (⟨2 * R.val + q.val, by omega⟩ : Fin 16) l : S16x128.Idx)
      = W (o + (2 * R.val + q.val)) l := by
    intro o h ho
    rw [extractStridedSlice_apply _ _ _ _ (ix2 (⟨o + (2 * R.val + q.val), by omega⟩ : Fin 128) l : S128x128.Idx) (by intro a; match a with | ⟨0, _⟩ => rfl | ⟨1, _⟩ => (show l.val = 0 + l.val; omega))]
    exact hm _ _
  show max (max (ab _) (ab _)) (max (ab _) (ab _)) = _
  rw [e _ _ (by norm_num), e _ _ (by norm_num), e _ _ (by norm_num), e _ _ (by norm_num)]
  simp only [← Nat.add_assoc, Nat.reduceAdd, Nat.zero_add]

theorem rows8_apply (x : Vec Ideal S8x2x128 .bf16) (r : Fin 16) (l : Fin 128) :
    rows8 x (ix2 r l : S16x128.Idx) = x (ix3 (⟨r.val / 2, by omega⟩ : Fin 8) (⟨r.val % 2, by omega⟩ : Fin 2) l : S8x2x128.Idx) := by
  unfold rows8
  have hr : (r.val / 2) < 8 := by omega
  rw [interleaveRows_at _ _ _ _ (ix2 (⟨r.val / 2, hr⟩ : Fin 8) l : S8x128.Idx) (by intro b; match b with | ⟨0, _⟩ => rfl | ⟨1, _⟩ => rfl)]
  have e : ∀ p : Fin 2, shapeCast S8x128 (rowsOfParity p S8x1x128 x bitcasts_S8x2x128_w16_S8x1x128_w32) shapeCasts_S8x1x128_S8x128 (ix2 (⟨r.val / 2, hr⟩ : Fin 8) l : S8x128.Idx)
      = x (ix3 (⟨r.val / 2, hr⟩ : Fin 8) p l : S8x2x128.Idx) := by
    intro p
    rw [shapeCast_apply _ _ _ (ix3 (⟨r.val / 2, hr⟩ : Fin 8) (0 : Fin 1) l : S8x1x128.Idx) (by
      rw [Shape.rowMajor_val_three, Shape.rowMajor_val_two]
      show (r.val / 2 * 1 + 0) * 128 + l.val = r.val / 2 * 128 + l.val
      omega)]
    exact rowsOfParity_at p x _ _ _ (by intro a; match a with | ⟨0, _⟩ => rfl | ⟨1, _⟩ => (show p.val = 2 * 0 + p.val; omega) | ⟨2, _⟩ => rfl)
  rw [e, e]
  show (if r.val % 2 = 0 then _ else _) = _
  have h2 : r.val % 2 < 2 := Nat.mod_lt _ (by norm_num)
  split
  · rename_i h
    exact congrArg (fun q => x (ix3 (⟨r.val / 2, hr⟩ : Fin 8) q l : S8x2x128.Idx)) (Fin.ext (show 0 = r.val % 2 by omega))
  · rename_i h
    exact congrArg (fun q => x (ix3 (⟨r.val / 2, hr⟩ : Fin 8) q l : S8x2x128.Idx)) (Fin.ext (show 1 = r.val % 2 by omega))

theorem rows6_apply (x : Vec Ideal S6x2x128 .bf16) (r : Fin 12) (l : Fin 128) :
    rows6 x (ix2 r l : S12x128.Idx) = x (ix3 (⟨r.val / 2, by omega⟩ : Fin 6) (⟨r.val % 2, by omega⟩ : Fin 2) l : S6x2x128.Idx) := by
  unfold rows6
  have hr : (r.val / 2) < 6 := by omega
  rw [interleaveRows_at _ _ _ _ (ix2 (⟨r.val / 2, hr⟩ : Fin 6) l : S6x128.Idx) (by intro b; match b with | ⟨0, _⟩ => rfl | ⟨1, _⟩ => rfl)]
  have e : ∀ p : Fin 2, shapeCast S6x128 (rowsOfParity p S6x1x128 x bitcasts_S6x2x128_w16_S6x1x128_w32) shapeCasts_S6x1x128_S6x128 (ix2 (⟨r.val / 2, hr⟩ : Fin 6) l : S6x128.Idx)
      = x (ix3 (⟨r.val / 2, hr⟩ : Fin 6) p l : S6x2x128.Idx) := by
    intro p
    rw [shapeCast_apply _ _ _ (ix3 (⟨r.val / 2, hr⟩ : Fin 6) (0 : Fin 1) l : S6x1x128.Idx) (by
      rw [Shape.rowMajor_val_three, Shape.rowMajor_val_two]
      show (r.val / 2 * 1 + 0) * 128 + l.val = r.val / 2 * 128 + l.val
      omega)]
    exact rowsOfParity_at p x _ _ _ (by intro a; match a with | ⟨0, _⟩ => rfl | ⟨1, _⟩ => (show p.val = 2 * 0 + p.val; omega) | ⟨2, _⟩ => rfl)
  rw [e, e]
  show (if r.val % 2 = 0 then _ else _) = _
  have h2 : r.val % 2 < 2 := Nat.mod_lt _ (by norm_num)
  split
  · rename_i h
    exact congrArg (fun q => x (ix3 (⟨r.val / 2, hr⟩ : Fin 6) q l : S6x2x128.Idx)) (Fin.ext (show 0 = r.val % 2 by omega))
  · rename_i h
    exact congrArg (fun q => x (ix3 (⟨r.val / 2, hr⟩ : Fin 6) q l : S6x2x128.Idx)) (Fin.ext (show 1 = r.val % 2 by omega))

/-- The maximum of eight entries, as the tree takes it. -/
def tree (g : ℕ → EReal) : EReal := max (max (max (g 0) (g 1)) (max (g 2) (g 3))) (max (max (g 4) (g 5)) (max (g 6) (g 7)))

theorem maxext8 (a b : FVec Ideal S8x128 .bf16) (h h' : FTy.bits .bf16 < FTy.bits .f32) (i : S8x128.Idx) :
    maximumf (extf .f32 a h) (extf .f32 b h') i = max (a i) (b i) := rfl

theorem amax8_apply (p0 p1 p2 p3 p4 p5 p6 p7 : Vec Ideal S8x2x128 .bf16) (G : ℕ → ℕ → ℕ → Fin 128 → EReal)
    (h0 : ∀ (b : Fin 8) (q : Fin 2) (l : Fin 128), p0 (ix3 b q l : S8x2x128.Idx) = G b.val 0 q.val l)
    (h1 : ∀ (b : Fin 8) (q : Fin 2) (l : Fin 128), p1 (ix3 b q l : S8x2x128.Idx) = G b.val 1 q.val l)
    (h2 : ∀ (b : Fin 8) (q : Fin 2) (l : Fin 128), p2 (ix3 b q l : S8x2x128.Idx) = G b.val 2 q.val l)
    (h3 : ∀ (b : Fin 8) (q : Fin 2) (l : Fin 128), p3 (ix3 b q l : S8x2x128.Idx) = G b.val 3 q.val l)
    (h4 : ∀ (b : Fin 8) (q : Fin 2) (l : Fin 128), p4 (ix3 b q l : S8x2x128.Idx) = G b.val 4 q.val l)
    (h5 : ∀ (b : Fin 8) (q : Fin 2) (l : Fin 128), p5 (ix3 b q l : S8x2x128.Idx) = G b.val 5 q.val l)
    (h6 : ∀ (b : Fin 8) (q : Fin 2) (l : Fin 128), p6 (ix3 b q l : S8x2x128.Idx) = G b.val 6 q.val l)
    (h7 : ∀ (b : Fin 8) (q : Fin 2) (l : Fin 128), p7 (ix3 b q l : S8x2x128.Idx) = G b.val 7 q.val l)
    (b : Fin 8) (l : Fin 128) : amax8 p0 p1 p2 p3 p4 p5 p6 p7 (ix2 b l : S8x128.Idx)
      = max (tree fun k => G b.val k 1 l) (tree fun k => G b.val k 0 l) := by
  unfold amax8
  have e : ∀ (m : FVec Ideal S16x128 .bf16) (p : Fin 2), rowsOfParity p S8x128 m bitcasts_S16x128_w16_S8x128_w32 (ix2 b l : S8x128.Idx)
      = m (ix2 (⟨2 * b.val + p.val, by omega⟩ : Fin 16) l : S16x128.Idx) := fun m p =>
    rowsOfParity_at p m _ _ _ (by intro a; match a with | ⟨0, _⟩ => rfl | ⟨1, _⟩ => rfl)
  have e' : ∀ (x : Vec Ideal S8x2x128 .bf16) (p : Fin 2), rows8 x (ix2 (⟨2 * b.val + p.val, by omega⟩ : Fin 16) l : S16x128.Idx) = x (ix3 b p l : S8x2x128.Idx) := by
    intro x p
    rw [rows8_apply]
    have h1 : (⟨(2 * b.val + p.val) / 2, by omega⟩ : Fin 8) = b := Fin.ext (show (2 * b.val + p.val) / 2 = b.val by omega)
    have h2 : (⟨(2 * b.val + p.val) % 2, by omega⟩ : Fin 2) = p := Fin.ext (show (2 * b.val + p.val) % 2 = p.val by omega)
    exact (congrArg (fun u => x (ix3 u (⟨(2 * b.val + p.val) % 2, by omega⟩ : Fin 2) l : S8x2x128.Idx)) h1).trans (congrArg (fun u => x (ix3 b u l : S8x2x128.Idx)) h2)
  refine (maxext8 _ _ _ _ _).trans ?_
  refine (congrArg₂ (max : EReal → EReal → EReal) (e _ 1) (e _ 0)).trans ?_
  unfold tree
  refine congrArg₂ (max : EReal → EReal → EReal) ?_ ?_
  · show max (max (max (rows8 p0 _) (rows8 p1 _)) (max (rows8 p2 _) (rows8 p3 _))) (max (max (rows8 p4 _) (rows8 p5 _)) (max (rows8 p6 _) (rows8 p7 _))) = _
    rw [e', e', e', e', e', e', e', e', h0, h1, h2, h3, h4, h5, h6, h7]
    rfl
  · show max (max (max (rows8 p0 _) (rows8 p1 _)) (max (rows8 p2 _) (rows8 p3 _))) (max (max (rows8 p4 _) (rows8 p5 _)) (max (rows8 p6 _) (rows8 p7 _))) = _
    rw [e', e', e', e', e', e', e', e', h0, h1, h2, h3, h4, h5, h6, h7]
    rfl

theorem maxext6 (a b : FVec Ideal S6x128 .bf16) (h h' : FTy.bits .bf16 < FTy.bits .f32) (i : S6x128.Idx) :
    maximumf (extf .f32 a h) (extf .f32 b h') i = max (a i) (b i) := rfl

theorem amax6_apply (p0 p1 p2 p3 p4 p5 p6 p7 : Vec Ideal S6x2x128 .bf16) (G : ℕ → ℕ → ℕ → Fin 128 → EReal)
    (h0 : ∀ (b : Fin 6) (q : Fin 2) (l : Fin 128), p0 (ix3 b q l : S6x2x128.Idx) = G b.val 0 q.val l)
    (h1 : ∀ (b : Fin 6) (q : Fin 2) (l : Fin 128), p1 (ix3 b q l : S6x2x128.Idx) = G b.val 1 q.val l)
    (h2 : ∀ (b : Fin 6) (q : Fin 2) (l : Fin 128), p2 (ix3 b q l : S6x2x128.Idx) = G b.val 2 q.val l)
    (h3 : ∀ (b : Fin 6) (q : Fin 2) (l : Fin 128), p3 (ix3 b q l : S6x2x128.Idx) = G b.val 3 q.val l)
    (h4 : ∀ (b : Fin 6) (q : Fin 2) (l : Fin 128), p4 (ix3 b q l : S6x2x128.Idx) = G b.val 4 q.val l)
    (h5 : ∀ (b : Fin 6) (q : Fin 2) (l : Fin 128), p5 (ix3 b q l : S6x2x128.Idx) = G b.val 5 q.val l)
    (h6 : ∀ (b : Fin 6) (q : Fin 2) (l : Fin 128), p6 (ix3 b q l : S6x2x128.Idx) = G b.val 6 q.val l)
    (h7 : ∀ (b : Fin 6) (q : Fin 2) (l : Fin 128), p7 (ix3 b q l : S6x2x128.Idx) = G b.val 7 q.val l)
    (b : Fin 6) (l : Fin 128) : amax6 p0 p1 p2 p3 p4 p5 p6 p7 (ix2 b l : S6x128.Idx)
      = max (tree fun k => G b.val k 1 l) (tree fun k => G b.val k 0 l) := by
  unfold amax6
  have e : ∀ (m : FVec Ideal S12x128 .bf16) (p : Fin 2), rowsOfParity p S6x128 m bitcasts_S12x128_w16_S6x128_w32 (ix2 b l : S6x128.Idx)
      = m (ix2 (⟨2 * b.val + p.val, by omega⟩ : Fin 12) l : S12x128.Idx) := fun m p =>
    rowsOfParity_at p m _ _ _ (by intro a; match a with | ⟨0, _⟩ => rfl | ⟨1, _⟩ => rfl)
  have e' : ∀ (x : Vec Ideal S6x2x128 .bf16) (p : Fin 2), rows6 x (ix2 (⟨2 * b.val + p.val, by omega⟩ : Fin 12) l : S12x128.Idx) = x (ix3 b p l : S6x2x128.Idx) := by
    intro x p
    rw [rows6_apply]
    have h1 : (⟨(2 * b.val + p.val) / 2, by omega⟩ : Fin 6) = b := Fin.ext (show (2 * b.val + p.val) / 2 = b.val by omega)
    have h2 : (⟨(2 * b.val + p.val) % 2, by omega⟩ : Fin 2) = p := Fin.ext (show (2 * b.val + p.val) % 2 = p.val by omega)
    exact (congrArg (fun u => x (ix3 u (⟨(2 * b.val + p.val) % 2, by omega⟩ : Fin 2) l : S6x2x128.Idx)) h1).trans (congrArg (fun u => x (ix3 b u l : S6x2x128.Idx)) h2)
  refine (maxext6 _ _ _ _ _).trans ?_
  refine (congrArg₂ (max : EReal → EReal → EReal) (e _ 1) (e _ 0)).trans ?_
  unfold tree
  refine congrArg₂ (max : EReal → EReal → EReal) ?_ ?_
  · show max (max (max (rows6 p0 _) (rows6 p1 _)) (max (rows6 p2 _) (rows6 p3 _))) (max (max (rows6 p4 _) (rows6 p5 _)) (max (rows6 p6 _) (rows6 p7 _))) = _
    rw [e', e', e', e', e', e', e', e', h0, h1, h2, h3, h4, h5, h6, h7]
    rfl
  · show max (max (max (rows6 p0 _) (rows6 p1 _)) (max (rows6 p2 _) (rows6 p3 _))) (max (max (rows6 p4 _) (rows6 p5 _)) (max (rows6 p6 _) (rows6 p7 _))) = _
    rw [e', e', e', e', e', e', e', e', h0, h1, h2, h3, h4, h5, h6, h7]
    rfl

/-- The contents of the partial maxima: at row `8 B + k` and parity `q`, the absolute maximum of four entries of block `B`. -/
def partG (W : ℕ → Fin 128 → EReal) : S112x2x128.Idx → EReal := fun y => quad (fun n => W (64 * ((y 0).val / 8) + n) (y 2)) (2 * ((y 0).val % 8) + (y 1).val)

theorem partL_apply (m0 m1 m2 m3 m4 m5 m6 : FVec Ideal S128x128 .bf16) (W : ℕ → Fin 128 → EReal)
    (h0 : ∀ d l : Fin 128, m0 (ix2 d l : S128x128.Idx) = W (0 + d.val) l)
    (h1 : ∀ d l : Fin 128, m1 (ix2 d l : S128x128.Idx) = W (128 + d.val) l)
    (h2 : ∀ d l : Fin 128, m2 (ix2 d l : S128x128.Idx) = W (256 + d.val) l)
    (h3 : ∀ d l : Fin 128, m3 (ix2 d l : S128x128.Idx) = W (384 + d.val) l)
    (h4 : ∀ d l : Fin 128, m4 (ix2 d l : S128x128.Idx) = W (512 + d.val) l)
    (h5 : ∀ d l : Fin 128, m5 (ix2 d l : S128x128.Idx) = W (640 + d.val) l)
    (h6 : ∀ d l : Fin 128, m6 (ix2 d l : S128x128.Idx) = W (768 + d.val) l)
    (y : S112x2x128.Idx) : View.canon (partL m0 m1 m2 m3 m4 m5 m6) y = partG W y := by
  refine View.canon_apply_of_pieces (Val := Elt Ideal) (e := .bf16) (partG W) _ ?_ y (by unfold partL; exact View.cover_of_tiled_head _ _ _ rfl y)
  have lo : ∀ (j : ℕ) (m : FVec Ideal S128x128 .bf16) (h : ∀ d l : Fin 128, m (ix2 d l : S128x128.Idx) = W (128 * j + d.val) l)
      (inb : ∀ a, (![16 * j, 0, 0] : Fin 3 → ℕ) a + S8x2x128.size a ≤ S112x2x128.size a) (x : S8x2x128.Idx),
      partLo m x = partG W ((Rect.unit (s := S112x2x128) ![16 * j, 0, 0] S8x2x128.size inb).emb x) := by
    intro j m h inb x
    obtain ⟨R, q, l, rfl⟩ : ∃ (R : Fin 8) (q : Fin 2) (l : Fin 128), x = (ix3 R q l : S8x2x128.Idx) := ⟨x 0, x 1, x 2, eq_ix3 x⟩
    rw [partLo_apply m (fun n l => W (128 * j + n) l) h]
    have h0 : R.val < 8 := R.isLt
    show _ = quad (fun n => W (64 * ((16 * j + 1 * R.val) / 8) + n) _) (2 * ((16 * j + 1 * R.val) % 8) + (0 + 1 * q.val))
    have e1 : 64 * ((16 * j + 1 * R.val) / 8) = 128 * j := by omega
    have e2 : 2 * ((16 * j + 1 * R.val) % 8) + (0 + 1 * q.val) = 2 * R.val + q.val := by omega
    have e3 : ((Rect.unit (s := S112x2x128) ![16 * j, 0, 0] S8x2x128.size inb).emb (ix3 R q l : S8x2x128.Idx)) 2 = l := Fin.ext (show 0 + 1 * l.val = l.val by omega)
    rw [e1, e2]
    exact congrArg (fun l => quad (fun n => W (128 * j + n) l) (2 * R.val + q.val)) e3.symm
  have hi : ∀ (j : ℕ) (m : FVec Ideal S128x128 .bf16) (h : ∀ d l : Fin 128, m (ix2 d l : S128x128.Idx) = W (128 * j + d.val) l)
      (inb : ∀ a, (![16 * j + 8, 0, 0] : Fin 3 → ℕ) a + S8x2x128.size a ≤ S112x2x128.size a) (x : S8x2x128.Idx),
      partHi m x = partG W ((Rect.unit (s := S112x2x128) ![16 * j + 8, 0, 0] S8x2x128.size inb).emb x) := by
    intro j m h inb x
    obtain ⟨R, q, l, rfl⟩ : ∃ (R : Fin 8) (q : Fin 2) (l : Fin 128), x = (ix3 R q l : S8x2x128.Idx) := ⟨x 0, x 1, x 2, eq_ix3 x⟩
    rw [partHi_apply m (fun n l => W (128 * j + n) l) h]
    have h0 : R.val < 8 := R.isLt
    show _ = quad (fun n => W (64 * ((16 * j + 8 + 1 * R.val) / 8) + n) _) (2 * ((16 * j + 8 + 1 * R.val) % 8) + (0 + 1 * q.val))
    have e1 : 64 * ((16 * j + 8 + 1 * R.val) / 8) = 128 * j + 64 := by omega
    have e2 : 2 * ((16 * j + 8 + 1 * R.val) % 8) + (0 + 1 * q.val) = 2 * R.val + q.val := by omega
    have e3 : ((Rect.unit (s := S112x2x128) ![16 * j + 8, 0, 0] S8x2x128.size inb).emb (ix3 R q l : S8x2x128.Idx)) 2 = l := Fin.ext (show 0 + 1 * l.val = l.val by omega)
    rw [e1, e2]
    simp only [Nat.add_assoc]
    exact congrArg (fun l => quad (fun n => W (128 * j + (64 + n)) l) (2 * R.val + q.val)) e3.symm
  intro p hp
  simp only [partL, List.mem_cons, List.mem_nil_iff, or_false] at hp
  rcases hp with rfl | rfl | rfl | rfl | rfl | rfl | rfl | rfl | rfl | rfl | rfl | rfl | rfl | rfl
  · exact hi 6 m6 h6 (by decide)
  · exact lo 6 m6 h6 (by decide)
  · exact hi 5 m5 h5 (by decide)
  · exact lo 5 m5 h5 (by decide)
  · exact hi 4 m4 h4 (by decide)
  · exact lo 4 m4 h4 (by decide)
  · exact hi 3 m3 h3 (by decide)
  · exact lo 3 m3 h3 (by decide)
  · exact hi 2 m2 h2 (by decide)
  · exact lo 2 m2 h2 (by decide)
  · exact hi 1 m1 h1 (by decide)
  · exact lo 1 m1 h1 (by decide)
  · exact hi 0 m0 h0 (by decide)
  · exact lo 0 m0 h0 (by decide)

/-- The absolute maximum of a block of 64. -/
def bmax (W : ℕ → Fin 128 → EReal) (b : ℕ) (l : Fin 128) : EReal := Finset.univ.sup fun n : Fin 64 => ab (W (64 * b + n.val) l)

theorem tree_eq (f : ℕ → EReal) : max (tree fun k => quad f (2 * k + 1)) (tree fun k => quad f (2 * k + 0)) = Finset.univ.sup fun n : Fin 64 => ab (f n.val) := by
  apply le_antisymm
  · have h : ∀ n, n < 64 → ab (f n) ≤ Finset.univ.sup fun n : Fin 64 => ab (f n.val) := fun n hn =>
      Finset.le_sup (f := fun n : Fin 64 => ab (f n.val)) (Finset.mem_univ (⟨n, hn⟩ : Fin 64))
    have hq : ∀ n, n < 16 → quad f n ≤ Finset.univ.sup fun n : Fin 64 => ab (f n.val) := fun n hn =>
      max_le (max_le (h _ (by omega)) (h _ (by omega))) (max_le (h _ (by omega)) (h _ (by omega)))
    have ht : ∀ q, q < 2 → (tree fun k => quad f (2 * k + q)) ≤ Finset.univ.sup fun n : Fin 64 => ab (f n.val) := fun q hq' =>
      max_le (max_le (max_le (hq _ (by omega)) (hq _ (by omega))) (max_le (hq _ (by omega)) (hq _ (by omega))))
        (max_le (max_le (hq _ (by omega)) (hq _ (by omega))) (max_le (hq _ (by omega)) (hq _ (by omega))))
    exact max_le (ht 1 (by norm_num)) (ht 0 (by norm_num))
  · refine Finset.sup_le fun n _ => ?_
    have hq : ∀ r v, v < 4 → ab (f (16 * v + r)) ≤ quad f r := by
      intro r v hv
      unfold quad
      interval_cases v <;> simp [-le_sup_iff, le_max_iff]
    have ht : ∀ (g : ℕ → EReal) k, k < 8 → g k ≤ tree g := by
      intro g k hk
      unfold tree
      interval_cases k <;> simp [le_max_iff]
    have hn : n.val = 16 * (n.val / 16) + n.val % 16 := by omega
    rw [hn]
    refine (hq _ _ (by omega)).trans ?_
    rcases Nat.mod_two_eq_zero_or_one n.val with e | e
    · refine le_trans ?_ (le_max_right _ _)
      have := ht (fun k => quad f (2 * k + 0)) (n.val % 16 / 2) (by omega)
      rwa [show 2 * (n.val % 16 / 2) + 0 = n.val % 16 by omega] at this
    · refine le_trans ?_ (le_max_left _ _)
      have := ht (fun k => quad f (2 * k + 1)) (n.val % 16 / 2) (by omega)
      rwa [show 2 * (n.val % 16 / 2) + 1 = n.val % 16 by omega] at this

theorem stat8_apply {κ : Kind} {sp : Space} (v : View sig κ sp S112x2x128 .bf16) (m0 m1 m2 m3 m4 m5 m6 : FVec Ideal S128x128 .bf16) (W : ℕ → Fin 128 → EReal)
    (h0 : ∀ d l : Fin 128, m0 (ix2 d l : S128x128.Idx) = W (0 + d.val) l)
    (h1 : ∀ d l : Fin 128, m1 (ix2 d l : S128x128.Idx) = W (128 + d.val) l)
    (h2 : ∀ d l : Fin 128, m2 (ix2 d l : S128x128.Idx) = W (256 + d.val) l)
    (h3 : ∀ d l : Fin 128, m3 (ix2 d l : S128x128.Idx) = W (384 + d.val) l)
    (h4 : ∀ d l : Fin 128, m4 (ix2 d l : S128x128.Idx) = W (512 + d.val) l)
    (h5 : ∀ d l : Fin 128, m5 (ix2 d l : S128x128.Idx) = W (640 + d.val) l)
    (h6 : ∀ d l : Fin 128, m6 (ix2 d l : S128x128.Idx) = W (768 + d.val) l)
    (b : Fin 8) (l : Fin 128) : stat8 v (partL m0 m1 m2 m3 m4 m5 m6) (ix2 b l : S8x128.Idx) = bmax W (0 + b.val) l := by
  unfold stat8
  have key : ∀ (k : ℕ) (hk : k < 8) (inb : ∀ a, S8x2x128.size a = 0 ∨ (![0 + k, 0, 0] : Fin 3 → ℕ) a + (![8, 1, 1] : Fin 3 → ℕ) a * (S8x2x128.size a - 1) < S112x2x128.size a)
      (b : Fin 8) (q : Fin 2) (l : Fin 128), v.readCov (Val := Elt Ideal) (partL m0 m1 m2 m3 m4 m5 m6) { off := ![0 + k, 0, 0], size := S8x2x128.size, stride := ![8, 1, 1], inb := inb } (ix3 b q l : S8x2x128.Idx)
        = quad (fun n => W (64 * (0 + b.val) + n) l) (2 * k + q.val) := by
    intro k hk inb b q l
    rw [View.readCov_eq_canon']
    refine (partL_apply m0 m1 m2 m3 m4 m5 m6 W h0 h1 h2 h3 h4 h5 h6 _).trans ?_
    unfold partG
    show quad (fun n => W (64 * ((0 + k + 8 * b.val) / 8) + n) _) (2 * ((0 + k + 8 * b.val) % 8) + (0 + 1 * q.val)) = _
    rw [show (0 + k + 8 * b.val) / 8 = 0 + b.val by omega, show (0 + k + 8 * b.val) % 8 = k by omega, show 0 + 1 * q.val = q.val by omega]
    exact congrArg (fun l => quad (fun n => W (64 * (0 + b.val) + n) l) (2 * k + q.val)) (Fin.ext (show 0 + 1 * l.val = l.val by omega))
  rw [amax8_apply _ _ _ _ _ _ _ _ (fun b k q l => quad (fun n => W (64 * (0 + b) + n) l) (2 * k + q))
    (key 0 (by norm_num) _)
    (key 1 (by norm_num) _)
    (key 2 (by norm_num) _)
    (key 3 (by norm_num) _)
    (key 4 (by norm_num) _)
    (key 5 (by norm_num) _)
    (key 6 (by norm_num) _)
    (key 7 (by norm_num) _)]
  exact tree_eq _

theorem stat6_apply {κ : Kind} {sp : Space} (v : View sig κ sp S112x2x128 .bf16) (m0 m1 m2 m3 m4 m5 m6 : FVec Ideal S128x128 .bf16) (W : ℕ → Fin 128 → EReal)
    (h0 : ∀ d l : Fin 128, m0 (ix2 d l : S128x128.Idx) = W (0 + d.val) l)
    (h1 : ∀ d l : Fin 128, m1 (ix2 d l : S128x128.Idx) = W (128 + d.val) l)
    (h2 : ∀ d l : Fin 128, m2 (ix2 d l : S128x128.Idx) = W (256 + d.val) l)
    (h3 : ∀ d l : Fin 128, m3 (ix2 d l : S128x128.Idx) = W (384 + d.val) l)
    (h4 : ∀ d l : Fin 128, m4 (ix2 d l : S128x128.Idx) = W (512 + d.val) l)
    (h5 : ∀ d l : Fin 128, m5 (ix2 d l : S128x128.Idx) = W (640 + d.val) l)
    (h6 : ∀ d l : Fin 128, m6 (ix2 d l : S128x128.Idx) = W (768 + d.val) l)
    (b : Fin 6) (l : Fin 128) : stat6 v (partL m0 m1 m2 m3 m4 m5 m6) (ix2 b l : S6x128.Idx) = bmax W (8 + b.val) l := by
  unfold stat6
  have key : ∀ (k : ℕ) (hk : k < 8) (inb : ∀ a, S6x2x128.size a = 0 ∨ (![64 + k, 0, 0] : Fin 3 → ℕ) a + (![8, 1, 1] : Fin 3 → ℕ) a * (S6x2x128.size a - 1) < S112x2x128.size a)
      (b : Fin 6) (q : Fin 2) (l : Fin 128), v.readCov (Val := Elt Ideal) (partL m0 m1 m2 m3 m4 m5 m6) { off := ![64 + k, 0, 0], size := S6x2x128.size, stride := ![8, 1, 1], inb := inb } (ix3 b q l : S6x2x128.Idx)
        = quad (fun n => W (64 * (8 + b.val) + n) l) (2 * k + q.val) := by
    intro k hk inb b q l
    rw [View.readCov_eq_canon']
    refine (partL_apply m0 m1 m2 m3 m4 m5 m6 W h0 h1 h2 h3 h4 h5 h6 _).trans ?_
    unfold partG
    show quad (fun n => W (64 * ((64 + k + 8 * b.val) / 8) + n) _) (2 * ((64 + k + 8 * b.val) % 8) + (0 + 1 * q.val)) = _
    rw [show (64 + k + 8 * b.val) / 8 = 8 + b.val by omega, show (64 + k + 8 * b.val) % 8 = k by omega, show 0 + 1 * q.val = q.val by omega]
    exact congrArg (fun l => quad (fun n => W (64 * (8 + b.val) + n) l) (2 * k + q.val)) (Fin.ext (show 0 + 1 * l.val = l.val by omega))
  rw [amax6_apply _ _ _ _ _ _ _ _ (fun b k q l => quad (fun n => W (64 * (8 + b) + n) l) (2 * k + q))
    (key 0 (by norm_num) _)
    (key 1 (by norm_num) _)
    (key 2 (by norm_num) _)
    (key 3 (by norm_num) _)
    (key 4 (by norm_num) _)
    (key 5 (by norm_num) _)
    (key 6 (by norm_num) _)
    (key 7 (by norm_num) _)]
  exact tree_eq _

end Cert.EncodeVal

end
-- ==== Proof.EncodeReach.lean ====
/- The absmax rows that the first call's row loop leaves, over the extended reals. -/
module

public import proofs.«01_k».proof.Proof.EncodeRow
public import proofs.«01_k».proof.Proof.EncodeOut
public import proofs.«01_k».proof.Proof.EncodeVal
public import Idealize.ShloMosaic.Lib.Writes

@[expose] public section

set_option maxRecDepth 16384
set_option maxHeartbeats 4000000

noncomputable section

namespace Cert.EncodeReach

open Idealize.ShloMosaic Idealize.ShloMosaic.TcCoe Idealize.SL.Sem Idealize.ShloMosaic.ValueIdx
open Cert.KernelIdeal Cert.KernelIdeal.Gen Cert.KernelIdeal.Row Cert.EncodeSpec Cert.EncodeVal Cert.EncodeRow

/-- The half row of the weight at row `i` and half `t`: feature by feature, lane by lane. -/
def hrow (W : ℕ → ℕ → ℕ → EReal) (i t : ℕ) : ℕ → Fin 128 → EReal := fun n l => W i (128 * t + l.val) n

theorem rd_tile (arg : Memref sig .tc .vmem S8x256x128 .bf16) (X : BufTy.Contents (Elt Ideal) arg.view.ty) (W : ℕ → ℕ → ℕ → EReal) (c : ℕ)
    (h : ∀ (i : Fin 8) (p : Fin 256) (d : Fin 128), arg.view.read (Elt Ideal) X (ix3 i p d : S8x256x128.Idx) = W i.val p.val (c + d.val))
    (off : Fin 3 → ℕ) (inb : ∀ a, off a + S1x16x128.size a ≤ S8x256x128.size a) (i o : ℕ) (hi : i < 8) (ho : o ≤ 240) (hoff : off = ![i, o, 0]) (r : Fin 16) (d : Fin 128) :
    View.readAt (Elt Ideal) arg.view (Rect.unit (s := S8x256x128) off S1x16x128.size inb).toLoadRect X (ix3 (0 : Fin 1) r d : S1x16x128.Idx) = W i (o + r.val) (c + d.val) := by
  subst hoff
  refine (congrArg (arg.view.read (Elt Ideal) X) (?_ : _ = (ix3 (⟨i, hi⟩ : Fin 8) (⟨o + r.val, by omega⟩ : Fin 256) d : S8x256x128.Idx))).trans (h _ _ _)
  funext a
  match a with
  | ⟨0, _⟩ => exact Fin.ext (show i + 1 * 0 = i by omega)
  | ⟨1, _⟩ => exact Fin.ext (show o + 1 * r.val = o + r.val by omega)
  | ⟨2, _⟩ => exact Fin.ext (show 0 + 1 * d.val = d.val by omega)

theorem tileR_apply (arg : Memref sig .tc .vmem S8x256x128 .bf16) (X : BufTy.Contents (Elt Ideal) arg.view.ty) (W : ℕ → ℕ → ℕ → EReal) (c : ℕ)
    (h : ∀ (i : Fin 8) (p : Fin 256) (d : Fin 128), arg.view.read (Elt Ideal) X (ix3 i p d : S8x256x128.Idx) = W i.val p.val (c + d.val)) (k : Fin k0_t1_loop.trips) (d l : Fin 128) :
    tileR (F := Ideal) arg X k (ix2 d l : S128x128.Idx) = hrow W (k.val) 1 (c + d.val) l := by
  have hk : k.val < 8 := k.isLt
  unfold tileR hrow
  rw [tsq_apply _ _ _ _ _ _ _ _ (fun p d => W (k.val) (128 * 1 + p) (c + d.val))
    (fun r d => (rd_tile arg X W c h _ _ (k.val) 128 hk (by norm_num) (k0_off5_eq k) r d).trans (congrArg (fun n => W (k.val) n (c + d.val)) (by omega)))
    (fun r d => (rd_tile arg X W c h _ _ (k.val) 144 hk (by norm_num) (k0_off6_eq k) r d).trans (congrArg (fun n => W (k.val) n (c + d.val)) (by omega)))
    (fun r d => (rd_tile arg X W c h _ _ (k.val) 160 hk (by norm_num) (k0_off7_eq k) r d).trans (congrArg (fun n => W (k.val) n (c + d.val)) (by omega)))
    (fun r d => (rd_tile arg X W c h _ _ (k.val) 176 hk (by norm_num) (k0_off8_eq k) r d).trans (congrArg (fun n => W (k.val) n (c + d.val)) (by omega)))
    (fun r d => (rd_tile arg X W c h _ _ (k.val) 192 hk (by norm_num) (k0_off9_eq k) r d).trans (congrArg (fun n => W (k.val) n (c + d.val)) (by omega)))
    (fun r d => (rd_tile arg X W c h _ _ (k.val) 208 hk (by norm_num) (k0_off10_eq k) r d).trans (congrArg (fun n => W (k.val) n (c + d.val)) (by omega)))
    (fun r d => (rd_tile arg X W c h _ _ (k.val) 224 hk (by norm_num) (k0_off11_eq k) r d).trans (congrArg (fun n => W (k.val) n (c + d.val)) (by omega)))
    (fun r d => (rd_tile arg X W c h _ _ (k.val) 240 hk (by norm_num) (k0_off12_eq k) r d).trans (congrArg (fun n => W (k.val) n (c + d.val)) (by omega)))]

theorem tileN_apply (arg : Memref sig .tc .vmem S8x256x128 .bf16) (X : BufTy.Contents (Elt Ideal) arg.view.ty) (W : ℕ → ℕ → ℕ → EReal) (c : ℕ)
    (h : ∀ (i : Fin 8) (p : Fin 256) (d : Fin 128), arg.view.read (Elt Ideal) X (ix3 i p d : S8x256x128.Idx) = W i.val p.val (c + d.val)) (k : Fin k0_t1_loop.trips) (d l : Fin 128) :
    tileN (F := Ideal) arg X k (ix2 d l : S128x128.Idx) = hrow W (min (k.val + 1) 7) 0 (c + d.val) l := by
  have hk : min (k.val + 1) 7 < 8 := by omega
  unfold tileN hrow
  rw [tsq_apply _ _ _ _ _ _ _ _ (fun p d => W (min (k.val + 1) 7) (128 * 0 + p) (c + d.val))
    (fun r d => (rd_tile arg X W c h _ _ (min (k.val + 1) 7) 0 hk (by norm_num) (k0_off19_eq k) r d).trans (congrArg (fun n => W (min (k.val + 1) 7) n (c + d.val)) (by omega)))
    (fun r d => (rd_tile arg X W c h _ _ (min (k.val + 1) 7) 16 hk (by norm_num) (k0_off20_eq k) r d).trans (congrArg (fun n => W (min (k.val + 1) 7) n (c + d.val)) (by omega)))
    (fun r d => (rd_tile arg X W c h _ _ (min (k.val + 1) 7) 32 hk (by norm_num) (k0_off21_eq k) r d).trans (congrArg (fun n => W (min (k.val + 1) 7) n (c + d.val)) (by omega)))
    (fun r d => (rd_tile arg X W c h _ _ (min (k.val + 1) 7) 48 hk (by norm_num) (k0_off22_eq k) r d).trans (congrArg (fun n => W (min (k.val + 1) 7) n (c + d.val)) (by omega)))
    (fun r d => (rd_tile arg X W c h _ _ (min (k.val + 1) 7) 64 hk (by norm_num) (k0_off23_eq k) r d).trans (congrArg (fun n => W (min (k.val + 1) 7) n (c + d.val)) (by omega)))
    (fun r d => (rd_tile arg X W c h _ _ (min (k.val + 1) 7) 80 hk (by norm_num) (k0_off24_eq k) r d).trans (congrArg (fun n => W (min (k.val + 1) 7) n (c + d.val)) (by omega)))
    (fun r d => (rd_tile arg X W c h _ _ (min (k.val + 1) 7) 96 hk (by norm_num) (k0_off25_eq k) r d).trans (congrArg (fun n => W (min (k.val + 1) 7) n (c + d.val)) (by omega)))
    (fun r d => (rd_tile arg X W c h _ _ (min (k.val + 1) 7) 112 hk (by norm_num) (k0_off26_eq k) r d).trans (congrArg (fun n => W (min (k.val + 1) 7) n (c + d.val)) (by omega)))]

theorem tile0_apply (arg : Memref sig .tc .vmem S8x256x128 .bf16) (X : BufTy.Contents (Elt Ideal) arg.view.ty) (W : ℕ → ℕ → ℕ → EReal) (c : ℕ)
    (h : ∀ (i : Fin 8) (p : Fin 256) (d : Fin 128), arg.view.read (Elt Ideal) X (ix3 i p d : S8x256x128.Idx) = W i.val p.val (c + d.val)) (d l : Fin 128) :
    tile0 (F := Ideal) arg X (ix2 d l : S128x128.Idx) = hrow W (0) 0 (c + d.val) l := by
  have hk : 0 < 8 := by omega
  unfold tile0 hrow
  rw [tsq_apply _ _ _ _ _ _ _ _ (fun p d => W (0) (128 * 0 + p) (c + d.val))
    (fun r d => (rd_tile arg X W c h _ _ (0) 0 hk (by norm_num) rfl r d).trans (congrArg (fun n => W (0) n (c + d.val)) (by omega)))
    (fun r d => (rd_tile arg X W c h _ _ (0) 16 hk (by norm_num) rfl r d).trans (congrArg (fun n => W (0) n (c + d.val)) (by omega)))
    (fun r d => (rd_tile arg X W c h _ _ (0) 32 hk (by norm_num) rfl r d).trans (congrArg (fun n => W (0) n (c + d.val)) (by omega)))
    (fun r d => (rd_tile arg X W c h _ _ (0) 48 hk (by norm_num) rfl r d).trans (congrArg (fun n => W (0) n (c + d.val)) (by omega)))
    (fun r d => (rd_tile arg X W c h _ _ (0) 64 hk (by norm_num) rfl r d).trans (congrArg (fun n => W (0) n (c + d.val)) (by omega)))
    (fun r d => (rd_tile arg X W c h _ _ (0) 80 hk (by norm_num) rfl r d).trans (congrArg (fun n => W (0) n (c + d.val)) (by omega)))
    (fun r d => (rd_tile arg X W c h _ _ (0) 96 hk (by norm_num) rfl r d).trans (congrArg (fun n => W (0) n (c + d.val)) (by omega)))
    (fun r d => (rd_tile arg X W c h _ _ (0) 112 hk (by norm_num) rfl r d).trans (congrArg (fun n => W (0) n (c + d.val)) (by omega)))]

/-- The absmax rows in full: row `16 (2 i + t) + b` has the absolute maximum of block `b` of half row `(i, t)`. -/
def amtG (W : ℕ → ℕ → ℕ → EReal) : S256x128.Idx → EReal := fun y => bmax (hrow W ((y 0).val / 32) ((y 0).val / 16 % 2)) ((y 0).val % 16) (y 1)

/-- The absmax rows after `n` trips. -/
def Amt (W : ℕ → ℕ → ℕ → EReal) (v : Memref sig .tc .vmem S256x128 .f32) (n : ℕ) (g : BufTy.Contents (Elt Ideal) v.view.ty) : Prop :=
  ∀ y : S256x128.Idx, (y 0).val % 16 < 14 → ((y 0).val / 32 < n ∨ ((y 0).val / 16 % 2 = 0 ∧ (y 0).val / 32 ≤ min n 7)) → v.view.read (Elt Ideal) g y = amtG W y

/-- A piece of 8 rows of block maxima, at its place among the absmax rows. -/
theorem piece8 (W : ℕ → ℕ → ℕ → EReal) (w : FVec Ideal S8x128 .f32) (i t : ℕ) (ht : t < 2) (hw : ∀ (b : Fin 8) (l : Fin 128), w (ix2 b l : S8x128.Idx) = bmax (hrow W i t) (0 + b.val) l)
    (off : Fin 2 → ℕ) (inb : ∀ a, off a + S8x128.size a ≤ S256x128.size a) (hoff : off = ![32 * i + 16 * t + 0, 0]) (h : S8x128.ShapeCasts S8x128) (x : S8x128.Idx) :
    shapeCast S8x128 w h x = amtG W ((Rect.unit (s := S256x128) off S8x128.size inb).emb x) := by
  subst hoff
  obtain ⟨b, l, rfl⟩ : ∃ (b : Fin 8) (l : Fin 128), x = (ix2 b l : S8x128.Idx) := ⟨x 0, x 1, eq_ix2 x⟩
  rw [shapeCast_self, hw]
  show _ = bmax (hrow W ((32 * i + 16 * t + 0 + 1 * b.val) / 32) ((32 * i + 16 * t + 0 + 1 * b.val) / 16 % 2)) ((32 * i + 16 * t + 0 + 1 * b.val) % 16) _
  rw [show (32 * i + 16 * t + 0 + 1 * b.val) / 32 = i by omega, show (32 * i + 16 * t + 0 + 1 * b.val) / 16 % 2 = t by omega,
    show (32 * i + 16 * t + 0 + 1 * b.val) % 16 = 0 + b.val by omega]
  exact congrArg (bmax (hrow W i t) (0 + b.val)) (Fin.ext (show l.val = 0 + 1 * l.val by omega))

/-- A row among those of the piece lies in its rectangle. -/
theorem mem8 (y : S256x128.Idx) (off : Fin 2 → ℕ) (inb : ∀ a, off a + S8x128.size a ≤ S256x128.size a) (o : ℕ) (hoff : off = ![o, 0]) (h1 : o ≤ (y 0).val) (h2 : (y 0).val < o + 8) :
    y ∈ (Rect.unit (s := S256x128) off S8x128.size inb).set := by
  subst hoff
  refine Rect.mem_set_unit.mpr fun a => ?_
  match a with
  | ⟨0, _⟩ => exact ⟨h1, h2⟩
  | ⟨1, _⟩ => exact ⟨Nat.zero_le _, (show (y 1).val < 0 + 128 from by have := (y 1).isLt; exact (Nat.zero_add 128).symm ▸ this)⟩

/-- A piece of 6 rows of block maxima, at its place among the absmax rows. -/
theorem piece6 (W : ℕ → ℕ → ℕ → EReal) (w : FVec Ideal S6x128 .f32) (i t : ℕ) (ht : t < 2) (hw : ∀ (b : Fin 6) (l : Fin 128), w (ix2 b l : S6x128.Idx) = bmax (hrow W i t) (8 + b.val) l)
    (off : Fin 2 → ℕ) (inb : ∀ a, off a + S6x128.size a ≤ S256x128.size a) (hoff : off = ![32 * i + 16 * t + 8, 0]) (h : S6x128.ShapeCasts S6x128) (x : S6x128.Idx) :
    shapeCast S6x128 w h x = amtG W ((Rect.unit (s := S256x128) off S6x128.size inb).emb x) := by
  subst hoff
  obtain ⟨b, l, rfl⟩ : ∃ (b : Fin 6) (l : Fin 128), x = (ix2 b l : S6x128.Idx) := ⟨x 0, x 1, eq_ix2 x⟩
  rw [shapeCast_self, hw]
  show _ = bmax (hrow W ((32 * i + 16 * t + 8 + 1 * b.val) / 32) ((32 * i + 16 * t + 8 + 1 * b.val) / 16 % 2)) ((32 * i + 16 * t + 8 + 1 * b.val) % 16) _
  rw [show (32 * i + 16 * t + 8 + 1 * b.val) / 32 = i by omega, show (32 * i + 16 * t + 8 + 1 * b.val) / 16 % 2 = t by omega,
    show (32 * i + 16 * t + 8 + 1 * b.val) % 16 = 8 + b.val by omega]
  exact congrArg (bmax (hrow W i t) (8 + b.val)) (Fin.ext (show l.val = 0 + 1 * l.val by omega))

/-- A row among those of the piece lies in its rectangle. -/
theorem mem6 (y : S256x128.Idx) (off : Fin 2 → ℕ) (inb : ∀ a, off a + S6x128.size a ≤ S256x128.size a) (o : ℕ) (hoff : off = ![o, 0]) (h1 : o ≤ (y 0).val) (h2 : (y 0).val < o + 6) :
    y ∈ (Rect.unit (s := S256x128) off S6x128.size inb).set := by
  subst hoff
  refine Rect.mem_set_unit.mpr fun a => ?_
  match a with
  | ⟨0, _⟩ => exact ⟨h1, h2⟩
  | ⟨1, _⟩ => exact ⟨Nat.zero_le _, (show (y 1).val < 0 + 128 from by have := (y 1).isLt; exact (Nat.zero_add 128).symm ▸ this)⟩

/-- The rows that a trip writes. -/
theorem step_amt (arg2 : Memref sig .tc .vmem S8x256x128 .bf16) (arg3 : Memref sig .tc .vmem S8x256x128 .bf16) (arg4 : Memref sig .tc .vmem S8x256x128 .bf16) (arg5 : Memref sig .tc .vmem S8x256x128 .bf16) (arg6 : Memref sig .tc .vmem S8x256x128 .bf16) (arg7 : Memref sig .tc .vmem S8x256x128 .bf16) (arg8 : Memref sig .tc .vmem S8x256x128 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (arg15 arg16 : Memref sig .tc .vmem S112x2x128 .bf16) (arg21 : Memref sig .tc .vmem S256x128 .f32) (W : ℕ → ℕ → ℕ → EReal)
    (h0 : ∀ (i : Fin 8) (p : Fin 256) (d : Fin 128), arg2.view.read (Elt Ideal) X_arg2 (ix3 i p d : S8x256x128.Idx) = W i.val p.val (0 + d.val))
    (h1 : ∀ (i : Fin 8) (p : Fin 256) (d : Fin 128), arg3.view.read (Elt Ideal) X_arg3 (ix3 i p d : S8x256x128.Idx) = W i.val p.val (128 + d.val))
    (h2 : ∀ (i : Fin 8) (p : Fin 256) (d : Fin 128), arg4.view.read (Elt Ideal) X_arg4 (ix3 i p d : S8x256x128.Idx) = W i.val p.val (256 + d.val))
    (h3 : ∀ (i : Fin 8) (p : Fin 256) (d : Fin 128), arg5.view.read (Elt Ideal) X_arg5 (ix3 i p d : S8x256x128.Idx) = W i.val p.val (384 + d.val))
    (h4 : ∀ (i : Fin 8) (p : Fin 256) (d : Fin 128), arg6.view.read (Elt Ideal) X_arg6 (ix3 i p d : S8x256x128.Idx) = W i.val p.val (512 + d.val))
    (h5 : ∀ (i : Fin 8) (p : Fin 256) (d : Fin 128), arg7.view.read (Elt Ideal) X_arg7 (ix3 i p d : S8x256x128.Idx) = W i.val p.val (640 + d.val))
    (h6 : ∀ (i : Fin 8) (p : Fin 256) (d : Fin 128), arg8.view.read (Elt Ideal) X_arg8 (ix3 i p d : S8x256x128.Idx) = W i.val p.val (768 + d.val))
    (k : Fin k0_t1_loop.trips) (g : BufTy.Contents (Elt Ideal) arg21.view.ty) (hg : Amt W arg21 k.val g) :
    Amt W arg21 (k.val + 1) (arg21.view.writes (Elt Ideal) g
      [⟨Rect.unit (s := S256x128) (k0_off28 k) S6x128.size (k0_off28_inb k), shapeCast S6x128 (stat6 arg15.view (partL (tileN arg2 X_arg2 k) (tileN arg3 X_arg3 k) (tileN arg4 X_arg4 k) (tileN arg5 X_arg5 k) (tileN arg6 X_arg6 k) (tileN arg7 X_arg7 k) (tileN arg8 X_arg8 k))) shapeCasts_S6x128_S6x128⟩,
       ⟨Rect.unit (s := S256x128) (k0_off27 k) S8x128.size (k0_off27_inb k), shapeCast S8x128 (stat8 arg15.view (partL (tileN arg2 X_arg2 k) (tileN arg3 X_arg3 k) (tileN arg4 X_arg4 k) (tileN arg5 X_arg5 k) (tileN arg6 X_arg6 k) (tileN arg7 X_arg7 k) (tileN arg8 X_arg8 k))) shapeCasts_S8x128_S8x128⟩,
       ⟨Rect.unit (s := S256x128) (k0_off14 k) S6x128.size (k0_off14_inb k), shapeCast S6x128 (stat6 arg16.view (partL (tileR arg2 X_arg2 k) (tileR arg3 X_arg3 k) (tileR arg4 X_arg4 k) (tileR arg5 X_arg5 k) (tileR arg6 X_arg6 k) (tileR arg7 X_arg7 k) (tileR arg8 X_arg8 k))) shapeCasts_S6x128_S6x128⟩,
       ⟨Rect.unit (s := S256x128) (k0_off13 k) S8x128.size (k0_off13_inb k), shapeCast S8x128 (stat8 arg16.view (partL (tileR arg2 X_arg2 k) (tileR arg3 X_arg3 k) (tileR arg4 X_arg4 k) (tileR arg5 X_arg5 k) (tileR arg6 X_arg6 k) (tileR arg7 X_arg7 k) (tileR arg8 X_arg8 k))) shapeCasts_S8x128_S8x128⟩]) := by
  have hk8 : k.val < 8 := k.isLt
  intro y hy hyn
  have hy0 : (y 0).val < 256 := (y 0).isLt
  by_cases hc : ((y 0).val / 32 = k.val ∧ (y 0).val / 16 % 2 = 1) ∨ ((y 0).val / 32 = min (k.val + 1) 7 ∧ (y 0).val / 16 % 2 = 0)
  · refine View.read_writes_apply_of_pieces arg21.view g (amtG W) _ ?_ y ?_
    · intro p hp
      simp only [List.mem_cons, List.mem_nil_iff, or_false] at hp
      rcases hp with rfl | rfl | rfl | rfl
      · exact piece6 W _ (min (k.val + 1) 7) 0 (by norm_num) (stat6_apply arg15.view _ _ _ _ _ _ _ _ (tileN_apply arg2 X_arg2 W 0 h0 k) (tileN_apply arg3 X_arg3 W 128 h1 k) (tileN_apply arg4 X_arg4 W 256 h2 k) (tileN_apply arg5 X_arg5 W 384 h3 k) (tileN_apply arg6 X_arg6 W 512 h4 k) (tileN_apply arg7 X_arg7 W 640 h5 k) (tileN_apply arg8 X_arg8 W 768 h6 k)) _ (k0_off28_inb k) ((k0_off28_eq k).trans (by simp)) _
      · exact piece8 W _ (min (k.val + 1) 7) 0 (by norm_num) (stat8_apply arg15.view _ _ _ _ _ _ _ _ (tileN_apply arg2 X_arg2 W 0 h0 k) (tileN_apply arg3 X_arg3 W 128 h1 k) (tileN_apply arg4 X_arg4 W 256 h2 k) (tileN_apply arg5 X_arg5 W 384 h3 k) (tileN_apply arg6 X_arg6 W 512 h4 k) (tileN_apply arg7 X_arg7 W 640 h5 k) (tileN_apply arg8 X_arg8 W 768 h6 k)) _ (k0_off27_inb k) ((k0_off27_eq k).trans (by simp)) _
      · exact piece6 W _ k.val 1 (by norm_num) (stat6_apply arg16.view _ _ _ _ _ _ _ _ (tileR_apply arg2 X_arg2 W 0 h0 k) (tileR_apply arg3 X_arg3 W 128 h1 k) (tileR_apply arg4 X_arg4 W 256 h2 k) (tileR_apply arg5 X_arg5 W 384 h3 k) (tileR_apply arg6 X_arg6 W 512 h4 k) (tileR_apply arg7 X_arg7 W 640 h5 k) (tileR_apply arg8 X_arg8 W 768 h6 k)) _ (k0_off14_inb k) ((k0_off14_eq k).trans (by simp)) _
      · exact piece8 W _ k.val 1 (by norm_num) (stat8_apply arg16.view _ _ _ _ _ _ _ _ (tileR_apply arg2 X_arg2 W 0 h0 k) (tileR_apply arg3 X_arg3 W 128 h1 k) (tileR_apply arg4 X_arg4 W 256 h2 k) (tileR_apply arg5 X_arg5 W 384 h3 k) (tileR_apply arg6 X_arg6 W 512 h4 k) (tileR_apply arg7 X_arg7 W 640 h5 k) (tileR_apply arg8 X_arg8 W 768 h6 k)) _ (k0_off13_inb k) ((k0_off13_eq k).trans (by simp)) _
    · simp only [List.mem_cons, List.mem_nil_iff, or_false, exists_eq_or_imp, exists_eq_left]
      rcases hc with ⟨e1, e2⟩ | ⟨e1, e2⟩
      · by_cases h8 : (y 0).val % 16 < 8
        · exact .inr (.inr (.inr (mem8 y _ (k0_off13_inb k) _ (k0_off13_eq k) (by omega) (by omega))))
        · exact .inr (.inr (.inl (mem6 y _ (k0_off14_inb k) _ (k0_off14_eq k) (by omega) (by omega))))
      · by_cases h8 : (y 0).val % 16 < 8
        · exact .inr (.inl (mem8 y _ (k0_off27_inb k) _ (k0_off27_eq k) (by omega) (by omega)))
        · exact .inl (mem6 y _ (k0_off28_inb k) _ (k0_off28_eq k) (by omega) (by omega))
  · rw [View.read_writes_apply_of_forall_not_mem]
    · refine hg y hy ?_
      omega
    · intro p hp hm
      apply hc
      simp only [List.mem_cons, List.mem_nil_iff, or_false] at hp
      rcases hp with rfl | rfl | rfl | rfl
      · have := (Rect.mem_set_unit (s := S256x128) (inb := k0_off28_inb k)).mp hm 0
        rw [k0_off28_eq k] at this
        have h1 : 32 * min (k.val + 1) 7 + 8 ≤ (y 0).val := this.1
        have h2 : (y 0).val < 32 * min (k.val + 1) 7 + 8 + 6 := this.2
        omega
      · have := (Rect.mem_set_unit (s := S256x128) (inb := k0_off27_inb k)).mp hm 0
        rw [k0_off27_eq k] at this
        have h1 : 32 * min (k.val + 1) 7 ≤ (y 0).val := this.1
        have h2 : (y 0).val < 32 * min (k.val + 1) 7 + 8 := this.2
        omega
      · have := (Rect.mem_set_unit (s := S256x128) (inb := k0_off14_inb k)).mp hm 0
        rw [k0_off14_eq k] at this
        have h1 : 32 * k.val + 24 ≤ (y 0).val := this.1
        have h2 : (y 0).val < 32 * k.val + 24 + 6 := this.2
        omega
      · have := (Rect.mem_set_unit (s := S256x128) (inb := k0_off13_inb k)).mp hm 0
        rw [k0_off13_eq k] at this
        have h1 : 32 * k.val + 16 ≤ (y 0).val := this.1
        have h2 : (y 0).val < 32 * k.val + 16 + 8 := this.2
        omega

/-- The rows that the start writes. -/
theorem init_amt (arg2 : Memref sig .tc .vmem S8x256x128 .bf16) (arg3 : Memref sig .tc .vmem S8x256x128 .bf16) (arg4 : Memref sig .tc .vmem S8x256x128 .bf16) (arg5 : Memref sig .tc .vmem S8x256x128 .bf16) (arg6 : Memref sig .tc .vmem S8x256x128 .bf16) (arg7 : Memref sig .tc .vmem S8x256x128 .bf16) (arg8 : Memref sig .tc .vmem S8x256x128 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (arg15 : Memref sig .tc .vmem S112x2x128 .bf16) (arg21 : Memref sig .tc .vmem S256x128 .f32) (W : ℕ → ℕ → ℕ → EReal)
    (h0 : ∀ (i : Fin 8) (p : Fin 256) (d : Fin 128), arg2.view.read (Elt Ideal) X_arg2 (ix3 i p d : S8x256x128.Idx) = W i.val p.val (0 + d.val))
    (h1 : ∀ (i : Fin 8) (p : Fin 256) (d : Fin 128), arg3.view.read (Elt Ideal) X_arg3 (ix3 i p d : S8x256x128.Idx) = W i.val p.val (128 + d.val))
    (h2 : ∀ (i : Fin 8) (p : Fin 256) (d : Fin 128), arg4.view.read (Elt Ideal) X_arg4 (ix3 i p d : S8x256x128.Idx) = W i.val p.val (256 + d.val))
    (h3 : ∀ (i : Fin 8) (p : Fin 256) (d : Fin 128), arg5.view.read (Elt Ideal) X_arg5 (ix3 i p d : S8x256x128.Idx) = W i.val p.val (384 + d.val))
    (h4 : ∀ (i : Fin 8) (p : Fin 256) (d : Fin 128), arg6.view.read (Elt Ideal) X_arg6 (ix3 i p d : S8x256x128.Idx) = W i.val p.val (512 + d.val))
    (h5 : ∀ (i : Fin 8) (p : Fin 256) (d : Fin 128), arg7.view.read (Elt Ideal) X_arg7 (ix3 i p d : S8x256x128.Idx) = W i.val p.val (640 + d.val))
    (h6 : ∀ (i : Fin 8) (p : Fin 256) (d : Fin 128), arg8.view.read (Elt Ideal) X_arg8 (ix3 i p d : S8x256x128.Idx) = W i.val p.val (768 + d.val))
    (g : BufTy.Contents (Elt Ideal) arg21.view.ty) :
    Amt W arg21 0 (arg21.view.writes (Elt Ideal) g
      [⟨Rect.unit ![8, 0] S6x128.size inb_S256x128_S6x128_8_0, shapeCast S6x128 (stat6 arg15.view (partL (tile0 arg2 X_arg2) (tile0 arg3 X_arg3) (tile0 arg4 X_arg4) (tile0 arg5 X_arg5) (tile0 arg6 X_arg6) (tile0 arg7 X_arg7) (tile0 arg8 X_arg8))) shapeCasts_S6x128_S6x128⟩,
       ⟨Rect.unit ![0, 0] S8x128.size inb_S256x128_S8x128_0_0, shapeCast S8x128 (stat8 arg15.view (partL (tile0 arg2 X_arg2) (tile0 arg3 X_arg3) (tile0 arg4 X_arg4) (tile0 arg5 X_arg5) (tile0 arg6 X_arg6) (tile0 arg7 X_arg7) (tile0 arg8 X_arg8))) shapeCasts_S8x128_S8x128⟩]) := by
  intro y hy hyn
  refine View.read_writes_apply_of_pieces arg21.view g (amtG W) _ ?_ y ?_
  · intro p hp
    simp only [List.mem_cons, List.mem_nil_iff, or_false] at hp
    rcases hp with rfl | rfl
    · exact piece6 W _ 0 0 (by norm_num) (stat6_apply arg15.view _ _ _ _ _ _ _ _ (tile0_apply arg2 X_arg2 W 0 h0) (tile0_apply arg3 X_arg3 W 128 h1) (tile0_apply arg4 X_arg4 W 256 h2) (tile0_apply arg5 X_arg5 W 384 h3) (tile0_apply arg6 X_arg6 W 512 h4) (tile0_apply arg7 X_arg7 W 640 h5) (tile0_apply arg8 X_arg8 W 768 h6)) ![8, 0] inb_S256x128_S6x128_8_0 rfl _
    · exact piece8 W _ 0 0 (by norm_num) (stat8_apply arg15.view _ _ _ _ _ _ _ _ (tile0_apply arg2 X_arg2 W 0 h0) (tile0_apply arg3 X_arg3 W 128 h1) (tile0_apply arg4 X_arg4 W 256 h2) (tile0_apply arg5 X_arg5 W 384 h3) (tile0_apply arg6 X_arg6 W 512 h4) (tile0_apply arg7 X_arg7 W 640 h5) (tile0_apply arg8 X_arg8 W 768 h6)) ![0, 0] inb_S256x128_S8x128_0_0 rfl _
  · simp only [List.mem_cons, List.mem_nil_iff, or_false, exists_eq_or_imp, exists_eq_left]
    by_cases h8 : (y 0).val % 16 < 8
    · exact .inr (mem8 y ![0, 0] inb_S256x128_S8x128_0_0 _ rfl (by omega) (by omega))
    · exact .inl (mem6 y ![8, 0] inb_S256x128_S6x128_8_0 _ rfl (by omega) (by omega))

/-- The absmax rows of a state that the loop reaches. -/
theorem reach_amt (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (G_arg13 : BufTy.Contents (Elt Ideal) arg13.view.ty) (G_arg17 : BufTy.Contents (Elt Ideal) arg17.view.ty) (G_arg19 : BufTy.Contents (Elt Ideal) arg19.view.ty) (G_arg10 : BufTy.Contents (Elt Ideal) arg10.view.ty) (G_arg21 : BufTy.Contents (Elt Ideal) arg21.view.ty) (W : ℕ → ℕ → ℕ → EReal)
    (h0 : ∀ (i : Fin 8) (p : Fin 256) (d : Fin 128), arg2.view.read (Elt Ideal) X_arg2 (ix3 i p d : S8x256x128.Idx) = W i.val p.val (0 + d.val))
    (h1 : ∀ (i : Fin 8) (p : Fin 256) (d : Fin 128), arg3.view.read (Elt Ideal) X_arg3 (ix3 i p d : S8x256x128.Idx) = W i.val p.val (128 + d.val))
    (h2 : ∀ (i : Fin 8) (p : Fin 256) (d : Fin 128), arg4.view.read (Elt Ideal) X_arg4 (ix3 i p d : S8x256x128.Idx) = W i.val p.val (256 + d.val))
    (h3 : ∀ (i : Fin 8) (p : Fin 256) (d : Fin 128), arg5.view.read (Elt Ideal) X_arg5 (ix3 i p d : S8x256x128.Idx) = W i.val p.val (384 + d.val))
    (h4 : ∀ (i : Fin 8) (p : Fin 256) (d : Fin 128), arg6.view.read (Elt Ideal) X_arg6 (ix3 i p d : S8x256x128.Idx) = W i.val p.val (512 + d.val))
    (h5 : ∀ (i : Fin 8) (p : Fin 256) (d : Fin 128), arg7.view.read (Elt Ideal) X_arg7 (ix3 i p d : S8x256x128.Idx) = W i.val p.val (640 + d.val))
    (h6 : ∀ (i : Fin 8) (p : Fin 256) (d : Fin 128), arg8.view.read (Elt Ideal) X_arg8 (ix3 i p d : S8x256x128.Idx) = W i.val p.val (768 + d.val))
    (h0' : Amt W arg21 0 G_arg21)
    (n : ℕ) (g_arg13 : BufTy.Contents (Elt Ideal) arg13.view.ty) (g_arg17 : BufTy.Contents (Elt Ideal) arg17.view.ty) (g_arg19 : BufTy.Contents (Elt Ideal) arg19.view.ty) (g_arg10 : BufTy.Contents (Elt Ideal) arg10.view.ty) (g_arg21 : BufTy.Contents (Elt Ideal) arg21.view.ty) (h : Reach (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 n g_arg13 g_arg17 g_arg19 g_arg10 g_arg21) : Amt W arg21 n g_arg21 := by
  induction h with
  | zero => exact h0'
  | succ arg0 arg1 v568_lo v568_hi v569_hi k g_arg13 g_arg17 g_arg19 g_arg10 g_arg21 g_arg14 g_arg15 g_arg16 g_arg18 g_arg20 h ih =>
    rw [trip_amt]
    exact step_amt arg2 arg3 arg4 arg5 arg6 arg7 arg8 X_arg2 X_arg3 X_arg4 X_arg5 X_arg6 X_arg7 X_arg8 arg15 arg16 arg21 W h0 h1 h2 h3 h4 h5 h6 k g_arg21 ih

end Cert.EncodeReach

end
-- ==== Proof.EncodeSums.lean ====
/- What the first call leaves in its absmax block and its sums, as functions of the weight, over the extended reals. -/
module

public import proofs.«01_k».proof.Proof.EncodeReach

@[expose] public section

set_option maxRecDepth 16384
set_option maxHeartbeats 4000000

noncomputable section

namespace Cert.EncodeSums

open Idealize.ShloMosaic Idealize.ShloMosaic.TcCoe Idealize.SL.Sem Idealize.ShloMosaic.ValueIdx
open Cert.KernelIdeal Cert.KernelIdeal.Gen Cert.KernelIdeal.Row Cert.EncodeSpec Cert.EncodeVal Cert.EncodeRow Cert.EncodeReach

/-- The absmax block: the absolute maximum of block `b` at row `i` and position `p`. -/
def aOut (W : ℕ → ℕ → ℕ → EReal) : S14x8x256.Idx → EReal := fun y =>
  bmax (hrow W (y 1).val ((y 2).val / 128)) (y 0).val ⟨(y 2).val % 128, Nat.mod_lt _ (by norm_num)⟩

/-- The sums: what they were, plus the absmax values of the point, by row and lane. -/
def sOut (W : ℕ → ℕ → ℕ → EReal) (x : S8x128.Idx → EReal) : S8x128.Idx → EReal := fun y =>
  x y + (∑ b ∈ Finset.range 14, bmax (hrow W (y 0).val 0) b (y 1) + ∑ b ∈ Finset.range 14, bmax (hrow W (y 0).val 1) b (y 1))

/-- A strided load of the absmax rows: block `b` of half `t` of the eight rows. -/
theorem rd_at (W : ℕ → ℕ → ℕ → EReal) (v : Memref sig .tc .vmem S256x128 .f32) (g : BufTy.Contents (Elt Ideal) v.view.ty) (h : Amt W v 8 g)
    (j t b : ℕ) (ht : t < 2) (hb : b < 14) (hj : j = 16 * t + b) (inb : ∀ a, S8x128.size a = 0 ∨ (![j, 0] : Fin 2 → ℕ) a + (![32, 1] : Fin 2 → ℕ) a * (S8x128.size a - 1) < S256x128.size a) (R : Fin 8) (l : Fin 128) :
    View.readAt (Elt Ideal) v.view (⟨![j, 0], S8x128.size, ![32, 1], inb⟩ : LoadRect S256x128) g (ix2 R l : S8x128.Idx) = bmax (hrow W R.val t) b l := by
  refine (congrArg (v.view.read (Elt Ideal) g) (?_ : _ = (ix2 (⟨32 * R.val + j, by omega⟩ : Fin 256) l : S256x128.Idx))).trans ((h _ ?_ ?_).trans ?_)
  · funext a
    match a with
    | ⟨0, _⟩ => exact Fin.ext (show j + 32 * R.val = 32 * R.val + j by omega)
    | ⟨1, _⟩ => exact Fin.ext (show 0 + 1 * l.val = l.val by omega)
  · show (32 * R.val + j) % 16 < 14
    omega
  · left
    show (32 * R.val + j) / 32 < 8
    omega
  · show bmax (hrow W ((32 * R.val + j) / 32) ((32 * R.val + j) / 16 % 2)) ((32 * R.val + j) % 16) l = _
    rw [show (32 * R.val + j) / 32 = R.val by omega, show (32 * R.val + j) / 16 % 2 = t by omega, show (32 * R.val + j) % 16 = b by omega]

/-- A row of absmax values, at its place in the absmax block. -/
theorem piece (W : ℕ → ℕ → ℕ → EReal) (w : FVec Ideal S8x128 .f32) (t b : ℕ) (ht : t < 2) (hw : ∀ (R : Fin 8) (l : Fin 128), w (ix2 R l : S8x128.Idx) = bmax (hrow W R.val t) b l)
    (h : S8x128.ShapeCasts S1x8x128) (o : ℕ) (ho : o = 128 * t) (inb : ∀ a, (![b, 0, o] : Fin 3 → ℕ) a + S1x8x128.size a ≤ S14x8x256.size a) (x : S1x8x128.Idx) :
    shapeCast S1x8x128 w h x = aOut W ((Rect.unit (s := S14x8x256) ![b, 0, o] S1x8x128.size inb).emb x) := by
  obtain ⟨z, R, l, rfl⟩ : ∃ (z : Fin 1) (R : Fin 8) (l : Fin 128), x = (ix3 z R l : S1x8x128.Idx) := ⟨x 0, x 1, x 2, eq_ix3 x⟩
  obtain rfl : z = 0 := Subsingleton.elim _ _
  rw [shapeCast_apply w h _ (ix2 R l : S8x128.Idx) (by
    rw [Shape.rowMajor_val_two, Shape.rowMajor_val_three]
    show R.val * 128 + l.val = (0 * 8 + R.val) * 128 + l.val
    omega), hw]
  subst ho
  show _ = bmax (hrow W (0 + 1 * R.val) ((128 * t + 1 * l.val) / 128)) (b + 1 * 0) ⟨(128 * t + 1 * l.val) % 128, _⟩
  rw [show 0 + 1 * R.val = R.val by omega, show (128 * t + 1 * l.val) / 128 = t by omega]
  exact congrArg (bmax (hrow W R.val t) b) (Fin.ext (show l.val = (128 * t + 1 * l.val) % 128 by omega))

/-- The absmax block as stored. -/
theorem read_absmax (W : ℕ → ℕ → ℕ → EReal) (v : Memref sig .tc .vmem S256x128 .f32) (g : BufTy.Contents (Elt Ideal) v.view.ty) (h : Amt W v 8 g)
    (u : Memref sig .tc .vmem S14x8x256 .f32) (f : BufTy.Contents (Elt Ideal) u.view.ty) :
    u.view.read (Elt Ideal) (u.view.writes (Elt Ideal) f (absL (F := Ideal) v g)) = aOut W := by
  funext y
  refine View.read_writes_apply_of_pieces u.view f (aOut W) _ ?_ y ?_
  · unfold absL
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
    · exact piece W _ 1 13 (by norm_num) (rd_at W v g h 29 1 13 (by norm_num) (by norm_num) rfl _) _ 128 rfl inb_S14x8x256_S1x8x128_13_0_128
    · exact piece W _ 1 12 (by norm_num) (rd_at W v g h 28 1 12 (by norm_num) (by norm_num) rfl _) _ 128 rfl inb_S14x8x256_S1x8x128_12_0_128
    · exact piece W _ 1 11 (by norm_num) (rd_at W v g h 27 1 11 (by norm_num) (by norm_num) rfl _) _ 128 rfl inb_S14x8x256_S1x8x128_11_0_128
    · exact piece W _ 1 10 (by norm_num) (rd_at W v g h 26 1 10 (by norm_num) (by norm_num) rfl _) _ 128 rfl inb_S14x8x256_S1x8x128_10_0_128
    · exact piece W _ 1 9 (by norm_num) (rd_at W v g h 25 1 9 (by norm_num) (by norm_num) rfl _) _ 128 rfl inb_S14x8x256_S1x8x128_9_0_128
    · exact piece W _ 1 8 (by norm_num) (rd_at W v g h 24 1 8 (by norm_num) (by norm_num) rfl _) _ 128 rfl inb_S14x8x256_S1x8x128_8_0_128
    · exact piece W _ 1 7 (by norm_num) (rd_at W v g h 23 1 7 (by norm_num) (by norm_num) rfl _) _ 128 rfl inb_S14x8x256_S1x8x128_7_0_128
    · exact piece W _ 1 6 (by norm_num) (rd_at W v g h 22 1 6 (by norm_num) (by norm_num) rfl _) _ 128 rfl inb_S14x8x256_S1x8x128_6_0_128
    · exact piece W _ 1 5 (by norm_num) (rd_at W v g h 21 1 5 (by norm_num) (by norm_num) rfl _) _ 128 rfl inb_S14x8x256_S1x8x128_5_0_128
    · exact piece W _ 1 4 (by norm_num) (rd_at W v g h 20 1 4 (by norm_num) (by norm_num) rfl _) _ 128 rfl inb_S14x8x256_S1x8x128_4_0_128
    · exact piece W _ 1 3 (by norm_num) (rd_at W v g h 19 1 3 (by norm_num) (by norm_num) rfl _) _ 128 rfl inb_S14x8x256_S1x8x128_3_0_128
    · exact piece W _ 1 2 (by norm_num) (rd_at W v g h 18 1 2 (by norm_num) (by norm_num) rfl _) _ 128 rfl inb_S14x8x256_S1x8x128_2_0_128
    · exact piece W _ 1 1 (by norm_num) (rd_at W v g h 17 1 1 (by norm_num) (by norm_num) rfl _) _ 128 rfl inb_S14x8x256_S1x8x128_1_0_128
    · exact piece W _ 1 0 (by norm_num) (rd_at W v g h 16 1 0 (by norm_num) (by norm_num) rfl _) _ 128 rfl inb_S14x8x256_S1x8x128_0_0_128
    · exact piece W _ 0 13 (by norm_num) (rd_at W v g h 13 0 13 (by norm_num) (by norm_num) rfl _) _ 0 rfl inb_S14x8x256_S1x8x128_13_0_0
    · exact piece W _ 0 12 (by norm_num) (rd_at W v g h 12 0 12 (by norm_num) (by norm_num) rfl _) _ 0 rfl inb_S14x8x256_S1x8x128_12_0_0
    · exact piece W _ 0 11 (by norm_num) (rd_at W v g h 11 0 11 (by norm_num) (by norm_num) rfl _) _ 0 rfl inb_S14x8x256_S1x8x128_11_0_0
    · exact piece W _ 0 10 (by norm_num) (rd_at W v g h 10 0 10 (by norm_num) (by norm_num) rfl _) _ 0 rfl inb_S14x8x256_S1x8x128_10_0_0
    · exact piece W _ 0 9 (by norm_num) (rd_at W v g h 9 0 9 (by norm_num) (by norm_num) rfl _) _ 0 rfl inb_S14x8x256_S1x8x128_9_0_0
    · exact piece W _ 0 8 (by norm_num) (rd_at W v g h 8 0 8 (by norm_num) (by norm_num) rfl _) _ 0 rfl inb_S14x8x256_S1x8x128_8_0_0
    · exact piece W _ 0 7 (by norm_num) (rd_at W v g h 7 0 7 (by norm_num) (by norm_num) rfl _) _ 0 rfl inb_S14x8x256_S1x8x128_7_0_0
    · exact piece W _ 0 6 (by norm_num) (rd_at W v g h 6 0 6 (by norm_num) (by norm_num) rfl _) _ 0 rfl inb_S14x8x256_S1x8x128_6_0_0
    · exact piece W _ 0 5 (by norm_num) (rd_at W v g h 5 0 5 (by norm_num) (by norm_num) rfl _) _ 0 rfl inb_S14x8x256_S1x8x128_5_0_0
    · exact piece W _ 0 4 (by norm_num) (rd_at W v g h 4 0 4 (by norm_num) (by norm_num) rfl _) _ 0 rfl inb_S14x8x256_S1x8x128_4_0_0
    · exact piece W _ 0 3 (by norm_num) (rd_at W v g h 3 0 3 (by norm_num) (by norm_num) rfl _) _ 0 rfl inb_S14x8x256_S1x8x128_3_0_0
    · exact piece W _ 0 2 (by norm_num) (rd_at W v g h 2 0 2 (by norm_num) (by norm_num) rfl _) _ 0 rfl inb_S14x8x256_S1x8x128_2_0_0
    · exact piece W _ 0 1 (by norm_num) (rd_at W v g h 1 0 1 (by norm_num) (by norm_num) rfl _) _ 0 rfl inb_S14x8x256_S1x8x128_1_0_0
    · exact piece W _ 0 0 (by norm_num) (rd_at W v g h 0 0 0 (by norm_num) (by norm_num) rfl _) _ 0 rfl inb_S14x8x256_S1x8x128_0_0_0
  · unfold absL
    exact View.cover_of_tiled_head _ _ _ rfl y

/-- The sums as added up. -/
theorem sums_eq (W : ℕ → ℕ → ℕ → EReal) (v : Memref sig .tc .vmem S256x128 .f32) (g : BufTy.Contents (Elt Ideal) v.view.ty) (h : Amt W v 8 g)
    (x : S8x128.Idx → EReal) : sumsOf (F := Ideal) x v g = sOut W x := by
  funext y
  obtain ⟨R, l, rfl⟩ : ∃ (R : Fin 8) (l : Fin 128), y = (ix2 R l : S8x128.Idx) := ⟨y 0, y 1, eq_ix2 y⟩
  have e0 : rd0 (F := Ideal) v g (ix2 R l : S8x128.Idx) = bmax (hrow W R.val 0) 0 l := rd_at W v g h 0 0 0 (by norm_num) (by norm_num) rfl _ R l
  have e1 : rd1 (F := Ideal) v g (ix2 R l : S8x128.Idx) = bmax (hrow W R.val 0) 1 l := rd_at W v g h 1 0 1 (by norm_num) (by norm_num) rfl _ R l
  have e2 : rd2 (F := Ideal) v g (ix2 R l : S8x128.Idx) = bmax (hrow W R.val 0) 2 l := rd_at W v g h 2 0 2 (by norm_num) (by norm_num) rfl _ R l
  have e3 : rd3 (F := Ideal) v g (ix2 R l : S8x128.Idx) = bmax (hrow W R.val 0) 3 l := rd_at W v g h 3 0 3 (by norm_num) (by norm_num) rfl _ R l
  have e4 : rd4 (F := Ideal) v g (ix2 R l : S8x128.Idx) = bmax (hrow W R.val 0) 4 l := rd_at W v g h 4 0 4 (by norm_num) (by norm_num) rfl _ R l
  have e5 : rd5 (F := Ideal) v g (ix2 R l : S8x128.Idx) = bmax (hrow W R.val 0) 5 l := rd_at W v g h 5 0 5 (by norm_num) (by norm_num) rfl _ R l
  have e6 : rd6 (F := Ideal) v g (ix2 R l : S8x128.Idx) = bmax (hrow W R.val 0) 6 l := rd_at W v g h 6 0 6 (by norm_num) (by norm_num) rfl _ R l
  have e7 : rd7 (F := Ideal) v g (ix2 R l : S8x128.Idx) = bmax (hrow W R.val 0) 7 l := rd_at W v g h 7 0 7 (by norm_num) (by norm_num) rfl _ R l
  have e8 : rd8 (F := Ideal) v g (ix2 R l : S8x128.Idx) = bmax (hrow W R.val 0) 8 l := rd_at W v g h 8 0 8 (by norm_num) (by norm_num) rfl _ R l
  have e9 : rd9 (F := Ideal) v g (ix2 R l : S8x128.Idx) = bmax (hrow W R.val 0) 9 l := rd_at W v g h 9 0 9 (by norm_num) (by norm_num) rfl _ R l
  have e10 : rd10 (F := Ideal) v g (ix2 R l : S8x128.Idx) = bmax (hrow W R.val 0) 10 l := rd_at W v g h 10 0 10 (by norm_num) (by norm_num) rfl _ R l
  have e11 : rd11 (F := Ideal) v g (ix2 R l : S8x128.Idx) = bmax (hrow W R.val 0) 11 l := rd_at W v g h 11 0 11 (by norm_num) (by norm_num) rfl _ R l
  have e12 : rd12 (F := Ideal) v g (ix2 R l : S8x128.Idx) = bmax (hrow W R.val 0) 12 l := rd_at W v g h 12 0 12 (by norm_num) (by norm_num) rfl _ R l
  have e13 : rd13 (F := Ideal) v g (ix2 R l : S8x128.Idx) = bmax (hrow W R.val 0) 13 l := rd_at W v g h 13 0 13 (by norm_num) (by norm_num) rfl _ R l
  have e16 : rd16 (F := Ideal) v g (ix2 R l : S8x128.Idx) = bmax (hrow W R.val 1) 0 l := rd_at W v g h 16 1 0 (by norm_num) (by norm_num) rfl _ R l
  have e17 : rd17 (F := Ideal) v g (ix2 R l : S8x128.Idx) = bmax (hrow W R.val 1) 1 l := rd_at W v g h 17 1 1 (by norm_num) (by norm_num) rfl _ R l
  have e18 : rd18 (F := Ideal) v g (ix2 R l : S8x128.Idx) = bmax (hrow W R.val 1) 2 l := rd_at W v g h 18 1 2 (by norm_num) (by norm_num) rfl _ R l
  have e19 : rd19 (F := Ideal) v g (ix2 R l : S8x128.Idx) = bmax (hrow W R.val 1) 3 l := rd_at W v g h 19 1 3 (by norm_num) (by norm_num) rfl _ R l
  have e20 : rd20 (F := Ideal) v g (ix2 R l : S8x128.Idx) = bmax (hrow W R.val 1) 4 l := rd_at W v g h 20 1 4 (by norm_num) (by norm_num) rfl _ R l
  have e21 : rd21 (F := Ideal) v g (ix2 R l : S8x128.Idx) = bmax (hrow W R.val 1) 5 l := rd_at W v g h 21 1 5 (by norm_num) (by norm_num) rfl _ R l
  have e22 : rd22 (F := Ideal) v g (ix2 R l : S8x128.Idx) = bmax (hrow W R.val 1) 6 l := rd_at W v g h 22 1 6 (by norm_num) (by norm_num) rfl _ R l
  have e23 : rd23 (F := Ideal) v g (ix2 R l : S8x128.Idx) = bmax (hrow W R.val 1) 7 l := rd_at W v g h 23 1 7 (by norm_num) (by norm_num) rfl _ R l
  have e24 : rd24 (F := Ideal) v g (ix2 R l : S8x128.Idx) = bmax (hrow W R.val 1) 8 l := rd_at W v g h 24 1 8 (by norm_num) (by norm_num) rfl _ R l
  have e25 : rd25 (F := Ideal) v g (ix2 R l : S8x128.Idx) = bmax (hrow W R.val 1) 9 l := rd_at W v g h 25 1 9 (by norm_num) (by norm_num) rfl _ R l
  have e26 : rd26 (F := Ideal) v g (ix2 R l : S8x128.Idx) = bmax (hrow W R.val 1) 10 l := rd_at W v g h 26 1 10 (by norm_num) (by norm_num) rfl _ R l
  have e27 : rd27 (F := Ideal) v g (ix2 R l : S8x128.Idx) = bmax (hrow W R.val 1) 11 l := rd_at W v g h 27 1 11 (by norm_num) (by norm_num) rfl _ R l
  have e28 : rd28 (F := Ideal) v g (ix2 R l : S8x128.Idx) = bmax (hrow W R.val 1) 12 l := rd_at W v g h 28 1 12 (by norm_num) (by norm_num) rfl _ R l
  have e29 : rd29 (F := Ideal) v g (ix2 R l : S8x128.Idx) = bmax (hrow W R.val 1) 13 l := rd_at W v g h 29 1 13 (by norm_num) (by norm_num) rfl _ R l
  have ex : sumsOf (F := Ideal) x v g (ix2 R l : S8x128.Idx) = ((((((((((((((((((((((((((((shapeCast S8x128 x shapeCasts_S8x128_S8x128 (ix2 R l : S8x128.Idx) + rd0 (F := Ideal) v g (ix2 R l : S8x128.Idx)) + rd1 (F := Ideal) v g (ix2 R l : S8x128.Idx)) + rd2 (F := Ideal) v g (ix2 R l : S8x128.Idx)) + rd3 (F := Ideal) v g (ix2 R l : S8x128.Idx)) + rd4 (F := Ideal) v g (ix2 R l : S8x128.Idx)) + rd5 (F := Ideal) v g (ix2 R l : S8x128.Idx)) + rd6 (F := Ideal) v g (ix2 R l : S8x128.Idx)) + rd7 (F := Ideal) v g (ix2 R l : S8x128.Idx)) + rd8 (F := Ideal) v g (ix2 R l : S8x128.Idx)) + rd9 (F := Ideal) v g (ix2 R l : S8x128.Idx)) + rd10 (F := Ideal) v g (ix2 R l : S8x128.Idx)) + rd11 (F := Ideal) v g (ix2 R l : S8x128.Idx)) + rd12 (F := Ideal) v g (ix2 R l : S8x128.Idx)) + rd13 (F := Ideal) v g (ix2 R l : S8x128.Idx)) + rd16 (F := Ideal) v g (ix2 R l : S8x128.Idx)) + rd17 (F := Ideal) v g (ix2 R l : S8x128.Idx)) + rd18 (F := Ideal) v g (ix2 R l : S8x128.Idx)) + rd19 (F := Ideal) v g (ix2 R l : S8x128.Idx)) + rd20 (F := Ideal) v g (ix2 R l : S8x128.Idx)) + rd21 (F := Ideal) v g (ix2 R l : S8x128.Idx)) + rd22 (F := Ideal) v g (ix2 R l : S8x128.Idx)) + rd23 (F := Ideal) v g (ix2 R l : S8x128.Idx)) + rd24 (F := Ideal) v g (ix2 R l : S8x128.Idx)) + rd25 (F := Ideal) v g (ix2 R l : S8x128.Idx)) + rd26 (F := Ideal) v g (ix2 R l : S8x128.Idx)) + rd27 (F := Ideal) v g (ix2 R l : S8x128.Idx)) + rd28 (F := Ideal) v g (ix2 R l : S8x128.Idx)) + rd29 (F := Ideal) v g (ix2 R l : S8x128.Idx)) := rfl
  rw [ex, e0, e1, e2, e3, e4, e5, e6, e7, e8, e9, e10, e11, e12, e13, e16, e17, e18, e19, e20, e21, e22, e23, e24, e25, e26, e27, e28, e29, shapeCast_self]
  show _ = x (ix2 R l : S8x128.Idx) + (∑ b ∈ Finset.range 14, bmax (hrow W R.val 0) b l + ∑ b ∈ Finset.range 14, bmax (hrow W R.val 1) b l)
  simp only [Finset.sum_range_succ, Finset.sum_range_zero, zero_add, add_assoc]

/-- The sums as stored. -/
theorem read_sums (u : Memref sig .tc .vmem S8x128 .f32) (f : BufTy.Contents (Elt Ideal) u.view.ty) (w : S8x128.Idx → EReal) (L : List (View.Piece (Elt Ideal) S8x128 .f32)) :
    u.view.read (Elt Ideal) (u.view.writes (Elt Ideal) f (⟨Rect.unit (s := S8x128) ![0, 0] S8x128.size inb_S8x128_S8x128_0_0, w⟩ :: L)) = w := by
  funext y
  have hz : (![0, 0] : Fin 2 → ℕ) = fun _ => 0 := by funext a; match a with | ⟨0, _⟩ => rfl | ⟨1, _⟩ => rfl
  have hy : (Rect.unit (s := S8x128) ![0, 0] S8x128.size inb_S8x128_S8x128_0_0).emb y = y := by
    funext a
    match a with
    | ⟨0, _⟩ => exact Fin.ext (show 0 + 1 * (y 0).val = (y 0).val by omega)
    | ⟨1, _⟩ => exact Fin.ext (show 0 + 1 * (y 1).val = (y 1).val by omega)
  have := View.read_writes_cons_emb (Val := Elt Ideal) u.view f (Rect.unit (s := S8x128) ![0, 0] S8x128.size inb_S8x128_S8x128_0_0) w L y
  rwa [hy] at this

/-- The sums as read back. -/
theorem readAt_sums (u : Memref sig .tc .vmem S8x128 .f32) (f : BufTy.Contents (Elt Ideal) u.view.ty) :
    View.readAt (Elt Ideal) u.view (Rect.unit (s := S8x128) ![0, 0] S8x128.size inb_S8x128_S8x128_0_0).toLoadRect f = u.view.read (Elt Ideal) f := by
  funext y
  refine congrArg (u.view.read (Elt Ideal) f) ?_
  funext a
  match a with
  | ⟨0, _⟩ => exact Fin.ext (show 0 + 1 * (y 0).val = (y 0).val by omega)
  | ⟨1, _⟩ => exact Fin.ext (show 0 + 1 * (y 1).val = (y 1).val by omega)

/-- The sums as cleared and read back. -/
theorem readCov_sums (u : Memref sig .tc .vmem S8x128 .f32) :
    u.view.readCov (Val := Elt Ideal) [⟨Rect.unit (s := S8x128) ![0, 0] S8x128.size inb_S8x128_S8x128_0_0, k0_pay331 (F := Ideal)⟩] (Rect.unit (s := S8x128) ![0, 0] S8x128.size inb_S8x128_S8x128_0_0).toLoadRect = fun _ => (0 : EReal) := by
  rw [View.readCov_unit_zero]
  · funext y
    exact Ideal.ofBits_zero_f32
  · funext a; match a with | ⟨0, _⟩ => rfl | ⟨1, _⟩ => rfl

end Cert.EncodeSums

end
-- ==== Proof.EncodePack.lean ====
/- What a block of the first call's coding loop stores, in named functions, and what a trip of the row loop leaves among
   the packed codes. -/
module

public import proofs.«01_k».proof.Proof.EncodeRow

@[expose] public section

set_option maxRecDepth 16384
set_option maxHeartbeats 4000000

noncomputable section

namespace Cert.EncodePack

open Idealize.ShloMosaic Idealize.ShloMosaic.TcCoe Idealize.SL.Sem
open Cert.KernelIdeal Cert.KernelIdeal.Gen Cert.KernelIdeal.Row Cert.EncodeSpec Cert.EncodeRow

variable {F : FTy → Type} [FloatOps F]

/-- The indices of sixteen rows of weights: the warped hyperbolic tangent, scaled and rounded. -/
def zidx (x iv : FVec F S16x128 .bf16) : IVec S16x128 32 :=
  fptosi 32 (roundeven (mulf (extf .f32 (addf (tanh (mulf x iv)) (broadcast S16x128 (Scalar.ofBits .bf16 0x41C7#16))) bitsLt_bf16_f32)
    (broadcast S16x128 (Scalar.ofBits .f32 0x41000000#32))))

/-- The thresholds that the indices name. -/
def gath (th : FVec F S16x128 .bf16) (z : IVec S16x128 32) : FVec F S16x128 .bf16 :=
  dynamicGather 0 th (shapeCast S16x128 (shapeCast S16x128x1 (subi z (broadcast S16x128 192#32)) shapeCasts_S16x128_S16x128x1) shapeCasts_S16x128x1_S16x128)

/-- The codes of thirty-two rows of weights, a byte each. -/
def codes (th iv xa xb : FVec F S16x128 .bf16) : IVec S8x128 32 :=
  subi (bitcast S8x128 32 (trunci 8 (concatenate S32x128 0 [⟨S16x128, zidx xa iv⟩, ⟨S16x128, zidx xb iv⟩] concatenates_S16x128_S16x128_S32x128_d0) natLt_8_32) bitcasts_S32x128_w8_S8x128_w32)
    (bitcast S8x128 32 (select (cmpf .ogt (concatenate S32x128 0 [⟨S16x128, xa⟩, ⟨S16x128, xb⟩] concatenates_S16x128_S16x128_S32x128_d0)
        (concatenate S32x128 0 [⟨S16x128, gath th (zidx xa iv)⟩, ⟨S16x128, gath th (zidx xb iv)⟩] concatenates_S16x128_S16x128_S32x128_d0))
      (broadcast S32x128 191#8) (broadcast S32x128 192#8)) bitcasts_S32x128_w8_S8x128_w32)

/-- The packed pairs of a word of four codes. -/
def pairsOf (c : IVec S8x128 32) : IVec S16x128 16 :=
  bitcast S16x128 16 (addi (shli c (broadcast S8x128 4#32)) (shrui c (broadcast S8x128 8#32))) bitcasts_S8x128_w32_S16x128_w16

/-- A block's warped reciprocal, on sixteen rows. -/
def ivOf (r : Vec F S1x2x128 .bf16) : FVec F S16x128 .bf16 := k0_pay1 r

/-- A block's thresholds. -/
def thOf (a : Vec F S1x128 .f32) (t0 t1 : Vec F S8x128 .f32) : FVec F S16x128 .bf16 := k0_pay2 a t0 t1

/-- The packed codes of a block of sixty-four rows of weights. -/
def pkOf (r : Vec F S1x2x128 .bf16) (a : Vec F S1x128 .f32) (t0 t1 : Vec F S8x128 .f32) (x0 x1 x2 x3 : Vec F S8x2x128 .bf16) : IVec S1x32x128 8 :=
  shapeCast S1x32x128 (trunci 8 (concatenate S32x128 0 [⟨S16x128, pairsOf (codes (thOf a t0 t1) (ivOf r) (rows8 x0) (rows8 x1))⟩,
    ⟨S16x128, pairsOf (codes (thOf a t0 t1) (ivOf r) (rows8 x2) (rows8 x3))⟩] concatenates_S16x128_S16x128_S32x128_d0) natLt_8_16) shapeCasts_S32x128_S1x32x128

theorem trip2 (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (c0_i32 : BitVec 32) (c1_i32 : BitVec 32) (k0_t1 : Fin k0_t1_loop.trips) (X_arg9 : BufTy.Contents (Elt F) arg9.view.ty) (X_arg13 : BufTy.Contents (Elt F) arg13.view.ty) (X_arg17 : BufTy.Contents (Elt F) arg17.view.ty) (X_arg19 : BufTy.Contents (Elt F) arg19.view.ty) (k : Fin k0_t2_loop.trips) :
    tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32 c1_i32 k0_t1 X_arg9 X_arg13 X_arg17 X_arg19 k =
      [⟨Rect.unit (s := S8x448x256) (k0_off4 k0_t1 k) S1x32x128.size (k0_off4_inb k0_t1 k), pkOf
        (View.readAt (Elt F) arg17.view (Rect.unit (s := S16x2x128) (k0_off1 k) S1x2x128.size (k0_off1_inb k)).toLoadRect X_arg17)
        (View.readAt (Elt F) arg19.view (Rect.unit (s := S16x128) (k0_off2 k) S1x128.size (k0_off2_inb k)).toLoadRect X_arg19)
        (View.readAt (Elt F) arg9.view (Rect.unit (s := S16x128) ![0, 0] S8x128.size inb_S16x128_S8x128_0_0).toLoadRect X_arg9)
        (View.readAt (Elt F) arg9.view (Rect.unit (s := S16x128) ![8, 0] S8x128.size inb_S16x128_S8x128_8_0).toLoadRect X_arg9)
        (View.readAt (Elt F) arg13.view (Rect.unit (s := S448x2x128) (k0_off3 k 0#32 0#32) S8x2x128.size (k0_off3_inb k 0 0)).toLoadRect X_arg13)
        (View.readAt (Elt F) arg13.view (Rect.unit (s := S448x2x128) (k0_off3 k 0#32 8#32) S8x2x128.size (k0_off3_inb k 0 1)).toLoadRect X_arg13)
        (View.readAt (Elt F) arg13.view (Rect.unit (s := S448x2x128) (k0_off3 k 16#32 0#32) S8x2x128.size (k0_off3_inb k 1 0)).toLoadRect X_arg13)
        (View.readAt (Elt F) arg13.view (Rect.unit (s := S448x2x128) (k0_off3 k 16#32 8#32) S8x2x128.size (k0_off3_inb k 1 1)).toLoadRect X_arg13)⟩] := by
  unfold tripL_k0_t2 trip_k0_t2
  rfl

theorem trip3 (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (k0_t1 : Fin k0_t1_loop.trips) (arg22 : BitVec 32) (v1337 : FVec F S6x128 .f32) (v1347 : IVec S6x128 1) (X_arg9 : BufTy.Contents (Elt F) arg9.view.ty) (X_arg14 : BufTy.Contents (Elt F) arg14.view.ty) (X_arg18 : BufTy.Contents (Elt F) arg18.view.ty) (X_arg20 : BufTy.Contents (Elt F) arg20.view.ty) (k : Fin k0_t3_loop.trips) :
    tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 arg22 v1337 v1347 X_arg9 X_arg14 X_arg18 X_arg20 k =
      [⟨Rect.unit (s := S8x448x256) (k0_off18 k0_t1 k) S1x32x128.size (k0_off18_inb k0_t1 k), pkOf
        (View.readAt (Elt F) arg18.view (Rect.unit (s := S16x2x128) (k0_off15 k) S1x2x128.size (k0_off15_inb k)).toLoadRect X_arg18)
        (View.readAt (Elt F) arg20.view (Rect.unit (s := S16x128) (k0_off16 k) S1x128.size (k0_off16_inb k)).toLoadRect X_arg20)
        (View.readAt (Elt F) arg9.view (Rect.unit (s := S16x128) ![0, 0] S8x128.size inb_S16x128_S8x128_0_0).toLoadRect X_arg9)
        (View.readAt (Elt F) arg9.view (Rect.unit (s := S16x128) ![8, 0] S8x128.size inb_S16x128_S8x128_8_0).toLoadRect X_arg9)
        (View.readAt (Elt F) arg14.view (Rect.unit (s := S448x2x128) (k0_off17 k 0#32 0#32) S8x2x128.size (k0_off17_inb k 0 0)).toLoadRect X_arg14)
        (View.readAt (Elt F) arg14.view (Rect.unit (s := S448x2x128) (k0_off17 k 0#32 8#32) S8x2x128.size (k0_off17_inb k 0 1)).toLoadRect X_arg14)
        (View.readAt (Elt F) arg14.view (Rect.unit (s := S448x2x128) (k0_off17 k 16#32 0#32) S8x2x128.size (k0_off17_inb k 1 0)).toLoadRect X_arg14)
        (View.readAt (Elt F) arg14.view (Rect.unit (s := S448x2x128) (k0_off17 k 16#32 8#32) S8x2x128.size (k0_off17_inb k 1 1)).toLoadRect X_arg14)⟩] := by
  unfold tripL_k0_t3 trip_k0_t3
  rfl

end Cert.EncodePack

end
-- ==== Proof.EncodePackRow.lean ====
/- What a block of the first call's coding loop stores, in named functions, and what a trip of the row loop leaves among
   the packed codes. -/
module

public import proofs.«01_k».proof.Proof.EncodePack

@[expose] public section

set_option maxRecDepth 16384
set_option maxHeartbeats 4000000

noncomputable section

namespace Cert.EncodePack

open Idealize.ShloMosaic Idealize.ShloMosaic.TcCoe Idealize.SL.Sem
open Cert.KernelIdeal Cert.KernelIdeal.Gen Cert.KernelIdeal.Row Cert.EncodeSpec Cert.EncodeRow

variable {F : FTy → Type} [FloatOps F]

theorem trip_pk (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (arg0 : BitVec 32) (arg1 : BitVec 32) (v568_lo : FVec F S6x128 .bf16) (v568_hi : FVec F S6x128 .bf16) (v569_hi : FVec F S6x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg17 : BufTy.Contents (Elt F) arg17.view.ty) (X_arg19 : BufTy.Contents (Elt F) arg19.view.ty) (X_arg14 : BufTy.Contents (Elt F) arg14.view.ty) (X_arg15 : BufTy.Contents (Elt F) arg15.view.ty) (X_arg16 : BufTy.Contents (Elt F) arg16.view.ty) (X_arg18 : BufTy.Contents (Elt F) arg18.view.ty) (X_arg20 : BufTy.Contents (Elt F) arg20.view.ty) (k : Fin k0_t1_loop.trips) :
    ∃ c0_i32 c1_i32 arg22 v1337 v1347 Y14 Y18 Y20, (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 X_arg13 X_arg17 X_arg19 X_arg14 X_arg15 X_arg16 X_arg18 X_arg20 k).2.2.2.1 =
      pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v1337 v1347 X_arg9 Y14 Y18 Y20 k0_t3_loop.trips
        ++ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32 c1_i32 k X_arg9 X_arg13 X_arg17 X_arg19 k0_t2_loop.trips
      ∧ Y14 = (arg14.view.writes (Elt F) arg14.view.junk (xtL (tileR arg2 X_arg2 k) (tileR arg3 X_arg3 k) (tileR arg4 X_arg4 k) (tileR arg5 X_arg5 k) (tileR arg6 X_arg6 k) (tileR arg7 X_arg7 k) (tileR arg8 X_arg8 k)))
      ∧ Y18 = (arg18.view.writes (Elt F) X_arg18 [⟨Rect.unit ![8, 0, 0] S6x2x128.size inb_S16x2x128_S6x2x128_8_0_0, inv6 (stat6 arg16.view (partL (tileR arg2 X_arg2 k) (tileR arg3 X_arg3 k) (tileR arg4 X_arg4 k) (tileR arg5 X_arg5 k) (tileR arg6 X_arg6 k) (tileR arg7 X_arg7 k) (tileR arg8 X_arg8 k)))⟩,
       ⟨Rect.unit ![0, 0, 0] S8x2x128.size inb_S16x2x128_S8x2x128_0_0_0, inv8 (stat8 arg16.view (partL (tileR arg2 X_arg2 k) (tileR arg3 X_arg3 k) (tileR arg4 X_arg4 k) (tileR arg5 X_arg5 k) (tileR arg6 X_arg6 k) (tileR arg7 X_arg7 k) (tileR arg8 X_arg8 k)))⟩])
      ∧ Y20 = (arg20.view.writes (Elt F) X_arg20 [⟨Rect.unit ![8, 0] S6x128.size inb_S16x128_S6x128_8_0, shapeCast S6x128 (safe6 (stat6 arg16.view (partL (tileR arg2 X_arg2 k) (tileR arg3 X_arg3 k) (tileR arg4 X_arg4 k) (tileR arg5 X_arg5 k) (tileR arg6 X_arg6 k) (tileR arg7 X_arg7 k) (tileR arg8 X_arg8 k)))) shapeCasts_S6x128_S6x128⟩,
       ⟨Rect.unit ![0, 0] S8x128.size inb_S16x128_S8x128_0_0, shapeCast S8x128 (safe8 (stat8 arg16.view (partL (tileR arg2 X_arg2 k) (tileR arg3 X_arg3 k) (tileR arg4 X_arg4 k) (tileR arg5 X_arg5 k) (tileR arg6 X_arg6 k) (tileR arg7 X_arg7 k) (tileR arg8 X_arg8 k)))) shapeCasts_S8x128_S8x128⟩]) := by
  unfold trip
  refine ⟨_, _, _, _, _, _, _, _, rfl, ?_, ?_, ?_⟩
  · rfl
  · rfl
  · rfl

end Cert.EncodePack

end
-- ==== Proof.EncodeScalar.lean ====
/- The four-bit code of a weight: the warped index corrected by one comparison counts the thresholds below the weight. -/
module

public import Idealize.ShloMosaic.PureOps.Ideal.Laws
public import Idealize.ShloMosaic.Lib.Pipeline.Value

@[expose] public section

set_option maxRecDepth 8192
set_option maxHeartbeats 4000000

noncomputable section

namespace Cert.EncodeScalar

open Idealize.ShloMosaic

/-- The fifteen thresholds; past them the value two. -/
def thr : ℕ → ℝ
  | 0 => -1778587 / 2097152
  | 1 => -640295 / 1048576
  | 2 => -120585 / 262144
  | 3 => -5698875 / 16777216
  | 4 => -3936059 / 16777216
  | 5 => -2313775 / 16777216
  | 6 => -12220529 / 268435456
  | 7 => 10681087 / 268435456
  | 8 => 8070193 / 67108864
  | 9 => 426815 / 2097152
  | 10 => 2449589 / 8388608
  | 11 => 13063161 / 33554432
  | 12 => 2104129 / 4194304
  | 13 => 10784175 / 16777216
  | 14 => 14453209 / 16777216
  | _ => 2

/-- The warp's factor. -/
def warp : ℝ := 1545601 / 1048576

/-- A lower bound of the hyperbolic tangent. -/
theorem lt_tanh (y q : ℝ) (hq : q < 1) (hy : -32 ≤ y) (h : 1 + q < (1 - q) * (1 + y / 32) ^ 64) : q < Real.tanh y := by
  have e1 : (1 + y / 32) ^ 64 ≤ Real.exp y * Real.exp y := by
    have h1 : 1 + y / 32 ≤ Real.exp (y / 32) := by have := Real.add_one_le_exp (y / 32); linarith
    have h0 : 0 ≤ 1 + y / 32 := by linarith
    have h2 := pow_le_pow_left₀ h0 h1 64
    have h3 : Real.exp (y / 32) ^ 64 = Real.exp y * Real.exp y := by
      rw [← Real.exp_nat_mul, ← Real.exp_add]
      congr 1
      push_cast
      ring
    rwa [h3] at h2
  have e2 : 1 + q < (1 - q) * (Real.exp y * Real.exp y) := lt_of_lt_of_le h (mul_le_mul_of_nonneg_left e1 (by linarith))
  have e3 : Real.exp y * Real.exp (-y) = 1 := by rw [← Real.exp_add, add_neg_cancel, Real.exp_zero]
  have e4 : (1 + q) * Real.exp (-y) < (1 - q) * Real.exp y := by
    have := mul_lt_mul_of_pos_right e2 (Real.exp_pos (-y))
    calc (1 + q) * Real.exp (-y) < (1 - q) * (Real.exp y * Real.exp y) * Real.exp (-y) := this
      _ = (1 - q) * Real.exp y * (Real.exp y * Real.exp (-y)) := by ring
      _ = (1 - q) * Real.exp y := by rw [e3, mul_one]
  rw [Real.tanh_eq_sinh_div_cosh, lt_div_iff₀ (Real.cosh_pos y), Real.sinh_eq, Real.cosh_eq]
  linarith

/-- An upper bound of the hyperbolic tangent. -/
theorem tanh_lt (y q : ℝ) (hq : -1 < q) (hy : y ≤ 32) (h : 1 - q < (1 + q) * (1 - y / 32) ^ 64) : Real.tanh y < q := by
  have := lt_tanh (-y) (-q) (by linarith) (by linarith) (by
    have e : 1 + -y / 32 = 1 - y / 32 := by ring
    rw [e]; linarith)
  rw [Real.tanh_neg] at this
  linarith

/-- The hyperbolic tangent is monotone. -/
theorem tanh_mono {x y : ℝ} (h : x ≤ y) : Real.tanh x ≤ Real.tanh y := by
  rw [Real.tanh_eq_sinh_div_cosh, Real.tanh_eq_sinh_div_cosh, div_le_div_iff₀ (Real.cosh_pos x) (Real.cosh_pos y)]
  have := Real.sinh_sub y x
  have h0 : 0 ≤ Real.sinh (y - x) := Real.sinh_nonneg_iff.mpr (by linarith)
  linarith

theorem lo0 : ((0 : ℕ) - 15 / 2 : ℝ) / 8 < Real.tanh (warp * thr 0) := by
  refine lt_tanh _ _ ?_ ?_ ?_ <;> norm_num [warp, thr]

theorem hi0 : Real.tanh (warp * thr 0) < ((0 : ℕ) - 13 / 2 : ℝ) / 8 := by
  refine tanh_lt _ _ ?_ ?_ ?_ <;> norm_num [warp, thr]

theorem lo1 : ((1 : ℕ) - 15 / 2 : ℝ) / 8 < Real.tanh (warp * thr 1) := by
  refine lt_tanh _ _ ?_ ?_ ?_ <;> norm_num [warp, thr]

theorem hi1 : Real.tanh (warp * thr 1) < ((1 : ℕ) - 13 / 2 : ℝ) / 8 := by
  refine tanh_lt _ _ ?_ ?_ ?_ <;> norm_num [warp, thr]

theorem lo2 : ((2 : ℕ) - 15 / 2 : ℝ) / 8 < Real.tanh (warp * thr 2) := by
  refine lt_tanh _ _ ?_ ?_ ?_ <;> norm_num [warp, thr]

theorem hi2 : Real.tanh (warp * thr 2) < ((2 : ℕ) - 13 / 2 : ℝ) / 8 := by
  refine tanh_lt _ _ ?_ ?_ ?_ <;> norm_num [warp, thr]

theorem lo3 : ((3 : ℕ) - 15 / 2 : ℝ) / 8 < Real.tanh (warp * thr 3) := by
  refine lt_tanh _ _ ?_ ?_ ?_ <;> norm_num [warp, thr]

theorem hi3 : Real.tanh (warp * thr 3) < ((3 : ℕ) - 13 / 2 : ℝ) / 8 := by
  refine tanh_lt _ _ ?_ ?_ ?_ <;> norm_num [warp, thr]

theorem lo4 : ((4 : ℕ) - 15 / 2 : ℝ) / 8 < Real.tanh (warp * thr 4) := by
  refine lt_tanh _ _ ?_ ?_ ?_ <;> norm_num [warp, thr]

theorem hi4 : Real.tanh (warp * thr 4) < ((4 : ℕ) - 13 / 2 : ℝ) / 8 := by
  refine tanh_lt _ _ ?_ ?_ ?_ <;> norm_num [warp, thr]

theorem lo5 : ((5 : ℕ) - 15 / 2 : ℝ) / 8 < Real.tanh (warp * thr 5) := by
  refine lt_tanh _ _ ?_ ?_ ?_ <;> norm_num [warp, thr]

theorem hi5 : Real.tanh (warp * thr 5) < ((5 : ℕ) - 13 / 2 : ℝ) / 8 := by
  refine tanh_lt _ _ ?_ ?_ ?_ <;> norm_num [warp, thr]

theorem lo6 : ((6 : ℕ) - 15 / 2 : ℝ) / 8 < Real.tanh (warp * thr 6) := by
  refine lt_tanh _ _ ?_ ?_ ?_ <;> norm_num [warp, thr]

theorem hi6 : Real.tanh (warp * thr 6) < ((6 : ℕ) - 13 / 2 : ℝ) / 8 := by
  refine tanh_lt _ _ ?_ ?_ ?_ <;> norm_num [warp, thr]

theorem lo7 : ((7 : ℕ) - 15 / 2 : ℝ) / 8 < Real.tanh (warp * thr 7) := by
  refine lt_tanh _ _ ?_ ?_ ?_ <;> norm_num [warp, thr]

theorem hi7 : Real.tanh (warp * thr 7) < ((7 : ℕ) - 13 / 2 : ℝ) / 8 := by
  refine tanh_lt _ _ ?_ ?_ ?_ <;> norm_num [warp, thr]

theorem lo8 : ((8 : ℕ) - 15 / 2 : ℝ) / 8 < Real.tanh (warp * thr 8) := by
  refine lt_tanh _ _ ?_ ?_ ?_ <;> norm_num [warp, thr]

theorem hi8 : Real.tanh (warp * thr 8) < ((8 : ℕ) - 13 / 2 : ℝ) / 8 := by
  refine tanh_lt _ _ ?_ ?_ ?_ <;> norm_num [warp, thr]

theorem lo9 : ((9 : ℕ) - 15 / 2 : ℝ) / 8 < Real.tanh (warp * thr 9) := by
  refine lt_tanh _ _ ?_ ?_ ?_ <;> norm_num [warp, thr]

theorem hi9 : Real.tanh (warp * thr 9) < ((9 : ℕ) - 13 / 2 : ℝ) / 8 := by
  refine tanh_lt _ _ ?_ ?_ ?_ <;> norm_num [warp, thr]

theorem lo10 : ((10 : ℕ) - 15 / 2 : ℝ) / 8 < Real.tanh (warp * thr 10) := by
  refine lt_tanh _ _ ?_ ?_ ?_ <;> norm_num [warp, thr]

theorem hi10 : Real.tanh (warp * thr 10) < ((10 : ℕ) - 13 / 2 : ℝ) / 8 := by
  refine tanh_lt _ _ ?_ ?_ ?_ <;> norm_num [warp, thr]

theorem lo11 : ((11 : ℕ) - 15 / 2 : ℝ) / 8 < Real.tanh (warp * thr 11) := by
  refine lt_tanh _ _ ?_ ?_ ?_ <;> norm_num [warp, thr]

theorem hi11 : Real.tanh (warp * thr 11) < ((11 : ℕ) - 13 / 2 : ℝ) / 8 := by
  refine tanh_lt _ _ ?_ ?_ ?_ <;> norm_num [warp, thr]

theorem lo12 : ((12 : ℕ) - 15 / 2 : ℝ) / 8 < Real.tanh (warp * thr 12) := by
  refine lt_tanh _ _ ?_ ?_ ?_ <;> norm_num [warp, thr]

theorem hi12 : Real.tanh (warp * thr 12) < ((12 : ℕ) - 13 / 2 : ℝ) / 8 := by
  refine tanh_lt _ _ ?_ ?_ ?_ <;> norm_num [warp, thr]

theorem lo13 : ((13 : ℕ) - 15 / 2 : ℝ) / 8 < Real.tanh (warp * thr 13) := by
  refine lt_tanh _ _ ?_ ?_ ?_ <;> norm_num [warp, thr]

theorem hi13 : Real.tanh (warp * thr 13) < ((13 : ℕ) - 13 / 2 : ℝ) / 8 := by
  refine tanh_lt _ _ ?_ ?_ ?_ <;> norm_num [warp, thr]

theorem lo14 : ((14 : ℕ) - 15 / 2 : ℝ) / 8 < Real.tanh (warp * thr 14) := by
  refine lt_tanh _ _ ?_ ?_ ?_ <;> norm_num [warp, thr]

theorem hi14 : Real.tanh (warp * thr 14) < ((14 : ℕ) - 13 / 2 : ℝ) / 8 := by
  refine tanh_lt _ _ ?_ ?_ ?_ <;> norm_num [warp, thr]

/-- Every threshold's warped value lies above the index's lower edge. -/
theorem lo (j : ℕ) (hj : j < 15) : ((j : ℝ) - 15 / 2) / 8 < Real.tanh (warp * thr j) := by
  match j, hj with
  | 0, _ => exact lo0
  | 1, _ => exact lo1
  | 2, _ => exact lo2
  | 3, _ => exact lo3
  | 4, _ => exact lo4
  | 5, _ => exact lo5
  | 6, _ => exact lo6
  | 7, _ => exact lo7
  | 8, _ => exact lo8
  | 9, _ => exact lo9
  | 10, _ => exact lo10
  | 11, _ => exact lo11
  | 12, _ => exact lo12
  | 13, _ => exact lo13
  | 14, _ => exact lo14

/-- Every threshold's warped value lies below the index's upper edge. -/
theorem hi (j : ℕ) (hj : j < 15) : Real.tanh (warp * thr j) < ((j : ℝ) - 13 / 2) / 8 := by
  match j, hj with
  | 0, _ => exact hi0
  | 1, _ => exact hi1
  | 2, _ => exact hi2
  | 3, _ => exact hi3
  | 4, _ => exact hi4
  | 5, _ => exact hi5
  | 6, _ => exact hi6
  | 7, _ => exact hi7
  | 8, _ => exact hi8
  | 9, _ => exact hi9
  | 10, _ => exact hi10
  | 11, _ => exact hi11
  | 12, _ => exact hi12
  | 13, _ => exact hi13
  | 14, _ => exact hi14

/-- Rounding to nearest is within a half. -/
theorem round_near (z : ℝ) : z - 1 / 2 ≤ (Ideal.roundHalfEven z : ℝ) ∧ (Ideal.roundHalfEven z : ℝ) ≤ z + 1 / 2 := by
  have h1 := Int.floor_le z
  have h2 := Int.lt_floor_add_one z
  unfold Ideal.roundHalfEven
  dsimp only
  split_ifs <;> push_cast <;> constructor <;> linarith

/-- The index of a normalised weight, and where the weight lies among the thresholds. -/
theorem bucket (u : ℝ) (h1 : -1 ≤ u) (h2 : u ≤ 1) :
    ∃ k : ℕ, k ≤ 14 ∧ Ideal.roundHalfEven ((Real.tanh (warp * u) + 199 / 8) * 8) = 192 + (k : ℤ)
      ∧ (∀ j, j < 15 → j < k → thr j < u) ∧ (∀ j, j < 15 → k < j → u < thr j) := by
  have hw : 0 ≤ warp := by norm_num [warp]
  have t1 : Real.tanh (warp * u) < 15 / 16 := lt_of_le_of_lt (tanh_mono (mul_le_mul_of_nonneg_left h2 hw))
    (by refine tanh_lt _ _ ?_ ?_ ?_ <;> norm_num [warp])
  have t2 : -(15 / 16) < Real.tanh (warp * u) := lt_of_lt_of_le
    (by refine lt_tanh _ _ ?_ ?_ ?_ <;> norm_num [warp]) (tanh_mono (mul_le_mul_of_nonneg_left h1 hw))
  obtain ⟨r1, r2⟩ := round_near ((Real.tanh (warp * u) + 199 / 8) * 8)
  generalize hr : Ideal.roundHalfEven ((Real.tanh (warp * u) + 199 / 8) * 8) = r at r1 r2 ⊢
  have b1 : 192 ≤ r := by
    have : (191 : ℝ) < (r : ℝ) := by linarith
    have : (191 : ℤ) < r := by exact_mod_cast this
    omega
  have b2 : r ≤ 206 := by
    have : (r : ℝ) < 207 := by linarith
    have : r < (207 : ℤ) := by exact_mod_cast this
    omega
  refine ⟨(r - 192).toNat, by omega, by omega, fun j hj hk => ?_, fun j hj hk => ?_⟩
  · by_contra hc
    have h3 := tanh_mono (mul_le_mul_of_nonneg_left (not_lt.mp hc) hw)
    have h4 := hi j hj
    have h5 : (r : ℝ) < (j : ℝ) + 193 := by linarith
    have : r < (j : ℤ) + 193 := by exact_mod_cast h5
    omega
  · by_contra hc
    have h3 := tanh_mono (mul_le_mul_of_nonneg_left (not_lt.mp hc) hw)
    have h4 := lo j hj
    have h5 : (j : ℝ) + 191 < (r : ℝ) := by linarith
    have : (j : ℤ) + 191 < r := by exact_mod_cast h5
    omega

/-- An index read as a 32-bit word. -/
theorem fptosi_idx (k : ℕ) (hk : k ≤ 14) (r : ℤ) (hr : r = 192 + (k : ℤ)) : Ideal.fptosi 32 (((r : ℝ) : EReal)) = BitVec.ofNat 32 (192 + k) := by
  subst hr
  have h : Ideal.toIntClamped (-(2 ^ (32 - 1) : ℕ)) ((2 ^ (32 - 1) : ℕ) - 1) ((((192 + (k : ℤ) : ℤ) : ℝ)) : EReal) = 192 + (k : ℤ) := by
    show max _ (min _ (if 0 ≤ (((192 + (k : ℤ) : ℤ)) : ℝ) then ⌊(((192 + (k : ℤ) : ℤ)) : ℝ)⌋ else ⌈(((192 + (k : ℤ) : ℤ)) : ℝ)⌉)) = _
    rw [Int.floor_intCast, Int.ceil_intCast, ite_self]
    norm_num
    omega
  unfold Ideal.fptosi
  rw [h]
  have e : (192 + (k : ℤ)) = ((192 + k : ℕ) : ℤ) := by push_cast; rfl
  rw [e, BitVec.ofInt_natCast]

/-- A block's divisor: its absolute maximum, or one where that is zero. -/
def safeE (a : EReal) : EReal := if a = 0 then 1 else a

open Classical in
/-- The code of a weight: how many thresholds lie below the weight over its block's divisor. -/
def nf (x a : EReal) : ℕ := ((Finset.range 15).filter fun j => (thr j : EReal) < x * Ideal.div 1 (safeE a)).card

/-- A count of thresholds that are the first `c` is `c`. -/
theorem nf_eq (x a : EReal) (c : ℕ) (hc : c ≤ 15) (h : ∀ j, j < 15 → ((thr j : EReal) < x * Ideal.div 1 (safeE a) ↔ j < c)) : nf x a = c := by
  classical
  unfold nf
  rw [show (Finset.range 15).filter (fun j => (thr j : EReal) < x * Ideal.div 1 (safeE a)) = Finset.range c from ?_, Finset.card_range]
  ext j
  simp only [Finset.mem_filter, Finset.mem_range]
  constructor
  · rintro ⟨h1, h2⟩; exact (h j h1).mp h2
  · intro h1; exact ⟨by omega, (h j (by omega)).mpr h1⟩

/-- The index of a weight in its block, as the call computes it. -/
def idxE (x iv : EReal) : BitVec 32 := Ideal.fptosi 32 (Ideal.liftRound Ideal.roundHalfEven ((Ideal.tanh (x * iv) + ((199 / 8 : ℝ) : EReal)) * ((8 : ℝ) : EReal)))

theorem idx_coe (y : ℝ) (k : ℕ) (hk : k ≤ 14) (h : Ideal.roundHalfEven ((Real.tanh y + 199 / 8) * 8) = 192 + (k : ℤ)) (x iv : EReal) (hx : x * iv = (y : EReal)) :
    idxE x iv = BitVec.ofNat 32 (192 + k) := by
  unfold idxE
  rw [hx, Ideal.tanh_coe, ← EReal.coe_add, ← EReal.coe_mul]
  exact fptosi_idx k hk _ h

/-- The index corrected by one comparison is the code, and the code separates the thresholds. -/
theorem kcode (x a : EReal) (h : max x (-x) ≤ a) :
    ∃ k : ℕ, k ≤ 14 ∧ idxE x (Ideal.div 1 (safeE a) * (warp : EReal)) = BitVec.ofNat 32 (192 + k)
      ∧ (((thr k : EReal) * safeE a < x ∧ nf x a = k + 1) ∨ (¬ (thr k : EReal) * safeE a < x ∧ nf x a = k))
      ∧ ∀ j, j < 15 → ((thr j : EReal) < x * Ideal.div 1 (safeE a) ↔ j < nf x a) := by
  have ha : 0 ≤ a := by
    refine le_trans ?_ h
    rcases le_total 0 x with h0 | h0
    · exact le_trans h0 (le_max_left _ _)
    · exact le_trans (by simpa using EReal.neg_le_neg_iff.mpr h0) (le_max_right _ _)
  have hxa : x ≤ a := le_trans (le_max_left _ _) h
  have hna : -x ≤ a := le_trans (le_max_right _ _) h
  by_cases hT : a = ⊤
  · subst hT
    have hs : safeE ⊤ = ⊤ := by unfold safeE; rw [if_neg (by simp)]
    have hd : Ideal.div 1 (⊤ : EReal) = 0 := by unfold Ideal.div; rw [if_neg (by simp)]; simp
    have key : ∀ j, j < 15 → ((thr j : EReal) < x * Ideal.div 1 (safeE ⊤) ↔ j < 7) := by
      intro j hj
      rw [hs, hd, mul_zero, ← EReal.coe_zero, EReal.coe_lt_coe_iff]
      interval_cases j <;> norm_num [thr]
    have hn : nf x ⊤ = 7 := nf_eq _ _ 7 (by norm_num) key
    refine ⟨7, by norm_num, ?_, Or.inr ⟨?_, hn⟩, fun j hj => by rw [hn]; exact key j hj⟩
    · refine idx_coe 0 7 (by norm_num) ?_ _ _ (by rw [hs, hd, zero_mul, mul_zero, EReal.coe_zero])
      rw [Real.tanh_zero]
      norm_num [Ideal.roundHalfEven]
    · rw [hs, EReal.coe_mul_top_of_pos (by norm_num [thr])]
      exact not_top_lt
  · obtain ⟨s, hs, hs0, hsx, hsn⟩ : ∃ s : ℝ, safeE a = (s : EReal) ∧ 0 < s ∧ x ≤ (s : EReal) ∧ -x ≤ (s : EReal) := by
      unfold safeE
      by_cases h0 : a = 0
      · rw [if_pos h0]
        subst h0
        exact ⟨1, EReal.coe_one.symm, one_pos, le_trans hxa (by rw [EReal.coe_one]; exact zero_le_one), le_trans hna (by rw [EReal.coe_one]; exact zero_le_one)⟩
      · rw [if_neg h0]
        have hb : a ≠ ⊥ := fun hb => by rw [hb] at ha; simp at ha
        lift a to ℝ using ⟨hT, hb⟩
        refine ⟨a, rfl, ?_, hxa, hna⟩
        have h1 : (0 : ℝ) ≤ a := by exact_mod_cast ha
        have h2 : a ≠ 0 := fun h2 => h0 (by rw [h2]; rfl)
        exact lt_of_le_of_ne h1 (Ne.symm h2)
    have hx1 : x ≠ ⊤ := fun e => by rw [e] at hsx; exact absurd hsx (by simp)
    have hx2 : x ≠ ⊥ := fun e => by rw [e] at hsn; exact absurd hsn (by simp)
    lift x to ℝ using ⟨hx1, hx2⟩
    have g1 : x ≤ s := by exact_mod_cast hsx
    have g2 : -x ≤ s := by exact_mod_cast hsn
    have hd : Ideal.div 1 (s : EReal) = ((1 / s : ℝ) : EReal) := by rw [Ideal.div_coe hs0.ne', one_mul]
    obtain ⟨k, hk, hr, hlo, hhi⟩ := bucket (x / s) (by rw [le_div_iff₀ hs0]; linarith) (by rw [div_le_iff₀ hs0]; linarith)
    have c1 : ∀ j, ((thr j : EReal) < (x : EReal) * Ideal.div 1 (safeE a) ↔ thr j < x / s) := by
      intro j
      rw [hs, hd, ← EReal.coe_mul, EReal.coe_lt_coe_iff, mul_one_div]
    have c2 : ((thr k : EReal) * safeE a < (x : EReal) ↔ thr k < x / s) := by
      rw [hs, ← EReal.coe_mul, EReal.coe_lt_coe_iff, lt_div_iff₀ hs0]
    have hi2 : ∀ j, j < 15 → k < j → ¬ thr j < x / s := fun j hj hk => not_lt.mpr (hhi j hj hk).le
    refine ⟨k, hk, idx_coe (warp * (x / s)) k hk hr _ _ (by rw [hs, hd, ← EReal.coe_mul, ← EReal.coe_mul]; congr 1; ring), ?_⟩
    by_cases hc : thr k < x / s
    · have key : ∀ j, j < 15 → ((thr j : EReal) < (x : EReal) * Ideal.div 1 (safeE a) ↔ j < k + 1) := by
        intro j hj
        rw [c1]
        refine ⟨fun h1 => ?_, fun h1 => ?_⟩
        · by_contra h2
          exact hi2 j hj (by omega) h1
        · rcases Nat.lt_succ_iff_lt_or_eq.mp h1 with h2 | h2
          · exact hlo j hj h2
          · rw [h2]; exact hc
      have hn := nf_eq _ _ (k + 1) (by omega) key
      exact ⟨Or.inl ⟨c2.mpr hc, hn⟩, fun j hj => by rw [hn]; exact key j hj⟩
    · have key : ∀ j, j < 15 → ((thr j : EReal) < (x : EReal) * Ideal.div 1 (safeE a) ↔ j < k) := by
        intro j hj
        rw [c1]
        refine ⟨fun h1 => ?_, fun h1 => hlo j hj h1⟩
        rcases lt_trichotomy j k with h2 | h2 | h2
        · exact h2
        · rw [h2] at h1; exact absurd h1 hc
        · exact absurd h1 (hi2 j hj h2)
      have hn := nf_eq _ _ k (by omega) key
      exact ⟨Or.inr ⟨fun h1 => hc (c2.mp h1), hn⟩, fun j hj => by rw [hn]; exact key j hj⟩

end Cert.EncodeScalar

end
-- ==== Proof.EncodePackVal.lean ====
/- The packed codes of a block, index by index over the extended reals. -/
module

public import proofs.«01_k».proof.Proof.EncodePack
public import proofs.«01_k».proof.Proof.EncodeVal
public import proofs.«01_k».proof.Proof.EncodeScalar
public import Idealize.ShloMosaic.Lib.BitcastFour
public import Idealize.ShloMosaic.Lib.BitcastPair
public import Idealize.ShloMosaic.Lib.ValueLayout

@[expose] public section

set_option maxRecDepth 8192
set_option maxHeartbeats 1000000

noncomputable section

namespace Cert.EncodePackVal

open Idealize.ShloMosaic Idealize.ShloMosaic.TcCoe Idealize.SL.Sem Idealize.ShloMosaic.ValueIdx
open Cert.KernelIdeal Cert.KernelIdeal.Gen Cert.EncodeSpec Cert.EncodeVal Cert.EncodePack Cert.EncodeScalar

theorem or_add (x a i : ℕ) (h : x < 2 ^ i) : x ||| (a * 2 ^ i) = x + a * 2 ^ i := by
  rw [Nat.or_comm, Nat.mul_comm a, ← Nat.two_pow_add_eq_or_of_lt h, Nat.add_comm]

/-- Four bytes joined in a word, as a number. -/
theorem word_toNat (b : Fin 4 → BitVec 8) (w : BitVec 32) (h : ∀ q (hq : q < 32), w.getLsbD q = (b ⟨q / 8, by omega⟩).getLsbD (q % 8)) :
    w.toNat = (b 0).toNat + (b 1).toNat * 2 ^ 8 + (b 2).toNat * 2 ^ 16 + (b 3).toNat * 2 ^ 24 := by
  have e : w = ((b 0).setWidth 32 ||| ((b 1).setWidth 32 <<< 8) ||| ((b 2).setWidth 32 <<< 16) ||| ((b 3).setWidth 32 <<< 24)) := by
    apply BitVec.eq_of_getLsbD_eq
    intro q hq
    rw [four_bytes_getLsbD b q hq, h q hq]
  have h0 := (b 0).isLt; have h1 := (b 1).isLt; have h2 := (b 2).isLt; have h3 := (b 3).isLt
  have s : ∀ (x : BitVec 8) (n : ℕ), n ≤ 24 → (x.setWidth 32 <<< n).toNat = x.toNat * 2 ^ n := by
    intro x n hn
    rw [BitVec.toNat_shiftLeft, BitVec.toNat_setWidth, Nat.shiftLeft_eq, Nat.mod_eq_of_lt (a := x.toNat) (by have := x.isLt; omega), Nat.mod_eq_of_lt]
    calc x.toNat * 2 ^ n < 2 ^ 8 * 2 ^ n := Nat.mul_lt_mul_of_pos_right x.isLt (by positivity)
      _ = 2 ^ (8 + n) := (pow_add 2 8 n).symm
      _ ≤ 2 ^ 32 := Nat.pow_le_pow_right (by norm_num) (by omega)
  rw [e, BitVec.toNat_or, BitVec.toNat_or, BitVec.toNat_or, s _ 8 (by norm_num), s _ 16 (by norm_num), s _ 24 (by norm_num),
    BitVec.toNat_setWidth, Nat.mod_eq_of_lt (by omega : (b 0).toNat < 2 ^ 32), or_add _ _ 8 (by omega), or_add _ _ 16 (by omega), or_add _ _ 24 (by omega)]

/-- Two pieces of sixteen rows, read row by row. -/
theorem cat {α : Type} (g : ℕ → Fin 128 → α) (x y : S16x128.Idx → α) (hx : ∀ (r : Fin 16) (l : Fin 128), x (ix2 r l : S16x128.Idx) = g r.val l)
    (hy : ∀ (r : Fin 16) (l : Fin 128), y (ix2 r l : S16x128.Idx) = g (16 + r.val) l)
    (h : Shape.Concatenates ([(⟨S16x128, x⟩ : (s : Shape) × (s.Idx → α)), ⟨S16x128, y⟩].map (·.1)) S32x128 0) (n : Fin 32) (l : Fin 128) :
    concatenate S32x128 0 [⟨S16x128, x⟩, ⟨S16x128, y⟩] h (ix2 n l : S32x128.Idx) = g n.val l := by
  have hn : n.val % 16 < 16 := Nat.mod_lt _ (by norm_num)
  by_cases c : n.val < 16
  · rw [concatenate_apply_piece (t := S32x128) (0 : Fin 2) _ _ _ 0 (by simp) S16x128 x rfl rfl 0 rfl (ix2 (⟨n.val % 16, hn⟩ : Fin 16) l : S16x128.Idx)
      (by intro b hb; match b with | ⟨0, _⟩ => exact absurd rfl hb | ⟨1, _⟩ => rfl) (by show 0 + n.val % 16 = n.val; omega), hx]
    exact congrArg (fun m => g m l) (by show n.val % 16 = n.val; omega)
  · rw [concatenate_apply_piece (t := S32x128) (0 : Fin 2) _ _ _ 1 (by simp) S16x128 y rfl rfl 16 rfl (ix2 (⟨n.val % 16, hn⟩ : Fin 16) l : S16x128.Idx)
      (by intro b hb; match b with | ⟨0, _⟩ => exact absurd rfl hb | ⟨1, _⟩ => rfl) (by show 16 + n.val % 16 = n.val; omega), hy]
    exact congrArg (fun m => g m l) (by show 16 + n.val % 16 = n.val; omega)

theorem magic : (FloatOps.ofBits (F := Ideal) .bf16 0x41C7#16 : EReal) = ((199 / 8 : ℝ) : EReal) := by
  simp [Ideal.ofBits, Ideal.ieee]
  norm_cast

theorem eight : (FloatOps.ofBits (F := Ideal) .f32 0x41000000#32 : EReal) = ((8 : ℝ) : EReal) := by
  simp [Ideal.ofBits, Ideal.ieee]
  norm_cast
  norm_num

theorem zidx_apply (x iv : FVec Ideal S16x128 .bf16) (j : S16x128.Idx) : zidx x iv j = idxE (x j) (iv j) := by
  show Ideal.fptosi 32 (Ideal.liftRound Ideal.roundHalfEven ((Ideal.tanh (x j * iv j) + (FloatOps.ofBits (F := Ideal) .bf16 0x41C7#16 : EReal)) * (FloatOps.ofBits (F := Ideal) .f32 0x41000000#32 : EReal))) = _
  rw [magic, eight]
  rfl

theorem gath_apply (th : FVec Ideal S16x128 .bf16) (z : IVec S16x128 32) (r : Fin 16) (l : Fin 128) (k : ℕ) (hk : k ≤ 14) (hz : z (ix2 r l : S16x128.Idx) = BitVec.ofNat 32 (192 + k)) :
    gath th z (ix2 r l : S16x128.Idx) = th (ix2 (⟨k, by omega⟩ : Fin 16) l : S16x128.Idx) := by
  unfold gath dynamicGather
  refine congrArg th (funext fun b => ?_)
  match b with
  | ⟨0, _⟩ =>
    refine Fin.ext ?_
    show (shapeCast S16x128 (shapeCast S16x128x1 (subi z (broadcast S16x128 192#32)) shapeCasts_S16x128_S16x128x1) shapeCasts_S16x128x1_S16x128 (ix2 r l : S16x128.Idx)).toNat % 16 = k
    rw [shapeCast_apply _ _ _ (ix3 r l (0 : Fin 1) : S16x128x1.Idx) (by
      rw [Shape.rowMajor_val_three, Shape.rowMajor_val_two]
      show (r.val * 128 + l.val) * 1 + 0 = r.val * 128 + l.val
      omega), shapeCast_apply _ _ _ (ix2 r l : S16x128.Idx) (by
      rw [Shape.rowMajor_val_three, Shape.rowMajor_val_two]
      show r.val * 128 + l.val = (r.val * 128 + l.val) * 1 + 0
      omega)]
    show (z (ix2 r l : S16x128.Idx) - 192#32).toNat % 16 = k
    rw [hz, BitVec.toNat_sub, BitVec.toNat_ofNat, BitVec.toNat_ofNat]
    omega
  | ⟨1, _⟩ => rfl

/-- The word of four codes. -/
theorem codes_toNat (f : ℕ → Fin 128 → EReal) (A : Fin 128 → EReal) (hf : ∀ n l, n < 32 → max (f n l) (-(f n l)) ≤ A l)
    (th iv xa xb : FVec Ideal S16x128 .bf16)
    (hth : ∀ (n : Fin 16) (l : Fin 128), th (ix2 n l : S16x128.Idx) = (thr n.val : EReal) * safeE (A l))
    (hiv : ∀ (n : Fin 16) (l : Fin 128), iv (ix2 n l : S16x128.Idx) = Ideal.div 1 (safeE (A l)) * (warp : EReal))
    (hxa : ∀ (r : Fin 16) (l : Fin 128), xa (ix2 r l : S16x128.Idx) = f r.val l)
    (hxb : ∀ (r : Fin 16) (l : Fin 128), xb (ix2 r l : S16x128.Idx) = f (16 + r.val) l) (a : Fin 8) (l : Fin 128) :
    (codes th iv xa xb (ix2 a l : S8x128.Idx)).toNat
      = nf (f (4 * a.val) l) (A l) + nf (f (4 * a.val + 1) l) (A l) * 2 ^ 8 + nf (f (4 * a.val + 2) l) (A l) * 2 ^ 16 + nf (f (4 * a.val + 3) l) (A l) * 2 ^ 24 := by
  have ex : ∀ n l, ∃ k : ℕ, n < 32 → k ≤ 14 ∧ idxE (f n l) (Ideal.div 1 (safeE (A l)) * (warp : EReal)) = BitVec.ofNat 32 (192 + k)
      ∧ (((thr k : EReal) * safeE (A l) < f n l ∧ nf (f n l) (A l) = k + 1) ∨ (¬ (thr k : EReal) * safeE (A l) < f n l ∧ nf (f n l) (A l) = k)) := by
    intro n l
    by_cases hn : n < 32
    · obtain ⟨k, h1, h2, h3, _⟩ := kcode (f n l) (A l) (hf n l hn)
      exact ⟨k, fun _ => ⟨h1, h2, h3⟩⟩
    · exact ⟨0, fun h => absurd h hn⟩
  choose κ hκ using ex
  have za : ∀ (r : Fin 16) (l : Fin 128), zidx xa iv (ix2 r l : S16x128.Idx) = BitVec.ofNat 32 (192 + κ r.val l) := by
    intro r l; rw [zidx_apply, hxa, hiv]; exact (hκ r.val l (by omega)).2.1
  have zb : ∀ (r : Fin 16) (l : Fin 128), zidx xb iv (ix2 r l : S16x128.Idx) = BitVec.ofNat 32 (192 + κ (16 + r.val) l) := by
    intro r l; rw [zidx_apply, hxb, hiv]; exact (hκ (16 + r.val) l (by omega)).2.1
  have ga : ∀ (r : Fin 16) (l : Fin 128), gath th (zidx xa iv) (ix2 r l : S16x128.Idx) = (thr (κ r.val l) : EReal) * safeE (A l) := by
    intro r l; rw [gath_apply th _ r l _ (hκ r.val l (by omega)).1 (za r l), hth]
  have gb : ∀ (r : Fin 16) (l : Fin 128), gath th (zidx xb iv) (ix2 r l : S16x128.Idx) = (thr (κ (16 + r.val) l) : EReal) * safeE (A l) := by
    intro r l; rw [gath_apply th _ r l _ (hκ (16 + r.val) l (by omega)).1 (zb r l), hth]
  have cz := cat (fun n l => BitVec.ofNat 32 (192 + κ n l)) _ _ za zb concatenates_S16x128_S16x128_S32x128_d0
  have cx := cat f xa xb hxa hxb concatenates_S16x128_S16x128_S32x128_d0
  have cg := cat (fun n l => ((thr (κ n l) : EReal) * safeE (A l) : EReal)) _ _ ga gb concatenates_S16x128_S16x128_S32x128_d0
  have w1 := word_toNat (fun q => (BitVec.ofNat 32 (192 + κ (4 * a.val + q.val) l)).setWidth 8) (bitcast S8x128 32 (trunci 8 (concatenate S32x128 0 [⟨S16x128, zidx xa iv⟩, ⟨S16x128, zidx xb iv⟩] concatenates_S16x128_S16x128_S32x128_d0) natLt_8_32) bitcasts_S32x128_w8_S8x128_w32 (ix2 a l : S8x128.Idx))
    (by
      intro q hq
      have hp : 4 * a.val + q / 8 < 32 := by omega
      rw [bitcast_8_32_getLsbD_ix2 _ _ a l q hq ⟨4 * a.val + q / 8, hp⟩ rfl]
      exact congrArg (fun v : BitVec 32 => (v.setWidth 8).getLsbD (q % 8)) (cz ⟨4 * a.val + q / 8, hp⟩ l))
  have w2 := word_toNat (fun q => Scalar.select (Ideal.cmp .ogt (f (4 * a.val + q.val) l) ((thr (κ (4 * a.val + q.val) l) : EReal) * safeE (A l))) 191#8 192#8)
    (bitcast S8x128 32 (select (cmpf .ogt (concatenate S32x128 0 [⟨S16x128, xa⟩, ⟨S16x128, xb⟩] concatenates_S16x128_S16x128_S32x128_d0)
        (concatenate S32x128 0 [⟨S16x128, gath th (zidx xa iv)⟩, ⟨S16x128, gath th (zidx xb iv)⟩] concatenates_S16x128_S16x128_S32x128_d0))
      (broadcast S32x128 191#8) (broadcast S32x128 192#8)) bitcasts_S32x128_w8_S8x128_w32 (ix2 a l : S8x128.Idx))
    (by
      intro q hq
      have hp : 4 * a.val + q / 8 < 32 := by omega
      rw [bitcast_8_32_getLsbD_ix2 _ _ a l q hq ⟨4 * a.val + q / 8, hp⟩ rfl]
      exact congrArg₂ (fun u v : EReal => (Scalar.select (Ideal.cmp .ogt u v) 191#8 192#8).getLsbD (q % 8)) (cx ⟨4 * a.val + q / 8, hp⟩ l) (cg ⟨4 * a.val + q / 8, hp⟩ l))
  have b1 : ∀ n, n < 32 → ((BitVec.ofNat 32 (192 + κ n l)).setWidth 8).toNat = 192 + κ n l := by
    intro n hn
    have := (hκ n l hn).1
    rw [BitVec.toNat_setWidth, BitVec.toNat_ofNat]
    omega
  have b2 : ∀ n, n < 32 → κ n l ≤ 14 ∧ (((Scalar.select (Ideal.cmp .ogt (f n l) ((thr (κ n l) : EReal) * safeE (A l))) 191#8 192#8 : BitVec 8).toNat = 191 ∧ nf (f n l) (A l) = κ n l + 1)
      ∨ ((Scalar.select (Ideal.cmp .ogt (f n l) ((thr (κ n l) : EReal) * safeE (A l))) 191#8 192#8 : BitVec 8).toNat = 192 ∧ nf (f n l) (A l) = κ n l)) := by
    intro n hn
    obtain ⟨h1, _, h3⟩ := hκ n l hn
    refine ⟨h1, ?_⟩
    rcases h3 with ⟨h, e⟩ | ⟨h, e⟩
    · left
      refine ⟨?_, e⟩
      have : Ideal.cmp .ogt (f n l) ((thr (κ n l) : EReal) * safeE (A l)) = 1#1 := by unfold Ideal.cmp; simp [h]
      rw [this]; rfl
    · right
      refine ⟨?_, e⟩
      have : Ideal.cmp .ogt (f n l) ((thr (κ n l) : EReal) * safeE (A l)) = 0#1 := by unfold Ideal.cmp; simp [h]
      rw [this]; rfl
  have ha := a.isLt
  have x0 := b1 (4 * a.val) (by omega); have x1 := b1 (4 * a.val + 1) (by omega); have x2 := b1 (4 * a.val + 2) (by omega); have x3 := b1 (4 * a.val + 3) (by omega)
  have y0 := b2 (4 * a.val) (by omega); have y1 := b2 (4 * a.val + 1) (by omega); have y2 := b2 (4 * a.val + 2) (by omega); have y3 := b2 (4 * a.val + 3) (by omega)
  change _ = ((BitVec.ofNat 32 (192 + κ (4 * a.val) l)).setWidth 8).toNat + ((BitVec.ofNat 32 (192 + κ (4 * a.val + 1) l)).setWidth 8).toNat * 2 ^ 8
    + ((BitVec.ofNat 32 (192 + κ (4 * a.val + 2) l)).setWidth 8).toNat * 2 ^ 16 + ((BitVec.ofNat 32 (192 + κ (4 * a.val + 3) l)).setWidth 8).toNat * 2 ^ 24 at w1
  rw [x0, x1, x2, x3] at w1
  change _ = (Scalar.select (Ideal.cmp .ogt (f (4 * a.val) l) ((thr (κ (4 * a.val) l) : EReal) * safeE (A l))) 191#8 192#8 : BitVec 8).toNat
    + (Scalar.select (Ideal.cmp .ogt (f (4 * a.val + 1) l) ((thr (κ (4 * a.val + 1) l) : EReal) * safeE (A l))) 191#8 192#8 : BitVec 8).toNat * 2 ^ 8
    + (Scalar.select (Ideal.cmp .ogt (f (4 * a.val + 2) l) ((thr (κ (4 * a.val + 2) l) : EReal) * safeE (A l))) 191#8 192#8 : BitVec 8).toNat * 2 ^ 16
    + (Scalar.select (Ideal.cmp .ogt (f (4 * a.val + 3) l) ((thr (κ (4 * a.val + 3) l) : EReal) * safeE (A l))) 191#8 192#8 : BitVec 8).toNat * 2 ^ 24 at w2
  unfold codes
  show (_ - _ : BitVec 32).toNat = _
  rw [BitVec.toNat_sub]
  generalize (bitcast S8x128 32 (trunci 8 _ natLt_8_32) bitcasts_S32x128_w8_S8x128_w32 (ix2 a l : S8x128.Idx)).toNat = U at w1 ⊢
  generalize (bitcast S8x128 32 (select _ _ _) bitcasts_S32x128_w8_S8x128_w32 (ix2 a l : S8x128.Idx)).toNat = V at w2 ⊢
  omega

/-- A byte of the packed pairs. -/
theorem pairs_byte (C : BitVec 32) (c0 c1 c2 c3 p : ℕ) (h0 : c0 ≤ 15) (h1 : c1 ≤ 15) (h2 : c2 ≤ 15) (h3 : c3 ≤ 15) (hp : p < 2)
    (hC : C.toNat = c0 + c1 * 2 ^ 8 + c2 * 2 ^ 16 + c3 * 2 ^ 24) :
    (((C <<< 4 + C >>> 8).extractLsb' (16 * p) 16).setWidth 8).toNat = if p = 0 then 16 * c0 + c1 else 16 * c2 + c3 := by
  rw [BitVec.toNat_setWidth, BitVec.extractLsb'_toNat, BitVec.toNat_add, BitVec.toNat_shiftLeft, BitVec.toNat_ushiftRight, hC, Nat.shiftLeft_eq, Nat.shiftRight_eq_div_pow, Nat.shiftRight_eq_div_pow]
  have e1 : (c0 + c1 * 2 ^ 8 + c2 * 2 ^ 16 + c3 * 2 ^ 24) * 2 ^ 4 % 2 ^ 32 = 16 * c0 + 4096 * c1 + 1048576 * c2 + 268435456 * c3 := by omega
  have e2 : (c0 + c1 * 2 ^ 8 + c2 * 2 ^ 16 + c3 * 2 ^ 24) / 2 ^ 8 = c1 + 256 * c2 + 65536 * c3 := by omega
  have e3 : (16 * c0 + 4096 * c1 + 1048576 * c2 + 268435456 * c3 + (c1 + 256 * c2 + 65536 * c3)) % 2 ^ 32 = (16 * c0 + c1) + 256 * (16 * c1 + c2) + 65536 * ((16 * c2 + c3) + 256 * (16 * c3)) := by omega
  rw [e1, e2, e3]
  have z0 : 16 * c0 + c1 < 256 := by omega
  have z1 : 16 * c1 + c2 < 256 := by omega
  have z2 : 16 * c2 + c3 < 256 := by omega
  clear e1 e2 e3 hC
  generalize 16 * c0 + c1 = u at *
  generalize 16 * c1 + c2 = v at *
  generalize 16 * c2 + c3 = w at *
  interval_cases p
  · rw [if_pos rfl]; omega
  · rw [if_neg (by norm_num)]; omega

/-- The codes never pass fifteen. -/
theorem nf_le (x a : EReal) : nf x a ≤ 15 := by
  classical
  unfold nf
  exact le_trans (Finset.card_filter_le _ _) (by simp)

/-- The packed pair of two codes. -/
def byteOf (f : ℕ → EReal) (a : EReal) (r : ℕ) : ℕ := 16 * nf (f (2 * r)) a + nf (f (2 * r + 1)) a

theorem byteOf_lt (f : ℕ → EReal) (a : EReal) (r : ℕ) : byteOf f a r < 2 ^ 8 := by
  unfold byteOf
  have h1 := nf_le (f (2 * r)) a
  have h2 := nf_le (f (2 * r + 1)) a
  omega

theorem pairsOf_apply (C : IVec S8x128 32) (f : ℕ → Fin 128 → EReal) (A : Fin 128 → EReal)
    (hC : ∀ (a : Fin 8) (l : Fin 128), (C (ix2 a l : S8x128.Idx)).toNat
      = nf (f (4 * a.val) l) (A l) + nf (f (4 * a.val + 1) l) (A l) * 2 ^ 8 + nf (f (4 * a.val + 2) l) (A l) * 2 ^ 16 + nf (f (4 * a.val + 3) l) (A l) * 2 ^ 24)
    (m : Fin 16) (l : Fin 128) : ((pairsOf C (ix2 m l : S16x128.Idx)).setWidth 8).toNat = byteOf (fun n => f n l) (A l) m.val := by
  have hm : m.val / 2 < 8 := by omega
  unfold pairsOf
  rw [bitcast_32_16]
  have ei : ∀ hp, bitcasts_S8x128_w32_S16x128_w16.srcIdx (ix2 m l : S16x128.Idx) (S16x128.row (ix2 m l : S16x128.Idx) / 2) hp = (ix2 (⟨m.val / 2, hm⟩ : Fin 8) l : S8x128.Idx) := by
    intro hp
    funext b
    match b with
    | ⟨0, _⟩ => rfl
    | ⟨1, _⟩ => rfl
  rw [ei]
  have := pairs_byte (C (ix2 (⟨m.val / 2, hm⟩ : Fin 8) l : S8x128.Idx)) _ _ _ _ (m.val % 2) (nf_le _ _) (nf_le _ _) (nf_le _ _) (nf_le _ _) (Nat.mod_lt _ (by norm_num)) (hC _ l)
  refine Eq.trans ?_ (this.trans ?_)
  · rfl
  · unfold byteOf
    have e2 : m.val % 2 = 0 ∨ m.val % 2 = 1 := by omega
    rcases e2 with e2 | e2
    · rw [if_pos e2]
      show 16 * nf (f (4 * (m.val / 2)) l) (A l) + nf (f (4 * (m.val / 2) + 1) l) (A l) = _
      rw [show 4 * (m.val / 2) = 2 * m.val by omega]
    · rw [if_neg (by omega)]
      show 16 * nf (f (4 * (m.val / 2) + 2) l) (A l) + nf (f (4 * (m.val / 2) + 3) l) (A l) = _
      rw [show 4 * (m.val / 2) + 2 = 2 * m.val by omega, show 4 * (m.val / 2) + 3 = 2 * m.val + 1 by omega]

/-- The warped reciprocal on sixteen rows. -/
theorem ivOf_apply (r : Vec Ideal S1x2x128 .bf16) (e : Fin 128 → EReal) (hr : ∀ (q : Fin 2) (l : Fin 128), r (ix3 (0 : Fin 1) q l : S1x2x128.Idx) = e l) (n : Fin 16) (l : Fin 128) :
    ivOf r (ix2 n l : S16x128.Idx) = e l := by
  have hn : n.val / 2 < 8 := by omega
  have row : ∀ (p : Fin 2) (l : Fin 128), shapeCast S1x128 (rowsOfParity p S1x1x128 r bitcasts_S1x2x128_w16_S1x1x128_w32) shapeCasts_S1x1x128_S1x128 (ix2 (0 : Fin 1) l : S1x128.Idx) = e l := by
    intro p l
    rw [shapeCast_apply _ _ _ (ix3 (0 : Fin 1) (0 : Fin 1) l : S1x1x128.Idx) (by
      rw [Shape.rowMajor_val_three, Shape.rowMajor_val_two]; rfl)]
    exact (rowsOfParity_at p r _ _ (ix3 (0 : Fin 1) p l : S1x2x128.Idx) (by intro a; match a with | ⟨0, _⟩ => rfl | ⟨1, _⟩ => (show p.val = 2 * 0 + p.val; omega) | ⟨2, _⟩ => rfl)).trans (hr p l)
  have c8 : ∀ (x : S1x128.Idx → EReal) (_ : ∀ l : Fin 128, x (ix2 (0 : Fin 1) l : S1x128.Idx) = e l) (h) (a : Fin 8) (l : Fin 128),
      concatenate S8x128 0 [⟨S1x128, x⟩, ⟨S1x128, x⟩, ⟨S1x128, x⟩, ⟨S1x128, x⟩, ⟨S1x128, x⟩, ⟨S1x128, x⟩, ⟨S1x128, x⟩, ⟨S1x128, x⟩] h (ix2 a l : S8x128.Idx) = e l := by
    intro x hx h a l
    have key : ∀ (q : ℕ) (hq : q < 8)
      (hX : [(⟨S1x128, x⟩ : (s : Shape) × (s.Idx → EReal)), ⟨S1x128, x⟩, ⟨S1x128, x⟩, ⟨S1x128, x⟩, ⟨S1x128, x⟩, ⟨S1x128, x⟩, ⟨S1x128, x⟩, ⟨S1x128, x⟩][q]'(by simpa using hq) = ⟨S1x128, x⟩)
      (hp : a.val = q)
      (hpre : ((([(⟨S1x128, x⟩ : (s : Shape) × (s.Idx → EReal)), ⟨S1x128, x⟩, ⟨S1x128, x⟩, ⟨S1x128, x⟩, ⟨S1x128, x⟩, ⟨S1x128, x⟩, ⟨S1x128, x⟩, ⟨S1x128, x⟩].take q).map (·.1)).map fun s => if h : s.rank = S8x128.rank then s.size ((0 : Fin 2).cast h.symm) else 0).sum = q),
      concatenate S8x128 0 [⟨S1x128, x⟩, ⟨S1x128, x⟩, ⟨S1x128, x⟩, ⟨S1x128, x⟩, ⟨S1x128, x⟩, ⟨S1x128, x⟩, ⟨S1x128, x⟩, ⟨S1x128, x⟩] h (ix2 a l : S8x128.Idx) = e l := by
      intro q hq hX hp hpre
      rw [concatenate_apply_piece (t := S8x128) (0 : Fin 2) _ _ _ q (by simpa using hq) S1x128 x hX rfl q hpre (ix2 (0 : Fin 1) l : S1x128.Idx)
        (by intro b hb; match b with | ⟨0, _⟩ => exact absurd rfl hb | ⟨1, _⟩ => rfl) (by show q + 0 = a.val; omega), hx]
    have h8 : a.val = 0 ∨ a.val = 1 ∨ a.val = 2 ∨ a.val = 3 ∨ a.val = 4 ∨ a.val = 5 ∨ a.val = 6 ∨ a.val = 7 := by omega
    rcases h8 with e | e | e | e | e | e | e | e
    · exact key 0 (by norm_num) rfl e rfl
    · exact key 1 (by norm_num) rfl e rfl
    · exact key 2 (by norm_num) rfl e rfl
    · exact key 3 (by norm_num) rfl e rfl
    · exact key 4 (by norm_num) rfl e rfl
    · exact key 5 (by norm_num) rfl e rfl
    · exact key 6 (by norm_num) rfl e rfl
    · exact key 7 (by norm_num) rfl e rfl
  unfold ivOf k0_pay1
  rw [interleaveRows_at _ _ _ _ (ix2 (⟨n.val / 2, hn⟩ : Fin 8) l : S8x128.Idx) (by intro b; match b with | ⟨0, _⟩ => rfl | ⟨1, _⟩ => rfl),
    c8 _ (row 0) _ _ l, c8 _ (row 1) _ _ l, ite_self]

/-- The thresholds of a block. -/
theorem thOf_apply (a : Vec Ideal S1x128 .f32) (t0 t1 : Vec Ideal S8x128 .f32) (s : Fin 128 → EReal)
    (ha : ∀ l : Fin 128, a (ix2 (0 : Fin 1) l : S1x128.Idx) = s l)
    (h0 : ∀ (j : Fin 8) (l : Fin 128), t0 (ix2 j l : S8x128.Idx) = (thr (2 * j.val) : EReal))
    (h1 : ∀ (j : Fin 8) (l : Fin 128), t1 (ix2 j l : S8x128.Idx) = (thr (2 * j.val + 1) : EReal)) (n : Fin 16) (l : Fin 128) :
    thOf a t0 t1 (ix2 n l : S16x128.Idx) = (thr n.val : EReal) * s l := by
  have hn : n.val / 2 < 8 := by omega
  have bc : broadcastTo S8x128 (shapeCast S1x128 a shapeCasts_S1x128_S1x128) broadcasts_S1x128_S8x128 (ix2 (⟨n.val / 2, hn⟩ : Fin 8) l : S8x128.Idx) = s l := by
    rw [broadcastTo_apply _ _ _ (ix2 (0 : Fin 1) l : S1x128.Idx) (by intro b; match b with | ⟨0, _⟩ => rfl | ⟨1, _⟩ => rfl), shapeCast_self, ha]
  have sel : ∀ (u v : EReal), Scalar.select (Ideal.cmp .olt u u) v u = u := by
    intro u v
    have : Ideal.cmp .olt u u = 0#1 := by unfold Ideal.cmp; simp
    rw [this]; rfl
  unfold thOf k0_pay2
  rw [interleaveRows_at _ _ _ _ (ix2 (⟨n.val / 2, hn⟩ : Fin 8) l : S8x128.Idx) (by intro b; match b with | ⟨0, _⟩ => rfl | ⟨1, _⟩ => rfl)]
  show (if n.val % 2 = 0 then _ else _) = _
  split
  · rename_i h
    refine (sel (t0 (ix2 (⟨n.val / 2, hn⟩ : Fin 8) l : S8x128.Idx) * broadcastTo S8x128 (shapeCast S1x128 a shapeCasts_S1x128_S1x128) broadcasts_S1x128_S8x128 (ix2 (⟨n.val / 2, hn⟩ : Fin 8) l : S8x128.Idx)) _).trans ?_
    rw [bc, h0]
    exact congrArg (fun m => (thr m : EReal) * s l) (by show 2 * (n.val / 2) = n.val; omega)
  · rename_i h
    refine (sel (t1 (ix2 (⟨n.val / 2, hn⟩ : Fin 8) l : S8x128.Idx) * broadcastTo S8x128 (shapeCast S1x128 a shapeCasts_S1x128_S1x128) broadcasts_S1x128_S8x128 (ix2 (⟨n.val / 2, hn⟩ : Fin 8) l : S8x128.Idx)) _).trans ?_
    rw [bc, h1]
    exact congrArg (fun m => (thr m : EReal) * s l) (by show 2 * (n.val / 2) + 1 = n.val; omega)

/-- The packed codes of a block, row by row. -/
theorem pkOf_apply (f : ℕ → Fin 128 → EReal) (A : Fin 128 → EReal) (hf : ∀ n l, n < 64 → max (f n l) (-(f n l)) ≤ A l)
    (r : Vec Ideal S1x2x128 .bf16) (a : Vec Ideal S1x128 .f32) (t0 t1 : Vec Ideal S8x128 .f32) (x0 x1 x2 x3 : Vec Ideal S8x2x128 .bf16)
    (hr : ∀ (q : Fin 2) (l : Fin 128), r (ix3 (0 : Fin 1) q l : S1x2x128.Idx) = Ideal.div 1 (safeE (A l)) * (warp : EReal))
    (ha : ∀ l : Fin 128, a (ix2 (0 : Fin 1) l : S1x128.Idx) = safeE (A l))
    (h0 : ∀ (j : Fin 8) (l : Fin 128), t0 (ix2 j l : S8x128.Idx) = (thr (2 * j.val) : EReal))
    (h1 : ∀ (j : Fin 8) (l : Fin 128), t1 (ix2 j l : S8x128.Idx) = (thr (2 * j.val + 1) : EReal))
    (hx0 : ∀ (R : Fin 8) (q : Fin 2) (l : Fin 128), x0 (ix3 R q l : S8x2x128.Idx) = f (2 * R.val + q.val) l)
    (hx1 : ∀ (R : Fin 8) (q : Fin 2) (l : Fin 128), x1 (ix3 R q l : S8x2x128.Idx) = f (16 + (2 * R.val + q.val)) l)
    (hx2 : ∀ (R : Fin 8) (q : Fin 2) (l : Fin 128), x2 (ix3 R q l : S8x2x128.Idx) = f (32 + (2 * R.val + q.val)) l)
    (hx3 : ∀ (R : Fin 8) (q : Fin 2) (l : Fin 128), x3 (ix3 R q l : S8x2x128.Idx) = f (48 + (2 * R.val + q.val)) l)
    (R : Fin 32) (l : Fin 128) :
    pkOf r a t0 t1 x0 x1 x2 x3 (ix3 (0 : Fin 1) R l : S1x32x128.Idx) = BitVec.ofNat 8 (byteOf (fun n => f n l) (A l) R.val) := by
  have rw8 : ∀ (x : Vec Ideal S8x2x128 .bf16) (c : ℕ) (_ : ∀ (R : Fin 8) (q : Fin 2) (l : Fin 128), x (ix3 R q l : S8x2x128.Idx) = f (c + (2 * R.val + q.val)) l) (n : Fin 16) (l : Fin 128),
      rows8 x (ix2 n l : S16x128.Idx) = f (c + n.val) l := by
    intro x c hx n l
    rw [rows8_apply, hx]
    exact congrArg (fun m => f m l) (by show c + (2 * (n.val / 2) + n.val % 2) = c + n.val; omega)
  have hx0' : ∀ (R : Fin 8) (q : Fin 2) (l : Fin 128), x0 (ix3 R q l : S8x2x128.Idx) = f (0 + (2 * R.val + q.val)) l := fun R q l => by rw [hx0, Nat.zero_add]
  have hth := thOf_apply a t0 t1 (fun l => safeE (A l)) ha h0 h1
  have hiv := ivOf_apply r (fun l => Ideal.div 1 (safeE (A l)) * (warp : EReal)) hr
  have k1 := pairsOf_apply _ f A (codes_toNat f A (fun n l hn => hf n l (by omega)) _ _ _ _ hth hiv (fun n l => (rw8 x0 0 hx0' n l).trans (congrArg (fun m => f m l) (Nat.zero_add _))) (rw8 x1 16 hx1))
  have k2 := pairsOf_apply _ (fun n => f (32 + n)) A (codes_toNat (fun n => f (32 + n)) A (fun n l hn => hf (32 + n) l (by omega)) _ _ _ _ hth hiv (rw8 x2 32 hx2) (fun n l => (rw8 x3 48 hx3 n l).trans (congrArg (fun m => f m l) (by show 48 + n.val = 32 + (16 + n.val); omega))))
  have ct := cat (fun n l => (if n < 16 then pairsOf (codes (thOf a t0 t1) (ivOf r) (rows8 x0) (rows8 x1)) (ix2 (⟨n % 16, Nat.mod_lt _ (by norm_num)⟩ : Fin 16) l : S16x128.Idx)
      else pairsOf (codes (thOf a t0 t1) (ivOf r) (rows8 x2) (rows8 x3)) (ix2 (⟨n % 16, Nat.mod_lt _ (by norm_num)⟩ : Fin 16) l : S16x128.Idx))) _ _
    (fun n l => by rw [if_pos n.isLt]; exact congrArg (fun m => pairsOf (codes (thOf a t0 t1) (ivOf r) (rows8 x0) (rows8 x1)) (ix2 m l : S16x128.Idx)) (Fin.ext (show n.val = n.val % 16 by omega)))
    (fun n l => by rw [if_neg (by omega)]; exact congrArg (fun m => pairsOf (codes (thOf a t0 t1) (ivOf r) (rows8 x2) (rows8 x3)) (ix2 m l : S16x128.Idx)) (Fin.ext (show n.val = (16 + n.val) % 16 by omega)))
    concatenates_S16x128_S16x128_S32x128_d0 R l
  unfold pkOf
  rw [shapeCast_apply _ _ _ (ix2 R l : S32x128.Idx) (by
    rw [Shape.rowMajor_val_three, Shape.rowMajor_val_two]
    show R.val * 128 + l.val = (0 * 32 + R.val) * 128 + l.val
    omega)]
  refine (congrArg (fun v : BitVec 16 => v.setWidth 8) ct).trans ?_
  apply BitVec.eq_of_toNat_eq
  rw [BitVec.toNat_ofNat, Nat.mod_eq_of_lt (a := byteOf (fun n => f n l) (A l) R.val) (byteOf_lt _ _ _)]
  split
  · rename_i h
    rw [k1]
    exact congrArg (byteOf (fun n => f n l) (A l)) (by show R.val % 16 = R.val; omega)
  · rename_i h
    rw [k2]
    unfold byteOf
    dsimp only
    rw [show 32 + 2 * (R.val % 16) = 2 * R.val by omega, show 32 + (2 * (R.val % 16) + 1) = 2 * R.val + 1 by omega]

end Cert.EncodePackVal

end
-- ==== Proof.EncodePackRows.lean ====
/- The scratch rows of a half row and the packed codes of its blocks, over the extended reals. -/
module

public import proofs.«01_k».proof.Proof.EncodePackVal
public import proofs.«01_k».proof.Proof.EncodeReach

@[expose] public section

set_option maxRecDepth 16384
set_option maxHeartbeats 2000000

noncomputable section

namespace Cert.EncodePackRows

open Idealize.ShloMosaic Idealize.ShloMosaic.TcCoe Idealize.SL.Sem Idealize.ShloMosaic.ValueIdx
open Cert.KernelIdeal Cert.KernelIdeal.Gen Cert.EncodeSpec Cert.EncodeVal Cert.EncodeReach Cert.EncodePack Cert.EncodePackVal Cert.EncodeScalar

/-- The features of a half row, in row pairs. -/
def XtRows (H : ℕ → Fin 128 → EReal) (v : Memref sig .tc .vmem S448x2x128 .bf16) (g : BufTy.Contents (Elt Ideal) v.view.ty) : Prop :=
  ∀ (R : Fin 448) (q : Fin 2) (l : Fin 128), v.view.read (Elt Ideal) g (ix3 R q l : S448x2x128.Idx) = H (2 * R.val + q.val) l

/-- The warped reciprocals of a half row's blocks. -/
def InvRows (H : ℕ → Fin 128 → EReal) (v : Memref sig .tc .vmem S16x2x128 .bf16) (g : BufTy.Contents (Elt Ideal) v.view.ty) : Prop :=
  ∀ (b : Fin 16) (q : Fin 2) (l : Fin 128), b.val < 14 → v.view.read (Elt Ideal) g (ix3 b q l : S16x2x128.Idx) = Ideal.div 1 (safeE (bmax H b.val l)) * (warp : EReal)

/-- The divisors of a half row's blocks. -/
def SafeRows (H : ℕ → Fin 128 → EReal) (v : Memref sig .tc .vmem S16x128 .f32) (g : BufTy.Contents (Elt Ideal) v.view.ty) : Prop :=
  ∀ (b : Fin 16) (l : Fin 128), b.val < 14 → v.view.read (Elt Ideal) g (ix2 b l : S16x128.Idx) = safeE (bmax H b.val l)

theorem piecex (H : ℕ → Fin 128 → EReal) (m : FVec Ideal S128x128 .bf16) (c : ℕ) (hm : ∀ (d l : Fin 128), m (ix2 d l : S128x128.Idx) = H (2 * c + d.val) l)
    (off : Fin 3 → ℕ) (inb : ∀ a, off a + S64x2x128.size a ≤ S448x2x128.size a) (hoff : off = ![c, 0, 0]) (x : S64x2x128.Idx) :
    xtOf m x = (fun y : S448x2x128.Idx => H (2 * (y 0).val + (y 1).val) (y 2)) ((Rect.unit (s := S448x2x128) off S64x2x128.size inb).emb x) := by
  subst hoff
  obtain ⟨R, q, l, rfl⟩ : ∃ (R : Fin 64) (q : Fin 2) (l : Fin 128), x = (ix3 R q l : S64x2x128.Idx) := ⟨x 0, x 1, x 2, eq_ix3 x⟩
  rw [xtOf_apply, hm]
  show H (2 * c + (2 * R.val + q.val)) l = H (2 * (c + 1 * R.val) + (0 + 1 * q.val)) _
  rw [show 2 * (c + 1 * R.val) + (0 + 1 * q.val) = 2 * c + (2 * R.val + q.val) by omega]
  exact congrArg (H _) (Fin.ext (show l.val = 0 + 1 * l.val by omega))

theorem memx (y : S448x2x128.Idx) (off : Fin 3 → ℕ) (inb : ∀ a, off a + S64x2x128.size a ≤ S448x2x128.size a) (o : ℕ) (hoff : off = ![o, 0, 0]) (h1 : o ≤ (y 0).val) (h2 : (y 0).val < o + 64) :
    y ∈ (Rect.unit (s := S448x2x128) off S64x2x128.size inb).set := by
  subst hoff
  refine Rect.mem_set_unit.mpr fun a => ?_
  match a with
  | ⟨0, _⟩ => exact ⟨h1, h2⟩
  | ⟨1, _⟩ => exact ⟨Nat.zero_le _, (show (y 1).val < 0 + 2 from by have : (y 1).val < 2 := (y 1).isLt; omega)⟩
  | ⟨2, _⟩ => exact ⟨Nat.zero_le _, (show (y 2).val < 0 + 128 from by have : (y 2).val < 128 := (y 2).isLt; omega)⟩

theorem xt_rows (H : ℕ → Fin 128 → EReal) (v : Memref sig .tc .vmem S448x2x128 .bf16) (g : BufTy.Contents (Elt Ideal) v.view.ty) (m0 m1 m2 m3 m4 m5 m6 : FVec Ideal S128x128 .bf16)
    (e0 : ∀ (d l : Fin 128), m0 (ix2 d l : S128x128.Idx) = H (0 + d.val) l)
    (e1 : ∀ (d l : Fin 128), m1 (ix2 d l : S128x128.Idx) = H (128 + d.val) l)
    (e2 : ∀ (d l : Fin 128), m2 (ix2 d l : S128x128.Idx) = H (256 + d.val) l)
    (e3 : ∀ (d l : Fin 128), m3 (ix2 d l : S128x128.Idx) = H (384 + d.val) l)
    (e4 : ∀ (d l : Fin 128), m4 (ix2 d l : S128x128.Idx) = H (512 + d.val) l)
    (e5 : ∀ (d l : Fin 128), m5 (ix2 d l : S128x128.Idx) = H (640 + d.val) l)
    (e6 : ∀ (d l : Fin 128), m6 (ix2 d l : S128x128.Idx) = H (768 + d.val) l)
    : XtRows H v (v.view.writes (Elt Ideal) g (xtL m0 m1 m2 m3 m4 m5 m6)) := by
  intro R q l
  unfold xtL
  refine View.read_writes_apply_of_pieces v.view g (fun y : S448x2x128.Idx => H (2 * (y 0).val + (y 1).val) (y 2)) _ ?_ (ix3 R q l : S448x2x128.Idx) ?_
  · intro p hp
    simp only [List.mem_cons, List.mem_nil_iff, or_false] at hp
    rcases hp with rfl | rfl | rfl | rfl | rfl | rfl | rfl
    · exact piecex H m6 384 e6 ![384, 0, 0] inb_S448x2x128_S64x2x128_384_0_0 rfl
    · exact piecex H m5 320 e5 ![320, 0, 0] inb_S448x2x128_S64x2x128_320_0_0 rfl
    · exact piecex H m4 256 e4 ![256, 0, 0] inb_S448x2x128_S64x2x128_256_0_0 rfl
    · exact piecex H m3 192 e3 ![192, 0, 0] inb_S448x2x128_S64x2x128_192_0_0 rfl
    · exact piecex H m2 128 e2 ![128, 0, 0] inb_S448x2x128_S64x2x128_128_0_0 rfl
    · exact piecex H m1 64 e1 ![64, 0, 0] inb_S448x2x128_S64x2x128_64_0_0 rfl
    · exact piecex H m0 0 e0 ![0, 0, 0] inb_S448x2x128_S64x2x128_0_0_0 rfl
  · simp only [List.mem_cons, List.mem_nil_iff, or_false, exists_eq_or_imp, exists_eq_left]
    have hR := R.isLt
    have h7 : R.val / 64 = 6 ∨ R.val / 64 = 5 ∨ R.val / 64 = 4 ∨ R.val / 64 = 3 ∨ R.val / 64 = 2 ∨ R.val / 64 = 1 ∨ R.val / 64 = 0 := by omega
    rcases h7 with h | h | h | h | h | h | h
    · exact .inl (memx (ix3 R q l : S448x2x128.Idx) ![384, 0, 0] inb_S448x2x128_S64x2x128_384_0_0 384 rfl (show 384 ≤ R.val by omega) (show R.val < 384 + 64 by omega))
    · exact .inr (.inl (memx (ix3 R q l : S448x2x128.Idx) ![320, 0, 0] inb_S448x2x128_S64x2x128_320_0_0 320 rfl (show 320 ≤ R.val by omega) (show R.val < 320 + 64 by omega)))
    · exact .inr (.inr (.inl (memx (ix3 R q l : S448x2x128.Idx) ![256, 0, 0] inb_S448x2x128_S64x2x128_256_0_0 256 rfl (show 256 ≤ R.val by omega) (show R.val < 256 + 64 by omega))))
    · exact .inr (.inr (.inr (.inl (memx (ix3 R q l : S448x2x128.Idx) ![192, 0, 0] inb_S448x2x128_S64x2x128_192_0_0 192 rfl (show 192 ≤ R.val by omega) (show R.val < 192 + 64 by omega)))))
    · exact .inr (.inr (.inr (.inr (.inl (memx (ix3 R q l : S448x2x128.Idx) ![128, 0, 0] inb_S448x2x128_S64x2x128_128_0_0 128 rfl (show 128 ≤ R.val by omega) (show R.val < 128 + 64 by omega))))))
    · exact .inr (.inr (.inr (.inr (.inr (.inl (memx (ix3 R q l : S448x2x128.Idx) ![64, 0, 0] inb_S448x2x128_S64x2x128_64_0_0 64 rfl (show 64 ≤ R.val by omega) (show R.val < 64 + 64 by omega)))))))
    · exact .inr (.inr (.inr (.inr (.inr (.inr (memx (ix3 R q l : S448x2x128.Idx) ![0, 0, 0] inb_S448x2x128_S64x2x128_0_0_0 0 rfl (show 0 ≤ R.val by omega) (show R.val < 0 + 64 by omega)))))))

theorem warp_bits : (FloatOps.ofBits (F := Ideal) .f32 0x3FBCAC08#32 : EReal) = (warp : EReal) := by
  simp [Ideal.ofBits, Ideal.ieee, warp]
  norm_cast
  try norm_num

theorem one_bits : (FloatOps.ofBits (F := Ideal) .f32 0x3F800000#32 : EReal) = 1 := by
  simp [Ideal.ofBits, Ideal.ieee]
  try norm_cast
  try norm_num

theorem zero_bits : (FloatOps.ofBits (F := Ideal) .f32 0x00000000#32 : EReal) = 0 := by
  simp [Ideal.ofBits, Ideal.ieee]

theorem sel_safe (a : EReal) : Scalar.select (Ideal.cmp .oeq a (FloatOps.ofBits (F := Ideal) .f32 0x00000000#32 : EReal)) (FloatOps.ofBits (F := Ideal) .f32 0x3F800000#32 : EReal) a = safeE a := by
  rw [zero_bits, one_bits]
  unfold safeE
  by_cases h : a = 0
  · rw [if_pos h]
    have : Ideal.cmp .oeq a 0 = 1#1 := by unfold Ideal.cmp; simp [h]
    rw [this]; rfl
  · rw [if_neg h]
    have : Ideal.cmp .oeq a 0 = 0#1 := by unfold Ideal.cmp; simp [h]
    rw [this]; rfl

theorem safe8_apply (a : FVec Ideal S8x128 .f32) (j : S8x128.Idx) : safe8 a j = safeE (a j) := sel_safe (a j)

theorem inv8_apply (a : FVec Ideal S8x128 .f32) (b : Fin 8) (q : Fin 2) (l : Fin 128) : inv8 a (ix3 b q l : S8x2x128.Idx) = Ideal.div 1 (safeE (a (ix2 b l : S8x128.Idx))) * (warp : EReal) := by
  unfold inv8
  rw [interleaveRows_at _ _ _ _ (ix3 b (0 : Fin 1) l : S8x1x128.Idx) (by intro b; match b with | ⟨0, _⟩ => rfl | ⟨1, _⟩ => (show 0 = q.val / 2; omega) | ⟨2, _⟩ => rfl), ite_self,
    shapeCast_apply _ _ _ (ix2 b l : S8x128.Idx) (by
      rw [Shape.rowMajor_val_three, Shape.rowMajor_val_two]
      show b.val * 128 + l.val = (b.val * 1 + 0) * 128 + l.val
      omega)]
  show Ideal.div 1 (safe8 a (ix2 b l : S8x128.Idx)) * (FloatOps.ofBits (F := Ideal) .f32 0x3FBCAC08#32 : EReal) = _
  rw [safe8_apply, warp_bits]

theorem safe6_apply (a : FVec Ideal S6x128 .f32) (j : S6x128.Idx) : safe6 a j = safeE (a j) := sel_safe (a j)

theorem inv6_apply (a : FVec Ideal S6x128 .f32) (b : Fin 6) (q : Fin 2) (l : Fin 128) : inv6 a (ix3 b q l : S6x2x128.Idx) = Ideal.div 1 (safeE (a (ix2 b l : S6x128.Idx))) * (warp : EReal) := by
  unfold inv6
  rw [interleaveRows_at _ _ _ _ (ix3 b (0 : Fin 1) l : S6x1x128.Idx) (by intro b; match b with | ⟨0, _⟩ => rfl | ⟨1, _⟩ => (show 0 = q.val / 2; omega) | ⟨2, _⟩ => rfl), ite_self,
    shapeCast_apply _ _ _ (ix2 b l : S6x128.Idx) (by
      rw [Shape.rowMajor_val_three, Shape.rowMajor_val_two]
      show b.val * 128 + l.val = (b.val * 1 + 0) * 128 + l.val
      omega)]
  show Ideal.div 1 (safe6 a (ix2 b l : S6x128.Idx)) * (FloatOps.ofBits (F := Ideal) .f32 0x3FBCAC08#32 : EReal) = _
  rw [safe6_apply, warp_bits]

theorem piecei8 (H : ℕ → Fin 128 → EReal) (a : FVec Ideal S8x128 .f32) (ha : ∀ (b : Fin 8) (l : Fin 128), a (ix2 b l : S8x128.Idx) = bmax H (0 + b.val) l)
    (inb : ∀ x, (![0, 0, 0] : Fin 3 → ℕ) x + S8x2x128.size x ≤ S16x2x128.size x) (x : S8x2x128.Idx) :
    inv8 a x = (fun y : S16x2x128.Idx => Ideal.div 1 (safeE (bmax H (y 0).val (y 2))) * (warp : EReal)) ((Rect.unit (s := S16x2x128) ![0, 0, 0] S8x2x128.size inb).emb x) := by
  obtain ⟨b, q, l, rfl⟩ : ∃ (b : Fin 8) (q : Fin 2) (l : Fin 128), x = (ix3 b q l : S8x2x128.Idx) := ⟨x 0, x 1, x 2, eq_ix3 x⟩
  rw [inv8_apply, ha]
  show _ = Ideal.div 1 (safeE (bmax H (0 + 1 * b.val) _)) * (warp : EReal)
  rw [Nat.one_mul]
  exact congrArg (fun l => Ideal.div 1 (safeE (bmax H (0 + b.val) l)) * (warp : EReal)) (Fin.ext (show l.val = 0 + 1 * l.val by omega))

theorem pieces8 (H : ℕ → Fin 128 → EReal) (a : FVec Ideal S8x128 .f32) (ha : ∀ (b : Fin 8) (l : Fin 128), a (ix2 b l : S8x128.Idx) = bmax H (0 + b.val) l)
    (inb : ∀ x, (![0, 0] : Fin 2 → ℕ) x + S8x128.size x ≤ S16x128.size x) (h : S8x128.ShapeCasts S8x128) (x : S8x128.Idx) :
    shapeCast S8x128 (safe8 a) h x = (fun y : S16x128.Idx => safeE (bmax H (y 0).val (y 1))) ((Rect.unit (s := S16x128) ![0, 0] S8x128.size inb).emb x) := by
  obtain ⟨b, l, rfl⟩ : ∃ (b : Fin 8) (l : Fin 128), x = (ix2 b l : S8x128.Idx) := ⟨x 0, x 1, eq_ix2 x⟩
  rw [shapeCast_self, safe8_apply, ha]
  show _ = safeE (bmax H (0 + 1 * b.val) _)
  rw [Nat.one_mul]
  exact congrArg (fun l => safeE (bmax H (0 + b.val) l)) (Fin.ext (show l.val = 0 + 1 * l.val by omega))

theorem piecei6 (H : ℕ → Fin 128 → EReal) (a : FVec Ideal S6x128 .f32) (ha : ∀ (b : Fin 6) (l : Fin 128), a (ix2 b l : S6x128.Idx) = bmax H (8 + b.val) l)
    (inb : ∀ x, (![8, 0, 0] : Fin 3 → ℕ) x + S6x2x128.size x ≤ S16x2x128.size x) (x : S6x2x128.Idx) :
    inv6 a x = (fun y : S16x2x128.Idx => Ideal.div 1 (safeE (bmax H (y 0).val (y 2))) * (warp : EReal)) ((Rect.unit (s := S16x2x128) ![8, 0, 0] S6x2x128.size inb).emb x) := by
  obtain ⟨b, q, l, rfl⟩ : ∃ (b : Fin 6) (q : Fin 2) (l : Fin 128), x = (ix3 b q l : S6x2x128.Idx) := ⟨x 0, x 1, x 2, eq_ix3 x⟩
  rw [inv6_apply, ha]
  show _ = Ideal.div 1 (safeE (bmax H (8 + 1 * b.val) _)) * (warp : EReal)
  rw [Nat.one_mul]
  exact congrArg (fun l => Ideal.div 1 (safeE (bmax H (8 + b.val) l)) * (warp : EReal)) (Fin.ext (show l.val = 0 + 1 * l.val by omega))

theorem pieces6 (H : ℕ → Fin 128 → EReal) (a : FVec Ideal S6x128 .f32) (ha : ∀ (b : Fin 6) (l : Fin 128), a (ix2 b l : S6x128.Idx) = bmax H (8 + b.val) l)
    (inb : ∀ x, (![8, 0] : Fin 2 → ℕ) x + S6x128.size x ≤ S16x128.size x) (h : S6x128.ShapeCasts S6x128) (x : S6x128.Idx) :
    shapeCast S6x128 (safe6 a) h x = (fun y : S16x128.Idx => safeE (bmax H (y 0).val (y 1))) ((Rect.unit (s := S16x128) ![8, 0] S6x128.size inb).emb x) := by
  obtain ⟨b, l, rfl⟩ : ∃ (b : Fin 6) (l : Fin 128), x = (ix2 b l : S6x128.Idx) := ⟨x 0, x 1, eq_ix2 x⟩
  rw [shapeCast_self, safe6_apply, ha]
  show _ = safeE (bmax H (8 + 1 * b.val) _)
  rw [Nat.one_mul]
  exact congrArg (fun l => safeE (bmax H (8 + b.val) l)) (Fin.ext (show l.val = 0 + 1 * l.val by omega))

theorem inv_rows (H : ℕ → Fin 128 → EReal) (v : Memref sig .tc .vmem S16x2x128 .bf16) (g : BufTy.Contents (Elt Ideal) v.view.ty) (a8 : FVec Ideal S8x128 .f32) (a6 : FVec Ideal S6x128 .f32)
    (h8 : ∀ (b : Fin 8) (l : Fin 128), a8 (ix2 b l : S8x128.Idx) = bmax H (0 + b.val) l) (h6 : ∀ (b : Fin 6) (l : Fin 128), a6 (ix2 b l : S6x128.Idx) = bmax H (8 + b.val) l) :
    InvRows H v (v.view.writes (Elt Ideal) g [⟨Rect.unit ![8, 0, 0] S6x2x128.size inb_S16x2x128_S6x2x128_8_0_0, inv6 a6⟩, ⟨Rect.unit ![0, 0, 0] S8x2x128.size inb_S16x2x128_S8x2x128_0_0_0, inv8 a8⟩]) := by
  intro b q l hb
  refine View.read_writes_apply_of_pieces v.view g (fun y : S16x2x128.Idx => Ideal.div 1 (safeE (bmax H (y 0).val (y 2))) * (warp : EReal)) _ ?_ (ix3 b q l : S16x2x128.Idx) ?_
  · intro p hp
    simp only [List.mem_cons, List.mem_nil_iff, or_false] at hp
    rcases hp with rfl | rfl
    · exact piecei6 H a6 h6 inb_S16x2x128_S6x2x128_8_0_0
    · exact piecei8 H a8 h8 inb_S16x2x128_S8x2x128_0_0_0
  · simp only [List.mem_cons, List.mem_nil_iff, or_false, exists_eq_or_imp, exists_eq_left]
    by_cases c : b.val < 8
    · refine .inr (Rect.mem_set_unit.mpr fun a => ?_)
      match a with
      | ⟨0, _⟩ => exact ⟨Nat.zero_le _, (show b.val < 0 + 8 by omega)⟩
      | ⟨1, _⟩ => exact ⟨Nat.zero_le _, (show q.val < 0 + 2 by omega)⟩
      | ⟨2, _⟩ => exact ⟨Nat.zero_le _, (show l.val < 0 + 128 by omega)⟩
    · refine .inl (Rect.mem_set_unit.mpr fun a => ?_)
      match a with
      | ⟨0, _⟩ => exact ⟨(show 8 ≤ b.val by omega), (show b.val < 8 + 6 by omega)⟩
      | ⟨1, _⟩ => exact ⟨Nat.zero_le _, (show q.val < 0 + 2 by omega)⟩
      | ⟨2, _⟩ => exact ⟨Nat.zero_le _, (show l.val < 0 + 128 by omega)⟩

theorem safe_rows (H : ℕ → Fin 128 → EReal) (v : Memref sig .tc .vmem S16x128 .f32) (g : BufTy.Contents (Elt Ideal) v.view.ty) (a8 : FVec Ideal S8x128 .f32) (a6 : FVec Ideal S6x128 .f32)
    (h8 : ∀ (b : Fin 8) (l : Fin 128), a8 (ix2 b l : S8x128.Idx) = bmax H (0 + b.val) l) (h6 : ∀ (b : Fin 6) (l : Fin 128), a6 (ix2 b l : S6x128.Idx) = bmax H (8 + b.val) l) :
    SafeRows H v (v.view.writes (Elt Ideal) g [⟨Rect.unit ![8, 0] S6x128.size inb_S16x128_S6x128_8_0, shapeCast S6x128 (safe6 a6) shapeCasts_S6x128_S6x128⟩, ⟨Rect.unit ![0, 0] S8x128.size inb_S16x128_S8x128_0_0, shapeCast S8x128 (safe8 a8) shapeCasts_S8x128_S8x128⟩]) := by
  intro b l hb
  refine View.read_writes_apply_of_pieces v.view g (fun y : S16x128.Idx => safeE (bmax H (y 0).val (y 1))) _ ?_ (ix2 b l : S16x128.Idx) ?_
  · intro p hp
    simp only [List.mem_cons, List.mem_nil_iff, or_false] at hp
    rcases hp with rfl | rfl
    · exact pieces6 H a6 h6 inb_S16x128_S6x128_8_0 _
    · exact pieces8 H a8 h8 inb_S16x128_S8x128_0_0 _
  · simp only [List.mem_cons, List.mem_nil_iff, or_false, exists_eq_or_imp, exists_eq_left]
    by_cases c : b.val < 8
    · refine .inr (Rect.mem_set_unit.mpr fun a => ?_)
      match a with
      | ⟨0, _⟩ => exact ⟨Nat.zero_le _, (show b.val < 0 + 8 by omega)⟩
      | ⟨1, _⟩ => exact ⟨Nat.zero_le _, (show l.val < 0 + 128 by omega)⟩
    · refine .inl (Rect.mem_set_unit.mpr fun a => ?_)
      match a with
      | ⟨0, _⟩ => exact ⟨(show 8 ≤ b.val by omega), (show b.val < 8 + 6 by omega)⟩
      | ⟨1, _⟩ => exact ⟨Nat.zero_le _, (show l.val < 0 + 128 by omega)⟩

/-- The byte of packed codes at row `i`, packed row `R` and column `p`. -/
def pkN (W : ℕ → ℕ → ℕ → EReal) (i R : ℕ) (t : ℕ) (l : Fin 128) : BitVec 8 :=
  BitVec.ofNat 8 (byteOf (fun n => hrow W i t (64 * (R / 32) + n) l) (bmax (hrow W i t) (R / 32) l) (R % 32))

/-- The packed codes in full. -/
def pkG (W : ℕ → ℕ → ℕ → EReal) : S8x448x256.Idx → BitVec 8 := fun y =>
  pkN W (y 0).val (y 1).val ((y 2).val / 128) ⟨(y 2).val % 128, Nat.mod_lt _ (by norm_num)⟩

/-- The table of thresholds. -/
def Table (v : Memref sig .tc .vmem S16x128 .f32) (X : BufTy.Contents (Elt Ideal) v.view.ty) : Prop :=
  ∀ (j : Fin 16) (l : Fin 128), v.view.read (Elt Ideal) X (ix2 j l : S16x128.Idx) = ((thr (2 * (j.val % 8) + j.val / 8) : ℝ) : EReal)

theorem le_bmax (H : ℕ → Fin 128 → EReal) (b n : ℕ) (hn : n < 64) (l : Fin 128) : max (H (64 * b + n) l) (-(H (64 * b + n) l)) ≤ bmax H b l :=
  Finset.le_sup (f := fun n : Fin 64 => ab (H (64 * b + n.val) l)) (Finset.mem_univ (⟨n, hn⟩ : Fin 64))

theorem rd8 (H : ℕ → Fin 128 → EReal) (v : Memref sig .tc .vmem S448x2x128 .bf16) (X : BufTy.Contents (Elt Ideal) v.view.ty) (h : XtRows H v X)
    (off : Fin 3 → ℕ) (inb : ∀ a, off a + S8x2x128.size a ≤ S448x2x128.size a) (o : ℕ) (ho : o ≤ 440) (hoff : off = ![o, 0, 0]) (R : Fin 8) (q : Fin 2) (l : Fin 128) :
    View.readAt (Elt Ideal) v.view (Rect.unit (s := S448x2x128) off S8x2x128.size inb).toLoadRect X (ix3 R q l : S8x2x128.Idx) = H (2 * (o + R.val) + q.val) l := by
  subst hoff
  refine (congrArg (v.view.read (Elt Ideal) X) (?_ : _ = (ix3 (⟨o + R.val, by omega⟩ : Fin 448) q l : S448x2x128.Idx))).trans (h _ _ _)
  funext a
  match a with
  | ⟨0, _⟩ => exact Fin.ext (show o + 1 * R.val = o + R.val by omega)
  | ⟨1, _⟩ => exact Fin.ext (show 0 + 1 * q.val = q.val by omega)
  | ⟨2, _⟩ => exact Fin.ext (show 0 + 1 * l.val = l.val by omega)

theorem rdInv (H : ℕ → Fin 128 → EReal) (v : Memref sig .tc .vmem S16x2x128 .bf16) (X : BufTy.Contents (Elt Ideal) v.view.ty) (h : InvRows H v X)
    (off : Fin 3 → ℕ) (inb : ∀ a, off a + S1x2x128.size a ≤ S16x2x128.size a) (o : ℕ) (ho : o < 14) (hoff : off = ![o, 0, 0]) (q : Fin 2) (l : Fin 128) :
    View.readAt (Elt Ideal) v.view (Rect.unit (s := S16x2x128) off S1x2x128.size inb).toLoadRect X (ix3 (0 : Fin 1) q l : S1x2x128.Idx) = Ideal.div 1 (safeE (bmax H o l)) * (warp : EReal) := by
  subst hoff
  refine (congrArg (v.view.read (Elt Ideal) X) (?_ : _ = (ix3 (⟨o, by omega⟩ : Fin 16) q l : S16x2x128.Idx))).trans (h _ _ _ ho)
  funext a
  match a with
  | ⟨0, _⟩ => exact Fin.ext (show o + 1 * 0 = o by omega)
  | ⟨1, _⟩ => exact Fin.ext (show 0 + 1 * q.val = q.val by omega)
  | ⟨2, _⟩ => exact Fin.ext (show 0 + 1 * l.val = l.val by omega)

theorem rdSafe (H : ℕ → Fin 128 → EReal) (v : Memref sig .tc .vmem S16x128 .f32) (X : BufTy.Contents (Elt Ideal) v.view.ty) (h : SafeRows H v X)
    (off : Fin 2 → ℕ) (inb : ∀ a, off a + S1x128.size a ≤ S16x128.size a) (o : ℕ) (ho : o < 14) (hoff : off = ![o, 0]) (l : Fin 128) :
    View.readAt (Elt Ideal) v.view (Rect.unit (s := S16x128) off S1x128.size inb).toLoadRect X (ix2 (0 : Fin 1) l : S1x128.Idx) = safeE (bmax H o l) := by
  subst hoff
  refine (congrArg (v.view.read (Elt Ideal) X) (?_ : _ = (ix2 (⟨o, by omega⟩ : Fin 16) l : S16x128.Idx))).trans (h _ _ ho)
  funext a
  match a with
  | ⟨0, _⟩ => exact Fin.ext (show o + 1 * 0 = o by omega)
  | ⟨1, _⟩ => exact Fin.ext (show 0 + 1 * l.val = l.val by omega)

theorem rdTab (v : Memref sig .tc .vmem S16x128 .f32) (X : BufTy.Contents (Elt Ideal) v.view.ty) (h : Table v X)
    (off : Fin 2 → ℕ) (inb : ∀ a, off a + S8x128.size a ≤ S16x128.size a) (o : ℕ) (ho : o < 2) (hoff : off = ![8 * o, 0]) (j : Fin 8) (l : Fin 128) :
    View.readAt (Elt Ideal) v.view (Rect.unit (s := S16x128) off S8x128.size inb).toLoadRect X (ix2 j l : S8x128.Idx) = ((thr (2 * j.val + o) : ℝ) : EReal) := by
  subst hoff
  refine (congrArg (v.view.read (Elt Ideal) X) (?_ : _ = (ix2 (⟨8 * o + j.val, by omega⟩ : Fin 16) l : S16x128.Idx))).trans ((h _ _).trans ?_)
  · funext a
    match a with
    | ⟨0, _⟩ => exact Fin.ext (show 8 * o + 1 * j.val = 8 * o + j.val by omega)
    | ⟨1, _⟩ => exact Fin.ext (show 0 + 1 * l.val = l.val by omega)
  · show ((thr (2 * ((8 * o + j.val) % 8) + (8 * o + j.val) / 8) : ℝ) : EReal) = _
    rw [show 2 * ((8 * o + j.val) % 8) + (8 * o + j.val) / 8 = 2 * j.val + o by omega]

/-- The packed codes of a block, at their place. -/
theorem blockPk (W : ℕ → ℕ → ℕ → EReal) (i t b : ℕ) (ht : t < 2) (hb : b < 14)
    (v9 : Memref sig .tc .vmem S16x128 .f32) (X9 : BufTy.Contents (Elt Ideal) v9.view.ty) (h9 : Table v9 X9)
    (vx : Memref sig .tc .vmem S448x2x128 .bf16) (Xx : BufTy.Contents (Elt Ideal) vx.view.ty) (hx : XtRows (hrow W i t) vx Xx)
    (vi : Memref sig .tc .vmem S16x2x128 .bf16) (Xi : BufTy.Contents (Elt Ideal) vi.view.ty) (hi : InvRows (hrow W i t) vi Xi)
    (vs : Memref sig .tc .vmem S16x128 .f32) (Xs : BufTy.Contents (Elt Ideal) vs.view.ty) (hs : SafeRows (hrow W i t) vs Xs)
    (o1 : Fin 3 → ℕ) (i1 : ∀ a, o1 a + S1x2x128.size a ≤ S16x2x128.size a) (e1 : o1 = ![b, 0, 0])
    (o2 : Fin 2 → ℕ) (i2 : ∀ a, o2 a + S1x128.size a ≤ S16x128.size a) (e2 : o2 = ![b, 0])
    (j0 : ∀ a, (![0, 0] : Fin 2 → ℕ) a + S8x128.size a ≤ S16x128.size a) (j1 : ∀ a, (![8, 0] : Fin 2 → ℕ) a + S8x128.size a ≤ S16x128.size a)
    (p0 p1 p2 p3 : Fin 3 → ℕ) (q0 : ∀ a, p0 a + S8x2x128.size a ≤ S448x2x128.size a) (q1 : ∀ a, p1 a + S8x2x128.size a ≤ S448x2x128.size a)
    (q2 : ∀ a, p2 a + S8x2x128.size a ≤ S448x2x128.size a) (q3 : ∀ a, p3 a + S8x2x128.size a ≤ S448x2x128.size a)
    (f0 : p0 = ![32 * b + 0, 0, 0]) (f1 : p1 = ![32 * b + 8, 0, 0]) (f2 : p2 = ![32 * b + 16, 0, 0]) (f3 : p3 = ![32 * b + 24, 0, 0])
    (o4 : Fin 3 → ℕ) (i4 : ∀ a, o4 a + S1x32x128.size a ≤ S8x448x256.size a) (e4 : o4 = ![i, 32 * b, 128 * t]) (x : S1x32x128.Idx) :
    pkOf (View.readAt (Elt Ideal) vi.view (Rect.unit (s := S16x2x128) o1 S1x2x128.size i1).toLoadRect Xi)
      (View.readAt (Elt Ideal) vs.view (Rect.unit (s := S16x128) o2 S1x128.size i2).toLoadRect Xs)
      (View.readAt (Elt Ideal) v9.view (Rect.unit (s := S16x128) ![0, 0] S8x128.size j0).toLoadRect X9)
      (View.readAt (Elt Ideal) v9.view (Rect.unit (s := S16x128) ![8, 0] S8x128.size j1).toLoadRect X9)
      (View.readAt (Elt Ideal) vx.view (Rect.unit (s := S448x2x128) p0 S8x2x128.size q0).toLoadRect Xx)
      (View.readAt (Elt Ideal) vx.view (Rect.unit (s := S448x2x128) p1 S8x2x128.size q1).toLoadRect Xx)
      (View.readAt (Elt Ideal) vx.view (Rect.unit (s := S448x2x128) p2 S8x2x128.size q2).toLoadRect Xx)
      (View.readAt (Elt Ideal) vx.view (Rect.unit (s := S448x2x128) p3 S8x2x128.size q3).toLoadRect Xx) x
      = pkG W ((Rect.unit (s := S8x448x256) o4 S1x32x128.size i4).emb x) := by
  obtain ⟨z, R, l, rfl⟩ : ∃ (z : Fin 1) (R : Fin 32) (l : Fin 128), x = (ix3 z R l : S1x32x128.Idx) := ⟨x 0, x 1, x 2, eq_ix3 x⟩
  obtain rfl : z = 0 := Subsingleton.elim _ _
  rw [pkOf_apply (fun n l => hrow W i t (64 * b + n) l) (fun l => bmax (hrow W i t) b l) (fun n l hn => le_bmax (hrow W i t) b n hn l) _ _ _ _ _ _ _ _
    (rdInv _ vi Xi hi o1 i1 b hb e1) (rdSafe _ vs Xs hs o2 i2 b hb e2) (rdTab v9 X9 h9 _ j0 0 (by norm_num) rfl) (rdTab v9 X9 h9 _ j1 1 (by norm_num) rfl)
    (fun R q l => (rd8 _ vx Xx hx p0 q0 _ (by omega) f0 R q l).trans (congrArg (fun n => hrow W i t n l) (by omega)))
    (fun R q l => (rd8 _ vx Xx hx p1 q1 _ (by omega) f1 R q l).trans (congrArg (fun n => hrow W i t n l) (by omega)))
    (fun R q l => (rd8 _ vx Xx hx p2 q2 _ (by omega) f2 R q l).trans (congrArg (fun n => hrow W i t n l) (by omega)))
    (fun R q l => (rd8 _ vx Xx hx p3 q3 _ (by omega) f3 R q l).trans (congrArg (fun n => hrow W i t n l) (by omega))) R l]
  subst e4
  show _ = pkN W (i + 1 * 0) (32 * b + 1 * R.val) ((128 * t + 1 * l.val) / 128) (⟨(128 * t + 1 * l.val) % 128, _⟩ : Fin 128)
  rw [show (⟨(128 * t + 1 * l.val) % 128, Nat.mod_lt _ (by norm_num)⟩ : Fin 128) = l from Fin.ext (show (128 * t + 1 * l.val) % 128 = l.val by omega),
    show (128 * t + 1 * l.val) / 128 = t by omega]
  unfold pkN
  rw [show (32 * b + 1 * R.val) / 32 = b by omega, show (32 * b + 1 * R.val) % 32 = R.val by omega, show i + 1 * 0 = i by omega]

end Cert.EncodePackRows

end
-- ==== Proof.EncodePackReach.lean ====
/- The packed codes that the first call's row loop leaves, over the extended reals. -/
module

public import proofs.«01_k».proof.Proof.EncodePackRow
public import proofs.«01_k».proof.Proof.EncodePackRows

@[expose] public section

set_option maxRecDepth 16384
set_option maxHeartbeats 4000000

noncomputable section

namespace Cert.EncodePackReach

open Idealize.ShloMosaic Idealize.ShloMosaic.TcCoe Idealize.SL.Sem Idealize.ShloMosaic.ValueIdx
open Cert.KernelIdeal Cert.KernelIdeal.Gen Cert.KernelIdeal.Row Cert.EncodeSpec Cert.EncodeVal Cert.EncodeRow Cert.EncodeReach Cert.EncodePack Cert.EncodePackRows

/-- The packed codes of the first `n` rows. -/
def Pk (W : ℕ → ℕ → ℕ → EReal) (v : Memref sig .tc .vmem S8x448x256 .i8) (n : ℕ) (g : BufTy.Contents (Elt Ideal) v.view.ty) : Prop :=
  ∀ y : S8x448x256.Idx, (y 0).val < n → v.view.read (Elt Ideal) g y = pkG W y

/-- The members of a list that grows by one at each trip. -/
theorem mem_trips {α : Type} {n0 : ℕ} (P : Fin n0 → α) (L : ℕ → List α) (h0 : L 0 = []) (hs : ∀ k : Fin n0, L (k.val + 1) = [P k] ++ L k.val) (p : α) :
    p ∈ L n0 ↔ ∃ k, p = P k := by
  have key : ∀ n, n ≤ n0 → (p ∈ L n ↔ ∃ k : Fin n0, k.val < n ∧ p = P k) := by
    intro n
    induction n with
    | zero => intro _; rw [h0]; exact ⟨fun h => absurd h (List.not_mem_nil), fun ⟨k, h, _⟩ => absurd h (Nat.not_lt_zero _)⟩
    | succ n ih =>
      intro hn
      rw [hs ⟨n, hn⟩, List.mem_append, List.mem_singleton]
      constructor
      · rintro (h | h)
        · exact ⟨⟨n, hn⟩, Nat.lt_succ_self n, h⟩
        · obtain ⟨k, hk, e⟩ := (ih (by omega)).mp h
          exact ⟨k, by omega, e⟩
      · rintro ⟨k, hk, e⟩
        by_cases c : k.val = n
        · left; rw [e]; exact congrArg P (Fin.ext c)
        · right; exact (ih (by omega)).mpr ⟨k, by omega, e⟩
  rw [key n0 le_rfl]
  exact ⟨fun ⟨k, _, e⟩ => ⟨k, e⟩, fun ⟨k, e⟩ => ⟨k, k.isLt, e⟩⟩

/-- What block `b` of half 0 stores. -/
def pcL (v9 : Memref sig .tc .vmem S16x128 .f32) (X9 : BufTy.Contents (Elt Ideal) v9.view.ty) (vx : Memref sig .tc .vmem S448x2x128 .bf16) (Xx : BufTy.Contents (Elt Ideal) vx.view.ty) (vi : Memref sig .tc .vmem S16x2x128 .bf16) (Xi : BufTy.Contents (Elt Ideal) vi.view.ty) (vs : Memref sig .tc .vmem S16x128 .f32) (Xs : BufTy.Contents (Elt Ideal) vs.view.ty) (i : Fin k0_t1_loop.trips) (b : Fin k0_t2_loop.trips) : View.Piece (Elt Ideal) S8x448x256 .i8 :=
      ⟨Rect.unit (s := S8x448x256) (k0_off4 i b) S1x32x128.size (k0_off4_inb i b), pkOf
        (View.readAt (Elt Ideal) vi.view (Rect.unit (s := S16x2x128) (k0_off1 b) S1x2x128.size (k0_off1_inb b)).toLoadRect Xi)
        (View.readAt (Elt Ideal) vs.view (Rect.unit (s := S16x128) (k0_off2 b) S1x128.size (k0_off2_inb b)).toLoadRect Xs)
        (View.readAt (Elt Ideal) v9.view (Rect.unit (s := S16x128) ![0, 0] S8x128.size inb_S16x128_S8x128_0_0).toLoadRect X9)
        (View.readAt (Elt Ideal) v9.view (Rect.unit (s := S16x128) ![8, 0] S8x128.size inb_S16x128_S8x128_8_0).toLoadRect X9)
        (View.readAt (Elt Ideal) vx.view (Rect.unit (s := S448x2x128) (k0_off3 b 0#32 0#32) S8x2x128.size (k0_off3_inb b 0 0)).toLoadRect Xx)
        (View.readAt (Elt Ideal) vx.view (Rect.unit (s := S448x2x128) (k0_off3 b 0#32 8#32) S8x2x128.size (k0_off3_inb b 0 1)).toLoadRect Xx)
        (View.readAt (Elt Ideal) vx.view (Rect.unit (s := S448x2x128) (k0_off3 b 16#32 0#32) S8x2x128.size (k0_off3_inb b 1 0)).toLoadRect Xx)
        (View.readAt (Elt Ideal) vx.view (Rect.unit (s := S448x2x128) (k0_off3 b 16#32 8#32) S8x2x128.size (k0_off3_inb b 1 1)).toLoadRect Xx)⟩

theorem pcL_val (W : ℕ → ℕ → ℕ → EReal) (v9 : Memref sig .tc .vmem S16x128 .f32) (X9 : BufTy.Contents (Elt Ideal) v9.view.ty) (vx : Memref sig .tc .vmem S448x2x128 .bf16) (Xx : BufTy.Contents (Elt Ideal) vx.view.ty) (vi : Memref sig .tc .vmem S16x2x128 .bf16) (Xi : BufTy.Contents (Elt Ideal) vi.view.ty) (vs : Memref sig .tc .vmem S16x128 .f32) (Xs : BufTy.Contents (Elt Ideal) vs.view.ty) (i : Fin k0_t1_loop.trips) (h9 : Table v9 X9) (hx : XtRows (hrow W i.val 0) vx Xx) (hi : InvRows (hrow W i.val 0) vi Xi) (hs : SafeRows (hrow W i.val 0) vs Xs)
    (b : Fin k0_t2_loop.trips) (x : S1x32x128.Idx) : (pcL v9 X9 vx Xx vi Xi vs Xs i b).2 x = pkG W ((pcL v9 X9 vx Xx vi Xi vs Xs i b).1.emb x) :=
  blockPk W i.val 0 b.val (by norm_num) b.isLt v9 X9 h9 vx Xx hx vi Xi hi vs Xs hs _ (k0_off1_inb b) (k0_off1_eq b) _ (k0_off2_inb b) (k0_off2_eq b) _ _ _ _ _ _ _ _ _ _
    (k0_off3_eq b 0 0) ((k0_off3_eq b 0 1).trans (by simp)) ((k0_off3_eq b 1 0).trans (by simp)) ((k0_off3_eq b 1 1).trans (by simp [Nat.add_assoc])) _ (k0_off4_inb i b) ((k0_off4_eq i b).trans (by simp)) x

theorem pcL_mem (v9 : Memref sig .tc .vmem S16x128 .f32) (X9 : BufTy.Contents (Elt Ideal) v9.view.ty) (vx : Memref sig .tc .vmem S448x2x128 .bf16) (Xx : BufTy.Contents (Elt Ideal) vx.view.ty) (vi : Memref sig .tc .vmem S16x2x128 .bf16) (Xi : BufTy.Contents (Elt Ideal) vi.view.ty) (vs : Memref sig .tc .vmem S16x128 .f32) (Xs : BufTy.Contents (Elt Ideal) vs.view.ty) (i : Fin k0_t1_loop.trips) (b : Fin k0_t2_loop.trips) (y : S8x448x256.Idx) :
    y ∈ (pcL v9 X9 vx Xx vi Xi vs Xs i b).1.set ↔ (y 0).val = i.val ∧ (y 1).val / 32 = b.val ∧ (y 2).val / 128 = 0 := by
  have y2 : (y 2).val < 256 := (y 2).isLt
  unfold pcL
  rw [Rect.mem_set_unit, k0_off4_eq]
  constructor
  · intro h
    have h0 := h 0; have h1 := h 1; have h2 := h 2
    have a0 : i.val ≤ (y 0).val := h0.1
    have a1 : (y 0).val < i.val + 1 := h0.2
    have b0 : 32 * b.val ≤ (y 1).val := h1.1
    have b1 : (y 1).val < 32 * b.val + 32 := h1.2
    have c0 : 0 ≤ (y 2).val := h2.1
    have c1 : (y 2).val < 0 + 128 := h2.2
    omega
  · rintro ⟨h0, h1, h2⟩ a
    match a with
    | ⟨0, _⟩ => exact ⟨(show i.val ≤ (y 0).val by omega), (show (y 0).val < i.val + 1 by omega)⟩
    | ⟨1, _⟩ => exact ⟨(show 32 * b.val ≤ (y 1).val by omega), (show (y 1).val < 32 * b.val + 32 by omega)⟩
    | ⟨2, _⟩ => exact ⟨(show 0 ≤ (y 2).val by omega), (show (y 2).val < 0 + 128 by omega)⟩

/-- What block `b` of half 1 stores. -/
def pcR (v9 : Memref sig .tc .vmem S16x128 .f32) (X9 : BufTy.Contents (Elt Ideal) v9.view.ty) (vx : Memref sig .tc .vmem S448x2x128 .bf16) (Xx : BufTy.Contents (Elt Ideal) vx.view.ty) (vi : Memref sig .tc .vmem S16x2x128 .bf16) (Xi : BufTy.Contents (Elt Ideal) vi.view.ty) (vs : Memref sig .tc .vmem S16x128 .f32) (Xs : BufTy.Contents (Elt Ideal) vs.view.ty) (i : Fin k0_t1_loop.trips) (b : Fin k0_t3_loop.trips) : View.Piece (Elt Ideal) S8x448x256 .i8 :=
      ⟨Rect.unit (s := S8x448x256) (k0_off18 i b) S1x32x128.size (k0_off18_inb i b), pkOf
        (View.readAt (Elt Ideal) vi.view (Rect.unit (s := S16x2x128) (k0_off15 b) S1x2x128.size (k0_off15_inb b)).toLoadRect Xi)
        (View.readAt (Elt Ideal) vs.view (Rect.unit (s := S16x128) (k0_off16 b) S1x128.size (k0_off16_inb b)).toLoadRect Xs)
        (View.readAt (Elt Ideal) v9.view (Rect.unit (s := S16x128) ![0, 0] S8x128.size inb_S16x128_S8x128_0_0).toLoadRect X9)
        (View.readAt (Elt Ideal) v9.view (Rect.unit (s := S16x128) ![8, 0] S8x128.size inb_S16x128_S8x128_8_0).toLoadRect X9)
        (View.readAt (Elt Ideal) vx.view (Rect.unit (s := S448x2x128) (k0_off17 b 0#32 0#32) S8x2x128.size (k0_off17_inb b 0 0)).toLoadRect Xx)
        (View.readAt (Elt Ideal) vx.view (Rect.unit (s := S448x2x128) (k0_off17 b 0#32 8#32) S8x2x128.size (k0_off17_inb b 0 1)).toLoadRect Xx)
        (View.readAt (Elt Ideal) vx.view (Rect.unit (s := S448x2x128) (k0_off17 b 16#32 0#32) S8x2x128.size (k0_off17_inb b 1 0)).toLoadRect Xx)
        (View.readAt (Elt Ideal) vx.view (Rect.unit (s := S448x2x128) (k0_off17 b 16#32 8#32) S8x2x128.size (k0_off17_inb b 1 1)).toLoadRect Xx)⟩

theorem pcR_val (W : ℕ → ℕ → ℕ → EReal) (v9 : Memref sig .tc .vmem S16x128 .f32) (X9 : BufTy.Contents (Elt Ideal) v9.view.ty) (vx : Memref sig .tc .vmem S448x2x128 .bf16) (Xx : BufTy.Contents (Elt Ideal) vx.view.ty) (vi : Memref sig .tc .vmem S16x2x128 .bf16) (Xi : BufTy.Contents (Elt Ideal) vi.view.ty) (vs : Memref sig .tc .vmem S16x128 .f32) (Xs : BufTy.Contents (Elt Ideal) vs.view.ty) (i : Fin k0_t1_loop.trips) (h9 : Table v9 X9) (hx : XtRows (hrow W i.val 1) vx Xx) (hi : InvRows (hrow W i.val 1) vi Xi) (hs : SafeRows (hrow W i.val 1) vs Xs)
    (b : Fin k0_t3_loop.trips) (x : S1x32x128.Idx) : (pcR v9 X9 vx Xx vi Xi vs Xs i b).2 x = pkG W ((pcR v9 X9 vx Xx vi Xi vs Xs i b).1.emb x) :=
  blockPk W i.val 1 b.val (by norm_num) b.isLt v9 X9 h9 vx Xx hx vi Xi hi vs Xs hs _ (k0_off15_inb b) (k0_off15_eq b) _ (k0_off16_inb b) (k0_off16_eq b) _ _ _ _ _ _ _ _ _ _
    (k0_off17_eq b 0 0) ((k0_off17_eq b 0 1).trans (by simp)) ((k0_off17_eq b 1 0).trans (by simp)) ((k0_off17_eq b 1 1).trans (by simp [Nat.add_assoc])) _ (k0_off18_inb i b) ((k0_off18_eq i b).trans (by simp)) x

theorem pcR_mem (v9 : Memref sig .tc .vmem S16x128 .f32) (X9 : BufTy.Contents (Elt Ideal) v9.view.ty) (vx : Memref sig .tc .vmem S448x2x128 .bf16) (Xx : BufTy.Contents (Elt Ideal) vx.view.ty) (vi : Memref sig .tc .vmem S16x2x128 .bf16) (Xi : BufTy.Contents (Elt Ideal) vi.view.ty) (vs : Memref sig .tc .vmem S16x128 .f32) (Xs : BufTy.Contents (Elt Ideal) vs.view.ty) (i : Fin k0_t1_loop.trips) (b : Fin k0_t3_loop.trips) (y : S8x448x256.Idx) :
    y ∈ (pcR v9 X9 vx Xx vi Xi vs Xs i b).1.set ↔ (y 0).val = i.val ∧ (y 1).val / 32 = b.val ∧ (y 2).val / 128 = 1 := by
  have y2 : (y 2).val < 256 := (y 2).isLt
  unfold pcR
  rw [Rect.mem_set_unit, k0_off18_eq]
  constructor
  · intro h
    have h0 := h 0; have h1 := h 1; have h2 := h 2
    have a0 : i.val ≤ (y 0).val := h0.1
    have a1 : (y 0).val < i.val + 1 := h0.2
    have b0 : 32 * b.val ≤ (y 1).val := h1.1
    have b1 : (y 1).val < 32 * b.val + 32 := h1.2
    have c0 : 128 ≤ (y 2).val := h2.1
    have c1 : (y 2).val < 128 + 128 := h2.2
    omega
  · rintro ⟨h0, h1, h2⟩ a
    match a with
    | ⟨0, _⟩ => exact ⟨(show i.val ≤ (y 0).val by omega), (show (y 0).val < i.val + 1 by omega)⟩
    | ⟨1, _⟩ => exact ⟨(show 32 * b.val ≤ (y 1).val by omega), (show (y 1).val < 32 * b.val + 32 by omega)⟩
    | ⟨2, _⟩ => exact ⟨(show 128 ≤ (y 2).val by omega), (show (y 2).val < 128 + 128 by omega)⟩

/-- The rows of packed codes that a trip writes. -/
theorem step_pk (W : ℕ → ℕ → ℕ → EReal) (v9 : Memref sig .tc .vmem S16x128 .f32) (X9 : BufTy.Contents (Elt Ideal) v9.view.ty) (vx : Memref sig .tc .vmem S448x2x128 .bf16) (Xx : BufTy.Contents (Elt Ideal) vx.view.ty) (vi : Memref sig .tc .vmem S16x2x128 .bf16) (Xi : BufTy.Contents (Elt Ideal) vi.view.ty) (vs : Memref sig .tc .vmem S16x128 .f32) (Xs : BufTy.Contents (Elt Ideal) vs.view.ty) (ux : Memref sig .tc .vmem S448x2x128 .bf16) (Ux : BufTy.Contents (Elt Ideal) ux.view.ty) (ui : Memref sig .tc .vmem S16x2x128 .bf16) (Ui : BufTy.Contents (Elt Ideal) ui.view.ty) (us : Memref sig .tc .vmem S16x128 .f32) (Us : BufTy.Contents (Elt Ideal) us.view.ty) (v10 : Memref sig .tc .vmem S8x448x256 .i8) (i : Fin k0_t1_loop.trips)
    (h9 : Table v9 X9) (hx : XtRows (hrow W i.val 0) vx Xx) (hi : InvRows (hrow W i.val 0) vi Xi) (hs : SafeRows (hrow W i.val 0) vs Xs)
    (kx : XtRows (hrow W i.val 1) ux Ux) (ki : InvRows (hrow W i.val 1) ui Ui) (ks : SafeRows (hrow W i.val 1) us Us)
    (L3 L2 : List (View.Piece (Elt Ideal) S8x448x256 .i8)) (m3 : ∀ p, p ∈ L3 ↔ ∃ b, p = pcR v9 X9 ux Ux ui Ui us Us i b) (m2 : ∀ p, p ∈ L2 ↔ ∃ b, p = pcL v9 X9 vx Xx vi Xi vs Xs i b)
    (g : BufTy.Contents (Elt Ideal) v10.view.ty) (hg : Pk W v10 i.val g) : Pk W v10 (i.val + 1) (v10.view.writes (Elt Ideal) g (L3 ++ L2)) := by
  intro y hy
  have y1 : (y 1).val < 448 := (y 1).isLt
  have y2 : (y 2).val < 256 := (y 2).isLt
  by_cases c : (y 0).val = i.val
  · refine View.read_writes_apply_of_pieces v10.view g (pkG W) _ ?_ y ?_
    · intro p hp
      rcases List.mem_append.mp hp with h | h
      · obtain ⟨b, rfl⟩ := (m3 p).mp h
        exact pcR_val W v9 X9 ux Ux ui Ui us Us i h9 kx ki ks b
      · obtain ⟨b, rfl⟩ := (m2 p).mp h
        exact pcL_val W v9 X9 vx Xx vi Xi vs Xs i h9 hx hi hs b
    · by_cases e : (y 2).val / 128 = 0
      · exact ⟨_, List.mem_append.mpr (.inr ((m2 _).mpr ⟨⟨(y 1).val / 32, (show (y 1).val / 32 < 14 by omega)⟩, rfl⟩)), (pcL_mem v9 X9 vx Xx vi Xi vs Xs i _ y).mpr ⟨c, rfl, e⟩⟩
      · exact ⟨_, List.mem_append.mpr (.inl ((m3 _).mpr ⟨⟨(y 1).val / 32, (show (y 1).val / 32 < 14 by omega)⟩, rfl⟩)), (pcR_mem v9 X9 ux Ux ui Ui us Us i _ y).mpr ⟨c, rfl, by omega⟩⟩
  · rw [View.read_writes_apply_of_forall_not_mem]
    · exact hg y (by omega)
    · intro p hp hm
      rcases List.mem_append.mp hp with h | h
      · obtain ⟨b, rfl⟩ := (m3 p).mp h
        exact c ((pcR_mem v9 X9 ux Ux ui Ui us Us i b y).mp hm).1
      · obtain ⟨b, rfl⟩ := (m2 p).mp h
        exact c ((pcL_mem v9 X9 vx Xx vi Xi vs Xs i b y).mp hm).1

/-- The scratch rows and packed codes of a state that the loop reaches. -/
theorem reach_pk (𝒱 : Variants) (c : Dev nD) (bd : Option 𝒱.V) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (G_arg13 : BufTy.Contents (Elt Ideal) arg13.view.ty) (G_arg17 : BufTy.Contents (Elt Ideal) arg17.view.ty) (G_arg19 : BufTy.Contents (Elt Ideal) arg19.view.ty) (G_arg10 : BufTy.Contents (Elt Ideal) arg10.view.ty) (G_arg21 : BufTy.Contents (Elt Ideal) arg21.view.ty) (W : ℕ → ℕ → ℕ → EReal)
    (h0 : ∀ (i : Fin 8) (p : Fin 256) (d : Fin 128), arg2.view.read (Elt Ideal) X_arg2 (ix3 i p d : S8x256x128.Idx) = W i.val p.val (0 + d.val))
    (h1 : ∀ (i : Fin 8) (p : Fin 256) (d : Fin 128), arg3.view.read (Elt Ideal) X_arg3 (ix3 i p d : S8x256x128.Idx) = W i.val p.val (128 + d.val))
    (h2 : ∀ (i : Fin 8) (p : Fin 256) (d : Fin 128), arg4.view.read (Elt Ideal) X_arg4 (ix3 i p d : S8x256x128.Idx) = W i.val p.val (256 + d.val))
    (h3 : ∀ (i : Fin 8) (p : Fin 256) (d : Fin 128), arg5.view.read (Elt Ideal) X_arg5 (ix3 i p d : S8x256x128.Idx) = W i.val p.val (384 + d.val))
    (h4 : ∀ (i : Fin 8) (p : Fin 256) (d : Fin 128), arg6.view.read (Elt Ideal) X_arg6 (ix3 i p d : S8x256x128.Idx) = W i.val p.val (512 + d.val))
    (h5 : ∀ (i : Fin 8) (p : Fin 256) (d : Fin 128), arg7.view.read (Elt Ideal) X_arg7 (ix3 i p d : S8x256x128.Idx) = W i.val p.val (640 + d.val))
    (h6 : ∀ (i : Fin 8) (p : Fin 256) (d : Fin 128), arg8.view.read (Elt Ideal) X_arg8 (ix3 i p d : S8x256x128.Idx) = W i.val p.val (768 + d.val))
    (h9 : Table arg9 X_arg9) (hx0 : XtRows (hrow W 0 0) arg13 G_arg13) (hi0 : InvRows (hrow W 0 0) arg17 G_arg17) (hs0 : SafeRows (hrow W 0 0) arg19 G_arg19)
    (n : ℕ) (g_arg13 : BufTy.Contents (Elt Ideal) arg13.view.ty) (g_arg17 : BufTy.Contents (Elt Ideal) arg17.view.ty) (g_arg19 : BufTy.Contents (Elt Ideal) arg19.view.ty) (g_arg10 : BufTy.Contents (Elt Ideal) arg10.view.ty) (g_arg21 : BufTy.Contents (Elt Ideal) arg21.view.ty) (h : Reach (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg13 G_arg17 G_arg19 G_arg10 G_arg21 n g_arg13 g_arg17 g_arg19 g_arg10 g_arg21) :
    XtRows (hrow W (min n 7) 0) arg13 g_arg13 ∧ InvRows (hrow W (min n 7) 0) arg17 g_arg17 ∧ SafeRows (hrow W (min n 7) 0) arg19 g_arg19 ∧ Pk W arg10 n g_arg10 := by
  induction h with
  | zero => exact ⟨hx0, hi0, hs0, fun y hy => absurd hy (Nat.not_lt_zero _)⟩
  | succ arg0 arg1 v568_lo v568_hi v569_hi k g_arg13 g_arg17 g_arg19 g_arg10 g_arg21 g_arg14 g_arg15 g_arg16 g_arg18 g_arg20 h ih =>
    obtain ⟨i1, i2, i3, i4⟩ := ih
    have hk8 : k.val < 8 := k.isLt
    rw [show min k.val 7 = k.val by omega] at i1 i2 i3
    refine ⟨?_, ?_, ?_, ?_⟩
    · rw [trip_xt]
      exact xt_rows _ arg13 _ _ _ _ _ _ _ _ (tileN_apply arg2 X_arg2 W 0 h0 k) (tileN_apply arg3 X_arg3 W 128 h1 k) (tileN_apply arg4 X_arg4 W 256 h2 k) (tileN_apply arg5 X_arg5 W 384 h3 k) (tileN_apply arg6 X_arg6 W 512 h4 k) (tileN_apply arg7 X_arg7 W 640 h5 k) (tileN_apply arg8 X_arg8 W 768 h6 k)
    · rw [trip_inv]
      exact inv_rows _ arg17 _ _ _ (stat8_apply arg15.view _ _ _ _ _ _ _ _ (tileN_apply arg2 X_arg2 W 0 h0 k) (tileN_apply arg3 X_arg3 W 128 h1 k) (tileN_apply arg4 X_arg4 W 256 h2 k) (tileN_apply arg5 X_arg5 W 384 h3 k) (tileN_apply arg6 X_arg6 W 512 h4 k) (tileN_apply arg7 X_arg7 W 640 h5 k) (tileN_apply arg8 X_arg8 W 768 h6 k)) (stat6_apply arg15.view _ _ _ _ _ _ _ _ (tileN_apply arg2 X_arg2 W 0 h0 k) (tileN_apply arg3 X_arg3 W 128 h1 k) (tileN_apply arg4 X_arg4 W 256 h2 k) (tileN_apply arg5 X_arg5 W 384 h3 k) (tileN_apply arg6 X_arg6 W 512 h4 k) (tileN_apply arg7 X_arg7 W 640 h5 k) (tileN_apply arg8 X_arg8 W 768 h6 k))
    · rw [trip_safe]
      exact safe_rows _ arg19 _ _ _ (stat8_apply arg15.view _ _ _ _ _ _ _ _ (tileN_apply arg2 X_arg2 W 0 h0 k) (tileN_apply arg3 X_arg3 W 128 h1 k) (tileN_apply arg4 X_arg4 W 256 h2 k) (tileN_apply arg5 X_arg5 W 384 h3 k) (tileN_apply arg6 X_arg6 W 512 h4 k) (tileN_apply arg7 X_arg7 W 640 h5 k) (tileN_apply arg8 X_arg8 W 768 h6 k)) (stat6_apply arg15.view _ _ _ _ _ _ _ _ (tileN_apply arg2 X_arg2 W 0 h0 k) (tileN_apply arg3 X_arg3 W 128 h1 k) (tileN_apply arg4 X_arg4 W 256 h2 k) (tileN_apply arg5 X_arg5 W 384 h3 k) (tileN_apply arg6 X_arg6 W 512 h4 k) (tileN_apply arg7 X_arg7 W 640 h5 k) (tileN_apply arg8 X_arg8 W 768 h6 k))
    · obtain ⟨c0_i32, c1_i32, arg22, v1337, v1347, Y14, Y18, Y20, e, e14, e18, e20⟩ := trip_pk (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v568_lo v568_hi v569_hi X_arg2 X_arg3 X_arg4 X_arg5 X_arg6 X_arg7 X_arg8 X_arg9 g_arg13 g_arg17 g_arg19 g_arg14 g_arg15 g_arg16 g_arg18 g_arg20 k
      rw [e]
      refine step_pk W arg9 X_arg9 arg13 g_arg13 arg17 g_arg17 arg19 g_arg19 arg14 Y14 arg18 Y18 arg20 Y20 arg10 k h9 i1 i2 i3 ?_ ?_ ?_ _ _ ?_ ?_ g_arg10 i4
      · rw [e14]
        exact xt_rows _ arg14 _ _ _ _ _ _ _ _ (tileR_apply arg2 X_arg2 W 0 h0 k) (tileR_apply arg3 X_arg3 W 128 h1 k) (tileR_apply arg4 X_arg4 W 256 h2 k) (tileR_apply arg5 X_arg5 W 384 h3 k) (tileR_apply arg6 X_arg6 W 512 h4 k) (tileR_apply arg7 X_arg7 W 640 h5 k) (tileR_apply arg8 X_arg8 W 768 h6 k)
      · rw [e18]
        exact inv_rows _ arg18 _ _ _ (stat8_apply arg16.view _ _ _ _ _ _ _ _ (tileR_apply arg2 X_arg2 W 0 h0 k) (tileR_apply arg3 X_arg3 W 128 h1 k) (tileR_apply arg4 X_arg4 W 256 h2 k) (tileR_apply arg5 X_arg5 W 384 h3 k) (tileR_apply arg6 X_arg6 W 512 h4 k) (tileR_apply arg7 X_arg7 W 640 h5 k) (tileR_apply arg8 X_arg8 W 768 h6 k)) (stat6_apply arg16.view _ _ _ _ _ _ _ _ (tileR_apply arg2 X_arg2 W 0 h0 k) (tileR_apply arg3 X_arg3 W 128 h1 k) (tileR_apply arg4 X_arg4 W 256 h2 k) (tileR_apply arg5 X_arg5 W 384 h3 k) (tileR_apply arg6 X_arg6 W 512 h4 k) (tileR_apply arg7 X_arg7 W 640 h5 k) (tileR_apply arg8 X_arg8 W 768 h6 k))
      · rw [e20]
        exact safe_rows _ arg20 _ _ _ (stat8_apply arg16.view _ _ _ _ _ _ _ _ (tileR_apply arg2 X_arg2 W 0 h0 k) (tileR_apply arg3 X_arg3 W 128 h1 k) (tileR_apply arg4 X_arg4 W 256 h2 k) (tileR_apply arg5 X_arg5 W 384 h3 k) (tileR_apply arg6 X_arg6 W 512 h4 k) (tileR_apply arg7 X_arg7 W 640 h5 k) (tileR_apply arg8 X_arg8 W 768 h6 k)) (stat6_apply arg16.view _ _ _ _ _ _ _ _ (tileR_apply arg2 X_arg2 W 0 h0 k) (tileR_apply arg3 X_arg3 W 128 h1 k) (tileR_apply arg4 X_arg4 W 256 h2 k) (tileR_apply arg5 X_arg5 W 384 h3 k) (tileR_apply arg6 X_arg6 W 512 h4 k) (tileR_apply arg7 X_arg7 W 640 h5 k) (tileR_apply arg8 X_arg8 W 768 h6 k))
      · exact mem_trips _ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v1337 v1347 X_arg9 Y14 Y18 Y20) rfl
          (fun b => (pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v1337 v1347 X_arg9 Y14 Y18 Y20 b).trans (congrArg (· ++ _) (trip3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v1337 v1347 X_arg9 Y14 Y18 Y20 b)))
      · exact mem_trips _ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32 c1_i32 k X_arg9 g_arg13 g_arg17 g_arg19) rfl
          (fun b => (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32 c1_i32 k X_arg9 g_arg13 g_arg17 g_arg19 b).trans (congrArg (· ++ _) (trip2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32 c1_i32 k X_arg9 g_arg13 g_arg17 g_arg19 b)))

end Cert.EncodePackReach

end
-- ==== Proof.EncodeTable.lean ====
/- The thresholds as they are printed: their bits, and the table the first call reads them from. -/
module

public import proofs.«01_k».proof.KernelIdeal
public import proofs.«01_k».proof.Proof.EncodeScalar

@[expose] public section

set_option maxRecDepth 16384
set_option maxHeartbeats 1600000

noncomputable section

namespace Cert.EncodeTable

open Idealize.ShloMosaic Idealize.ShloMosaic.TcCoe
open Cert.KernelIdeal Cert.EncodeScalar

/-- The bits of a threshold. -/
def thrBits : ℕ → BitVec 32
  | 0 => 0xBF591CD8#32
  | 1 => 0xBF1C5270#32
  | 2 => 0xBEEB8480#32
  | 3 => 0xBEADEA76#32
  | 4 => 0xBE703CEC#32
  | 5 => 0xBE0D38BC#32
  | 6 => 0xBD3A7871#32
  | 7 => 0x3D22FAFF#32
  | 8 => 0x3DF64862#32
  | 9 => 0x3E5067E0#32
  | 10 => 0x3E9582D4#32
  | 11 => 0x3EC753F9#32
  | 12 => 0x3F006D04#32
  | 13 => 0x3F248DAF#32
  | 14 => 0x3F5C89D9#32
  | _ => 0x40000000#32

/-- A threshold's bits name its number. -/
theorem thr_bits (j : ℕ) (hj : j < 16) : (FloatOps.ofBits (F := Ideal) .f32 (thrBits j) : EReal) = ((thr j : ℝ) : EReal) := by
  interval_cases j <;>
  · simp [Ideal.ofBits, Ideal.ieee, thr, thrBits]
    try norm_cast
    try (rw [Rat.divInt_eq_div]; push_cast)
    try norm_num

/-- The table holds the even thresholds' bits, then the odd ones', each along a row. -/
theorem lit_eq : ∀ n : Fin 2048, lit0 n = thrBits (2 * (n.val / 128 % 8) + n.val / 128 / 8) := by
  decide +kernel

end Cert.EncodeTable

end
-- ==== Proof.EncodeFrame.lean ====
/- The first call over the extended reals: the launch, its absmax values and its sums named. -/
module

public import proofs.«01_k».proof.Proof.FrameKernelIdeal
public import proofs.«01_k».proof.Proof.Gen.KernelIdeal.Frame
public import proofs.«01_k».proof.Proof.EncodeSums
public import proofs.«01_k».proof.Proof.EncodePackReach
public import proofs.«01_k».proof.Proof.EncodeTable

@[expose] public section

set_option maxRecDepth 16384
set_option maxHeartbeats 1600000

noncomputable section

namespace Cert.EncodeFrame

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Row Cert.EncodeReach Cert.EncodeSums Cert.EncodeRow Cert.EncodeVal Cert.EncodeScalar Cert.EncodePackVal Cert.EncodePackRows Cert.EncodePackReach Cert.EncodeTable

local notation "𝕄G" => MT nD τ sig Unit (Elt Ideal) ℕ (UR sig nD τ) ℕ

/-- The body at any grid point: from the input blocks and the sums held, it leaves the packed codes and the absmax block of the weight, and
    the sums with it added (from zero at the first point). -/
theorem sound_kernel (𝒱 : Variants) (c : Dev nD) (bd : Option 𝒱.V) (E : Set ℕ) (i : grid0.Coords) (arg2 : Memref sig .tc .vmem S8x256x128 .bf16) (harg2 : arg2.IsWhole) (arg3 : Memref sig .tc .vmem S8x256x128 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x256x128 .bf16) (harg6 : arg6.IsWhole) (arg7 : Memref sig .tc .vmem S8x256x128 .bf16) (harg7 : arg7.IsWhole) (arg8 : Memref sig .tc .vmem S8x256x128 .bf16) (harg8 : arg8.IsWhole) (arg9 : Memref sig .tc .vmem S16x128 .f32) (harg9 : arg9.IsWhole) (arg10 : Memref sig .tc .vmem S8x448x256 .i8) (harg10 : arg10.IsWhole) (arg11 : Memref sig .tc .vmem S14x8x256 .f32) (harg11 : arg11.IsWhole) (arg12 : Memref sig .tc .vmem S8x128 .f32) (harg12 : arg12.IsWhole) (arg13 : Memref sig .tc .vmem S448x2x128 .bf16) (harg13 : arg13.IsWhole) (arg14 : Memref sig .tc .vmem S448x2x128 .bf16) (harg14 : arg14.IsWhole) (arg15 : Memref sig .tc .vmem S112x2x128 .bf16) (harg15 : arg15.IsWhole) (arg16 : Memref sig .tc .vmem S112x2x128 .bf16) (harg16 : arg16.IsWhole) (arg17 : Memref sig .tc .vmem S16x2x128 .bf16) (harg17 : arg17.IsWhole) (arg18 : Memref sig .tc .vmem S16x2x128 .bf16) (harg18 : arg18.IsWhole) (arg19 : Memref sig .tc .vmem S16x128 .f32) (harg19 : arg19.IsWhole) (arg20 : Memref sig .tc .vmem S16x128 .f32) (harg20 : arg20.IsWhole) (arg21 : Memref sig .tc .vmem S256x128 .f32) (harg21 : arg21.IsWhole) (x_arg2 : S8x256x128.Idx → Elt Ideal .bf16) (x_arg3 : S8x256x128.Idx → Elt Ideal .bf16) (x_arg4 : S8x256x128.Idx → Elt Ideal .bf16) (x_arg5 : S8x256x128.Idx → Elt Ideal .bf16) (x_arg6 : S8x256x128.Idx → Elt Ideal .bf16) (x_arg7 : S8x256x128.Idx → Elt Ideal .bf16) (x_arg8 : S8x256x128.Idx → Elt Ideal .bf16) (x_arg9 : S16x128.Idx → Elt Ideal .f32) (x_arg12 y_arg12 : S8x128.Idx → Elt Ideal .f32) (W : ℕ → ℕ → ℕ → EReal)
    (h0 : ∀ (i : Fin 8) (p : Fin 256) (d : Fin 128), x_arg2 (ix3 i p d : S8x256x128.Idx) = W i.val p.val (0 + d.val))
    (h1 : ∀ (i : Fin 8) (p : Fin 256) (d : Fin 128), x_arg3 (ix3 i p d : S8x256x128.Idx) = W i.val p.val (128 + d.val))
    (h2 : ∀ (i : Fin 8) (p : Fin 256) (d : Fin 128), x_arg4 (ix3 i p d : S8x256x128.Idx) = W i.val p.val (256 + d.val))
    (h3 : ∀ (i : Fin 8) (p : Fin 256) (d : Fin 128), x_arg5 (ix3 i p d : S8x256x128.Idx) = W i.val p.val (384 + d.val))
    (h4 : ∀ (i : Fin 8) (p : Fin 256) (d : Fin 128), x_arg6 (ix3 i p d : S8x256x128.Idx) = W i.val p.val (512 + d.val))
    (h5 : ∀ (i : Fin 8) (p : Fin 256) (d : Fin 128), x_arg7 (ix3 i p d : S8x256x128.Idx) = W i.val p.val (640 + d.val))
    (h6 : ∀ (i : Fin 8) (p : Fin 256) (d : Fin 128), x_arg8 (ix3 i p d : S8x256x128.Idx) = W i.val p.val (768 + d.val))
    (h9 : ∀ (j : Fin 16) (l : Fin 128), x_arg9 (ix2 j l : S16x128.Idx) = ((thr (2 * (j.val % 8) + j.val / 8) : ℝ) : EReal))
    (hs : sOut W (if Scalar.cmpi .ne (Scalar.extui (Scalar.andi (Scalar.cmpi .eq (BitVec.ofNat 32 (i 0).val) 0#32) (Scalar.cmpi .eq (BitVec.ofNat 32 (i 1).val) 0#32)) : BitVec 32) 0#32 = 1#1 then fun _ => 0 else x_arg12) = y_arg12) (Q : sProp 𝕄G) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ (∃ X, owns (c : Thread nD τ) arg10 fullShare X) ∗ (∃ X, owns (c : Thread nD τ) arg11 fullShare X) ∗ owns (c : Thread nD τ) arg12 fullShare x_arg12 ∗ (∃ f : BufTy.Contents (Elt Ideal) arg13.view.ty, (arg13.view.loc (c : Thread nD τ) ↦[arg13.view.set]{fullShare} f)) ∗ (∃ f : BufTy.Contents (Elt Ideal) arg14.view.ty, (arg14.view.loc (c : Thread nD τ) ↦[arg14.view.set]{fullShare} f)) ∗ (∃ f : BufTy.Contents (Elt Ideal) arg15.view.ty, (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, (arg18.view.loc (c : Thread nD τ) ↦[arg18.view.set]{fullShare} f)) ∗ (∃ f : BufTy.Contents (Elt Ideal) arg19.view.ty, (arg19.view.loc (c : Thread nD τ) ↦[arg19.view.set]{fullShare} f)) ∗ (∃ f : BufTy.Contents (Elt Ideal) arg20.view.ty, (arg20.view.loc (c : Thread nD τ) ↦[arg20.view.set]{fullShare} f)) ∗ (∃ f : BufTy.Contents (Elt Ideal) arg21.view.ty, (arg21.view.loc (c : Thread nD τ) ↦[arg21.view.set]{fullShare} f)) ∗ ((owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare (pkG W) ∗ owns (c : Thread nD τ) arg11 fullShare (aOut W) ∗ owns (c : Thread nD τ) arg12 fullShare y_arg12 ∗ (∃ f : BufTy.Contents (Elt Ideal) arg13.view.ty, (arg13.view.loc (c : Thread nD τ) ↦[arg13.view.set]{fullShare} f)) ∗ (∃ f : BufTy.Contents (Elt Ideal) arg14.view.ty, (arg14.view.loc (c : Thread nD τ) ↦[arg14.view.set]{fullShare} f)) ∗ (∃ f : BufTy.Contents (Elt Ideal) arg15.view.ty, (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, (arg18.view.loc (c : Thread nD τ) ↦[arg18.view.set]{fullShare} f)) ∗ (∃ f : BufTy.Contents (Elt Ideal) arg19.view.ty, (arg19.view.loc (c : Thread nD τ) ↦[arg19.view.set]{fullShare} f)) ∗ (∃ f : BufTy.Contents (Elt Ideal) arg20.view.ty, (arg20.view.loc (c : Thread nD τ) ↦[arg20.view.set]{fullShare} f)) ∗ (∃ f : BufTy.Contents (Elt Ideal) arg21.view.ty, (arg21.view.loc (c : Thread nD τ) ↦[arg21.view.set]{fullShare} f))) -∗ Q))
      ⊢ wp frame (wpE (defs₀ (F := Ideal)) 𝒱 (c : Thread nD τ) bd) E (cc0_nf4_encode (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => Q) := by
  unfold owns
  iintro ⟨⟨%f_arg2, %e_arg2, Harg2⟩, ⟨%f_arg3, %e_arg3, Harg3⟩, ⟨%f_arg4, %e_arg4, Harg4⟩, ⟨%f_arg5, %e_arg5, Harg5⟩, ⟨%f_arg6, %e_arg6, Harg6⟩, ⟨%f_arg7, %e_arg7, Harg7⟩, ⟨%f_arg8, %e_arg8, Harg8⟩, ⟨%f_arg9, %e_arg9, Harg9⟩, ⟨%X_arg10, %f_arg10, -, Harg10⟩, ⟨%X_arg11, %f_arg11, -, Harg11⟩, ⟨%f_arg12, %e_arg12, Harg12⟩, ⟨%f_arg13, Harg13⟩, ⟨%f_arg14, Harg14⟩, ⟨%f_arg15, Harg15⟩, ⟨%f_arg16, Harg16⟩, ⟨%f_arg17, Harg17⟩, ⟨%f_arg18, Harg18⟩, ⟨%f_arg19, Harg19⟩, ⟨%f_arg20, Harg20⟩, ⟨%f_arg21, Harg21⟩, HK⟩
  subst e_arg2 e_arg3 e_arg4 e_arg5 e_arg6 e_arg7 e_arg8 e_arg9 e_arg12 hs
  rcases Classical.em (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) with hc | hc
  ·
    iapply (wp_wand_r Idealize.ShloMosaic.frame (wpE (defs₀ (F := Ideal)) 𝒱 (c : Thread nD τ) bd) E)
    isplitl [Harg2 Harg3 Harg4 Harg5 Harg6 Harg7 Harg8 Harg9 Harg10 Harg11 Harg12 Harg13 Harg14 Harg15 Harg16 Harg17 Harg18 Harg19 Harg20 Harg21]
    · iapply ((runFirst (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f_arg2 f_arg3 f_arg4 f_arg5 f_arg6 f_arg7 f_arg8 f_arg9 f_arg12 hc).2.2.2.2.2.2 E f_arg10 f_arg11 f_arg13 f_arg14 f_arg15 f_arg16 f_arg17 f_arg18 f_arg19 f_arg20 f_arg21)
      isplitl [Harg2]; · iexact Harg2
      isplitl [Harg3]; · iexact Harg3
      isplitl [Harg4]; · iexact Harg4
      isplitl [Harg5]; · iexact Harg5
      isplitl [Harg6]; · iexact Harg6
      isplitl [Harg7]; · iexact Harg7
      isplitl [Harg8]; · iexact Harg8
      isplitl [Harg9]; · iexact Harg9
      isplitl [Harg10]; · iexact Harg10
      isplitl [Harg11]; · iexact Harg11
      isplitl [Harg12]; · iexact Harg12
      isplitl [Harg13]; · iexact Harg13
      isplitl [Harg14]; · iexact Harg14
      isplitl [Harg15]; · iexact Harg15
      isplitl [Harg16]; · iexact Harg16
      isplitl [Harg17]; · iexact Harg17
      isplitl [Harg18]; · iexact Harg18
      isplitl [Harg19]; · iexact Harg19
      isplitl [Harg20]; · iexact Harg20
      iexact Harg21
    · iintro %_ ⟨%h_arg13, %h_arg17, %h_arg19, %h_arg10, %h_arg21, %h_arg14, %h_arg15, %h_arg16, %h_arg18, %h_arg20, %hR, Harg2, Harg3, Harg4, Harg5, Harg6, Harg7, Harg8, Harg9, Harg10, Harg11, Harg12, Harg13, Harg14, Harg15, Harg16, Harg17, Harg18, Harg19, Harg20, Harg21⟩
      have hA : Amt W arg21 8 h_arg21 := reach_amt _ _ _ _ _ _ _ _ _ _ _ _ _ _ _ _ _ _ _ _ _ _ _ _ _ _ _ _ _ _ _ _ _ _ _ _ _ _ _ _ _ _ _ _ _ _ _ _ _ _ _ _ _ _ _ _ _ W h0 h1 h2 h3 h4 h5 h6
        (by rw [runFirst_amt]; exact init_amt _ _ _ _ _ _ _ _ _ _ _ _ _ _ _ _ W h0 h1 h2 h3 h4 h5 h6 _) _ _ _ _ _ _ hR
      have hP : Pk W arg10 8 h_arg10 := (reach_pk _ _ _ _ _ _ _ _ _ _ _ _ _ _ _ _ _ _ _ _ _ _ _ _ _ _ _ _ _ _ _ _ _ _ _ _ _ _ _ _ _ _ _ _ _ _ _ _ _ _ _ _ _ _ _ _ _ W h0 h1 h2 h3 h4 h5 h6 h9
        (by rw [runFirst_xt]; exact xt_rows _ arg13 _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6))
        (by rw [runFirst_inv]; exact inv_rows _ arg17 _ _ _ (stat8_apply arg15.view _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6)) (stat6_apply arg15.view _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6)))
        (by rw [runFirst_safe]; exact safe_rows _ arg19 _ _ _ (stat8_apply arg15.view _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6)) (stat6_apply arg15.view _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6)))
        _ _ _ _ _ _ hR).2.2.2
      iapply HK
      isplitl [Harg2]
      · iexists f_arg2; isplitr
        · ipureintro; rfl
        · iexact Harg2
      isplitl [Harg3]
      · iexists f_arg3; isplitr
        · ipureintro; rfl
        · iexact Harg3
      isplitl [Harg4]
      · iexists f_arg4; isplitr
        · ipureintro; rfl
        · iexact Harg4
      isplitl [Harg5]
      · iexists f_arg5; isplitr
        · ipureintro; rfl
        · iexact Harg5
      isplitl [Harg6]
      · iexists f_arg6; isplitr
        · ipureintro; rfl
        · iexact Harg6
      isplitl [Harg7]
      · iexists f_arg7; isplitr
        · ipureintro; rfl
        · iexact Harg7
      isplitl [Harg8]
      · iexists f_arg8; isplitr
        · ipureintro; rfl
        · iexact Harg8
      isplitl [Harg9]
      · iexists f_arg9; isplitr
        · ipureintro; rfl
        · iexact Harg9
      isplitl [Harg10]
      · iexists _; isplitr; swap
        · iexact Harg10
        · ipureintro
          funext y
          exact hP y (y 0).isLt
      isplitl [Harg11]
      · iexists _; isplitr; swap
        · iexact Harg11
        · ipureintro
          rw [runFirst_absmax]
          exact read_absmax W arg21 _ hA arg11 _
      isplitl [Harg12]
      · iexists _; isplitr; swap
        · iexact Harg12
        · ipureintro
          rw [runFirst_sums, readCov_sums, sums_eq W _ _ hA, read_sums, if_pos hc]
          rfl
      isplitl [Harg13]; · iexists _; iexact Harg13
      isplitl [Harg14]; · iexists _; iexact Harg14
      isplitl [Harg15]; · iexists _; iexact Harg15
      isplitl [Harg16]; · iexists _; iexact Harg16
      isplitl [Harg17]; · iexists _; iexact Harg17
      isplitl [Harg18]; · iexists _; iexact Harg18
      isplitl [Harg19]; · iexists _; iexact Harg19
      isplitl [Harg20]; · iexists _; iexact Harg20
      iexists _; iexact Harg21
  ·
    iapply (wp_wand_r Idealize.ShloMosaic.frame (wpE (defs₀ (F := Ideal)) 𝒱 (c : Thread nD τ) bd) E)
    isplitl [Harg2 Harg3 Harg4 Harg5 Harg6 Harg7 Harg8 Harg9 Harg10 Harg11 Harg12 Harg13 Harg14 Harg15 Harg16 Harg17 Harg18 Harg19 Harg20 Harg21]
    · iapply ((runRest (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f_arg2 f_arg3 f_arg4 f_arg5 f_arg6 f_arg7 f_arg8 f_arg9 f_arg12 hc).2.2.2.2.2.2 E f_arg10 f_arg11 f_arg13 f_arg14 f_arg15 f_arg16 f_arg17 f_arg18 f_arg19 f_arg20 f_arg21)
      isplitl [Harg2]; · iexact Harg2
      isplitl [Harg3]; · iexact Harg3
      isplitl [Harg4]; · iexact Harg4
      isplitl [Harg5]; · iexact Harg5
      isplitl [Harg6]; · iexact Harg6
      isplitl [Harg7]; · iexact Harg7
      isplitl [Harg8]; · iexact Harg8
      isplitl [Harg9]; · iexact Harg9
      isplitl [Harg10]; · iexact Harg10
      isplitl [Harg11]; · iexact Harg11
      isplitl [Harg12]; · iexact Harg12
      isplitl [Harg13]; · iexact Harg13
      isplitl [Harg14]; · iexact Harg14
      isplitl [Harg15]; · iexact Harg15
      isplitl [Harg16]; · iexact Harg16
      isplitl [Harg17]; · iexact Harg17
      isplitl [Harg18]; · iexact Harg18
      isplitl [Harg19]; · iexact Harg19
      isplitl [Harg20]; · iexact Harg20
      iexact Harg21
    · iintro %_ ⟨%h_arg13, %h_arg17, %h_arg19, %h_arg10, %h_arg21, %h_arg14, %h_arg15, %h_arg16, %h_arg18, %h_arg20, %hR, Harg2, Harg3, Harg4, Harg5, Harg6, Harg7, Harg8, Harg9, Harg10, Harg11, Harg12, Harg13, Harg14, Harg15, Harg16, Harg17, Harg18, Harg19, Harg20, Harg21⟩
      have hA : Amt W arg21 8 h_arg21 := reach_amt _ _ _ _ _ _ _ _ _ _ _ _ _ _ _ _ _ _ _ _ _ _ _ _ _ _ _ _ _ _ _ _ _ _ _ _ _ _ _ _ _ _ _ _ _ _ _ _ _ _ _ _ _ _ _ _ _ W h0 h1 h2 h3 h4 h5 h6
        (by rw [runRest_amt]; exact init_amt _ _ _ _ _ _ _ _ _ _ _ _ _ _ _ _ W h0 h1 h2 h3 h4 h5 h6 _) _ _ _ _ _ _ hR
      have hP : Pk W arg10 8 h_arg10 := (reach_pk _ _ _ _ _ _ _ _ _ _ _ _ _ _ _ _ _ _ _ _ _ _ _ _ _ _ _ _ _ _ _ _ _ _ _ _ _ _ _ _ _ _ _ _ _ _ _ _ _ _ _ _ _ _ _ _ _ W h0 h1 h2 h3 h4 h5 h6 h9
        (by rw [runRest_xt]; exact xt_rows _ arg13 _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6))
        (by rw [runRest_inv]; exact inv_rows _ arg17 _ _ _ (stat8_apply arg15.view _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6)) (stat6_apply arg15.view _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6)))
        (by rw [runRest_safe]; exact safe_rows _ arg19 _ _ _ (stat8_apply arg15.view _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6)) (stat6_apply arg15.view _ _ _ _ _ _ _ _ (tile0_apply arg2 _ W 0 h0) (tile0_apply arg3 _ W 128 h1) (tile0_apply arg4 _ W 256 h2) (tile0_apply arg5 _ W 384 h3) (tile0_apply arg6 _ W 512 h4) (tile0_apply arg7 _ W 640 h5) (tile0_apply arg8 _ W 768 h6)))
        _ _ _ _ _ _ hR).2.2.2
      iapply HK
      isplitl [Harg2]
      · iexists f_arg2; isplitr
        · ipureintro; rfl
        · iexact Harg2
      isplitl [Harg3]
      · iexists f_arg3; isplitr
        · ipureintro; rfl
        · iexact Harg3
      isplitl [Harg4]
      · iexists f_arg4; isplitr
        · ipureintro; rfl
        · iexact Harg4
      isplitl [Harg5]
      · iexists f_arg5; isplitr
        · ipureintro; rfl
        · iexact Harg5
      isplitl [Harg6]
      · iexists f_arg6; isplitr
        · ipureintro; rfl
        · iexact Harg6
      isplitl [Harg7]
      · iexists f_arg7; isplitr
        · ipureintro; rfl
        · iexact Harg7
      isplitl [Harg8]
      · iexists f_arg8; isplitr
        · ipureintro; rfl
        · iexact Harg8
      isplitl [Harg9]
      · iexists f_arg9; isplitr
        · ipureintro; rfl
        · iexact Harg9
      isplitl [Harg10]
      · iexists _; isplitr; swap
        · iexact Harg10
        · ipureintro
          funext y
          exact hP y (y 0).isLt
      isplitl [Harg11]
      · iexists _; isplitr; swap
        · iexact Harg11
        · ipureintro
          rw [runRest_absmax]
          exact read_absmax W arg21 _ hA arg11 _
      isplitl [Harg12]
      · iexists _; isplitr; swap
        · iexact Harg12
        · ipureintro
          rw [runRest_sums, readAt_sums, sums_eq W _ _ hA, read_sums, if_neg hc]
      isplitl [Harg13]; · iexists _; iexact Harg13
      isplitl [Harg14]; · iexists _; iexact Harg14
      isplitl [Harg15]; · iexists _; iexact Harg15
      isplitl [Harg16]; · iexists _; iexact Harg16
      isplitl [Harg17]; · iexists _; iexact Harg17
      isplitl [Harg18]; · iexists _; iexact Harg18
      isplitl [Harg19]; · iexists _; iexact Harg19
      isplitl [Harg20]; · iexists _; iexact Harg20
      iexists _; iexact Harg21

variable (m : (ℓ : Loc nD τ sig) → Buf (Elt Ideal) ℓ) (ρ : Dev nD → PrngReg)

/-- The weight as launched. -/
abbrev A0 (m : (ℓ : Loc nD τ sig) → Buf (Elt Ideal) ℓ) (c : Dev nD) : S40x4864x896.Idx → EReal := m ((c.tc : Thread nD τ).loc main_arg0)

/-- The weight at any three numbers: zero off the array. -/
def wg (A : S40x4864x896.Idx → EReal) (a b n : ℕ) : EReal :=
  if h : a < 40 ∧ b < 4864 ∧ n < 896 then A (ix3 (⟨a, h.1⟩ : Fin 40) (⟨b, h.2.1⟩ : Fin 4864) (⟨n, h.2.2⟩ : Fin 896)) else 0

theorem wg_eq (A : S40x4864x896.Idx → EReal) (y : S40x4864x896.Idx) (a b n : ℕ) (h0 : (y 0).val = a) (h1 : (y 1).val = b) (h2 : (y 2).val = n) : A y = wg A a b n := by
  subst h0 h1 h2
  rw [wg, dif_pos ⟨(y 0).isLt, (y 1).isLt, (y 2).isLt⟩]
  exact congrArg A (eq_ix3 y)

/-- The weight as point `t` sees it: row, position, feature. -/
def WA (A : S40x4864x896.Idx → EReal) (t : ℕ) (i p n : ℕ) : EReal := wg A (8 * (t / 19) + i) (256 * (t % 19) + p) n

/-- The sums after point `n`. -/
def sAcc (A : S40x4864x896.Idx → EReal) : ℕ → S8x128.Idx → EReal
  | 0 => sOut (WA A 0) fun _ => 0
  | n + 1 => sOut (WA A (n + 1)) (sAcc A n)

/-- Which block of its array each window is at. -/
theorem idx_all : ∀ t : Fin cfg0.N, (win0_0.index t (0 : Fin 3) = t.val / 19 ∧ win0_0.index t (1 : Fin 3) = t.val % 19 ∧ win0_0.index t (2 : Fin 3) = 0)
    ∧ (win0_1.index t (0 : Fin 3) = t.val / 19 ∧ win0_1.index t (1 : Fin 3) = t.val % 19 ∧ win0_1.index t (2 : Fin 3) = 1)
    ∧ (win0_2.index t (0 : Fin 3) = t.val / 19 ∧ win0_2.index t (1 : Fin 3) = t.val % 19 ∧ win0_2.index t (2 : Fin 3) = 2)
    ∧ (win0_3.index t (0 : Fin 3) = t.val / 19 ∧ win0_3.index t (1 : Fin 3) = t.val % 19 ∧ win0_3.index t (2 : Fin 3) = 3)
    ∧ (win0_4.index t (0 : Fin 3) = t.val / 19 ∧ win0_4.index t (1 : Fin 3) = t.val % 19 ∧ win0_4.index t (2 : Fin 3) = 4)
    ∧ (win0_5.index t (0 : Fin 3) = t.val / 19 ∧ win0_5.index t (1 : Fin 3) = t.val % 19 ∧ win0_5.index t (2 : Fin 3) = 5)
    ∧ (win0_6.index t (0 : Fin 3) = t.val / 19 ∧ win0_6.index t (1 : Fin 3) = t.val % 19 ∧ win0_6.index t (2 : Fin 3) = 6)
    ∧ (win0_8.index t (0 : Fin 3) = t.val / 19 ∧ win0_8.index t (1 : Fin 3) = 0 ∧ win0_8.index t (2 : Fin 3) = t.val % 19)
    ∧ (win0_9.index t (0 : Fin 3) = 0 ∧ win0_9.index t (1 : Fin 3) = t.val / 19 ∧ win0_9.index t (2 : Fin 3) = t.val % 19)
    ∧ (win0_10.index t (0 : Fin 2) = 0 ∧ win0_10.index t (1 : Fin 2) = 0) :=
  (by decide +kernel : ∀ t : Fin grid0.N, _)

/-- The sums are cleared at the first point alone. -/
theorem first_iff : ∀ t : Fin cfg0.N, Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1 ↔ t.val = 0 :=
  (by decide +kernel : ∀ t : Fin grid0.N, _)

/-- Window 0's block: features 0 to 127. -/
theorem iblk0_apply (c : Dev nD) (t : Fin cfg0.N) (i : Fin 8) (p : Fin 256) (d : Fin 128) : iblk m c 0 t (ix3 i p d : S8x256x128.Idx) = WA (A0 m c) t.val i.val p.val (0 + d.val) := by
  obtain ⟨e0, e1, e2⟩ := (idx_all t).1
  unfold iblk
  rw [show V m c (Pipeline.arrRef spec0 0) = m ((c.tc : Thread nD τ).loc main_arg0) from V_main_arg0 m c]
  refine wg_eq (A0 m c) _ _ _ _ ?_ ?_ ?_
  · show win0_0.index t (0 : Fin 3) * 8 + 1 * i.val = _; omega
  · show win0_0.index t (1 : Fin 3) * 256 + 1 * p.val = _; omega
  · show win0_0.index t (2 : Fin 3) * 128 + 1 * d.val = _; omega

/-- Window 1's block: features 128 to 255. -/
theorem iblk1_apply (c : Dev nD) (t : Fin cfg0.N) (i : Fin 8) (p : Fin 256) (d : Fin 128) : iblk m c 1 t (ix3 i p d : S8x256x128.Idx) = WA (A0 m c) t.val i.val p.val (128 + d.val) := by
  obtain ⟨e0, e1, e2⟩ := (idx_all t).2.1
  unfold iblk
  rw [show V m c (Pipeline.arrRef spec0 1) = m ((c.tc : Thread nD τ).loc main_arg0) from V_main_arg0 m c]
  refine wg_eq (A0 m c) _ _ _ _ ?_ ?_ ?_
  · show win0_1.index t (0 : Fin 3) * 8 + 1 * i.val = _; omega
  · show win0_1.index t (1 : Fin 3) * 256 + 1 * p.val = _; omega
  · show win0_1.index t (2 : Fin 3) * 128 + 1 * d.val = _; omega

/-- Window 2's block: features 256 to 383. -/
theorem iblk2_apply (c : Dev nD) (t : Fin cfg0.N) (i : Fin 8) (p : Fin 256) (d : Fin 128) : iblk m c 2 t (ix3 i p d : S8x256x128.Idx) = WA (A0 m c) t.val i.val p.val (256 + d.val) := by
  obtain ⟨e0, e1, e2⟩ := (idx_all t).2.2.1
  unfold iblk
  rw [show V m c (Pipeline.arrRef spec0 2) = m ((c.tc : Thread nD τ).loc main_arg0) from V_main_arg0 m c]
  refine wg_eq (A0 m c) _ _ _ _ ?_ ?_ ?_
  · show win0_2.index t (0 : Fin 3) * 8 + 1 * i.val = _; omega
  · show win0_2.index t (1 : Fin 3) * 256 + 1 * p.val = _; omega
  · show win0_2.index t (2 : Fin 3) * 128 + 1 * d.val = _; omega

/-- Window 3's block: features 384 to 511. -/
theorem iblk3_apply (c : Dev nD) (t : Fin cfg0.N) (i : Fin 8) (p : Fin 256) (d : Fin 128) : iblk m c 3 t (ix3 i p d : S8x256x128.Idx) = WA (A0 m c) t.val i.val p.val (384 + d.val) := by
  obtain ⟨e0, e1, e2⟩ := (idx_all t).2.2.2.1
  unfold iblk
  rw [show V m c (Pipeline.arrRef spec0 3) = m ((c.tc : Thread nD τ).loc main_arg0) from V_main_arg0 m c]
  refine wg_eq (A0 m c) _ _ _ _ ?_ ?_ ?_
  · show win0_3.index t (0 : Fin 3) * 8 + 1 * i.val = _; omega
  · show win0_3.index t (1 : Fin 3) * 256 + 1 * p.val = _; omega
  · show win0_3.index t (2 : Fin 3) * 128 + 1 * d.val = _; omega

/-- Window 4's block: features 512 to 639. -/
theorem iblk4_apply (c : Dev nD) (t : Fin cfg0.N) (i : Fin 8) (p : Fin 256) (d : Fin 128) : iblk m c 4 t (ix3 i p d : S8x256x128.Idx) = WA (A0 m c) t.val i.val p.val (512 + d.val) := by
  obtain ⟨e0, e1, e2⟩ := (idx_all t).2.2.2.2.1
  unfold iblk
  rw [show V m c (Pipeline.arrRef spec0 4) = m ((c.tc : Thread nD τ).loc main_arg0) from V_main_arg0 m c]
  refine wg_eq (A0 m c) _ _ _ _ ?_ ?_ ?_
  · show win0_4.index t (0 : Fin 3) * 8 + 1 * i.val = _; omega
  · show win0_4.index t (1 : Fin 3) * 256 + 1 * p.val = _; omega
  · show win0_4.index t (2 : Fin 3) * 128 + 1 * d.val = _; omega

/-- Window 5's block: features 640 to 767. -/
theorem iblk5_apply (c : Dev nD) (t : Fin cfg0.N) (i : Fin 8) (p : Fin 256) (d : Fin 128) : iblk m c 5 t (ix3 i p d : S8x256x128.Idx) = WA (A0 m c) t.val i.val p.val (640 + d.val) := by
  obtain ⟨e0, e1, e2⟩ := (idx_all t).2.2.2.2.2.1
  unfold iblk
  rw [show V m c (Pipeline.arrRef spec0 5) = m ((c.tc : Thread nD τ).loc main_arg0) from V_main_arg0 m c]
  refine wg_eq (A0 m c) _ _ _ _ ?_ ?_ ?_
  · show win0_5.index t (0 : Fin 3) * 8 + 1 * i.val = _; omega
  · show win0_5.index t (1 : Fin 3) * 256 + 1 * p.val = _; omega
  · show win0_5.index t (2 : Fin 3) * 128 + 1 * d.val = _; omega

/-- Window 6's block: features 768 to 895. -/
theorem iblk6_apply (c : Dev nD) (t : Fin cfg0.N) (i : Fin 8) (p : Fin 256) (d : Fin 128) : iblk m c 6 t (ix3 i p d : S8x256x128.Idx) = WA (A0 m c) t.val i.val p.val (768 + d.val) := by
  obtain ⟨e0, e1, e2⟩ := (idx_all t).2.2.2.2.2.2.1
  unfold iblk
  rw [show V m c (Pipeline.arrRef spec0 6) = m ((c.tc : Thread nD τ).loc main_arg0) from V_main_arg0 m c]
  refine wg_eq (A0 m c) _ _ _ _ ?_ ?_ ?_
  · show win0_6.index t (0 : Fin 3) * 8 + 1 * i.val = _; omega
  · show win0_6.index t (1 : Fin 3) * 256 + 1 * p.val = _; omega
  · show win0_6.index t (2 : Fin 3) * 128 + 1 * d.val = _; omega

/-- The table is the constant the launch wrote. -/
theorem V_table (c : Dev nD) : V m c main_cst = fun i => FloatOps.ofBits (F := Ideal) .f32 (lit0 (S16x128.rowMajor i)) := by
  show StableHlo.after hostOps0 (fun b => m (c, b)) (Proc.devRef .tc main_cst) = _
  unfold hostOps0
  rw [StableHlo.after_cons, StableHlo.after_nil]
  exact StableHlo.nullary_result' _ _ _

theorem idx7 : ∀ t : Fin cfg0.N, win0_7.index t (0 : Fin 2) = 0 ∧ win0_7.index t (1 : Fin 2) = 0 :=
  (by decide +kernel : ∀ t : Fin grid0.N, _)

/-- Window 7's block: the table of thresholds. -/
theorem iblk7_apply (c : Dev nD) (t : Fin cfg0.N) (j : Fin 16) (l : Fin 128) : iblk m c 7 t (ix2 j l : S16x128.Idx) = ((thr (2 * (j.val % 8) + j.val / 8) : ℝ) : EReal) := by
  obtain ⟨e0, e1⟩ := idx7 t
  unfold iblk
  rw [show V m c (Pipeline.arrRef spec0 7) = _ from V_table m c]
  have hl : l.val < 128 := l.isLt
  have hj : j.val < 16 := j.isLt
  have hn : (S16x128.rowMajor (((cfg0.win 7).blk t).view.emb (ix2 j l : S16x128.Idx))).val = j.val * 128 + l.val := by
    rw [Shape.rowMajor_val_two]
    show (win0_7.index t (0 : Fin 2) * 16 + 1 * j.val) * 128 + (win0_7.index t (1 : Fin 2) * 128 + 1 * l.val) = _
    rw [e0, e1]; omega
  refine Eq.trans ?_ (thr_bits (2 * (j.val % 8) + j.val / 8) (by omega))
  refine congrArg (FloatOps.ofBits (F := Ideal) .f32) ((lit_eq _).trans (congrArg thrBits ?_))
  rw [hn]; omega

/-- Proof data of the region: each input window keeps its block of its array; the outputs are named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => pkG (WA (A0 m c) t.val)
    | ⟨9, _⟩ => aOut (WA (A0 m c) t.val)
    | ⟨10, _⟩ => sAcc (A0 m c) t.val
    | ⟨_ + 11, h⟩ => absurd h (Nat.not_lt.2 (Nat.le_add_left _ _))
  Φ _ := Pipeline.ΦA spec0 c
  q w := Pipeline.shareOf spec0 w
  owed _ := 0

/-- The windows whose results nothing is said of: none. -/
def fgt (w : Fin cfg0.W) : Bool := false

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

theorem after0_8 (c : Dev nD) (t : Fin cfg0.N) : (dats m 0 c).after 8 t = pkG (WA (A0 m c) t.val) := by dsimp only [dats]
theorem after0_9 (c : Dev nD) (t : Fin cfg0.N) : (dats m 0 c).after 9 t = aOut (WA (A0 m c) t.val) := by dsimp only [dats]
theorem after0_10 (c : Dev nD) (t : Fin cfg0.N) : (dats m 0 c).after 10 t = sAcc (A0 m c) t.val := by dsimp only [dats]

/-- The sums as a later point finds them. -/
theorem before0_10 (c : Dev nD) (t : Fin cfg0.N) (ht : t.val ≠ 0) (d) : (dats m 0 c).before 10 t d = sAcc (A0 m c) (t.val - 1) := by
  have hN : t.val < 95 := t.isLt
  rw [Dat.before_of_pos (dats m 0 c) 10 t ht rfl d, if_neg (by rw [flush0_10]; show ¬ (t.val - 1) % 95 = 94; omega)]
  rfl

/-- A point adds its absmax values to the sums. -/
theorem acc_step (c : Dev nD) (t : Fin cfg0.N) (d) :
    sOut (WA (A0 m c) t.val) (if Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1 then fun _ => 0 else (dats m 0 c).before 10 t d) = sAcc (A0 m c) t.val := by
  by_cases ht : t.val = 0
  · rw [if_pos ((first_iff t).mpr ht), ht]
    rfl
  · rw [if_neg (fun h => ht ((first_iff t).mp h)), before0_10 m c t ht d]
    obtain ⟨n, hn⟩ : ∃ n, t.val = n + 1 := ⟨t.val - 1, by omega⟩
    rw [hn]
    rfl

/-- What the body is handed at point `t`, window by window, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq, Cert.KernelIdeal.Row.scr (F := Ideal) c cc0_scratch0, Cert.KernelIdeal.Row.scr (F := Ideal) c cc0_scratch1, Cert.KernelIdeal.Row.scr (F := Ideal) c cc0_scratch2, Cert.KernelIdeal.Row.scr (F := Ideal) c cc0_scratch3, Cert.KernelIdeal.Row.scr (F := Ideal) c cc0_scratch4, Cert.KernelIdeal.Row.scr (F := Ideal) c cc0_scratch5, Cert.KernelIdeal.Row.scr (F := Ideal) c cc0_scratch6, Cert.KernelIdeal.Row.scr (F := Ideal) c cc0_scratch7, Cert.KernelIdeal.Row.scr (F := Ideal) c cc0_scratch8]
  iintro ⟨⟨⟨S0, S1, S2, S3, S4, S5, S6, S7, S8⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel Variants.none c none Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 10 t d10) (sAcc (A0 m c) t.val) (WA (A0 m c) t.val) (iblk0_apply m c t) (iblk1_apply m c t) (iblk2_apply m c t) (iblk3_apply m c t) (iblk4_apply m c t) (iblk5_apply m c t) (iblk6_apply m c t) (iblk7_apply m c t) (acc_step m c t d10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, S0, S1, S2, S3, S4, S5, S6, S7, S8⟩
  isplitl [Hr S0 S1 S2 S3 S4 S5 S6 S7 S8]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row' (t : Fin cfg0.N) : defs₀ (F := Ideal) .tc cfg0.body (cfg0.bodyArgs t (cfg0.slots t)) = bodyAt0 t := by
  unfold defs₀
  rw [Defs.onTc_tc]

/-- The body obligation, the outputs forgotten. -/
theorem body_obligation (c : Dev nD) : Pipeline.BodyObligationLoose (dats m 0 c) (defs₀ (F := Ideal)) Variants.none () Set.univ fgt := fun t => by
  rw [bigSep_W0, bigSep_W0, defs₀_row']
  exact triple_restated (sound_body m c t) rfl .rfl fun _ => .rfl

-- `θ_run_frame`'s implicit arguments are found by unifying its conclusion with this one, which takes unfolding plain
-- definitions in a metavariable's type
set_option backward.isDefEq.respectTransparency.types false in
/-- The launch: every final state has the inputs as they were and every semaphore counter at zero. -/
theorem run_main_quiescent : θ_run defs (onTc (τ := τ) (main (F := Ideal))) (s₀ m ρ) (fun r => (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl) (hQ' := fun _ h => h)

end Cert.EncodeFrame

end
-- ==== Proof.EncodeRef.lean ====
/- The absmax values and the sums of the encode reference over the extended reals, and what the first call's points add up to. -/
module

public import proofs.«01_k».proof.Proof.Gen.ReferenceIdeal.Run
public import proofs.«01_k».proof.Proof.Gen.ReferenceIdeal.Read
public import proofs.«01_k».proof.Proof.EncodeFrame
public import Idealize.ShloMosaic.Lib.Pointwise.Reduce

@[expose] public section

set_option maxRecDepth 16384
set_option maxHeartbeats 1600000

noncomputable section

namespace Cert.EncodeRef

open Idealize.ShloMosaic Idealize.ShloMosaic.TcCoe
open Cert.EncodeVal Cert.EncodeReach Cert.EncodeSums Cert.EncodeFrame Cert.ReferenceIdeal.Read

/-- The absolute maximum of block `b` of the weight at row `a` and position `p`. -/
def gmax (A : Cert.KernelIdeal.S40x4864x896.Idx → EReal) (a p b : ℕ) : EReal := Finset.univ.sup fun n : Fin 64 => ab (wg A a p (64 * b + n.val))

theorem bmax_WA (A : Cert.KernelIdeal.S40x4864x896.Idx → EReal) (t i h b : ℕ) (l : Fin 128) :
    bmax (hrow (WA A t) i h) b l = gmax A (8 * (t / 19) + i) (128 * (2 * (t % 19) + h) + l.val) b := by
  rw [show 128 * (2 * (t % 19) + h) + l.val = 256 * (t % 19) + (128 * h + l.val) by ring]
  rfl

theorem fold_max_sup (f : Fin 64 → EReal) : (Finset.univ : Finset (Fin 64)).fold max ⊥ f = Finset.univ.sup f := rfl

/-- The reference's absmax values. -/
theorem absmax_eq (x0 : Cert.ReferenceIdeal.S40x4864x896.Idx → EReal) (y : Cert.ReferenceIdeal.S40x4864x14.Idx) :
    val_main_v3 (F := Ideal) x0 y = gmax x0 (y 0).val (y 1).val (y 2).val := by
  have hb : Ideal.ofBits .f32 0xFF800000#32 = ⊥ := by simp [Ideal.ofBits, Ideal.ieee]
  unfold val_main_v3
  refine (Host.reduce_eq_fold (f := (max : EReal → EReal → EReal)) (val_main_v2 (F := Ideal) x0) (val_main_cst (F := Ideal)) _ _ y).trans ?_
  refine (Shape.ReducesTo.fold_fiber_r4_a3 (n0 := 40) (n1 := 4864) (n2 := 14) (n3 := 64) Cert.ReferenceIdeal.Gen.reducesTo_S40x4864x14x64_S40x4864x14_d3 y (max : EReal → EReal → EReal) _ _).trans ?_
  rw [show (val_main_cst (F := Ideal) (Shape.Idx.first Cert.ReferenceIdeal.Gen.h_S_)) = (⊥ : EReal) from hb]
  refine (fold_max_sup _).trans ?_
  unfold gmax
  refine congrArg (Finset.univ.sup) (funext fun n => ?_)
  rw [val_main_v2_apply, val_main_v1_apply, val_main_v0_apply]
  have h0 : (y 0).val < 40 := (y 0).isLt
  have h1 : (y 1).val < 4864 := (y 1).isLt
  have h2 : (y 2).val < 14 := (y 2).isLt
  have hn : n.val < 64 := n.isLt
  refine congrArg ab (wg_eq x0 _ _ _ _ ?_ ?_ ?_)
  · show ((((y 0).val * 4864 + (y 1).val) * 14 + (y 2).val) * 64 + n.val) / 4358144 = (y 0).val
    omega
  · show ((((y 0).val * 4864 + (y 1).val) * 14 + (y 2).val) * 64 + n.val) / 896 % 4864 = (y 1).val
    omega
  · show ((((y 0).val * 4864 + (y 1).val) * 14 + (y 2).val) * 64 + n.val) % 896 = 64 * (y 2).val + n.val
    omega

theorem sum_div (n : ℕ) (f : ℕ → ℕ → EReal) : ∑ t ∈ Finset.range (n * 19), f (t / 19) (t % 19) = ∑ i ∈ Finset.range n, ∑ j ∈ Finset.range 19, f i j := by
  induction n with
  | zero => simp
  | succ n ih =>
    rw [show (n + 1) * 19 = n * 19 + 19 by ring, Finset.sum_range_add, ih, Finset.sum_range_succ _ n]
    refine congrArg (fun z : EReal => (∑ i ∈ Finset.range n, ∑ j ∈ Finset.range 19, f i j) + z) (Finset.sum_congr rfl fun j hj => ?_)
    have := Finset.mem_range.mp hj
    rw [show (n * 19 + j) / 19 = n by omega, show (n * 19 + j) % 19 = j by omega]

theorem sum_two (n : ℕ) (h : ℕ → EReal) : ∑ j ∈ Finset.range (2 * n), h j = ∑ j ∈ Finset.range n, (h (2 * j + 0) + h (2 * j + 1)) := by
  induction n with
  | zero => simp
  | succ n ih => rw [show 2 * (n + 1) = 2 * n + 1 + 1 by ring, Finset.sum_range_succ, Finset.sum_range_succ, ih, Finset.sum_range_succ, add_assoc]; rfl

theorem sAcc_eq (A : Cert.KernelIdeal.S40x4864x896.Idx → EReal) (n : ℕ) (R : Fin 8) (l : Fin 128) :
    sAcc A n (ValueIdx.ix2 R l : Cert.KernelIdeal.S8x128.Idx) = ∑ t ∈ Finset.range (n + 1),
      (∑ b ∈ Finset.range 14, gmax A (8 * (t / 19) + R.val) (128 * (2 * (t % 19) + 0) + l.val) b
        + ∑ b ∈ Finset.range 14, gmax A (8 * (t / 19) + R.val) (128 * (2 * (t % 19) + 1) + l.val) b) := by
  induction n with
  | zero =>
    rw [Finset.sum_range_one]
    show (0 : EReal) + (∑ b ∈ Finset.range 14, bmax (hrow (WA A 0) R.val 0) b l + ∑ b ∈ Finset.range 14, bmax (hrow (WA A 0) R.val 1) b l) = _
    simp only [bmax_WA, zero_add]
  | succ n ih =>
    rw [Finset.sum_range_succ, ← ih]
    show sAcc A n (ValueIdx.ix2 R l : Cert.KernelIdeal.S8x128.Idx) + (∑ b ∈ Finset.range 14, bmax (hrow (WA A (n + 1)) R.val 0) b l + ∑ b ∈ Finset.range 14, bmax (hrow (WA A (n + 1)) R.val 1) b l) = _
    simp only [bmax_WA]

/-- The sums after the last point: over the rows of the lane's position class, all positions of the lane and all blocks. -/
theorem sAcc_total (A : Cert.KernelIdeal.S40x4864x896.Idx → EReal) (R : Fin 8) (l : Fin 128) :
    sAcc A 94 (ValueIdx.ix2 R l : Cert.KernelIdeal.S8x128.Idx) = ∑ i ∈ Finset.range 5, ∑ j ∈ Finset.range 38, ∑ b ∈ Finset.range 14, gmax A (8 * i + R.val) (128 * j + l.val) b := by
  rw [sAcc_eq, show 94 + 1 = 5 * 19 from rfl, sum_div 5 (fun i j => ∑ b ∈ Finset.range 14, gmax A (8 * i + R.val) (128 * (2 * j + 0) + l.val) b + ∑ b ∈ Finset.range 14, gmax A (8 * i + R.val) (128 * (2 * j + 1) + l.val) b)]
  refine Finset.sum_congr rfl fun i _ => ?_
  exact (sum_two 19 fun j => ∑ b ∈ Finset.range 14, gmax A (8 * i + R.val) (128 * j + l.val) b).symm

/-- The reference's sums. -/
theorem sums_ref (A : Cert.ReferenceIdeal.S40x4864x14.Idx → EReal) (init : Cert.ReferenceIdeal.S_.Idx → EReal) (h : Cert.ReferenceIdeal.S5x8x38x128x14.ReducesTo [0, 2, 4] Cert.ReferenceIdeal.S8x128) (hu)
    (hc : Cert.ReferenceIdeal.S40x4864x14.ShapeCasts Cert.ReferenceIdeal.S5x8x38x128x14) (hi : ∀ i, init i = 0) (G : ℕ → ℕ → ℕ → EReal)
    (hA : ∀ y, A y = G (y 0).val (y 1).val (y 2).val) (R : Fin 8) (l : Fin 128) :
    (Host.reduceAdd (F := Ideal) (φ := .f32) (shapeCast Cert.ReferenceIdeal.S5x8x38x128x14 A hc) init h hu : Cert.ReferenceIdeal.S8x128.Idx → EReal) (ValueIdx.ix2 R l : Cert.ReferenceIdeal.S8x128.Idx)
      = ∑ i ∈ Finset.range 5, ∑ j ∈ Finset.range 38, ∑ b ∈ Finset.range 14, G (8 * i + R.val) (128 * j + l.val) b := by
  show init _ + ∑ i ∈ Finset.univ.filter (fun i => h.drop i = (ValueIdx.ix2 R l : Cert.ReferenceIdeal.S8x128.Idx)), shapeCast Cert.ReferenceIdeal.S5x8x38x128x14 A hc i = _
  rw [hi, zero_add]
  refine (Finset.sum_filter_eq_sum_of_fiber _ (fun k : Fin 5 × Fin 38 × Fin 14 => (ValueIdx.ix5 k.1 R k.2.1 l k.2.2 : Cert.ReferenceIdeal.S5x8x38x128x14.Idx))
    (fun _ _ e => Prod.ext (congrFun e 0) (Prod.ext (congrFun e 2) (congrFun e 4))) ?_ _).trans ?_
  · intro i
    constructor
    · intro e
      refine ⟨(i 0, i 2, i 4), ?_⟩
      funext a; apply Fin.ext
      match a with
      | ⟨0, _⟩ => rfl
      | ⟨1, _⟩ => exact (congrArg Fin.val (congrFun e 0)).symm
      | ⟨2, _⟩ => rfl
      | ⟨3, _⟩ => exact (congrArg Fin.val (congrFun e 1)).symm
      | ⟨4, _⟩ => rfl
    · rintro ⟨k, rfl⟩
      funext b
      apply Fin.ext
      match b with
      | ⟨0, _⟩ => rfl
      | ⟨1, _⟩ => rfl
  · simp only [Fintype.sum_prod_type, Finset.sum_range]
    refine Finset.sum_congr rfl fun i _ => Finset.sum_congr rfl fun j _ => Finset.sum_congr rfl fun b _ => ?_
    have hR := R.isLt
    have hl := l.isLt
    have hj := j.isLt
    have hi := i.isLt
    have hb := b.isLt
    rw [shapeCast_apply A hc _ (ValueIdx.ix3 (⟨8 * i.val + R.val, by omega⟩ : Fin 40) (⟨128 * j.val + l.val, by omega⟩ : Fin 4864) b : Cert.ReferenceIdeal.S40x4864x14.Idx) (by
      rw [Shape.rowMajor_val_three, Shape.rowMajor_val_five]
      show ((8 * i.val + R.val) * 4864 + (128 * j.val + l.val)) * 14 + b.val = (((i.val * 8 + R.val) * 38 + j.val) * 128 + l.val) * 14 + b.val
      ring), hA]

end Cert.EncodeRef

end
-- ==== Proof.EncodeRefPack.lean ====
/- The packed codes of the encode reference over the extended reals. -/
module

public import proofs.«01_k».proof.Proof.EncodeRef
public import proofs.«01_k».proof.Proof.EncodeTable

@[expose] public section

set_option maxRecDepth 16384
set_option maxHeartbeats 1600000

noncomputable section

namespace Cert.EncodeRefPack

open Idealize.ShloMosaic Idealize.ShloMosaic.TcCoe
open Cert.EncodeVal Cert.EncodeScalar Cert.EncodePackVal Cert.EncodePackRows Cert.EncodeFrame Cert.EncodeRef Cert.EncodeTable Cert.ReferenceIdeal Cert.ReferenceIdeal.Read

theorem sel1 {α : Type} (a b : α) : Scalar.select 1#1 a b = a := rfl
theorem sel0 {α : Type} (a b : α) : Scalar.select 0#1 a b = b := rfl

/-- Four comparisons with chosen thresholds give the bits of the number of thresholds that lie below. -/
theorem bisect (t : ℕ → EReal) (X : EReal) (k : ℕ) (hk : k ≤ 15) (h : ∀ j, j < 15 → Ideal.cmp .ogt X (t j) = if j < k then 1#1 else 0#1)
    (b3 b2 b1 b0 : BitVec 1) (h3 : b3 = Ideal.cmp .ogt X (t 7))
    (h2 : b2 = Ideal.cmp .ogt X (Scalar.select b3 (t 11) (t 3)))
    (h1 : b1 = Ideal.cmp .ogt X (Scalar.select b3 (Scalar.select b2 (t 13) (t 9)) (Scalar.select b2 (t 5) (t 1))))
    (h0 : b0 = Ideal.cmp .ogt X (Scalar.select b3 (Scalar.select b2 (Scalar.select b1 (t 14) (t 12)) (Scalar.select b1 (t 10) (t 8)))
      (Scalar.select b2 (Scalar.select b1 (t 6) (t 4)) (Scalar.select b1 (t 2) (t 0))))) :
    IntOp.addi (IntOp.addi (IntOp.addi (IntOp.muli (b3.setWidth 32) 8#32) (IntOp.muli (b2.setWidth 32) 4#32)) (IntOp.muli (b1.setWidth 32) 2#32)) (b0.setWidth 32) = BitVec.ofNat 32 k := by
  interval_cases k <;>
  · rw [h 7 (by norm_num)] at h3
    norm_num at h3
    subst h3
    simp only [sel1, sel0] at h2
    rw [h _ (by norm_num)] at h2
    norm_num at h2
    subst h2
    simp only [sel1, sel0] at h1
    rw [h _ (by norm_num)] at h1
    norm_num at h1
    subst h1
    simp only [sel1, sel0] at h0
    rw [h _ (by norm_num)] at h0
    norm_num at h0
    subst h0
    rfl

/-- A weight in its block. -/
theorem v1_eq (A : S40x4864x896.Idx → EReal) (i : S40x4864x14x64.Idx) :
    val_main_v1 (F := Ideal) A i = wg A (i 0).val (i 1).val (64 * (i 2).val + (i 3).val) := by
  rw [val_main_v1_apply, val_main_v0_apply]
  have h0 : (i 0).val < 40 := (i 0).isLt
  have h1 : (i 1).val < 4864 := (i 1).isLt
  have h2 : (i 2).val < 14 := (i 2).isLt
  have h3 : (i 3).val < 64 := (i 3).isLt
  refine wg_eq A _ _ _ _ ?_ ?_ ?_
  · show ((((i 0).val * 4864 + (i 1).val) * 14 + (i 2).val) * 64 + (i 3).val) / 4358144 = (i 0).val
    omega
  · show ((((i 0).val * 4864 + (i 1).val) * 14 + (i 2).val) * 64 + (i 3).val) / 896 % 4864 = (i 1).val
    omega
  · show ((((i 0).val * 4864 + (i 1).val) * 14 + (i 2).val) * 64 + (i 3).val) % 896 = 64 * (i 2).val + (i 3).val
    omega

/-- A weight over its block's divisor. -/
theorem v11_eq (A : S40x4864x896.Idx → EReal) (i : S40x4864x14x64.Idx) :
    val_main_v11 (F := Ideal) A i = wg A (i 0).val (i 1).val (64 * (i 2).val + (i 3).val) * Ideal.div 1 (safeE (gmax A (i 0).val (i 1).val (i 2).val)) := by
  rw [val_main_v11_apply, v1_eq, val_main_v10_apply, val_main_v9_apply, val_main_v8_apply, val_main_v7_apply, val_main_v6_apply, val_main_v5_apply, val_main_v4_apply, val_main_call0_v0_apply, absmax_eq]
  show _ * Ideal.div (FloatOps.ofBits (F := Ideal) .f32 0x3F800000#32 : EReal) (Scalar.select (Ideal.cmp .oeq (gmax A (i 0).val (i 1).val (i 2).val) (FloatOps.ofBits (F := Ideal) .f32 0x00000000#32 : EReal)) (FloatOps.ofBits (F := Ideal) .f32 0x3F800000#32 : EReal) (gmax A (i 0).val (i 1).val (i 2).val)) = _
  rw [sel_safe, one_bits]

/-- A threshold as the reference states it. -/
abbrev tb (j : ℕ) : EReal := FloatOps.ofBits (F := Ideal) .f32 (thrBits j)

theorem le_gmax (A : S40x4864x896.Idx → EReal) (a p b n : ℕ) (hn : n < 64) : max (wg A a p (64 * b + n)) (-(wg A a p (64 * b + n))) ≤ gmax A a p b :=
  Finset.le_sup (f := fun n : Fin 64 => ab (wg A a p (64 * b + n.val))) (Finset.mem_univ (⟨n, hn⟩ : Fin 64))

/-- The reference's code of a weight. -/
theorem code_eq (A : S40x4864x896.Idx → EReal) (i : S40x4864x14x64.Idx) :
    val_main_v40 (F := Ideal) A i = BitVec.ofNat 32 (nf (wg A (i 0).val (i 1).val (64 * (i 2).val + (i 3).val)) (gmax A (i 0).val (i 1).val (i 2).val)) := by
  obtain ⟨_, _, _, _, hj⟩ := kcode _ _ (le_gmax A (i 0).val (i 1).val (i 2).val (i 3).val (i 3).isLt)
  refine bisect tb (val_main_v11 (F := Ideal) A i) _ (nf_le _ _) ?_ (val_main_v13 (F := Ideal) A i) (val_main_v15 (F := Ideal) A i) (val_main_v19 (F := Ideal) A i) (val_main_v27 (F := Ideal) A i) ?_ ?_ ?_ ?_
  · intro j h
    have e := hj j h
    rw [v11_eq, show tb j = ((thr j : ℝ) : EReal) from thr_bits j (by omega)]
    unfold Ideal.cmp
    by_cases c : j < nf (wg A (i 0).val (i 1).val (64 * (i 2).val + (i 3).val)) (gmax A (i 0).val (i 1).val (i 2).val)
    · rw [if_pos c]; show BitVec.ofBool (decide _) = _; rw [decide_eq_true (e.mpr c)]; rfl
    · rw [if_neg c]; show BitVec.ofBool (decide _) = _; rw [decide_eq_false (fun h => c (e.mp h))]; rfl
  · rw [val_main_v13_apply, val_main_v12_apply]; rfl
  · rw [val_main_v15_apply, val_main_v14_apply, val_main_call1_v0_apply, val_main_call1_v1_apply]; rfl
  · rw [val_main_v19_apply, val_main_v18_apply, val_main_v16_apply, val_main_v17_apply, val_main_call2_v0_apply, val_main_call2_v1_apply, val_main_call3_v0_apply, val_main_call3_v1_apply]; rfl
  · rw [val_main_v27_apply, val_main_v26_apply, val_main_v22_apply, val_main_v25_apply, val_main_v20_apply, val_main_v21_apply, val_main_v23_apply, val_main_v24_apply,
      val_main_call5_v0_apply, val_main_call5_v1_apply, val_main_call6_v0_apply, val_main_call6_v1_apply, val_main_call8_v0_apply, val_main_call8_v1_apply, val_main_call9_v0_apply, val_main_call9_v1_apply]; rfl

/-- The packed codes: two neighbours of a row to a byte, the even one high. -/
def pkOut (A : S40x4864x896.Idx → EReal) : S40x448x4864.Idx → BitVec 8 := fun y =>
  BitVec.ofNat 8 (byteOf (fun n => wg A (y 0).val (y 2).val (64 * ((y 1).val / 32) + n)) (gmax A (y 0).val (y 2).val ((y 1).val / 32)) ((y 1).val % 32))

theorem v41_eq (A : S40x4864x896.Idx → EReal) (i : S40x4864x448x2.Idx) (a p r q : ℕ) (ha : (i 0).val = a) (hp : (i 1).val = p) (hr : (i 2).val = r) (hq : (i 3).val = q) :
    val_main_v41 (F := Ideal) A i = BitVec.ofNat 32 (nf (wg A a p (64 * (r / 32) + (2 * (r % 32) + q))) (gmax A a p (r / 32))) := by
  have h0 : (i 0).val < 40 := (i 0).isLt
  have h1 : (i 1).val < 4864 := (i 1).isLt
  have h2 : (i 2).val < 448 := (i 2).isLt
  have h3 : (i 3).val < 2 := (i 3).isLt
  subst ha hp hr hq
  rw [val_main_v41_apply, code_eq]
  have e0 : (idx_main_v41 i 0).val = (i 0).val := by
    show ((((i 0).val * 4864 + (i 1).val) * 448 + (i 2).val) * 2 + (i 3).val) / 4358144 = (i 0).val
    omega
  have e1 : (idx_main_v41 i 1).val = (i 1).val := by
    show ((((i 0).val * 4864 + (i 1).val) * 448 + (i 2).val) * 2 + (i 3).val) / 896 % 4864 = (i 1).val
    omega
  have e2 : (idx_main_v41 i 2).val = (i 2).val / 32 := by
    show ((((i 0).val * 4864 + (i 1).val) * 448 + (i 2).val) * 2 + (i 3).val) / 64 % 14 = (i 2).val / 32
    omega
  have e3 : (idx_main_v41 i 3).val = 2 * ((i 2).val % 32) + (i 3).val := by
    show ((((i 0).val * 4864 + (i 1).val) * 448 + (i 2).val) * 2 + (i 3).val) % 64 = 2 * ((i 2).val % 32) + (i 3).val
    omega
  rw [e0, e1, e2, e3]

theorem byte_bits (x y : ℕ) (hx : x ≤ 15) (hy : y ≤ 15) : (IntOp.addi (IntOp.muli (BitVec.ofNat 32 x) 16#32) (BitVec.ofNat 32 y)).setWidth 8 = BitVec.ofNat 8 (16 * x + y) := by
  interval_cases x <;> interval_cases y <;> rfl

/-- The reference's packed codes. -/
theorem ref_pack (A : S40x4864x896.Idx → EReal) : val_main_v52 (F := Ideal) A = pkOut A := by
  funext y
  have h0 : (y 0).val < 40 := (y 0).isLt
  have h1 : (y 1).val < 448 := (y 1).isLt
  have h2 : (y 2).val < 4864 := (y 2).isLt
  rw [val_main_v52_apply, val_main_v49_apply, val_main_v48_apply, val_main_v45_apply, val_main_v44_apply, val_main_v43_apply, val_main_v42_apply, val_main_v47_apply, val_main_v46_apply]
  rw [v41_eq A _ (y 0).val (y 2).val (y 1).val 0
      (by show (((y 0).val * 4864 + (y 2).val) * 448 + (y 1).val) / 2179072 = _; omega)
      (by show (((y 0).val * 4864 + (y 2).val) * 448 + (y 1).val) / 448 % 4864 = _; omega)
      (by show (((y 0).val * 4864 + (y 2).val) * 448 + (y 1).val) / 1 % 448 = _; omega) rfl,
    v41_eq A _ (y 0).val (y 2).val (y 1).val 1
      (by show (((y 0).val * 4864 + (y 2).val) * 448 + (y 1).val) / 2179072 = _; omega)
      (by show (((y 0).val * 4864 + (y 2).val) * 448 + (y 1).val) / 448 % 4864 = _; omega)
      (by show (((y 0).val * 4864 + (y 2).val) * 448 + (y 1).val) / 1 % 448 = _; omega) rfl]
  exact byte_bits _ _ (nf_le _ _) (nf_le _ _)

end Cert.EncodeRefPack

end
-- ==== Proof.EncodeValue.lean ====
/- The values of the first call: the packed codes, the absmax values and the sums of the kernel are those of the whole-array reference, as extended reals. -/
module

public import proofs.«01_k».proof.Defs
public import proofs.«01_k».proof.Proof.EncodeRef
public import proofs.«01_k».proof.Proof.EncodeRefPack
public import Idealize.ShloMosaic.Lib.Pipeline.Value

@[expose] public section

set_option maxRecDepth 16384
set_option maxHeartbeats 1600000

noncomputable section

namespace Cert.EncodeValue

open Idealize.ShloMosaic Idealize.ShloMosaic.TcCoe Idealize.SL.Sem
open Idealize.ShloMosaic.Pipeline (Dat)
open Cert.KernelIdeal Cert.KernelIdeal.Gen Cert.EncodeVal Cert.EncodeReach Cert.EncodeSums Cert.EncodeFrame Cert.EncodeRef Cert.EncodePackVal Cert.EncodePackRows Cert.EncodeRefPack

variable (m : (ℓ : Loc nD τ sig) → Buf (Elt Ideal) ℓ) (ρ : Dev nD → PrngReg)

/-- A point writes back its block of the packed codes. -/
theorem flushed8 (c : Dev nD) (t : Fin cfg0.N) : (dats m 0 c).flushed 8 t = ((cfg0.win 8).blk t).view.read (Elt Ideal) (pkOut (A0 m c)) := by
  show (cfg0.win 8).cut (grid0.coords t) ((dats m 0 c).after 8 t) = _
  rw [after0_8]
  obtain ⟨e0, e1, e2⟩ := (idx_all t).2.2.2.2.2.2.2.1
  funext j
  show pkN (WA (A0 m c) t.val) (j 0).val (j 1).val ((j 2).val / 128) ⟨(j 2).val % 128, _⟩ = pkOut (A0 m c) (((cfg0.win 8).blk t).view.emb j)
  have h0 : (((cfg0.win 8).blk t).view.emb j 0).val = 8 * (t.val / 19) + (j 0).val := by
    show win0_8.index t (0 : Fin 3) * 8 + 1 * (j 0).val = _; omega
  have h1 : (((cfg0.win 8).blk t).view.emb j 1).val = (j 1).val := by
    show win0_8.index t (1 : Fin 3) * 448 + 1 * (j 1).val = _; omega
  have h2 : (((cfg0.win 8).blk t).view.emb j 2).val = 256 * (t.val % 19) + (j 2).val := by
    show win0_8.index t (2 : Fin 3) * 256 + 1 * (j 2).val = _; omega
  unfold pkN
  rw [bmax_WA]
  unfold pkOut
  rw [h0, h1, h2]
  have e : 128 * (2 * (t.val % 19) + (j 2).val / 128) + (j 2).val % 128 = 256 * (t.val % 19) + (j 2).val := by omega
  have e' : 128 * ((j 2).val / 128) + (j 2).val % 128 = (j 2).val := by omega
  show BitVec.ofNat 8 (byteOf (fun n => wg (A0 m c) (8 * (t.val / 19) + (j 0).val) (256 * (t.val % 19) + (128 * ((j 2).val / 128) + (j 2).val % 128)) (64 * ((j 1).val / 32) + n))
    (gmax (A0 m c) (8 * (t.val / 19) + (j 0).val) (128 * (2 * (t.val % 19) + (j 2).val / 128) + (j 2).val % 128) ((j 1).val / 32)) ((j 1).val % 32)) = _
  rw [e, e']

/-- Every packed code is in some point's block. -/
theorem covered8 (i : S40x448x4864.Idx) : ∃ t : Fin cfg0.N, (cfg0.win 8).flush t = true ∧ i ∈ ((cfg0.win 8).blk t).view.set := by
  have h0 : (i 0).val < 40 := (i 0).isLt
  have h1 : (i 1).val < 448 := (i 1).isLt
  have h2 : (i 2).val < 4864 := (i 2).isLt
  let t : Fin cfg0.N := ⟨(i 0).val / 8 * 19 + (i 2).val / 256, by show _ < 95; omega⟩
  obtain ⟨e0, e1, e2⟩ := (idx_all t).2.2.2.2.2.2.2.1
  refine ⟨t, flush0_8 t, ?_⟩
  have h := ((cfg0.win 8).blk t).view.emb_mem_set (ValueIdx.ix3 (⟨(i 0).val % 8, by omega⟩ : Fin 8) (⟨(i 1).val, h1⟩ : Fin 448) (⟨(i 2).val % 256, by omega⟩ : Fin 256) : S8x448x256.Idx)
  refine Eq.subst (motive := fun z => z ∈ _) (funext fun a => Fin.ext ?_) h
  have ht : t.val = (i 0).val / 8 * 19 + (i 2).val / 256 := rfl
  match a with
  | ⟨0, _⟩ => show win0_8.index t (0 : Fin 3) * 8 + 1 * ((i 0).val % 8) = (i 0).val; omega
  | ⟨1, _⟩ => show win0_8.index t (1 : Fin 3) * 448 + 1 * (i 1).val = (i 1).val; omega
  | ⟨2, _⟩ => show win0_8.index t (2 : Fin 3) * 256 + 1 * ((i 2).val % 256) = (i 2).val; omega

/-- The packed codes after the run. -/
theorem final8 (c : Dev nD) : (dats m 0 c).arrAt 8 cfg0.N = pkOut (A0 m c) :=
  (dats m 0 c).arrAt_eq_of_cover 8 _ (fun t _ => flushed8 m c t) covered8

/-- The absmax values by block, row and position. -/
def absOut (A : S40x4864x896.Idx → EReal) : S14x40x4864.Idx → EReal := fun y => gmax A (y 1).val (y 2).val (y 0).val

/-- A point writes back its block of them. -/
theorem flushed9 (c : Dev nD) (t : Fin cfg0.N) : (dats m 0 c).flushed 9 t = ((cfg0.win 9).blk t).view.read (Elt Ideal) (absOut (A0 m c)) := by
  show (cfg0.win 9).cut (grid0.coords t) ((dats m 0 c).after 9 t) = _
  rw [after0_9]
  obtain ⟨e0, e1, e2⟩ := (idx_all t).2.2.2.2.2.2.2.2.1
  funext j
  show bmax (hrow (WA (A0 m c) t.val) (j 1).val ((j 2).val / 128)) (j 0).val ⟨(j 2).val % 128, _⟩ = absOut (A0 m c) (((cfg0.win 9).blk t).view.emb j)
  have h0 : (((cfg0.win 9).blk t).view.emb j 0).val = (j 0).val := by
    show win0_9.index t (0 : Fin 3) * 14 + 1 * (j 0).val = _; omega
  have h1 : (((cfg0.win 9).blk t).view.emb j 1).val = 8 * (t.val / 19) + (j 1).val := by
    show win0_9.index t (1 : Fin 3) * 8 + 1 * (j 1).val = _; omega
  have h2 : (((cfg0.win 9).blk t).view.emb j 2).val = 256 * (t.val % 19) + (j 2).val := by
    show win0_9.index t (2 : Fin 3) * 256 + 1 * (j 2).val = _; omega
  rw [bmax_WA]
  unfold absOut
  rw [h0, h1, h2]
  refine congrArg (fun p => gmax (A0 m c) (8 * (t.val / 19) + (j 1).val) p (j 0).val) ?_
  show 128 * (2 * (t.val % 19) + (j 2).val / 128) + (j 2).val % 128 = _
  omega

/-- Every absmax value is in some point's block. -/
theorem covered9 (i : S14x40x4864.Idx) : ∃ t : Fin cfg0.N, (cfg0.win 9).flush t = true ∧ i ∈ ((cfg0.win 9).blk t).view.set := by
  have h0 : (i 0).val < 14 := (i 0).isLt
  have h1 : (i 1).val < 40 := (i 1).isLt
  have h2 : (i 2).val < 4864 := (i 2).isLt
  let t : Fin cfg0.N := ⟨(i 1).val / 8 * 19 + (i 2).val / 256, by show _ < 95; omega⟩
  obtain ⟨e0, e1, e2⟩ := (idx_all t).2.2.2.2.2.2.2.2.1
  refine ⟨t, flush0_9 t, ?_⟩
  have h := ((cfg0.win 9).blk t).view.emb_mem_set (ValueIdx.ix3 (⟨(i 0).val, h0⟩ : Fin 14) (⟨(i 1).val % 8, by omega⟩ : Fin 8) (⟨(i 2).val % 256, by omega⟩ : Fin 256) : S14x8x256.Idx)
  refine Eq.subst (motive := fun z => z ∈ _) (funext fun a => Fin.ext ?_) h
  have ht : t.val = (i 1).val / 8 * 19 + (i 2).val / 256 := rfl
  match a with
  | ⟨0, _⟩ => show win0_9.index t (0 : Fin 3) * 14 + 1 * (i 0).val = (i 0).val; omega
  | ⟨1, _⟩ => show win0_9.index t (1 : Fin 3) * 8 + 1 * ((i 1).val % 8) = (i 1).val; omega
  | ⟨2, _⟩ => show win0_9.index t (2 : Fin 3) * 256 + 1 * ((i 2).val % 256) = (i 2).val; omega

/-- The absmax values after the run. -/
theorem final9 (c : Dev nD) : (dats m 0 c).arrAt 9 cfg0.N = absOut (A0 m c) :=
  (dats m 0 c).arrAt_eq_of_cover 9 _ (fun t _ => flushed9 m c t) covered9

/-- The last point writes back the sums. -/
theorem flushed10 (c : Dev nD) (t : Fin cfg0.N) (hf : (cfg0.win 10).flush t = true) : (dats m 0 c).flushed 10 t = ((cfg0.win 10).blk t).view.read (Elt Ideal) (sAcc (A0 m c) 94) := by
  have ht : t.val = 94 := by have := (flush0_10 t).mp hf; have : t.val < 95 := t.isLt; omega
  show (cfg0.win 10).cut (grid0.coords t) ((dats m 0 c).after 10 t) = _
  rw [after0_10, ht]
  obtain ⟨e0, e1⟩ := (idx_all t).2.2.2.2.2.2.2.2.2
  funext j
  refine congrArg (sAcc (A0 m c) 94) (funext fun a => Fin.ext ?_)
  match a with
  | ⟨0, _⟩ => show (j 0).val = win0_10.index t (0 : Fin 2) * 8 + 1 * (j 0).val; omega
  | ⟨1, _⟩ => show (j 1).val = win0_10.index t (1 : Fin 2) * 128 + 1 * (j 1).val; omega

/-- It writes back all of them. -/
theorem covered10 (i : S8x128.Idx) : ∃ t : Fin cfg0.N, (cfg0.win 10).flush t = true ∧ i ∈ ((cfg0.win 10).blk t).view.set := by
  let t : Fin cfg0.N := ⟨94, by show 94 < 95; omega⟩
  obtain ⟨e0, e1⟩ := (idx_all t).2.2.2.2.2.2.2.2.2
  refine ⟨t, (flush0_10 t).2 rfl, ?_⟩
  have h := ((cfg0.win 10).blk t).view.emb_mem_set i
  refine Eq.subst (motive := fun z => z ∈ _) (funext fun a => Fin.ext ?_) h
  match a with
  | ⟨0, _⟩ => show win0_10.index t (0 : Fin 2) * 8 + 1 * (i 0).val = (i 0).val; omega
  | ⟨1, _⟩ => show win0_10.index t (1 : Fin 2) * 128 + 1 * (i 1).val = (i 1).val; omega

/-- The sums after the run. -/
theorem final10 (c : Dev nD) : (dats m 0 c).arrAt 10 cfg0.N = sAcc (A0 m c) 94 :=
  (dats m 0 c).arrAt_eq_of_cover 10 _ (flushed10 m c) covered10

/-- The reference's absmax values, transposed. -/
theorem ref_abs (A : S40x4864x896.Idx → EReal) : Cert.ReferenceIdeal.Read.val_main_v53 (F := Ideal) A = absOut A := by
  funext y
  rw [Cert.ReferenceIdeal.Read.val_main_v53_apply, absmax_eq]
  rfl

/-- The reference's sums. -/
theorem ref_sums (A : S40x4864x896.Idx → EReal) : Cert.ReferenceIdeal.Read.val_main_v51 (F := Ideal) A = sAcc A 94 := by
  funext y
  rw [ValueIdx.eq_ix2 y]
  refine (sums_ref (Cert.ReferenceIdeal.Read.val_main_v3 (F := Ideal) A) _ _ _ _ (fun _ => Ideal.ofBits_zero_f32) (gmax A) (absmax_eq A) (y 0) (y 1)).trans ?_
  exact (sAcc_total A (y 0) (y 1)).symm

/-- The value claim of the first call: over the extended reals the kernel's packed codes, absmax values and sums are the reference's,
    for every input. -/
theorem algebraic : Cert.algebraic_KernelIdeal_ReferenceIdeal := by
  intro m g m' g' _ hagree
  refine ⟨fun c => pkOut (A0 m c), fun c => absOut (A0 m c), fun c => sAcc (A0 m c) 94, ?_, ?_⟩
  · refine (θ_run defs _ _).mono (fun r h c => ?_) (run_main_quiescent m g)
    refine ⟨?_, ?_, ?_, ?_⟩
    · exact (((dats m 0 c).toRForget_arrAt_iff (by decide : fgt 8 = false) _ _).mp ((h.1 c).1 8)).trans (final8 m c)
    · exact (((dats m 0 c).toRForget_arrAt_iff (by decide : fgt 9 = false) _ _).mp ((h.1 c).1 9)).trans (final9 m c)
    · exact (((dats m 0 c).toRForget_arrAt_iff (by decide : fgt 10 = false) _ _).mp ((h.1 c).1 10)).trans (final10 m c)
    · exact (((dats m 0 c).toRForget_arrAt_iff (by decide : fgt 6 = false) _ _).mp ((h.1 c).1 6)).trans
        (((dats m 0 c).arrAt_in 6 rfl _).trans ((A_eq m c 6).trans (V_main_arg0 m c)))
  · refine (θ_run Cert.ReferenceIdeal.defs _ _).mono (fun r h c => ?_) (Cert.ReferenceIdeal.Value.run m' g')
    obtain ⟨h0, h1, h2, h3⟩ := h c
    have e : StableHlo.launchContents m' c (Proc.devRef .tc Cert.ReferenceIdeal.main_arg0) = A0 m c := hagree c
    have eh0 := h0.trans ((Cert.ReferenceIdeal.Read.val_main_v52_eq (F := Ideal) (StableHlo.launchContents m' c)).trans ((congrArg (Cert.ReferenceIdeal.Read.val_main_v52 (F := Ideal)) e).trans (ref_pack (A0 m c))))
    have eh1 := h1.trans ((Cert.ReferenceIdeal.Read.val_main_v53_eq (F := Ideal) (StableHlo.launchContents m' c)).trans ((congrArg (Cert.ReferenceIdeal.Read.val_main_v53 (F := Ideal)) e).trans (ref_abs (A0 m c))))
    have eh2 := h2.trans ((Cert.ReferenceIdeal.Read.val_main_v51_eq (F := Ideal) (StableHlo.launchContents m' c)).trans ((congrArg (Cert.ReferenceIdeal.Read.val_main_v51 (F := Ideal)) e).trans (ref_sums (A0 m c))))
    exact ⟨eh0, eh1, eh2, h3⟩

end Cert.EncodeValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Codes
public import proofs.«01_k».proof.Proof.Gen.Codes.Skeleton
public import proofs.«01_k».proof.Proof.Gen.Codes.Launch
public import proofs.«01_k».proof.Proof.Gen.Codes.Points
public import proofs.«01_k».proof.Proof.Gen.Codes.Frame
public import proofs.«01_k».proof.Proof.Gen.CodesIdeal
public import proofs.«01_k».proof.Proof.Gen.CodesIdeal.Skeleton
public import proofs.«01_k».proof.Proof.Gen.CodesIdeal.Launch
public import proofs.«01_k».proof.Proof.Gen.CodesIdeal.Points
public import proofs.«01_k».proof.Proof.Gen.CodesIdeal.Frame
public import proofs.«01_k».proof.Proof.Gen.CodesRefIdeal
public import proofs.«01_k».proof.Proof.Gen.CodesRefIdeal.Skeleton
public import proofs.«01_k».proof.Proof.Gen.CodesRefIdeal.Launch
public import proofs.«01_k».proof.Proof.Gen.CodesRefIdeal.Points
public import proofs.«01_k».proof.Proof.Gen.CodesRefIdeal.Frame
public import proofs.«01_k».proof.Proof.Gen.CodesIdeal.Value
public import proofs.«01_k».proof.Proof.Gen.CodesRefIdeal.Value
public import proofs.«01_k».proof.Proof.CodesValue
public import proofs.«01_k».proof.Proof.FrameKernel
public import proofs.«01_k».proof.Proof.FrameKernelIdeal
public import proofs.«01_k».proof.Proof.EncodeValue
public import Idealize.ShloMosaic.Lib.Bf16Pair
public import Idealize.ShloMosaic.Lib.Bf16PairInverse
public import Idealize.ShloMosaic.Adequacy
public import Idealize.ShloMosaic.Lib.QuiescentFlight
public import Idealize.ShloMosaic.Init

@[expose] public section

noncomputable section

namespace Cert.Proof

open Idealize.ShloMosaic Idealize.SL.Sem Cert.Kernel

/-- Each rewrite that printed the idealized encode call states what its rule says of the original. -/
theorem preserves_encode : Cert.preserves_Kernel_KernelIdeal :=
  ⟨IdealRules.bf16_pair.bufferStatement Cert.KernelIdeal.S448x2x128 Cert.KernelIdeal.S448x1x128, IdealRules.bf16_pair.bufferStatement Cert.KernelIdeal.S112x2x128 Cert.KernelIdeal.S112x1x128, IdealRules.bf16_pair.bufferStatement Cert.KernelIdeal.S16x2x128 Cert.KernelIdeal.S16x1x128,
   IdealRules.bf16_pair.statement Cert.KernelIdeal.S1x16x128 Cert.KernelIdeal.S1x8x128,
   IdealRules.bf16_pair.statement Cert.KernelIdeal.S16x128 Cert.KernelIdeal.S8x128,
   IdealRules.bf16_pair.statement Cert.KernelIdeal.S128x128 Cert.KernelIdeal.S64x128,
   IdealRules.bf16_pair.statement Cert.KernelIdeal.S64x2x128 Cert.KernelIdeal.S64x1x128,
   IdealRules.bf16_pair.statement Cert.KernelIdeal.S8x2x128 Cert.KernelIdeal.S8x1x128,
   IdealRules.bf16_pair.packStatement Cert.KernelIdeal.S8x128,
   IdealRules.bf16_pair.statement Cert.KernelIdeal.S6x2x128 Cert.KernelIdeal.S6x1x128,
   IdealRules.bf16_pair.statement Cert.KernelIdeal.S12x128 Cert.KernelIdeal.S6x128,
   IdealRules.bf16_pair.packStatement Cert.KernelIdeal.S6x128,
   IdealRules.bf16_pair.statement Cert.KernelIdeal.S1x2x128 Cert.KernelIdeal.S1x1x128,
   IdealRules.bf16_pack.statement Cert.KernelIdeal.S8x128⟩

/-- The encode reference runs, keeps its argument and declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- All the claims of the statement. -/
theorem claim : Cert.Claim := ⟨Cert.Kernel.Gen.facts, Cert.KernelIdeal.Gen.facts, Cert.ReferenceIdeal.Gen.facts,
  Cert.Codes.Gen.facts, Cert.CodesIdeal.Gen.facts, Cert.CodesRefIdeal.Gen.facts,
  fun m ρ _ => Cert.Kernel.Row.frame m ρ, fun m ρ _ => Cert.KernelIdeal.Row.frame m ρ, frame_reference,
  fun m ρ _ => Cert.Codes.Gen.frame m ρ, fun m ρ _ => Cert.CodesIdeal.Gen.frame m ρ, fun m ρ _ => Cert.CodesRefIdeal.Gen.frame m ρ,
  preserves_encode, Cert.EncodeValue.algebraic,
  IdealRules.named_const.statement Cert.CodesIdeal.κ "inv_n" .f32 0x34C519CB#32 ((1 / 2723840 : ℝ) : EReal) rfl,
  Cert.CodesValue.algebraic⟩

end Cert.Proof

end
